-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)) (v5 : (c : Dev Cert.Kernel5Ideal.nD) → Buf (Elt Ideal) ((c.tc : Thread Cert.Kernel5Ideal.nD Cert.Kernel5Ideal.τ).loc Cert.Kernel5Ideal.main_v8_5)) (v6 : (c : Dev Cert.Kernel5Ideal.nD) → Buf (Elt Ideal) ((c.tc : Thread Cert.Kernel5Ideal.nD Cert.Kernel5Ideal.τ).loc Cert.Kernel5Ideal.main_v8_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_v8_5) = v5 c
          ∧ r.2.mem ((c.tc : Thread Cert.Kernel5Ideal.nD Cert.Kernel5Ideal.τ).loc Cert.Kernel5Ideal.main_v8_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v18) = v4 c
          ∧ r.2.mem ((c.tc : Thread Cert.Reference5Ideal.nD Cert.Reference5Ideal.τ).loc Cert.Reference5Ideal.main_v20) = v5 c
          ∧ r.2.mem ((c.tc : Thread Cert.Reference5Ideal.nD Cert.Reference5Ideal.τ).loc Cert.Reference5Ideal.main_v21) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v76) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)) (v3 : (c : Dev Cert.Kernel7Ideal.nD) → Buf (Elt Ideal) ((c.tc : Thread Cert.Kernel7Ideal.nD Cert.Kernel7Ideal.τ).loc Cert.Kernel7Ideal.main_v23_3)) (v4 : (c : Dev Cert.Kernel7Ideal.nD) → Buf (Elt Ideal) ((c.tc : Thread Cert.Kernel7Ideal.nD Cert.Kernel7Ideal.τ).loc Cert.Kernel7Ideal.main_v23_4)) (v5 : (c : Dev Cert.Kernel7Ideal.nD) → Buf (Elt Ideal) ((c.tc : Thread Cert.Kernel7Ideal.nD Cert.Kernel7Ideal.τ).loc Cert.Kernel7Ideal.main_v23_5)) (v6 : (c : Dev Cert.Kernel7Ideal.nD) → Buf (Elt Ideal) ((c.tc : Thread Cert.Kernel7Ideal.nD Cert.Kernel7Ideal.τ).loc Cert.Kernel7Ideal.main_v23_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_v23_3) = v3 c
          ∧ r.2.mem ((c.tc : Thread Cert.Kernel7Ideal.nD Cert.Kernel7Ideal.τ).loc Cert.Kernel7Ideal.main_v23_4) = v4 c
          ∧ r.2.mem ((c.tc : Thread Cert.Kernel7Ideal.nD Cert.Kernel7Ideal.τ).loc Cert.Kernel7Ideal.main_v23_5) = v5 c
          ∧ r.2.mem ((c.tc : Thread Cert.Kernel7Ideal.nD Cert.Kernel7Ideal.τ).loc Cert.Kernel7Ideal.main_v23_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v95) = v2 c
          ∧ r.2.mem ((c.tc : Thread Cert.Reference7Ideal.nD Cert.Reference7Ideal.τ).loc Cert.Reference7Ideal.main_v97) = v3 c
          ∧ r.2.mem ((c.tc : Thread Cert.Reference7Ideal.nD Cert.Reference7Ideal.τ).loc Cert.Reference7Ideal.main_v101) = v4 c
          ∧ r.2.mem ((c.tc : Thread Cert.Reference7Ideal.nD Cert.Reference7Ideal.τ).loc Cert.Reference7Ideal.main_v102) = v5 c
          ∧ r.2.mem ((c.tc : Thread Cert.Reference7Ideal.nD Cert.Reference7Ideal.τ).loc Cert.Reference7Ideal.main_v103) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite6.lean ====
abbrev S32x2048x1024 : Shape := ⟨3, ![32, 2048, 1024]⟩
abbrev S1024 : Shape := ⟨1, ![1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn_part2 {F : FTy → Type} [FloatOps F] (main_arg5 : FVec F S32x2048x1024 .bf16) (main_v26 : IVec S_ 1) (main_v32 : IVec S_ 1) : IVec S_ 1 :=
  let main_v33 : IVec S_ 1 := andi main_v26 main_v32
  let main_cst_13 : FVec F S_ .bf16 := constant S_ .bf16 0xFF80#16
  let main_v34 : FVec F S32x2048x1024 .bf16 := broadcastInDim S32x2048x1024 ![] bcast_S_S32x2048x1024 main_cst_13
  let main_v35 : IVec S32x2048x1024 1 := cmpf .ogt main_arg5 main_v34
  let main_cst_14 : FVec F S_ .bf16 := constant S_ .bf16 0x7F80#16
  let main_v36 : FVec F S32x2048x1024 .bf16 := broadcastInDim S32x2048x1024 ![] bcast_S_S32x2048x1024 main_cst_14
  let main_v37 : IVec S32x2048x1024 1 := cmpf .olt main_arg5 main_v36
  let main_v38 : IVec S32x2048x1024 1 := andi main_v35 main_v37
  let main_c_15 : IVec S_ 1 := constantI S_ 1 1#1
  let main_v39 : IVec S_ 1 := (fun x v => Host.reduce IntOp.andi x v reducesTo_S32x2048x1024_S_d0_1_2 h_S_) main_v38 main_c_15
  let main_v40 : IVec S_ 1 := andi main_v33 main_v39
  main_v40

def fn_part1 {F : FTy → Type} [FloatOps F] (main_arg2 : FVec F S32x2048x1024 .bf16) (main_arg3 : FVec F S32x2048x1024 .f32) (main_arg4 : FVec F S32x2048x1024 .bf16) (main_arg5 : FVec F S32x2048x1024 .bf16) (main_v12 : IVec S_ 1) (main_v14 : IVec S32x2048x1024 1) (main_v15 : FVec F S32x2048x1024 .bf16) : IVec S_ 1 :=
  let main_v16 : IVec S32x2048x1024 1 := cmpf .olt main_arg2 main_v15
  let main_v17 : IVec S32x2048x1024 1 := andi main_v14 main_v16
  let main_c_6 : IVec S_ 1 := constantI S_ 1 1#1
  let main_v18 : IVec S_ 1 := (fun x v => Host.reduce IntOp.andi x v reducesTo_S32x2048x1024_S_d0_1_2 h_S_) main_v17 main_c_6
  let main_v19 : IVec S_ 1 := andi main_v12 main_v18
  let main_cst_7 : FVec F S_ .f32 := constant S_ .f32 0xFF800000#32
  let main_v20 : FVec F S32x2048x1024 .f32 := broadcastInDim S32x2048x1024 ![] bcast_S_S32x2048x1024 main_cst_7
  let main_v21 : IVec S32x2048x1024 1 := cmpf .ogt main_arg3 main_v20
  let main_cst_8 : FVec F S_ .f32 := constant S_ .f32 0x7F800000#32
  let main_v22 : FVec F S32x2048x1024 .f32 := broadcastInDim S32x2048x1024 ![] bcast_S_S32x2048x1024 main_cst_8
  let main_v23 : IVec S32x2048x1024 1 := cmpf .olt main_arg3 main_v22
  let main_v24 : IVec S32x2048x1024 1 := andi main_v21 main_v23
  let main_c_9 : IVec S_ 1 := constantI S_ 1 1#1
  let main_v25 : IVec S_ 1 := (fun x v => Host.reduce IntOp.andi x v reducesTo_S32x2048x1024_S_d0_1_2 h_S_) main_v24 main_c_9
  let main_v26 : IVec S_ 1 := andi main_v19 main_v25
  let main_cst_10 : FVec F S_ .bf16 := constant S_ .bf16 0xFF80#16
  let main_v27 : FVec F S32x2048x1024 .bf16 := broadcastInDim S32x2048x1024 ![] bcast_S_S32x2048x1024 main_cst_10
  let main_v28 : IVec S32x2048x1024 1 := cmpf .ogt main_arg4 main_v27
  let main_cst_11 : FVec F S_ .bf16 := constant S_ .bf16 0x7F80#16
  let main_v29 : FVec F S32x2048x1024 .bf16 := broadcastInDim S32x2048x1024 ![] bcast_S_S32x2048x1024 main_cst_11
  let main_v30 : IVec S32x2048x1024 1 := cmpf .olt main_arg4 main_v29
  let main_v31 : IVec S32x2048x1024 1 := andi main_v28 main_v30
  let main_c_12 : IVec S_ 1 := constantI S_ 1 1#1
  let main_v32 : IVec S_ 1 := (fun x v => Host.reduce IntOp.andi x v reducesTo_S32x2048x1024_S_d0_1_2 h_S_) main_v31 main_c_12
  fn_part2 (F := F) main_arg5 main_v26 main_v32

def fn {F : FTy → Type} [FloatOps F] (main_arg0 : FVec F S32x2048x1024 .bf16) (main_arg1 : FVec F S32x2048x1024 .bf16) (main_arg2 : FVec F S32x2048x1024 .bf16) (main_arg3 : FVec F S32x2048x1024 .f32) (main_arg4 : FVec F S32x2048x1024 .bf16) (main_arg5 : FVec F S32x2048x1024 .bf16) (main_arg6 : FVec F S32x2048x1024 .bf16) (main_arg7 : FVec F S1024 .f32) (main_arg8 : FVec F S1024 .f32) (main_arg9 : FVec F S1024 .f32) : IVec S_ 1 :=
  let main_cst : FVec F S_ .bf16 := constant S_ .bf16 0xFF80#16
  let main_v0 : FVec F S32x2048x1024 .bf16 := broadcastInDim S32x2048x1024 ![] bcast_S_S32x2048x1024 main_cst
  let main_v1 : IVec S32x2048x1024 1 := cmpf .ogt main_arg0 main_v0
  let main_cst_0 : FVec F S_ .bf16 := constant S_ .bf16 0x7F80#16
  let main_v2 : FVec F S32x2048x1024 .bf16 := broadcastInDim S32x2048x1024 ![] bcast_S_S32x2048x1024 main_cst_0
  let main_v3 : IVec S32x2048x1024 1 := cmpf .olt main_arg0 main_v2
  let main_v4 : IVec S32x2048x1024 1 := andi main_v1 main_v3
  let main_c : IVec S_ 1 := constantI S_ 1 1#1
  let main_v5 : IVec S_ 1 := (fun x v => Host.reduce IntOp.andi x v reducesTo_S32x2048x1024_S_d0_1_2 h_S_) main_v4 main_c
  let main_cst_1 : FVec F S_ .bf16 := constant S_ .bf16 0xFF80#16
  let main_v6 : FVec F S32x2048x1024 .bf16 := broadcastInDim S32x2048x1024 ![] bcast_S_S32x2048x1024 main_cst_1
  let main_v7 : IVec S32x2048x1024 1 := cmpf .ogt main_arg1 main_v6
  let main_cst_2 : FVec F S_ .bf16 := constant S_ .bf16 0x7F80#16
  let main_v8 : FVec F S32x2048x1024 .bf16 := broadcastInDim S32x2048x1024 ![] bcast_S_S32x2048x1024 main_cst_2
  let main_v9 : IVec S32x2048x1024 1 := cmpf .olt main_arg1 main_v8
  let main_v10 : IVec S32x2048x1024 1 := andi main_v7 main_v9
  let main_c_3 : IVec S_ 1 := constantI S_ 1 1#1
  let main_v11 : IVec S_ 1 := (fun x v => Host.reduce IntOp.andi x v reducesTo_S32x2048x1024_S_d0_1_2 h_S_) main_v10 main_c_3
  let main_v12 : IVec S_ 1 := andi main_v5 main_v11
  let main_cst_4 : FVec F S_ .bf16 := constant S_ .bf16 0xFF80#16
  let main_v13 : FVec F S32x2048x1024 .bf16 := broadcastInDim S32x2048x1024 ![] bcast_S_S32x2048x1024 main_cst_4
  let main_v14 : IVec S32x2048x1024 1 := cmpf .ogt main_arg2 main_v13
  let main_cst_5 : FVec F S_ .bf16 := constant S_ .bf16 0x7F80#16
  let main_v15 : FVec F S32x2048x1024 .bf16 := broadcastInDim S32x2048x1024 ![] bcast_S_S32x2048x1024 main_cst_5
  fn_part1 (F := F) main_arg2 main_arg3 main_arg4 main_arg5 main_v12 main_v14 main_v15
-- ==== Kernel.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![128, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![128, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S65536x512 : Shape := ⟨2, ![65536, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S65536x1024, .bf16⟩
  | .hbm, ⟨5, _⟩ => ⟨S65536x1024, .f32⟩
  | .hbm, ⟨6, _⟩ => ⟨S65536x1024, .f32⟩
  | .hbm, ⟨7, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S65536x1024 : Shape := ⟨2, ![65536, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024x1024, .bf16⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S65536x1024 : Shape := ⟨2, ![65536, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S65536x1024, .f32⟩
  | .hbm, ⟨4, _⟩ => ⟨S65536x1024, .f32⟩
  | .hbm, ⟨5, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x1536 : Shape := ⟨2, ![1024, 1536]⟩
abbrev S1024x512 : Shape := ⟨2, ![1024, 512]⟩
abbrev S1024x128 : Shape := ⟨2, ![1024, 128]⟩
abbrev S1024x1024 : Shape := ⟨2, ![1024, 1024]⟩
abbrev S1024x256 : Shape := ⟨2, ![1024, 256]⟩
abbrev S1x1024 : Shape := ⟨2, ![1, 1024]⟩
abbrev S65536x1536 : Shape := ⟨2, ![65536, 1536]⟩
abbrev S65536x512 : Shape := ⟨2, ![65536, 512]⟩
abbrev S65536x128 : Shape := ⟨2, ![65536, 128]⟩
abbrev S65536x256 : Shape := ⟨2, ![65536, 256]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S1024x512, .f32⟩
  | .hbm, ⟨4, _⟩ => ⟨S1024x128, .f32⟩
  | .hbm, ⟨5, _⟩ => ⟨S1024x1024, .f32⟩
  | .hbm, ⟨6, _⟩ => ⟨S1024x256, .f32⟩
  | .hbm, ⟨7, _⟩ => ⟨S1024x512, .f32⟩
  | .hbm, ⟨8, _⟩ => ⟨S1024x128, .f32⟩
  | .hbm, ⟨9, _⟩ => ⟨S1024x1536, .bf16⟩
  | .hbm, ⟨10, _⟩ => ⟨S1024x512, .bf16⟩
  | .hbm, ⟨11, _⟩ => ⟨S1024x128, .bf16⟩
  | .hbm, ⟨12, _⟩ => ⟨S1024x1024, .bf16⟩
  | .hbm, ⟨13, _⟩ => ⟨S1024x256, .bf16⟩
  | .hbm, ⟨14, _⟩ => ⟨S1024x512, .bf16⟩
  | .hbm, ⟨15, _⟩ => ⟨S1024x128, .bf16⟩
  | .hbm, ⟨16, _⟩ => ⟨S1x1024, .f32⟩
  | .hbm, ⟨17, _⟩ => ⟨S65536x1536, .f32⟩
  | .hbm, ⟨18, _⟩ => ⟨S65536x512, .f32⟩
  | .hbm, ⟨19, _⟩ => ⟨S65536x128, .f32⟩
  | .hbm, ⟨20, _⟩ => ⟨S65536x1024, .bf16⟩
  | .hbm, ⟨21, _⟩ => ⟨S65536x256, .f32⟩
  | .hbm, ⟨22, _⟩ => ⟨S65536x512, .bf16⟩
  | .hbm, ⟨23, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x128, .bf16⟩
  | .local _ .vmem, ⟨6, _⟩ => ⟨S1024x1024, .bf16⟩
  | .local _ .vmem, ⟨7, _⟩ => ⟨S1024x256, .bf16⟩
  | .local _ .vmem, ⟨8, _⟩ => ⟨S1024x512, .bf16⟩
  | .local _ .vmem, ⟨9, _⟩ => ⟨S1024x128, .bf16⟩
  | .local _ .vmem, ⟨10, _⟩ => ⟨S512x1536, .f32⟩
  | .local _ .vmem, ⟨11, _⟩ => ⟨S512x1536, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S65536x1024 : Shape := ⟨2, ![65536, 1024]⟩
abbrev S1024 : Shape := ⟨1, ![1024]⟩
abbrev S1024x1536 : Shape := ⟨2, ![1024, 1536]⟩
abbrev S1024x512 : Shape := ⟨2, ![1024, 512]⟩
abbrev S1024x128 : Shape := ⟨2, ![1024, 128]⟩
abbrev S1024x1024 : Shape := ⟨2, ![1024, 1024]⟩
abbrev S1024x256 : Shape := ⟨2, ![1024, 256]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1536 : Shape := ⟨2, ![65536, 1536]⟩
abbrev S65536x512 : Shape := ⟨2, ![65536, 512]⟩
abbrev S65536x128 : Shape := ⟨2, ![65536, 128]⟩
abbrev S65536x256 : Shape := ⟨2, ![65536, 256]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S1024x512, .f32⟩
  | .hbm, ⟨4, _⟩ => ⟨S1024x128, .f32⟩
  | .hbm, ⟨5, _⟩ => ⟨S1024x1024, .f32⟩
  | .hbm, ⟨6, _⟩ => ⟨S1024x256, .f32⟩
  | .hbm, ⟨7, _⟩ => ⟨S1024x512, .f32⟩
  | .hbm, ⟨8, _⟩ => ⟨S1024x128, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1536, .f32⟩
  | .hbm, ⟨26, _⟩ => ⟨S65536x512, .f32⟩
  | .hbm, ⟨27, _⟩ => ⟨S65536x128, .f32⟩
  | .hbm, ⟨28, _⟩ => ⟨S65536x1024, .f32⟩
  | .hbm, ⟨29, _⟩ => ⟨S65536x1024, .bf16⟩
  | .hbm, ⟨30, _⟩ => ⟨S65536x256, .f32⟩
  | .hbm, ⟨31, _⟩ => ⟨S65536x512, .f32⟩
  | .hbm, ⟨32, _⟩ => ⟨S65536x512, .bf16⟩
  | .hbm, ⟨33, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel6.lean ====
abbrev S32x2048x1024 : Shape := ⟨3, ![32, 2048, 1024]⟩
abbrev S1024 : Shape := ⟨1, ![1024]⟩
abbrev S1x1024 : Shape := ⟨2, ![1, 1024]⟩
abbrev S1x512x256 : Shape := ⟨3, ![1, 512, 256]⟩
abbrev S1x256 : Shape := ⟨2, ![1, 256]⟩
abbrev S2x128x128 : Shape := ⟨3, ![2, 128, 128]⟩
abbrev S1x128 : Shape := ⟨2, ![1, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S64x128 : Shape := ⟨2, ![64, 128]⟩
abbrev S64x64 : Shape := ⟨2, ![64, 64]⟩
abbrev S128x128 : Shape := ⟨2, ![128, 128]⟩
abbrev S1x64x128 : Shape := ⟨3, ![1, 64, 128]⟩
abbrev S1x128x128 : Shape := ⟨3, ![1, 128, 128]⟩

abbrev nBuf : Space → Nat
  | .hbm => 14
  | .vmem => 23
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x1024, .bf16⟩
  | .hbm, ⟨3, _⟩ => ⟨S32x2048x1024, .f32⟩
  | .hbm, ⟨4, _⟩ => ⟨S32x2048x1024, .bf16⟩
  | .hbm, ⟨5, _⟩ => ⟨S32x2048x1024, .bf16⟩
  | .hbm, ⟨6, _⟩ => ⟨S32x2048x1024, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32x2048x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x512x256, .bf16⟩
  | .local _ .vmem, ⟨21, _⟩ => ⟨S1x512x256, .bf16⟩
  | .local _ .vmem, ⟨22, _⟩ => ⟨S2x128x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![32, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference6Ideal.lean ====
abbrev S32x2048x1024 : Shape := ⟨3, ![32, 2048, 1024]⟩
abbrev S1024 : Shape := ⟨1, ![1024]⟩
abbrev S32x2048x16x64 : Shape := ⟨4, ![32, 2048, 16, 64]⟩
abbrev S_ : Shape := ⟨0, ![]⟩
abbrev S32x2048x16 : Shape := ⟨3, ![32, 2048, 16]⟩
abbrev S32x2048x16x1 : Shape := ⟨4, ![32, 2048, 16, 1]⟩
abbrev S2048x32x16x64 : Shape := ⟨4, ![2048, 32, 16, 64]⟩
abbrev S32x16x64x64 : Shape := ⟨4, ![32, 16, 64, 64]⟩
abbrev S1x32x16x64 : Shape := ⟨4, ![1, 32, 16, 64]⟩
abbrev S32x16x64 : Shape := ⟨3, ![32, 16, 64]⟩
abbrev S32x16x1x64 : Shape := ⟨4, ![32, 16, 1, 64]⟩
abbrev S32x16x64x1 : Shape := ⟨4, ![32, 16, 64, 1]⟩
abbrev S1x1x1024 : Shape := ⟨3, ![1, 1, 1024]⟩
abbrev S16x64 : Shape := ⟨2, ![16, 64]⟩
abbrev S1x1x16x64 : Shape := ⟨4, ![1, 1, 16, 64]⟩

abbrev nBuf : Space → Nat
  | .hbm => 162
  | .vmem => 0
  | .smem => 0
  | _ => 0

abbrev hbmTy0_0 (i : Nat) : BufTy := match i % 128 with
  | 0 => ⟨S32x2048x1024, .bf16⟩
  | 1 => ⟨S32x2048x1024, .bf16⟩
  | 2 => ⟨S32x2048x1024, .bf16⟩
  | 3 => ⟨S32x2048x1024, .f32⟩
  | 4 => ⟨S32x2048x1024, .bf16⟩
  | 5 => ⟨S32x2048x1024, .bf16⟩
  | 6 => ⟨S32x2048x1024, .bf16⟩
  | 7 => ⟨S1024, .f32⟩
  | 8 => ⟨S1024, .f32⟩
  | 9 => ⟨S1024, .f32⟩
  | 10 => ⟨S32x2048x1024, .f32⟩
  | 11 => ⟨S32x2048x16x64, .f32⟩
  | 12 => ⟨S32x2048x16x64, .f32⟩
  | 13 => ⟨S_, .f32⟩
  | 14 => ⟨S32x2048x16, .f32⟩
  | 15 => ⟨S32x2048x16x1, .f32⟩
  | 16 => ⟨S_, .f32⟩
  | 17 => ⟨S32x2048x16x1, .f32⟩
  | 18 => ⟨S32x2048x16x1, .f32⟩
  | 19 => ⟨S32x2048x16x1, .f32⟩
  | 20 => ⟨S32x2048x16x64, .f32⟩
  | 21 => ⟨S32x2048x16x64, .f32⟩
  | 22 => ⟨S32x2048x1024, .f32⟩
  | 23 => ⟨S32x2048x16x64, .f32⟩
  | 24 => ⟨S32x2048x1024, .f32⟩
  | 25 => ⟨S32x2048x16x64, .f32⟩
  | 26 => ⟨S32x2048x1024, .f32⟩
  | 27 => ⟨S32x2048x16x64, .f32⟩
  | 28 => ⟨S32x2048x1024, .f32⟩
  | 29 => ⟨S32x2048x16x64, .f32⟩
  | 30 => ⟨S32x2048x16x64, .f32⟩
  | 31 => ⟨S32x2048x1024, .f32⟩
  | 32 => ⟨S32x2048x16x64, .f32⟩
  | 33 => ⟨S32x2048x16x64, .f32⟩
  | 34 => ⟨S2048x32x16x64, .f32⟩
  | 35 => ⟨S2048x32x16x64, .f32⟩
  | 36 => ⟨S2048x32x16x64, .f32⟩
  | 37 => ⟨S2048x32x16x64, .f32⟩
  | 38 => ⟨S2048x32x16x64, .f32⟩
  | 39 => ⟨S2048x32x16x64, .f32⟩
  | 40 => ⟨S_, .f32⟩
  | 41 => ⟨S32x16x64x64, .f32⟩
  | 42 => ⟨S_, .f32⟩
  | 43 => ⟨S2048x32x16x64, .f32⟩
  | 44 => ⟨S_, .i32⟩
  | 45 => ⟨S2048x32x16x64, .f32⟩
  | 46 => ⟨S2048x32x16x64, .f32⟩
  | 47 => ⟨S2048x32x16x64, .f32⟩
  | 48 => ⟨S2048x32x16x64, .f32⟩
  | 49 => ⟨S2048x32x16x64, .f32⟩
  | 50 => ⟨S2048x32x16x64, .f32⟩
  | 51 => ⟨S_, .i32⟩
  | 52 => ⟨S32x16x64x64, .f32⟩
  | 53 => ⟨S2048x32x16x64, .f32⟩
  | 54 => ⟨S_, .i32⟩
  | 55 => ⟨S_, .i1⟩
  | 56 => ⟨S_, .i32⟩
  | 57 => ⟨S_, .i32⟩
  | 58 => ⟨S_, .i32⟩
  | 59 => ⟨S1x32x16x64, .f32⟩
  | 60 => ⟨S32x16x64, .f32⟩
  | 61 => ⟨S_, .i32⟩
  | 62 => ⟨S_, .i32⟩
  | 63 => ⟨S_, .i32⟩
  | 64 => ⟨S1x32x16x64, .f32⟩
  | 65 => ⟨S32x16x64, .f32⟩
  | 66 => ⟨S_, .i32⟩
  | 67 => ⟨S_, .i32⟩
  | 68 => ⟨S_, .i32⟩
  | 69 => ⟨S1x32x16x64, .f32⟩
  | 70 => ⟨S32x16x64, .f32⟩
  | 71 => ⟨S_, .i32⟩
  | 72 => ⟨S_, .i32⟩
  | 73 => ⟨S_, .i32⟩
  | 74 => ⟨S1x32x16x64, .f32⟩
  | 75 => ⟨S32x16x64, .f32⟩
  | 76 => ⟨S_, .i32⟩
  | 77 => ⟨S_, .i32⟩
  | 78 => ⟨S_, .i32⟩
  | 79 => ⟨S1x32x16x64, .f32⟩
  | 80 => ⟨S32x16x64, .f32⟩
  | 81 => ⟨S_, .i32⟩
  | 82 => ⟨S_, .i32⟩
  | 83 => ⟨S_, .i32⟩
  | 84 => ⟨S1x32x16x64, .f32⟩
  | 85 => ⟨S32x16x64, .f32⟩
  | 86 => ⟨S32x16x64, .f32⟩
  | 87 => ⟨S32x16x1x64, .f32⟩
  | 88 => ⟨S32x16x64x64, .f32⟩
  | 89 => ⟨S32x16x64x64, .f32⟩
  | 90 => ⟨S32x16x64x1, .f32⟩
  | 91 => ⟨S32x16x1x64, .f32⟩
  | 92 => ⟨S32x16x64x64, .f32⟩
  | 93 => ⟨S32x16x64x64, .f32⟩
  | 94 => ⟨S32x16x64x64, .f32⟩
  | 95 => ⟨S32x16x64x64, .f32⟩
  | 96 => ⟨S32x16x64x1, .f32⟩
  | 97 => ⟨S32x16x1x64, .f32⟩
  | 98 => ⟨S32x16x64x64, .f32⟩
  | 99 => ⟨S32x16x64x64, .f32⟩
  | 100 => ⟨S32x16x64x64, .f32⟩
  | 101 => ⟨S32x16x64x64, .f32⟩
  | 102 => ⟨S32x16x64, .f32⟩
  | 103 => ⟨S1x32x16x64, .f32⟩
  | 104 => ⟨S_, .i32⟩
  | 105 => ⟨S_, .i32⟩
  | 106 => ⟨S_, .i32⟩
  | 107 => ⟨S2048x32x16x64, .f32⟩
  | 108 => ⟨S_, .i32⟩
  | 109 => ⟨S_, .i32⟩
  | 110 => ⟨S32x2048x16x64, .f32⟩
  | 111 => ⟨S_, .f32⟩
  | 112 => ⟨S32x2048x16, .f32⟩
  | 113 => ⟨S32x2048x16x1, .f32⟩
  | 114 => ⟨S_, .f32⟩
  | 115 => ⟨S32x2048x16x1, .f32⟩
  | 116 => ⟨S32x2048x16x1, .f32⟩
  | 117 => ⟨S32x2048x16x64, .f32⟩
  | 118 => ⟨S32x2048x16x64, .f32⟩
  | 119 => ⟨S32x2048x16x64, .f32⟩
  | 120 => ⟨S_, .f32⟩
  | 121 => ⟨S32x2048x16, .f32⟩
  | 122 => ⟨S32x2048x16x1, .f32⟩
  | 123 => ⟨S_, .f32⟩
  | 124 => ⟨S32x2048x16x1, .f32⟩
  | 125 => ⟨S32x2048x16x1, .f32⟩
  | 126 => ⟨S32x2048x16x64, .f32⟩
  | 127 => ⟨S32x2048x16x64, .f32⟩
  | _ => ⟨S32x2048x1024, .bf16⟩

abbrev hbmTy0_1 (i : Nat) : BufTy := match i % 128 with
  | 0 => ⟨S_, .f32⟩
  | 1 => ⟨S32x2048x16x1, .f32⟩
  | 2 => ⟨S32x2048x16x1, .f32⟩
  | 3 => ⟨S32x2048x16x1, .f32⟩
  | 4 => ⟨S32x2048x16x64, .f32⟩
  | 5 => ⟨S32x2048x16x64, .f32⟩
  | 6 => ⟨S32x2048x1024, .f32⟩
  | 7 => ⟨S1x1x1024, .f32⟩
  | 8 => ⟨S32x2048x1024, .f32⟩
  | 9 => ⟨S32x2048x1024, .f32⟩
  | 10 => ⟨S1x1x1024, .f32⟩
  | 11 => ⟨S32x2048x1024, .f32⟩
  | 12 => ⟨S32x2048x1024, .f32⟩
  | 13 => ⟨S32x2048x1024, .f32⟩
  | 14 => ⟨S32x2048x16x64, .f32⟩
  | 15 => ⟨S32x2048x1024, .f32⟩
  | 16 => ⟨S32x2048x16x64, .f32⟩
  | 17 => ⟨S32x2048x16x64, .f32⟩
  | 18 => ⟨S16x64, .f32⟩
  | 19 => ⟨S1x1x16x64, .f32⟩
  | 20 => ⟨S32x2048x16x64, .f32⟩
  | 21 => ⟨S32x2048x16x64, .f32⟩
  | 22 => ⟨S_, .f32⟩
  | 23 => ⟨S32x2048x16, .f32⟩
  | 24 => ⟨S32x2048x16x1, .f32⟩
  | 25 => ⟨S32x2048x1024, .f32⟩
  | 26 => ⟨S32x2048x16x64, .f32⟩
  | 27 => ⟨S32x2048x16x64, .f32⟩
  | 28 => ⟨S32x2048x16x64, .f32⟩
  | 29 => ⟨S32x2048x1024, .f32⟩
  | 30 => ⟨S32x2048x1024, .f32⟩
  | 31 => ⟨S32x2048x1024, .f32⟩
  | 32 => ⟨S32x2048x1024, .f32⟩
  | 33 => ⟨S32x2048x1024, .bf16⟩
  | _ => ⟨S32x2048x1024, .bf16⟩

abbrev hbmTy (i : Nat) : BufTy := match i / 128 with
  | 0 => hbmTy0_0 i
  | 1 => hbmTy0_1 i
  | _ => ⟨S32x2048x1024, .bf16⟩

abbrev bufTy : (tb : Table) → Fin (tcTables nBuf tb) → BufTy
  | .hbm, ⟨i, _⟩ => hbmTy i
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_c : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v30_3 : Ref sig .tc := ⟨.hbm, 48, rfl⟩
abbrev main_v30_4 : Ref sig .tc := ⟨.hbm, 49, rfl⟩
abbrev main_v30_5 : Ref sig .tc := ⟨.hbm, 50, rfl⟩
abbrev main_v30_6 : Ref sig .tc := ⟨.hbm, 51, rfl⟩
abbrev main_v30_7 : Ref sig .tc := ⟨.hbm, 52, rfl⟩
abbrev main_v30_8 : Ref sig .tc := ⟨.hbm, 53, rfl⟩
abbrev main_while0c_c_17 : Ref sig .tc := ⟨.hbm, 54, rfl⟩
abbrev main_while0c_v77 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v77 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v78 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v79 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v80 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v81 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v82 : Ref sig .tc := ⟨.hbm, 85, rfl⟩
abbrev main_while0b_v83 : Ref sig .tc := ⟨.hbm, 86, rfl⟩
abbrev main_while0b_v84 : Ref sig .tc := ⟨.hbm, 87, rfl⟩
abbrev main_while0b_v85 : Ref sig .tc := ⟨.hbm, 88, rfl⟩
abbrev main_while0b_v86 : Ref sig .tc := ⟨.hbm, 89, rfl⟩
abbrev main_while0b_v87 : Ref sig .tc := ⟨.hbm, 90, rfl⟩
abbrev main_while0b_v88 : Ref sig .tc := ⟨.hbm, 91, rfl⟩
abbrev main_while0b_v89 : Ref sig .tc := ⟨.hbm, 92, rfl⟩
abbrev main_while0b_v90 : Ref sig .tc := ⟨.hbm, 93, rfl⟩
abbrev main_while0b_v91 : Ref sig .tc := ⟨.hbm, 94, rfl⟩
abbrev main_while0b_v92 : Ref sig .tc := ⟨.hbm, 95, rfl⟩
abbrev main_while0b_v93 : Ref sig .tc := ⟨.hbm, 96, rfl⟩
abbrev main_while0b_v94 : Ref sig .tc := ⟨.hbm, 97, rfl⟩
abbrev main_while0b_v95 : Ref sig .tc := ⟨.hbm, 98, rfl⟩
abbrev main_while0b_v96 : Ref sig .tc := ⟨.hbm, 99, rfl⟩
abbrev main_while0b_v97 : Ref sig .tc := ⟨.hbm, 100, rfl⟩
abbrev main_while0b_v98 : Ref sig .tc := ⟨.hbm, 101, rfl⟩
abbrev main_while0b_v99 : Ref sig .tc := ⟨.hbm, 102, rfl⟩
abbrev main_while0b_call6_v0 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_v100 : Ref sig .tc := ⟨.hbm, 107, rfl⟩
abbrev main_while0b_c_17 : Ref sig .tc := ⟨.hbm, 108, rfl⟩
abbrev main_while0b_v101 : Ref sig .tc := ⟨.hbm, 109, rfl⟩
abbrev main_v31 : Ref sig .tc := ⟨.hbm, 110, rfl⟩
abbrev main_cst_3 : Ref sig .tc := ⟨.hbm, 111, rfl⟩
abbrev main_v32 : Ref sig .tc := ⟨.hbm, 112, rfl⟩
abbrev main_v33 : Ref sig .tc := ⟨.hbm, 113, rfl⟩
abbrev main_cst_4 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_cst_5 : Ref sig .tc := ⟨.hbm, 120, rfl⟩
abbrev main_v39 : Ref sig .tc := ⟨.hbm, 121, rfl⟩
abbrev main_v40 : Ref sig .tc := ⟨.hbm, 122, rfl⟩
abbrev main_cst_6 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_cst_7 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_cst_8 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩

abbrev nD : Nat := 1
abbrev τ : Topo := Topo.v7x

variable {F : FTy → Type} [FloatOps F]

abbrev main_while0_count : Scf.Loop 32 := ⟨0#32, 2048#32, 1#32⟩
-- ==== Kernel7.lean ====
abbrev S32x2048x1024 : Shape := ⟨3, ![32, 2048, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S8x1024 : Shape := ⟨2, ![8, 1024]⟩
abbrev S1x1024 : Shape := ⟨2, ![1, 1024]⟩
abbrev S4x1024 : Shape := ⟨2, ![4, 1024]⟩
abbrev S1024x128 : Shape := ⟨2, ![1024, 128]⟩
abbrev S128x1024 : Shape := ⟨2, ![128, 1024]⟩
abbrev S1024x256 : Shape := ⟨2, ![1024, 256]⟩
abbrev S256x1024 : Shape := ⟨2, ![256, 1024]⟩
abbrev S1x256x1024 : Shape := ⟨3, ![1, 256, 1024]⟩
abbrev S1x8x1024 : Shape := ⟨3, ![1, 8, 1024]⟩
abbrev S264x1024 : Shape := ⟨2, ![264, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x128 : Shape := ⟨2, ![256, 128]⟩
abbrev S256x256 : Shape := ⟨2, ![256, 256]⟩

abbrev nBuf : Space → Nat
  | .hbm => 54
  | .vmem => 31
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024, .f32⟩
  | .hbm, ⟨10, _⟩ => ⟨S1024x64, .f32⟩
  | .hbm, ⟨11, _⟩ => ⟨S64x1024, .f32⟩
  | .hbm, ⟨12, _⟩ => ⟨S1024x160, .f32⟩
  | .hbm, ⟨13, _⟩ => ⟨S160x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S8x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S_, .f32⟩
  | .hbm, ⟨24, _⟩ => ⟨S8x1024, .f32⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x64, .bf16⟩
  | .hbm, ⟨29, _⟩ => ⟨S_, .bf16⟩
  | .hbm, ⟨30, _⟩ => ⟨S1024x128, .bf16⟩
  | .hbm, ⟨31, _⟩ => ⟨S64x1024, .bf16⟩
  | .hbm, ⟨32, _⟩ => ⟨S_, .bf16⟩
  | .hbm, ⟨33, _⟩ => ⟨S128x1024, .bf16⟩
  | .hbm, ⟨34, _⟩ => ⟨S1024x64, .bf16⟩
  | .hbm, ⟨35, _⟩ => ⟨S_, .bf16⟩
  | .hbm, ⟨36, _⟩ => ⟨S1024x128, .bf16⟩
  | .hbm, ⟨37, _⟩ => ⟨S64x1024, .bf16⟩
  | .hbm, ⟨38, _⟩ => ⟨S_, .bf16⟩
  | .hbm, ⟨39, _⟩ => ⟨S128x1024, .bf16⟩
  | .hbm, ⟨40, _⟩ => ⟨S1024x160, .bf16⟩
  | .hbm, ⟨41, _⟩ => ⟨S_, .bf16⟩
  | .hbm, ⟨42, _⟩ => ⟨S1024x256, .bf16⟩
  | .hbm, ⟨43, _⟩ => ⟨S160x1024, .bf16⟩
  | .hbm, ⟨44, _⟩ => ⟨S_, .bf16⟩
  | .hbm, ⟨45, _⟩ => ⟨S256x1024, .bf16⟩
  | .hbm, ⟨46, _⟩ => ⟨S1x1024, .f32⟩
  | .hbm, ⟨47, _⟩ => ⟨S32x2048x1024, .bf16⟩
  | .hbm, ⟨48, _⟩ => ⟨S32x2048x1024, .bf16⟩
  | .hbm, ⟨49, _⟩ => ⟨S32x2048x1024, .bf16⟩
  | .hbm, ⟨50, _⟩ => ⟨S32x2048x1024, .f32⟩
  | .hbm, ⟨51, _⟩ => ⟨S32x2048x1024, .bf16⟩
  | .hbm, ⟨52, _⟩ => ⟨S32x2048x1024, .bf16⟩
  | .hbm, ⟨53, _⟩ => ⟨S32x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S128x1024, .bf16⟩
  | .local _ .vmem, ⟨12, _⟩ => ⟨S1024x128, .bf16⟩
  | .local _ .vmem, ⟨13, _⟩ => ⟨S128x1024, .bf16⟩
  | .local _ .vmem, ⟨14, _⟩ => ⟨S1024x256, .bf16⟩
  | .local _ .vmem, ⟨15, _⟩ => ⟨S256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S264x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23_0 : Ref sig .tc := ⟨.hbm, 47, rfl⟩
abbrev main_v23_1 : Ref sig .tc := ⟨.hbm, 48, rfl⟩
abbrev main_v23_2 : Ref sig .tc := ⟨.hbm, 49, rfl⟩
abbrev main_v23_3 : Ref sig .tc := ⟨.hbm, 50, rfl⟩
abbrev main_v23_4 : Ref sig .tc := ⟨.hbm, 51, rfl⟩
abbrev main_v23_5 : Ref sig .tc := ⟨.hbm, 52, rfl⟩
abbrev main_v23_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference7Ideal.lean ====
abbrev S32x2048x1024 : Shape := ⟨3, ![32, 2048, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2049x1024 : Shape := ⟨3, ![32, 2049, 1024]⟩
abbrev S1x1024 : Shape := ⟨2, ![1, 1024]⟩
abbrev S32x2048x64 : Shape := ⟨3, ![32, 2048, 64]⟩
abbrev S32x2048x160 : Shape := ⟨3, ![32, 2048, 160]⟩

abbrev nBuf : Space → Nat
  | .hbm => 145
  | .vmem => 0
  | .smem => 0
  | _ => 0

abbrev hbmTy0_0 (i : Nat) : BufTy := match i % 128 with
  | 0 => ⟨S32x2048x1024, .f32⟩
  | 1 => ⟨S1024, .f32⟩
  | 2 => ⟨S6x1024, .f32⟩
  | 3 => ⟨S1024x1024, .f32⟩
  | 4 => ⟨S1024x1024, .f32⟩
  | 5 => ⟨S1024x1024, .f32⟩
  | 6 => ⟨S1024, .f32⟩
  | 7 => ⟨S1024x64, .f32⟩
  | 8 => ⟨S64x1024, .f32⟩
  | 9 => ⟨S1024, .f32⟩
  | 10 => ⟨S1024x64, .f32⟩
  | 11 => ⟨S64x1024, .f32⟩
  | 12 => ⟨S1024x160, .f32⟩
  | 13 => ⟨S160x1024, .f32⟩
  | 14 => ⟨S1024, .f32⟩
  | 15 => ⟨S1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S_, .i32⟩
  | 33 => ⟨S_, .f32⟩
  | 34 => ⟨S32x2049x1024, .f32⟩
  | 35 => ⟨S32x2048x1024, .f32⟩
  | 36 => ⟨S32x2048x1024, .f32⟩
  | 37 => ⟨S1x1024, .f32⟩
  | 38 => ⟨S1024, .f32⟩
  | 39 => ⟨S1x1x1024, .f32⟩
  | 40 => ⟨S32x2048x1024, .f32⟩
  | 41 => ⟨S32x2048x1024, .f32⟩
  | 42 => ⟨S32x2048x1024, .f32⟩
  | 43 => ⟨S1x1024, .f32⟩
  | 44 => ⟨S1024, .f32⟩
  | 45 => ⟨S1x1x1024, .f32⟩
  | 46 => ⟨S32x2048x1024, .f32⟩
  | 47 => ⟨S32x2048x1024, .f32⟩
  | 48 => ⟨S32x2048x1024, .f32⟩
  | 49 => ⟨S1x1024, .f32⟩
  | 50 => ⟨S1024, .f32⟩
  | 51 => ⟨S1x1x1024, .f32⟩
  | 52 => ⟨S32x2048x1024, .f32⟩
  | 53 => ⟨S32x2048x1024, .f32⟩
  | 54 => ⟨S32x2048x1024, .f32⟩
  | 55 => ⟨S1x1024, .f32⟩
  | 56 => ⟨S1024, .f32⟩
  | 57 => ⟨S1x1x1024, .f32⟩
  | 58 => ⟨S32x2048x1024, .f32⟩
  | 59 => ⟨S32x2048x1024, .f32⟩
  | 60 => ⟨S32x2048x1024, .f32⟩
  | 61 => ⟨S1x1024, .f32⟩
  | 62 => ⟨S1024, .f32⟩
  | 63 => ⟨S1x1x1024, .f32⟩
  | 64 => ⟨S32x2048x1024, .f32⟩
  | 65 => ⟨S32x2048x1024, .f32⟩
  | 66 => ⟨S32x2048x1024, .f32⟩
  | 67 => ⟨S1x1024, .f32⟩
  | 68 => ⟨S1024, .f32⟩
  | 69 => ⟨S1x1x1024, .f32⟩
  | 70 => ⟨S32x2048x1024, .f32⟩
  | 71 => ⟨S32x2048x1024, .f32⟩
  | 72 => ⟨S32x2048x1024, .f32⟩
  | 73 => ⟨S32x2048x1024, .f32⟩
  | 74 => ⟨S32x2048x64, .f32⟩
  | 75 => ⟨S32x2048x64, .f32⟩
  | 76 => ⟨S32x2048x1024, .f32⟩
  | 77 => ⟨S1x1x1024, .f32⟩
  | 78 => ⟨S32x2048x1024, .f32⟩
  | 79 => ⟨S32x2048x1024, .f32⟩
  | 80 => ⟨S32x2048x1024, .f32⟩
  | 81 => ⟨S_, .f32⟩
  | 82 => ⟨S32x2048x1024, .f32⟩
  | 83 => ⟨S32x2048x1024, .f32⟩
  | 84 => ⟨S32x2048x1024, .f32⟩
  | 85 => ⟨S32x2048x1024, .f32⟩
  | 86 => ⟨S32x2048x1024, .i1⟩
  | 87 => ⟨S32x2048x1024, .f32⟩
  | 88 => ⟨S32x2048x1024, .f32⟩
  | 89 => ⟨S32x2048x1024, .f32⟩
  | 90 => ⟨S32x2048x1024, .f32⟩
  | 91 => ⟨S32x2048x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S_, .f32⟩
  | 97 => ⟨S32x2048x1024, .f32⟩
  | 98 => ⟨S32x2048x1024, .f32⟩
  | 99 => ⟨S32x2048x1024, .f32⟩
  | 100 => ⟨S32x2048x1024, .f32⟩
  | 101 => ⟨S32x2048x64, .f32⟩
  | 102 => ⟨S32x2048x1024, .f32⟩
  | 103 => ⟨S1x1x1024, .f32⟩
  | 104 => ⟨S32x2048x1024, .f32⟩
  | 105 => ⟨S32x2048x1024, .f32⟩
  | 106 => ⟨S32x2048x1024, .f32⟩
  | 107 => ⟨S32x2048x1024, .f32⟩
  | 108 => ⟨S_, .f32⟩
  | 109 => ⟨S32x2048x1024, .f32⟩
  | 110 => ⟨S32x2048x1024, .f32⟩
  | 111 => ⟨S_, .f32⟩
  | 112 => ⟨S32x2048x1024, .f32⟩
  | 113 => ⟨S32x2048x1024, .f32⟩
  | 114 => ⟨S32x2048x160, .f32⟩
  | 115 => ⟨S32x2048x160, .f32⟩
  | 116 => ⟨S32x2048x160, .f32⟩
  | 117 => ⟨S_, .f32⟩
  | 118 => ⟨S32x2048x160, .f32⟩
  | 119 => ⟨S32x2048x160, .f32⟩
  | 120 => ⟨S_, .f32⟩
  | 121 => ⟨S32x2048x160, .f32⟩
  | 122 => ⟨S32x2048x160, .f32⟩
  | 123 => ⟨S32x2048x1024, .f32⟩
  | 124 => ⟨S32x2048x1024, .bf16⟩
  | 125 => ⟨S_, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S1x1x1024, .f32⟩
  | 1 => ⟨S32x2048x1024, .f32⟩
  | 2 => ⟨S32x2048x1024, .f32⟩
  | 3 => ⟨S_, .f32⟩
  | 4 => ⟨S32x2048x1024, .f32⟩
  | 5 => ⟨S32x2048x1024, .f32⟩
  | 6 => ⟨S32x2048x1024, .f32⟩
  | 7 => ⟨S32x2048x1024, .bf16⟩
  | 8 => ⟨S32x2048x1024, .bf16⟩
  | 9 => ⟨S32x2048x1024, .f32⟩
  | 10 => ⟨S32x2048x1024, .f32⟩
  | 11 => ⟨S1x1x1024, .f32⟩
  | 12 => ⟨S32x2048x1024, .f32⟩
  | 13 => ⟨S32x2048x1024, .f32⟩
  | 14 => ⟨S32x2048x1024, .bf16⟩
  | 15 => ⟨S32x2048x1024, .bf16⟩
  | 16 => ⟨S32x2048x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call0_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v60 : Ref sig .tc := ⟨.hbm, 94, rfl⟩
abbrev main_v61 : Ref sig .tc := ⟨.hbm, 95, rfl⟩
abbrev main_cst_2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_3 : Ref sig .tc := ⟨.hbm, 108, rfl⟩
abbrev main_v73 : Ref sig .tc := ⟨.hbm, 109, rfl⟩
abbrev main_v74 : Ref sig .tc := ⟨.hbm, 110, rfl⟩
abbrev main_cst_4 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_5 : Ref sig .tc := ⟨.hbm, 117, rfl⟩
abbrev main_v80 : Ref sig .tc := ⟨.hbm, 118, rfl⟩
abbrev main_v81 : Ref sig .tc := ⟨.hbm, 119, rfl⟩
abbrev main_cst_6 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_7 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_8 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]
-- ==== Proof.RowMath.lean ====
module

public import Idealize.ShloMosaic.Lib.Pointwise
public import Idealize.ShloMosaic.Lib.IdealHost

@[expose] public section

noncomputable section

namespace Cert.RowMath

open Idealize.ShloMosaic

/-- A row scaled by the reciprocal root of its mean square, then by a weight. -/
def rmsRow (x w : Fin 1024 → EReal) (j : Fin 1024) : EReal :=
  x j * Ideal.rsqrt (Ideal.div (∑ k : Fin 1024, x k * x k) (Ideal.ofBits FTy.f32 1149239296#32)
    + Ideal.ofBits FTy.f32 897988541#32) * w j

/-- One hidden unit of the gated layer: the gate's sigmoid-weighted projection times the other projection. -/
def glu {n : ℕ} (h : Fin 1024 → EReal) (a b : Fin 1024 → Fin n → EReal) (k : Fin n) : EReal :=
  (∑ l : Fin 1024, h l * a l k) * Ideal.logistic (∑ l : Fin 1024, h l * a l k) * ∑ l : Fin 1024, h l * b l k

/-- The residual row plus the gated layer of its normalised self. -/
def ffnRow (x nw : Fin 1024 → EReal) (a b : Fin 1024 → Fin 2816 → EReal) (d : Fin 2816 → Fin 1024 → EReal) (j : Fin 1024) : EReal :=
  x j + ∑ k : Fin 2816, glu (rmsRow x nw) a b k * d k j

/-- A sum over 2816 places is the sum over its first 1408 and its last 1408. -/
theorem sum_halves (f : Fin 2816 → EReal) :
    ∑ k : Fin 2816, f k = (∑ k : Fin 1408, f ⟨1408 * 0 + k.val, by omega⟩) + ∑ k : Fin 1408, f ⟨1408 * 1 + k.val, by omega⟩ := by
  rw [show (∑ k : Fin 2816, f k) = ∑ k : Fin (1408 + 1408), f k from rfl, Fin.sum_univ_add]
  exact congrArg₂ (· + ·) (Finset.sum_congr rfl fun k _ => congrArg f (Fin.ext (by simp)))
    (Finset.sum_congr rfl fun k _ => congrArg f (Fin.ext (by simp [Nat.add_comm])))

end Cert.RowMath
-- ==== Proof.Ffn.lean ====
module

public import proofs.«01_k».proof.Proof.Gen.KernelIdeal.Value
public import proofs.«01_k».proof.Proof.Gen.ReferenceIdeal.Read
public import proofs.«01_k».proof.Proof.RowMath
public import Idealize.ShloMosaic.Lib.StableHlo.ReadAt

@[expose] public section

noncomputable section

namespace Cert.Ffn

open Cert.RowMath Cert.KernelIdeal Cert.KernelIdeal.Gen Idealize.ShloMosaic Idealize.ShloMosaic.TcCoe Idealize.SL.Sem

/-! ## The payloads at an index -/

theorem pay1_apply (x : Vec Ideal S512x1024 .f32) (w : Vec Ideal S1x1024 .f32) (r : Fin 512) (j : Fin 1024) :
    k0_pay1 x w (ix2 r j) = x (ix2 r j) * Ideal.rsqrt (Ideal.div (∑ k : Fin 1024, x (ix2 r k) * x (ix2 r k)) (Ideal.ofBits FTy.f32 1149239296#32)
      + Ideal.ofBits FTy.f32 897988541#32) * w (ix2 0 j) := by
  unfold k0_pay1
  pointwise

theorem pay3_apply (h : Vec Ideal S512x1024 .bf16) (a b : Vec Ideal S1024x1408 .bf16) (acc : Vec Ideal S512x1024 .f32)
    (d : Vec Ideal S1408x1024 .bf16) (r : Fin 512) (j : Fin 1024) :
    k0_pay3 h a b acc d (ix2 r j) = acc (ix2 r j) + ∑ k : Fin 1408,
      ((∑ l : Fin 1024, h (ix2 r l) * a (ix2 l k)) * Ideal.logistic (∑ l : Fin 1024, h (ix2 r l) * a (ix2 l k))
        * ∑ l : Fin 1024, h (ix2 r l) * b (ix2 l k)) * d (ix2 k j) := by
  unfold k0_pay3
  pointwise

theorem pay2_apply (r : Fin 512) (j : Fin 1024) : k0_pay2 (F := Ideal) (ix2 r j) = 0 := by
  unfold k0_pay2
  pointwise

theorem pay4_apply (x w : Vec Ideal S512x1024 .f32) (f : Vec Ideal S1x1024 .f32) (r : Fin 512) (j : Fin 1024) :
    k0_pay4 x w f (ix2 r j) = rmsRow (fun l => x (ix2 r l) + w (ix2 r l)) (fun l => f (ix2 0 l)) j := by
  unfold k0_pay4 rmsRow
  pointwise

/-! ## The blocks at an index -/

section Blocks
variable {F : FTy → Type} [FloatOps F]
variable (m : (ℓ : Loc nD τ sig) → Buf (Elt F) ℓ)

theorem index0 : ∀ t : Fin cfg0.N, win0_0.index t 0 = t.val / 2 ∧ win0_0.index t 1 = 0 := by decide +kernel
theorem index1 : ∀ t : Fin cfg0.N, win0_1.index t 0 = 0 ∧ win0_1.index t 1 = 0 := by decide +kernel
theorem index5 : ∀ t : Fin cfg0.N, win0_5.index t 0 = 0 ∧ win0_5.index t 1 = 0 := by decide +kernel
theorem index2 : ∀ t : Fin cfg0.N, win0_2.index t 0 = 0 ∧ win0_2.index t 1 = t.val % 2 := by decide +kernel
theorem index3 : ∀ t : Fin cfg0.N, win0_3.index t 0 = 0 ∧ win0_3.index t 1 = t.val % 2 := by decide +kernel
theorem index4 : ∀ t : Fin cfg0.N, win0_4.index t 0 = t.val % 2 ∧ win0_4.index t 1 = 0 := by decide +kernel

theorem blk0 (c : Dev nD) (t : Fin cfg0.N) (r : Fin 512) (j : Fin 1024) (h : 512 * (t.val / 2) + r.val < 65536) :
    (iblk m c 0 t : Vec F S512x1024 .f32) (ix2 r j) = m ((c : Thread nD τ).loc main_arg0) (ix2 ⟨512 * (t.val / 2) + r.val, h⟩ j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * (t.val / 2) + r.val; rw [hi.1]; omega
  | ⟨1, _⟩ => show win0_0.index t 1 * 1024 + 1 * j.val = j.val; rw [hi.2]; omega

theorem blk1 (c : Dev nD) (t : Fin cfg0.N) (j : Fin 1024) :
    (iblk m c 1 t : Vec F S1x1024 .f32) (ix2 0 j) = V m c main_v3 (ix2 0 j) := by
  have hi := index1 t
  unfold iblk
  rw [View.read_apply]
  show V m c main_v3 _ = V m c main_v3 _
  congr 1
  funext a
  apply Fin.ext
  match a with
  | ⟨0, _⟩ => show win0_1.index t 0 * 1 + 1 * 0 = 0; rw [hi.1]
  | ⟨1, _⟩ => show win0_1.index t 1 * 1024 + 1 * j.val = j.val; rw [hi.2]; omega

theorem blk5 (c : Dev nD) (t : Fin cfg0.N) (j : Fin 1024) :
    (iblk m c 5 t : Vec F S1x1024 .f32) (ix2 0 j) = V m c main_v4 (ix2 0 j) := by
  have hi := index5 t
  unfold iblk
  rw [View.read_apply]
  show V m c main_v4 _ = V m c main_v4 _
  congr 1
  funext a
  apply Fin.ext
  match a with
  | ⟨0, _⟩ => show win0_5.index t 0 * 1 + 1 * 0 = 0; rw [hi.1]
  | ⟨1, _⟩ => show win0_5.index t 1 * 1024 + 1 * j.val = j.val; rw [hi.2]; omega

theorem blk2 (c : Dev nD) (t : Fin cfg0.N) (l : Fin 1024) (k : Fin 1408) (h : 1408 * (t.val % 2) + k.val < 2816) :
    (iblk m c 2 t : Vec F S1024x1408 .bf16) (ix2 l k) = V m c main_v0 (ix2 l ⟨1408 * (t.val % 2) + k.val, h⟩) := by
  have hi := index2 t
  unfold iblk
  rw [View.read_apply]
  show V m c main_v0 _ = V m c main_v0 _
  congr 1
  funext a
  apply Fin.ext
  match a with
  | ⟨0, _⟩ => show win0_2.index t 0 * 1024 + 1 * l.val = l.val; rw [hi.1]; omega
  | ⟨1, _⟩ => show win0_2.index t 1 * 1408 + 1 * k.val = 1408 * (t.val % 2) + k.val; rw [hi.2]; omega

theorem blk3 (c : Dev nD) (t : Fin cfg0.N) (l : Fin 1024) (k : Fin 1408) (h : 1408 * (t.val % 2) + k.val < 2816) :
    (iblk m c 3 t : Vec F S1024x1408 .bf16) (ix2 l k) = V m c main_v1 (ix2 l ⟨1408 * (t.val % 2) + k.val, h⟩) := by
  have hi := index3 t
  unfold iblk
  rw [View.read_apply]
  show V m c main_v1 _ = V m c main_v1 _
  congr 1
  funext a
  apply Fin.ext
  match a with
  | ⟨0, _⟩ => show win0_3.index t 0 * 1024 + 1 * l.val = l.val; rw [hi.1]; omega
  | ⟨1, _⟩ => show win0_3.index t 1 * 1408 + 1 * k.val = 1408 * (t.val % 2) + k.val; rw [hi.2]; omega

theorem blk4 (c : Dev nD) (t : Fin cfg0.N) (k : Fin 1408) (j : Fin 1024) (h : 1408 * (t.val % 2) + k.val < 2816) :
    (iblk m c 4 t : Vec F S1408x1024 .bf16) (ix2 k j) = V m c main_v2 (ix2 ⟨1408 * (t.val % 2) + k.val, h⟩ j) := by
  have hi := index4 t
  unfold iblk
  rw [View.read_apply]
  show V m c main_v2 _ = V m c main_v2 _
  congr 1
  funext a
  apply Fin.ext
  match a with
  | ⟨0, _⟩ => show win0_4.index t 0 * 1408 + 1 * k.val = 1408 * (t.val % 2) + k.val; rw [hi.1]; omega
  | ⟨1, _⟩ => show win0_4.index t 1 * 1024 + 1 * j.val = j.val; rw [hi.2]; omega

end Blocks

section Host
variable (m : (ℓ : Loc nD τ sig) → Buf (Elt Ideal) ℓ)

theorem V_v0 (c : Dev nD) (l : Fin 1024) (k : Fin 2816) :
    V m c main_v0 (ix2 l k) = m ((c : Thread nD τ).loc main_arg2) (ix2 l k) := by
  unfold V
  after_reads_at

theorem V_v1 (c : Dev nD) (l : Fin 1024) (k : Fin 2816) :
    V m c main_v1 (ix2 l k) = m ((c : Thread nD τ).loc main_arg3) (ix2 l k) := by
  unfold V
  after_reads_at

theorem V_v2 (c : Dev nD) (l : Fin 2816) (k : Fin 1024) :
    V m c main_v2 (ix2 l k) = m ((c : Thread nD τ).loc main_arg4) (ix2 l k) := by
  unfold V
  after_reads_at

theorem V_v3 (c : Dev nD) (j : Fin 1024) :
    V m c main_v3 (ix2 0 j) = m ((c : Thread nD τ).loc main_arg1) (ix1 j) := by
  unfold V
  after_reads_at

theorem V_v4 (c : Dev nD) (j : Fin 1024) :
    V m c main_v4 (ix2 0 j) = m ((c : Thread nD τ).loc main_arg5) (ix1 j) := by
  unfold V
  after_reads_at

theorem in1 (c : Dev nD) (t : Fin cfg0.N) (j : Fin 1024) :
    (iblk m c 1 t : Vec Ideal S1x1024 .f32) (ix2 0 j) = m ((c : Thread nD τ).loc main_arg1) (ix1 j) :=
  (blk1 m c t j).trans (V_v3 m c j)

theorem in5 (c : Dev nD) (t : Fin cfg0.N) (j : Fin 1024) :
    (iblk m c 5 t : Vec Ideal S1x1024 .f32) (ix2 0 j) = m ((c : Thread nD τ).loc main_arg5) (ix1 j) :=
  (blk5 m c t j).trans (V_v4 m c j)

theorem in2 (c : Dev nD) (t : Fin cfg0.N) (l : Fin 1024) (k : Fin 1408) (h : 1408 * (t.val % 2) + k.val < 2816) :
    (iblk m c 2 t : Vec Ideal S1024x1408 .bf16) (ix2 l k) = m ((c : Thread nD τ).loc main_arg2) (ix2 l ⟨1408 * (t.val % 2) + k.val, h⟩) :=
  (blk2 m c t l k h).trans (V_v0 m c _ _)

theorem in3 (c : Dev nD) (t : Fin cfg0.N) (l : Fin 1024) (k : Fin 1408) (h : 1408 * (t.val % 2) + k.val < 2816) :
    (iblk m c 3 t : Vec Ideal S1024x1408 .bf16) (ix2 l k) = m ((c : Thread nD τ).loc main_arg3) (ix2 l ⟨1408 * (t.val % 2) + k.val, h⟩) :=
  (blk3 m c t l k h).trans (V_v1 m c _ _)

theorem in4 (c : Dev nD) (t : Fin cfg0.N) (k : Fin 1408) (j : Fin 1024) (h : 1408 * (t.val % 2) + k.val < 2816) :
    (iblk m c 4 t : Vec Ideal S1408x1024 .bf16) (ix2 k j) = m ((c : Thread nD τ).loc main_arg4) (ix2 ⟨1408 * (t.val % 2) + k.val, h⟩ j) :=
  (blk4 m c t k j h).trans (V_v2 m c _ _)

end Host

/-! ## What a grid point leaves -/

section Points
variable {F : FTy → Type} [FloatOps F]

theorem hz : (![0, 0] : Fin 2 → Nat) = fun _ => 0 := by funext a; match a with | ⟨0, _⟩ => rfl | ⟨1, _⟩ => rfl

variable (c : Dev nD) (i : grid0.Coords)
  (a0 : Memref sig .tc .vmem S512x1024 .f32) (h0 : a0.IsWhole) (a1 : Memref sig .tc .vmem S1x1024 .f32) (h1 : a1.IsWhole)
  (a2 : Memref sig .tc .vmem S1024x1408 .bf16) (h2 : a2.IsWhole) (a3 : Memref sig .tc .vmem S1024x1408 .bf16) (h3 : a3.IsWhole)
  (a4 : Memref sig .tc .vmem S1408x1024 .bf16) (h4 : a4.IsWhole) (a5 : Memref sig .tc .vmem S1x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S512x1024 .f32) (h8 : a8.IsWhole)
  (x0 : Vec F S512x1024 .f32) (x1 : Vec F S1x1024 .f32) (x2 : Vec F S1024x1408 .bf16) (x3 : Vec F S1024x1408 .bf16)
  (x4 : Vec F S1408x1024 .bf16) (x5 : Vec F S1x1024 .f32)

theorem sout_A_0 (hc0 : cond0_0 i) (hc1 : ¬cond0_1 i) :
    sout0_A_0 c i a0 h0 a1 h1 a2 h2 a3 h3 a4 h4 a5 h5 a6 h6 a7 h7 a8 h8 hc0 hc1 x0 x1 x2 x3 x4 x5 = k0_pay1 x0 x1 := by
  unfold sout0_A_0
  rw [View.read_writes_eq_canon _ _ _ (scover0_A_0 c i a0 h0 a1 h1 a2 h2 a3 h3 a4 h4 a5 h5 a6 h6 a7 h7 a8 h8 hc0 hc1 x0 x1 x2 x3 x4 x5)]
  unfold kernelRun0_A
  dsimp only
  sl_unfold_words
  rw [View.canon_unit_zero hz]
  simp only [View.readAt_eq_ld, h0.read_unread, h1.read_unread, View.ld_unit_zero (S := S512x1024) hz,
    View.ld_unit_zero (S := S1x1024) hz, shapeCast_self]

theorem sout_A_1 (hc0 : cond0_0 i) (hc1 : ¬cond0_1 i) :
    sout0_A_1 c i a0 h0 a1 h1 a2 h2 a3 h3 a4 h4 a5 h5 a6 h6 a7 h7 a8 h8 hc0 hc1 x0 x1 x2 x3 x4 x5
      = k0_pay3 (k0_pay1 x0 x1) x2 x3 k0_pay2 x4 := by
  unfold sout0_A_1
  rw [View.read_writes_eq_canon _ _ _ (scover0_A_1 c i a0 h0 a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S512x1024) hz, View.readCov_unit_zero (S := S512x1024) _ hz,
    View.readCov_unit_zero (S := S512x1024) _ hz]
  simp only [View.readAt_eq_ld, h0.read_unread, h1.read_unread, h2.read_unread, h3.read_unread, h4.read_unread,
    View.ld_unit_zero (S := S512x1024) hz, View.ld_unit_zero (S := S1024x1408) hz, View.ld_unit_zero (S := S1408x1024) hz,
    View.ld_unit_zero (S := S1x1024) hz, shapeCast_self]

theorem out_B (hc0 : ¬cond0_0 i) (hc1 : cond0_1 i) (xs0 : Vec F S512x1024 .bf16) (xs1 : Vec F S512x1024 .f32) :
    out0_B_6 c i a0 h0 a1 h1 a2 h2 a3 h3 a4 h4 a5 h5 a6 h6 a7 h7 a8 h8 hc0 hc1 x0 x1 x2 x3 x4 x5 xs0 xs1
      = k0_pay4 x0 (k0_pay3 xs0 x2 x3 xs1 x4) x5 := by
  unfold out0_B_6
  rw [View.read_writes_eq_canon _ _ _ (cover0_B_6 c i a0 h0 a1 h1 a2 h2 a3 h3 a4 h4 a5 h5 a6 h6 a7 h7 a8 h8 hc0 hc1 x0 x1 x2 x3 x4 x5 xs0 xs1)]
  unfold kernelRun0_B
  dsimp only
  sl_unfold_words
  rw [View.canon_unit_zero hz]
  simp only [View.readAt_eq_ld, h0.read_unread, h1.read_unread, h2.read_unread, h3.read_unread, h4.read_unread, h5.read_unread, h7.read_unread, h8.read_unread,
    View.readCov_unit_zero (S := S512x1024) _ hz, View.ld_unit_zero (S := S512x1024) hz, View.ld_unit_zero (S := S1024x1408) hz, View.ld_unit_zero (S := S1408x1024) hz,
    View.ld_unit_zero (S := S1x1024) hz, shapeCast_self]

end Points

/-! ## The result at an index -/

section Result
variable (m : (ℓ : Loc nD τ sig) → Buf (Elt Ideal) ℓ)

/-- The partial products of one half of the hidden units. -/
theorem half (c : Dev nD) (t u : Fin cfg0.N) (acc : Vec Ideal S512x1024 .f32) (r : Fin 512) (j : Fin 1024)
    (h : 512 * (u.val / 2) + r.val < 65536) (q : ℕ) (hq : t.val % 2 = q) (hk : ∀ k : Fin 1408, 1408 * q + k.val < 2816) :
    k0_pay3 (k0_pay1 (iblk m c 0 u) (iblk m c 1 u)) (iblk m c 2 t) (iblk m c 3 t) acc (iblk m c 4 t) (ix2 r j)
      = acc (ix2 r j) + ∑ k : Fin 1408,
        glu (rmsRow (fun l => m ((c : Thread nD τ).loc main_arg0) (ix2 ⟨512 * (u.val / 2) + r.val, h⟩ l)) (fun l => m ((c : Thread nD τ).loc main_arg1) (ix1 l)))
          (fun l k => m ((c : Thread nD τ).loc main_arg2) (ix2 l k)) (fun l k => m ((c : Thread nD τ).loc main_arg3) (ix2 l k)) ⟨1408 * q + k.val, hk k⟩
          * m ((c : Thread nD τ).loc main_arg4) (ix2 ⟨1408 * q + k.val, hk k⟩ j) := by
  subst hq
  rw [pay3_apply]
  unfold glu rmsRow
  simp only [pay1_apply, blk0 m c u r _ h, in1, in2 m c t _ _ (hk _), in3 m c t _ _ (hk _), in4 m c t _ _ (hk _)]

theorem G6_apply (c : Dev nD) (R : Fin 65536) (j : Fin 1024) :
    Value.G6 m c (ix2 R j) = rmsRow (ffnRow (fun l => m ((c : Thread nD τ).loc main_arg0) (ix2 R l)) (fun l => m ((c : Thread nD τ).loc main_arg1) (ix1 l))
      (fun l k => m ((c : Thread nD τ).loc main_arg2) (ix2 l k)) (fun l k => m ((c : Thread nD τ).loc main_arg3) (ix2 l k))
      (fun k l => m ((c : Thread nD τ).loc main_arg4) (ix2 k l))) (fun l => m ((c : Thread nD τ).loc main_arg5) (ix1 l)) j := by
  have hN : cfg0.N = 256 := N_0
  have hR := R.isLt
  have hp : 2 * (R.val / 512) + 1 < cfg0.N := by omega
  have hpt : Value.pt6Of (ix2 R j) = 2 * (R.val / 512) + 1 := by
    show 2 * (1 * (R.val / 512 - 0) + 1 * (j.val / 1024 - 0)) + 1 = _
    omega
  have hl : Value.loc6Of (ix2 R j) = ix2 ⟨R.val % 512, Nat.mod_lt _ (by decide)⟩ j := by
    funext a; apply Fin.ext
    match a with
    | ⟨0, _⟩ => rfl
    | ⟨1, _⟩ => show j.val % 1024 = j.val; omega
  unfold Value.G6
  rw [dif_pos (by rw [hpt]; exact hp), hl, Value.fold0_congr m c _ _ (2 * (R.val / 512) + 1) (by omega) hpt, ← Value.outsAt0_sweep m c _ hp,
    outsAt0_B m c ⟨2 * (R.val / 512) + 1, hp⟩ (by show ¬(2 * (R.val / 512) + 1) % 2 = 0; omega) (by show (2 * (R.val / 512) + 1) % 2 = 1; omega)]
  have e := outsAt0_A m c ⟨2 * (R.val / 512), by omega⟩ (by show (2 * (R.val / 512)) % 2 = 0; omega) (by show ¬(2 * (R.val / 512)) % 2 = 1; omega)
  dsimp only at e ⊢
  simp only [Nat.add_sub_cancel]
  rw [e]
  dsimp only
  rw [out_B, sout_A_0, sout_A_1, pay4_apply]
  have hr : 512 * ((2 * (R.val / 512)) / 2) + R.val % 512 = R.val := by omega
  have hr' : 512 * ((2 * (R.val / 512) + 1) / 2) + R.val % 512 = R.val := by omega
  have row : ∀ l : Fin 1024, HAdd.hAdd (α := EReal) (β := EReal) (γ := EReal) ((iblk m c 0 ⟨2 * (R.val / 512) + 1, hp⟩ : Vec Ideal S512x1024 .f32) (ix2 ⟨R.val % 512, Nat.mod_lt _ (by decide)⟩ l))
      (k0_pay3 (k0_pay1 (iblk m c 0 ⟨2 * (R.val / 512), by omega⟩) (iblk m c 1 ⟨2 * (R.val / 512), by omega⟩)) (iblk m c 2 ⟨2 * (R.val / 512) + 1, hp⟩) (iblk m c 3 ⟨2 * (R.val / 512) + 1, hp⟩)
        (k0_pay3 (k0_pay1 (iblk m c 0 ⟨2 * (R.val / 512), by omega⟩) (iblk m c 1 ⟨2 * (R.val / 512), by omega⟩)) (iblk m c 2 ⟨2 * (R.val / 512), by omega⟩) (iblk m c 3 ⟨2 * (R.val / 512), by omega⟩)
          (k0_pay2 (F := Ideal)) (iblk m c 4 ⟨2 * (R.val / 512), by omega⟩)) (iblk m c 4 ⟨2 * (R.val / 512) + 1, hp⟩) (ix2 ⟨R.val % 512, Nat.mod_lt _ (by decide)⟩ l))
      = ffnRow (fun l => m ((c : Thread nD τ).loc main_arg0) (ix2 R l)) (fun l => m ((c : Thread nD τ).loc main_arg1) (ix1 l))
      (fun l k => m ((c : Thread nD τ).loc main_arg2) (ix2 l k)) (fun l k => m ((c : Thread nD τ).loc main_arg3) (ix2 l k))
      (fun k l => m ((c : Thread nD τ).loc main_arg4) (ix2 k l)) l := by
    intro j
    rw [half m c ⟨2 * (R.val / 512) + 1, hp⟩ ⟨2 * (R.val / 512), by omega⟩ _ ⟨R.val % 512, Nat.mod_lt _ (by decide)⟩ j (by show 512 * ((2 * (R.val / 512)) / 2) + R.val % 512 < 65536; omega) 1
        (by show (2 * (R.val / 512) + 1) % 2 = 1; omega) (fun k => by omega),
      half m c ⟨2 * (R.val / 512), by omega⟩ ⟨2 * (R.val / 512), by omega⟩ _ ⟨R.val % 512, Nat.mod_lt _ (by decide)⟩ j (by show 512 * ((2 * (R.val / 512)) / 2) + R.val % 512 < 65536; omega) 0
        (by show (2 * (R.val / 512)) % 2 = 0; omega) (fun k => by omega),
      blk0 m c ⟨2 * (R.val / 512) + 1, hp⟩ ⟨R.val % 512, Nat.mod_lt _ (by decide)⟩ j (by show 512 * ((2 * (R.val / 512) + 1) / 2) + R.val % 512 < 65536; omega),
      pay2_apply]
    unfold ffnRow
    rw [sum_halves, zero_add]
    simp only [hr, hr', Fin.eta]
  exact congrArg₂ (fun f g => rmsRow f g j) (funext row) (funext fun l => in5 m c _ l)

end Result

/-! ## The reference at an index, and the tie -/

open Cert.ReferenceIdeal.Read in
theorem ref_apply (x0 : Vec Ideal S65536x1024 .f32) (x1 : Vec Ideal S1024 .f32) (x2 x3 : Vec Ideal S1024x2816 .f32) (x4 : Vec Ideal S2816x1024 .f32) (x5 : Vec Ideal S1024 .f32)
    (R : Fin 65536) (j : Fin 1024) :
    val_main_v31 (F := Ideal) x0 x1 x2 x3 x4 x5 (ix2 R j) = rmsRow (ffnRow (fun l => x0 (ix2 R l)) (fun l => x1 (ix1 l)) (fun l k => x2 (ix2 l k))
      (fun l k => x3 (ix2 l k)) (fun k l => x4 (ix2 k l))) (fun l => x5 (ix1 l)) j := by
  have row : ∀ l : Fin 1024, val_main_v18 (F := Ideal) x0 x1 x2 x3 x4 (ix2 R l) = ffnRow (fun l => x0 (ix2 R l)) (fun l => x1 (ix1 l)) (fun l k => x2 (ix2 l k))
      (fun l k => x3 (ix2 l k)) (fun k l => x4 (ix2 k l)) l := by
    intro l
    unfold val_main_v18 val_main_v17 val_main_v16 val_main_v15 val_main_v14 val_main_call0_v5 val_main_call0_v4 val_main_call0_v3 val_main_call0_v2 val_main_call0_v1 val_main_call0_v0 val_main_v13 val_main_v12 val_main_v11 val_main_v10 val_main_v9 val_main_v8
      val_main_v7 val_main_v6 val_main_v5 val_main_v4 val_main_v3 val_main_v2 val_main_v1 val_main_v0 val_main_cst val_main_cst_0 val_main_cst_1 val_main_call0_cst val_main_call0_cst_0
    pointwise
    rfl
  unfold val_main_v31 val_main_v30 val_main_v29 val_main_v28 val_main_v27 val_main_v26 val_main_v25 val_main_v24 val_main_v23 val_main_v22 val_main_v21 val_main_v20 val_main_v19 val_main_cst_2 val_main_cst_3 val_main_cst_4
  pointwise
  simp only [row]
  rfl

theorem tie (m : (ℓ : Loc nD τ sig) → Buf (Elt Ideal) ℓ) (c : Dev nD) :
    Cert.ReferenceIdeal.Read.val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) = Value.G6 m c := by
  funext i
  rw [eq_ix2 i]
  exact (ref_apply _ _ _ _ _ _ (i 0) (i 1)).trans (G6_apply m c (i 0) (i 1)).symm

end Cert.Ffn
-- ==== Proof.Ffn2.lean ====
module

public import proofs.«01_k».proof.Proof.Gen.Kernel2Ideal.Value
public import proofs.«01_k».proof.Proof.Gen.Reference2Ideal.Read
public import proofs.«01_k».proof.Proof.RowMath
public import Idealize.ShloMosaic.Lib.StableHlo.ReadAt

@[expose] public section

noncomputable section

namespace Cert.Ffn2

open Cert.RowMath Cert.Kernel2Ideal Cert.Kernel2Ideal.Gen Idealize.ShloMosaic Idealize.ShloMosaic.TcCoe Idealize.SL.Sem

/-! ## The payloads at an index -/

theorem pay1_apply (x : Vec Ideal S512x1024 .f32) (w : Vec Ideal S1x1024 .f32) (r : Fin 512) (j : Fin 1024) :
    k0_pay1 x w (ix2 r j) = x (ix2 r j) * Ideal.rsqrt (Ideal.div (∑ k : Fin 1024, x (ix2 r k) * x (ix2 r k)) (Ideal.ofBits FTy.f32 1149239296#32)
      + Ideal.ofBits FTy.f32 897988541#32) * w (ix2 0 j) := by
  unfold k0_pay1
  pointwise

theorem pay3_apply (h : Vec Ideal S512x1024 .bf16) (a b : Vec Ideal S1024x1408 .bf16) (acc : Vec Ideal S512x1024 .f32)
    (d : Vec Ideal S1408x1024 .bf16) (r : Fin 512) (j : Fin 1024) :
    k0_pay3 h a b acc d (ix2 r j) = acc (ix2 r j) + ∑ k : Fin 1408,
      ((∑ l : Fin 1024, h (ix2 r l) * a (ix2 l k)) * Ideal.logistic (∑ l : Fin 1024, h (ix2 r l) * a (ix2 l k))
        * ∑ l : Fin 1024, h (ix2 r l) * b (ix2 l k)) * d (ix2 k j) := by
  unfold k0_pay3
  pointwise

theorem pay2_apply (r : Fin 512) (j : Fin 1024) : k0_pay2 (F := Ideal) (ix2 r j) = 0 := by
  unfold k0_pay2
  pointwise

theorem pay4_apply (x w : Vec Ideal S512x1024 .f32) (r : Fin 512) (j : Fin 1024) :
    k0_pay4 x w (ix2 r j) = x (ix2 r j) + w (ix2 r j) := by
  unfold k0_pay4
  pointwise

/-! ## The blocks at an index -/

section Blocks
variable {F : FTy → Type} [FloatOps F]
variable (m : (ℓ : Loc nD τ sig) → Buf (Elt F) ℓ)

theorem index0 : ∀ t : Fin cfg0.N, win0_0.index t 0 = t.val / 2 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = t.val % 2 := by decide +kernel
theorem index3 : ∀ t : Fin cfg0.N, win0_3.index t 0 = 0 ∧ win0_3.index t 1 = t.val % 2 := by decide +kernel
theorem index4 : ∀ t : Fin cfg0.N, win0_4.index t 0 = t.val % 2 ∧ win0_4.index t 1 = 0 := by decide +kernel

theorem blk0 (c : Dev nD) (t : Fin cfg0.N) (r : Fin 512) (j : Fin 1024) (h : 512 * (t.val / 2) + r.val < 65536) :
    (iblk m c 0 t : Vec F S512x1024 .f32) (ix2 r j) = m ((c : Thread nD τ).loc main_arg0) (ix2 ⟨512 * (t.val / 2) + r.val, h⟩ j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * (t.val / 2) + r.val; rw [hi.1]; omega
  | ⟨1, _⟩ => show win0_0.index t 1 * 1024 + 1 * j.val = j.val; rw [hi.2]; omega

theorem blk1 (c : Dev nD) (t : Fin cfg0.N) (j : Fin 1024) :
    (iblk m c 1 t : Vec F S1x1024 .f32) (ix2 0 j) = V m c main_v3 (ix2 0 j) := by
  have hi := index1 t
  unfold iblk
  rw [View.read_apply]
  show V m c main_v3 _ = V m c main_v3 _
  congr 1
  funext a
  apply Fin.ext
  match a with
  | ⟨0, _⟩ => show win0_1.index t 0 * 1 + 1 * 0 = 0; rw [hi.1]
  | ⟨1, _⟩ => show win0_1.index t 1 * 1024 + 1 * j.val = j.val; rw [hi.2]; omega

theorem blk2 (c : Dev nD) (t : Fin cfg0.N) (l : Fin 1024) (k : Fin 1408) (h : 1408 * (t.val % 2) + k.val < 2816) :
    (iblk m c 2 t : Vec F S1024x1408 .bf16) (ix2 l k) = V m c main_v0 (ix2 l ⟨1408 * (t.val % 2) + k.val, h⟩) := by
  have hi := index2 t
  unfold iblk
  rw [View.read_apply]
  show V m c main_v0 _ = V m c main_v0 _
  congr 1
  funext a
  apply Fin.ext
  match a with
  | ⟨0, _⟩ => show win0_2.index t 0 * 1024 + 1 * l.val = l.val; rw [hi.1]; omega
  | ⟨1, _⟩ => show win0_2.index t 1 * 1408 + 1 * k.val = 1408 * (t.val % 2) + k.val; rw [hi.2]; omega

theorem blk3 (c : Dev nD) (t : Fin cfg0.N) (l : Fin 1024) (k : Fin 1408) (h : 1408 * (t.val % 2) + k.val < 2816) :
    (iblk m c 3 t : Vec F S1024x1408 .bf16) (ix2 l k) = V m c main_v1 (ix2 l ⟨1408 * (t.val % 2) + k.val, h⟩) := by
  have hi := index3 t
  unfold iblk
  rw [View.read_apply]
  show V m c main_v1 _ = V m c main_v1 _
  congr 1
  funext a
  apply Fin.ext
  match a with
  | ⟨0, _⟩ => show win0_3.index t 0 * 1024 + 1 * l.val = l.val; rw [hi.1]; omega
  | ⟨1, _⟩ => show win0_3.index t 1 * 1408 + 1 * k.val = 1408 * (t.val % 2) + k.val; rw [hi.2]; omega

theorem blk4 (c : Dev nD) (t : Fin cfg0.N) (k : Fin 1408) (j : Fin 1024) (h : 1408 * (t.val % 2) + k.val < 2816) :
    (iblk m c 4 t : Vec F S1408x1024 .bf16) (ix2 k j) = V m c main_v2 (ix2 ⟨1408 * (t.val % 2) + k.val, h⟩ j) := by
  have hi := index4 t
  unfold iblk
  rw [View.read_apply]
  show V m c main_v2 _ = V m c main_v2 _
  congr 1
  funext a
  apply Fin.ext
  match a with
  | ⟨0, _⟩ => show win0_4.index t 0 * 1408 + 1 * k.val = 1408 * (t.val % 2) + k.val; rw [hi.1]; omega
  | ⟨1, _⟩ => show win0_4.index t 1 * 1024 + 1 * j.val = j.val; rw [hi.2]; omega

end Blocks

section Host
variable (m : (ℓ : Loc nD τ sig) → Buf (Elt Ideal) ℓ)

theorem V_v0 (c : Dev nD) (l : Fin 1024) (k : Fin 2816) :
    V m c main_v0 (ix2 l k) = m ((c : Thread nD τ).loc main_arg2) (ix2 l k) := by
  unfold V
  after_reads_at

theorem V_v1 (c : Dev nD) (l : Fin 1024) (k : Fin 2816) :
    V m c main_v1 (ix2 l k) = m ((c : Thread nD τ).loc main_arg3) (ix2 l k) := by
  unfold V
  after_reads_at

theorem V_v2 (c : Dev nD) (l : Fin 2816) (k : Fin 1024) :
    V m c main_v2 (ix2 l k) = m ((c : Thread nD τ).loc main_arg4) (ix2 l k) := by
  unfold V
  after_reads_at

theorem V_v3 (c : Dev nD) (j : Fin 1024) :
    V m c main_v3 (ix2 0 j) = m ((c : Thread nD τ).loc main_arg1) (ix1 j) := by
  unfold V
  after_reads_at

theorem in1 (c : Dev nD) (t : Fin cfg0.N) (j : Fin 1024) :
    (iblk m c 1 t : Vec Ideal S1x1024 .f32) (ix2 0 j) = m ((c : Thread nD τ).loc main_arg1) (ix1 j) :=
  (blk1 m c t j).trans (V_v3 m c j)

theorem in2 (c : Dev nD) (t : Fin cfg0.N) (l : Fin 1024) (k : Fin 1408) (h : 1408 * (t.val % 2) + k.val < 2816) :
    (iblk m c 2 t : Vec Ideal S1024x1408 .bf16) (ix2 l k) = m ((c : Thread nD τ).loc main_arg2) (ix2 l ⟨1408 * (t.val % 2) + k.val, h⟩) :=
  (blk2 m c t l k h).trans (V_v0 m c _ _)

theorem in3 (c : Dev nD) (t : Fin cfg0.N) (l : Fin 1024) (k : Fin 1408) (h : 1408 * (t.val % 2) + k.val < 2816) :
    (iblk m c 3 t : Vec Ideal S1024x1408 .bf16) (ix2 l k) = m ((c : Thread nD τ).loc main_arg3) (ix2 l ⟨1408 * (t.val % 2) + k.val, h⟩) :=
  (blk3 m c t l k h).trans (V_v1 m c _ _)

theorem in4 (c : Dev nD) (t : Fin cfg0.N) (k : Fin 1408) (j : Fin 1024) (h : 1408 * (t.val % 2) + k.val < 2816) :
    (iblk m c 4 t : Vec Ideal S1408x1024 .bf16) (ix2 k j) = m ((c : Thread nD τ).loc main_arg4) (ix2 ⟨1408 * (t.val % 2) + k.val, h⟩ j) :=
  (blk4 m c t k j h).trans (V_v2 m c _ _)

end Host

/-! ## What a grid point leaves -/

section Points
variable {F : FTy → Type} [FloatOps F]

theorem hz : (![0, 0] : Fin 2 → Nat) = fun _ => 0 := by funext a; match a with | ⟨0, _⟩ => rfl | ⟨1, _⟩ => rfl

variable (c : Dev nD) (i : grid0.Coords)
  (a0 : Memref sig .tc .vmem S512x1024 .f32) (h0 : a0.IsWhole) (a1 : Memref sig .tc .vmem S1x1024 .f32) (h1 : a1.IsWhole)
  (a2 : Memref sig .tc .vmem S1024x1408 .bf16) (h2 : a2.IsWhole) (a3 : Memref sig .tc .vmem S1024x1408 .bf16) (h3 : a3.IsWhole)
  (a4 : Memref sig .tc .vmem S1408x1024 .bf16) (h4 : a4.IsWhole) (a5 : Memref sig .tc .vmem S1x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S512x1024 .f32) (h8 : a8.IsWhole)
  (x0 : Vec F S512x1024 .f32) (x1 : Vec F S1x1024 .f32) (x2 : Vec F S1024x1408 .bf16) (x3 : Vec F S1024x1408 .bf16)
  (x4 : Vec F S1408x1024 .bf16) (x5 : Vec F S1x1024 .f32)

theorem sout_A_0 (hc0 : cond0_0 i) (hc1 : ¬cond0_1 i) :
    sout0_A_0 c i a0 h0 a1 h1 a2 h2 a3 h3 a4 h4 a5 h5 a6 h6 a7 h7 a8 h8 hc0 hc1 x0 x1 x2 x3 x4 x5 = k0_pay1 x0 x1 := by
  unfold sout0_A_0
  rw [View.read_writes_eq_canon _ _ _ (scover0_A_0 c i a0 h0 a1 h1 a2 h2 a3 h3 a4 h4 a5 h5 a6 h6 a7 h7 a8 h8 hc0 hc1 x0 x1 x2 x3 x4 x5)]
  unfold kernelRun0_A
  dsimp only
  sl_unfold_words
  rw [View.canon_unit_zero hz]
  simp only [View.readAt_eq_ld, h0.read_unread, h1.read_unread, View.ld_unit_zero (S := S512x1024) hz,
    View.ld_unit_zero (S := S1x1024) hz, shapeCast_self]

theorem sout_A_1 (hc0 : cond0_0 i) (hc1 : ¬cond0_1 i) :
    sout0_A_1 c i a0 h0 a1 h1 a2 h2 a3 h3 a4 h4 a5 h5 a6 h6 a7 h7 a8 h8 hc0 hc1 x0 x1 x2 x3 x4 x5
      = k0_pay3 (k0_pay1 x0 x1) x2 x3 k0_pay2 x4 := by
  unfold sout0_A_1
  rw [View.read_writes_eq_canon _ _ _ (scover0_A_1 c i a0 h0 a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S512x1024) hz, View.readCov_unit_zero (S := S512x1024) _ hz,
    View.readCov_unit_zero (S := S512x1024) _ hz]
  simp only [View.readAt_eq_ld, h0.read_unread, h1.read_unread, h2.read_unread, h3.read_unread, h4.read_unread,
    View.ld_unit_zero (S := S512x1024) hz, View.ld_unit_zero (S := S1024x1408) hz, View.ld_unit_zero (S := S1408x1024) hz,
    View.ld_unit_zero (S := S1x1024) hz, shapeCast_self]

theorem out_B (hc0 : ¬cond0_0 i) (hc1 : cond0_1 i) (xs0 : Vec F S512x1024 .bf16) (xs1 : Vec F S512x1024 .f32) :
    out0_B_6 c i a0 h0 a1 h1 a2 h2 a3 h3 a4 h4 a5 h5 a6 h6 a7 h7 a8 h8 hc0 hc1 x0 x1 x2 x3 x4 x5 xs0 xs1
      = k0_pay4 x0 (k0_pay3 xs0 x2 x3 xs1 x4) := by
  unfold out0_B_6
  rw [View.read_writes_eq_canon _ _ _ (cover0_B_6 c i a0 h0 a1 h1 a2 h2 a3 h3 a4 h4 a5 h5 a6 h6 a7 h7 a8 h8 hc0 hc1 x0 x1 x2 x3 x4 x5 xs0 xs1)]
  unfold kernelRun0_B
  dsimp only
  sl_unfold_words
  rw [View.canon_unit_zero hz]
  simp only [View.readAt_eq_ld, h0.read_unread, h1.read_unread, h2.read_unread, h3.read_unread, h4.read_unread, h7.read_unread, h8.read_unread,
    View.readCov_unit_zero (S := S512x1024) _ hz, View.ld_unit_zero (S := S512x1024) hz, View.ld_unit_zero (S := S1024x1408) hz, View.ld_unit_zero (S := S1408x1024) hz,
    View.ld_unit_zero (S := S1x1024) hz, shapeCast_self]

end Points

/-! ## The result at an index -/

section Result
variable (m : (ℓ : Loc nD τ sig) → Buf (Elt Ideal) ℓ)

/-- The partial products of one half of the hidden units. -/
theorem half (c : Dev nD) (t u : Fin cfg0.N) (acc : Vec Ideal S512x1024 .f32) (r : Fin 512) (j : Fin 1024)
    (h : 512 * (u.val / 2) + r.val < 65536) (q : ℕ) (hq : t.val % 2 = q) (hk : ∀ k : Fin 1408, 1408 * q + k.val < 2816) :
    k0_pay3 (k0_pay1 (iblk m c 0 u) (iblk m c 1 u)) (iblk m c 2 t) (iblk m c 3 t) acc (iblk m c 4 t) (ix2 r j)
      = acc (ix2 r j) + ∑ k : Fin 1408,
        glu (rmsRow (fun l => m ((c : Thread nD τ).loc main_arg0) (ix2 ⟨512 * (u.val / 2) + r.val, h⟩ l)) (fun l => m ((c : Thread nD τ).loc main_arg1) (ix1 l)))
          (fun l k => m ((c : Thread nD τ).loc main_arg2) (ix2 l k)) (fun l k => m ((c : Thread nD τ).loc main_arg3) (ix2 l k)) ⟨1408 * q + k.val, hk k⟩
          * m ((c : Thread nD τ).loc main_arg4) (ix2 ⟨1408 * q + k.val, hk k⟩ j) := by
  subst hq
  rw [pay3_apply]
  unfold glu rmsRow
  simp only [pay1_apply, blk0 m c u r _ h, in1, in2 m c t _ _ (hk _), in3 m c t _ _ (hk _), in4 m c t _ _ (hk _)]

theorem G6_apply (c : Dev nD) (R : Fin 65536) (j : Fin 1024) :
    Value.G6 m c (ix2 R j) = ffnRow (fun l => m ((c : Thread nD τ).loc main_arg0) (ix2 R l)) (fun l => m ((c : Thread nD τ).loc main_arg1) (ix1 l))
      (fun l k => m ((c : Thread nD τ).loc main_arg2) (ix2 l k)) (fun l k => m ((c : Thread nD τ).loc main_arg3) (ix2 l k))
      (fun k l => m ((c : Thread nD τ).loc main_arg4) (ix2 k l)) j := by
  have hN : cfg0.N = 256 := N_0
  have hR := R.isLt
  have hp : 2 * (R.val / 512) + 1 < cfg0.N := by omega
  have hpt : Value.pt6Of (ix2 R j) = 2 * (R.val / 512) + 1 := by
    show 2 * (1 * (R.val / 512 - 0) + 1 * (j.val / 1024 - 0)) + 1 = _
    omega
  have hl : Value.loc6Of (ix2 R j) = ix2 ⟨R.val % 512, Nat.mod_lt _ (by decide)⟩ j := by
    funext a; apply Fin.ext
    match a with
    | ⟨0, _⟩ => rfl
    | ⟨1, _⟩ => show j.val % 1024 = j.val; omega
  unfold Value.G6
  rw [dif_pos (by rw [hpt]; exact hp), hl, Value.fold0_congr m c _ _ (2 * (R.val / 512) + 1) (by omega) hpt, ← Value.outsAt0_sweep m c _ hp,
    outsAt0_B m c ⟨2 * (R.val / 512) + 1, hp⟩ (by show ¬(2 * (R.val / 512) + 1) % 2 = 0; omega) (by show (2 * (R.val / 512) + 1) % 2 = 1; omega)]
  have e := outsAt0_A m c ⟨2 * (R.val / 512), by omega⟩ (by show (2 * (R.val / 512)) % 2 = 0; omega) (by show ¬(2 * (R.val / 512)) % 2 = 1; omega)
  dsimp only at e ⊢
  simp only [Nat.add_sub_cancel]
  rw [e]
  dsimp only
  rw [out_B, sout_A_0, sout_A_1, pay4_apply]
  have hr : 512 * ((2 * (R.val / 512)) / 2) + R.val % 512 = R.val := by omega
  have hr' : 512 * ((2 * (R.val / 512) + 1) / 2) + R.val % 512 = R.val := by omega
  rw [half m c ⟨2 * (R.val / 512) + 1, hp⟩ ⟨2 * (R.val / 512), by omega⟩ _ ⟨R.val % 512, Nat.mod_lt _ (by decide)⟩ j (by show 512 * ((2 * (R.val / 512)) / 2) + R.val % 512 < 65536; omega) 1
      (by show (2 * (R.val / 512) + 1) % 2 = 1; omega) (fun k => by omega),
    half m c ⟨2 * (R.val / 512), by omega⟩ ⟨2 * (R.val / 512), by omega⟩ _ ⟨R.val % 512, Nat.mod_lt _ (by decide)⟩ j (by show 512 * ((2 * (R.val / 512)) / 2) + R.val % 512 < 65536; omega) 0
      (by show (2 * (R.val / 512)) % 2 = 0; omega) (fun k => by omega),
    blk0 m c ⟨2 * (R.val / 512) + 1, hp⟩ ⟨R.val % 512, Nat.mod_lt _ (by decide)⟩ j (by show 512 * ((2 * (R.val / 512) + 1) / 2) + R.val % 512 < 65536; omega),
    pay2_apply]
  unfold ffnRow
  rw [sum_halves, zero_add]
  simp only [hr, hr', Fin.eta]

end Result

/-! ## The reference at an index, and the tie -/

open Cert.Reference2Ideal.Read in
theorem ref_apply (x0 : Vec Ideal S65536x1024 .f32) (x1 : Vec Ideal S1024 .f32) (x2 x3 : Vec Ideal S1024x2816 .f32) (x4 : Vec Ideal S2816x1024 .f32)
    (R : Fin 65536) (j : Fin 1024) :
    val_main_v18 (F := Ideal) x0 x1 x2 x3 x4 (ix2 R j) = ffnRow (fun l => x0 (ix2 R l)) (fun l => x1 (ix1 l)) (fun l k => x2 (ix2 l k))
      (fun l k => x3 (ix2 l k)) (fun k l => x4 (ix2 k l)) j := by
  unfold val_main_v18 val_main_v17 val_main_v16 val_main_v15 val_main_v14 val_main_call0_v5 val_main_call0_v4 val_main_call0_v3 val_main_call0_v2 val_main_call0_v1 val_main_call0_v0 val_main_v13 val_main_v12 val_main_v11 val_main_v10 val_main_v9 val_main_v8
    val_main_v7 val_main_v6 val_main_v5 val_main_v4 val_main_v3 val_main_v2 val_main_v1 val_main_v0 val_main_cst val_main_cst_0 val_main_cst_1 val_main_call0_cst val_main_call0_cst_0
  pointwise
  rfl

theorem tie (m : (ℓ : Loc nD τ sig) → Buf (Elt Ideal) ℓ) (c : Dev nD) :
    Cert.Reference2Ideal.Read.val_main_v18 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = Value.G6 m c := by
  funext i
  rw [eq_ix2 i]
  exact (ref_apply _ _ _ _ _ (i 0) (i 1)).trans (G6_apply m c (i 0) (i 1)).symm

end Cert.Ffn2
-- ==== Proof.Lin3.lean ====
module

public import proofs.«01_k».proof.Proof.Gen.Kernel3Ideal.Value
public import proofs.«01_k».proof.Proof.Gen.Reference3Ideal.Read
public import Idealize.ShloMosaic.Lib.Pointwise
public import Idealize.ShloMosaic.Lib.IdealHost
public import Idealize.ShloMosaic.Lib.StableHlo.ReadAt

@[expose] public section

noncomputable section

namespace Cert.Lin3

open Cert.Kernel3Ideal Cert.Kernel3Ideal.Gen Idealize.ShloMosaic Idealize.ShloMosaic.TcCoe Idealize.SL.Sem

theorem pay_apply (x : Vec Ideal S512x1024 .f32) (y z : Vec Ideal S512x512 .bf16) (u w : Vec Ideal S512x1024 .bf16) (r : Fin 512) (j : Fin 1024) :
    k0_pay1 x y u z w (ix2 r j) = HAdd.hAdd (α := EReal) (β := EReal) (γ := EReal) (HAdd.hAdd (α := EReal) (β := EReal) (γ := EReal) (x (ix2 r j)) (∑ k : Fin 512, y (ix2 r k) * u (ix2 k j)))
      (∑ k : Fin 512, z (ix2 r k) * w (ix2 k j)) := by
  unfold k0_pay1
  pointwise

section Blocks
variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index5 : ∀ t : Fin cfg0.N, win0_5.index t 0 = t.val ∧ win0_5.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem flush5 : ∀ t : Fin cfg0.N, (cfg0.win 5).flush t = true := by decide +kernel

theorem blk0 (c : Dev nD) (t : Fin cfg0.N) (r : Fin 512) (j : Fin 1024) (h : 512 * t.val + r.val < 65536) :
    (iblk m c 0 t : Vec Ideal S512x1024 .f32) (ix2 r j) = m ((c : Thread nD τ).loc main_arg0) (ix2 ⟨512 * t.val + r.val, h⟩ j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

theorem blk1 (c : Dev nD) (t : Fin cfg0.N) (r : Fin 512) (j : Fin 512) (h : 512 * t.val + r.val < 65536) :
    (iblk m c 1 t : Vec Ideal S512x512 .bf16) (ix2 r j) = m ((c : Thread nD τ).loc main_arg1) (ix2 ⟨512 * t.val + r.val, h⟩ j) := by
  have hi := index1 t
  rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [hi.1]; omega
  | ⟨1, _⟩ => show win0_1.index t 1 * 512 + 1 * j.val = j.val; rw [hi.2]; omega

theorem blk2 (c : Dev nD) (t : Fin cfg0.N) (r : Fin 512) (j : Fin 512) (h : 512 * t.val + r.val < 65536) :
    (iblk m c 2 t : Vec Ideal S512x512 .bf16) (ix2 r j) = m ((c : Thread nD τ).loc main_arg2) (ix2 ⟨512 * t.val + r.val, h⟩ j) := by
  have hi := index2 t
  rw [← V_main_arg2 m c]
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [hi.1]; omega
  | ⟨1, _⟩ => show win0_2.index t 1 * 512 + 1 * j.val = j.val; rw [hi.2]; omega

theorem host3 (c : Dev nD) (k : Fin 512) (j : Fin 1024) : V m c main_v1 (ix2 k j) = m ((c : Thread nD τ).loc main_arg3) (ix2 ⟨k.val, by omega⟩ j) := by
  unfold V
  after_reads_at

theorem blk3 (c : Dev nD) (t : Fin cfg0.N) (k : Fin 512) (j : Fin 1024) :
    (iblk m c 3 t : Vec Ideal S512x1024 .bf16) (ix2 k j) = m ((c : Thread nD τ).loc main_arg3) (ix2 ⟨k.val, by omega⟩ j) := by
  refine Eq.trans ?_ (host3 m c k j)
  have hi := index3 t
  unfold iblk
  rw [View.read_apply]
  show V m c main_v1 _ = V m c main_v1 _
  congr 1
  funext a
  apply Fin.ext
  match a with
  | ⟨0, _⟩ => show win0_3.index t 0 * 512 + 1 * k.val = k.val; rw [hi.1]; omega
  | ⟨1, _⟩ => show win0_3.index t 1 * 1024 + 1 * j.val = j.val; rw [hi.2]; omega

theorem host4 (c : Dev nD) (k : Fin 512) (j : Fin 1024) : V m c main_v3 (ix2 k j) = m ((c : Thread nD τ).loc main_arg3) (ix2 ⟨512 + k.val, by omega⟩ j) := by
  unfold V
  after_reads_at

theorem blk4 (c : Dev nD) (t : Fin cfg0.N) (k : Fin 512) (j : Fin 1024) :
    (iblk m c 4 t : Vec Ideal S512x1024 .bf16) (ix2 k j) = m ((c : Thread nD τ).loc main_arg3) (ix2 ⟨512 + k.val, by omega⟩ j) := by
  refine Eq.trans ?_ (host4 m c k j)
  have hi := index4 t
  unfold iblk
  rw [View.read_apply]
  show V m c main_v3 _ = V m c main_v3 _
  congr 1
  funext a
  apply Fin.ext
  match a with
  | ⟨0, _⟩ => show win0_4.index t 0 * 512 + 1 * k.val = k.val; rw [hi.1]; omega
  | ⟨1, _⟩ => show win0_4.index t 1 * 1024 + 1 * j.val = j.val; rw [hi.2]; omega

theorem out_eq (x : Vec Ideal S512x1024 .f32) (y z : Vec Ideal S512x512 .bf16) (u w : Vec Ideal S512x1024 .bf16) :
    out0_5 x y z u w = k0_pay1 x y u z w := by
  have hz : (![0, 0] : Fin 2 → ℕ) = fun _ => 0 := by decide
  unfold out0_5
  rw [View.canon_unit_zero hz]
  simp only [View.ld_unit_zero (S := S512x1024) hz, View.ld_unit_zero (S := S512x512) hz]

theorem arr5_apply (c : Dev nD) (t : Fin cfg0.N) (r : Fin 512) (j : Fin 1024) (h : 512 * t.val + r.val < 65536) :
    ((dats m 0 c).arrAt 5 cfg0.N : Vec Ideal S65536x1024 .f32) (ix2 ⟨512 * t.val + r.val, h⟩ j)
      = out0_5 (iblk m c 0 t) (iblk m c 1 t) (iblk m c 2 t) (iblk m c 3 t) (iblk m c 4 t) (ix2 r j) := by
  have hi := index5 t
  have hb := congrFun ((Value.blocks5 m c t (flush5 t)).trans (Value.flushed5 m c t)) (ix2 r j)
  rw [View.read_apply] at hb
  refine Eq.trans ?_ hb
  refine congrArg ((dats m 0 c).arrAt 5 cfg0.N) ?_
  funext a
  apply Fin.ext
  match a with
  | ⟨0, _⟩ => show 512 * t.val + r.val = win0_5.index t 0 * 512 + 1 * r.val; rw [hi.1]; omega
  | ⟨1, _⟩ => show j.val = win0_5.index t 1 * 1024 + 1 * j.val; rw [hi.2]; omega

/-- The residual plus the projection of two row halves, entry by entry. -/
def spec (a : Vec Ideal S65536x1024 .f32) (y z : Vec Ideal S65536x512 .bf16) (w : Vec Ideal S1024x1024 .f32) (R : Fin 65536) (j : Fin 1024) : EReal :=
  HAdd.hAdd (α := EReal) (β := EReal) (γ := EReal) (HAdd.hAdd (α := EReal) (β := EReal) (γ := EReal) (a (ix2 R j)) (∑ k : Fin 512, y (ix2 R k) * w (ix2 ⟨k.val, by omega⟩ j)))
    (∑ k : Fin 512, z (ix2 R k) * w (ix2 ⟨512 + k.val, by omega⟩ j))

theorem kernel_apply (c : Dev nD) (R : Fin 65536) (j : Fin 1024) :
    ((dats m 0 c).arrAt 5 cfg0.N : Vec Ideal S65536x1024 .f32) (ix2 R j)
      = spec (m ((c : Thread nD τ).loc main_arg0)) (m ((c : Thread nD τ).loc main_arg1)) (m ((c : Thread nD τ).loc main_arg2)) (m ((c : Thread nD τ).loc main_arg3)) R j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr5_apply m c ⟨R.val / 512, ht⟩ ⟨R.val % 512, by omega⟩ j h
  rw [out_eq, pay_apply] at key
  rw [hR]
  refine key.trans ?_
  unfold spec
  refine congrArg₂ (HAdd.hAdd (α := EReal) (β := EReal) (γ := EReal)) (congrArg₂ (HAdd.hAdd (α := EReal) (β := EReal) (γ := EReal)) (blk0 m c _ _ j h) (Finset.sum_congr rfl fun k _ => ?_)) (Finset.sum_congr rfl fun k _ => ?_)
  · exact congrArg₂ (HMul.hMul (α := EReal) (β := EReal) (γ := EReal)) (blk1 m c _ _ k h) (blk3 m c _ k j)
  · exact congrArg₂ (HMul.hMul (α := EReal) (β := EReal) (γ := EReal)) (blk2 m c _ _ k h) (blk4 m c _ k j)

end Blocks

theorem sum_halves (f : Fin 1024 → EReal) :
    ∑ k : Fin 1024, f k = (∑ k : Fin 512, f ⟨k.val, by omega⟩) + ∑ k : Fin 512, f ⟨512 + k.val, by omega⟩ := by
  have h : ∑ k : Fin (512 + 512), f k = (∑ k : Fin 512, f (Fin.castAdd 512 k)) + ∑ k : Fin 512, f (Fin.natAdd 512 k) :=
    Fin.sum_univ_add (a := 512) (b := 512) f
  exact h

theorem reference_apply (a : Vec Ideal S65536x1024 .f32) (y z : Vec Ideal S65536x512 .bf16) (w : Vec Ideal S1024x1024 .f32) (R : Fin 65536) (j : Fin 1024) :
    Cert.Reference3Ideal.Read.val_main_v3 (F := Ideal) a y z w (ix2 R j) = spec a y z w R j := by
  have hs : Cert.Reference3Ideal.Read.val_main_v3 (F := Ideal) a y z w (ix2 R j) = a (ix2 R j) + ∑ k : Fin 1024,
      Cert.Reference3Ideal.Read.val_main_v0 (F := Ideal) y z (ix2 R k) * w (ix2 k j) := by
    unfold Cert.Reference3Ideal.Read.val_main_v3 Cert.Reference3Ideal.Read.val_main_v2 Cert.Reference3Ideal.Read.val_main_v1
    pointwise
  have h1 : ∀ k : Fin 512, Cert.Reference3Ideal.Read.val_main_v0 (F := Ideal) y z (ix2 R (⟨k.val, by omega⟩ : Fin 1024)) = y (ix2 R k) := by
    intro k
    unfold Cert.Reference3Ideal.Read.val_main_v0
    pointwise
  have h2 : ∀ k : Fin 512, Cert.Reference3Ideal.Read.val_main_v0 (F := Ideal) y z (ix2 R (⟨512 + k.val, by omega⟩ : Fin 1024)) = z (ix2 R k) := by
    intro k
    unfold Cert.Reference3Ideal.Read.val_main_v0
    pointwise
  rw [hs, sum_halves, ← add_assoc]
  unfold spec
  simp only [h1, h2]

theorem tie (m : (ℓ : Loc nD τ sig) → Buf (Elt Ideal) ℓ) (c : Dev nD) :
    Cert.Reference3Ideal.Read.val_main_v3 (F := Ideal) (m ((c : Thread nD τ).loc main_arg0)) (m ((c : Thread nD τ).loc main_arg1)) (m ((c : Thread nD τ).loc main_arg2)) (m ((c : Thread nD τ).loc main_arg3))
      = (dats m 0 c).arrAt 5 cfg0.N := by
  funext i
  rw [show i = ix2 (i 0) (i 1) from funext fun a => by match a with | ⟨0, _⟩ => rfl | ⟨1, _⟩ => rfl]
  exact (reference_apply _ _ _ _ _ _).trans (kernel_apply m c _ _).symm

end Cert.Lin3

end
-- ==== Proof.Lin4.lean ====
module

public import proofs.«01_k».proof.Proof.Gen.Kernel4Ideal.Value
public import proofs.«01_k».proof.Proof.Gen.Reference4Ideal.Read
public import Idealize.ShloMosaic.Lib.Pointwise
public import Idealize.ShloMosaic.Lib.IdealHost
public import Idealize.ShloMosaic.Lib.StableHlo.ReadAt

@[expose] public section

noncomputable section

namespace Cert.Lin4

open Cert.Kernel4Ideal Cert.Kernel4Ideal.Gen Idealize.ShloMosaic Idealize.ShloMosaic.TcCoe Idealize.SL.Sem

theorem pay_apply (x : Vec Ideal S512x1024 .f32) (y : Vec Ideal S512x1024 .bf16) (w : Vec Ideal S1024x1024 .bf16) (r : Fin 512) (j : Fin 1024) :
    k0_pay1 x y w (ix2 r j) = HAdd.hAdd (α := EReal) (β := EReal) (γ := EReal) (x (ix2 r j)) (∑ k : Fin 1024, y (ix2 r k) * w (ix2 k j)) := by
  unfold k0_pay1
  pointwise

section Blocks
variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel
theorem flush3 : ∀ t : Fin cfg0.N, (cfg0.win 3).flush t = true := by decide +kernel

theorem blk0 (c : Dev nD) (t : Fin cfg0.N) (r : Fin 512) (j : Fin 1024) (h : 512 * t.val + r.val < 65536) :
    (iblk m c 0 t : Vec Ideal S512x1024 .f32) (ix2 r j) = m ((c : Thread nD τ).loc main_arg0) (ix2 ⟨512 * t.val + r.val, h⟩ j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

theorem blk1 (c : Dev nD) (t : Fin cfg0.N) (r : Fin 512) (j : Fin 1024) (h : 512 * t.val + r.val < 65536) :
    (iblk m c 1 t : Vec Ideal S512x1024 .bf16) (ix2 r j) = m ((c : Thread nD τ).loc main_arg1) (ix2 ⟨512 * t.val + r.val, h⟩ j) := by
  have hi := index1 t
  rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [hi.1]; omega
  | ⟨1, _⟩ => show win0_1.index t 1 * 1024 + 1 * j.val = j.val; rw [hi.2]; omega

theorem host0 (c : Dev nD) (k j : Fin 1024) :
    V m c main_v0 (ix2 k j) = m ((c : Thread nD τ).loc main_arg2) (ix2 k j) := by
  unfold V
  after_reads_at

theorem blk2 (c : Dev nD) (t : Fin cfg0.N) (k j : Fin 1024) :
    (iblk m c 2 t : Vec Ideal S1024x1024 .bf16) (ix2 k j) = m ((c : Thread nD τ).loc main_arg2) (ix2 k j) := by
  refine Eq.trans ?_ (host0 m c k j)
  have hi := index2 t
  unfold iblk
  rw [View.read_apply]
  show V m c main_v0 _ = V m c main_v0 _
  congr 1
  funext a
  apply Fin.ext
  match a with
  | ⟨0, _⟩ => show win0_2.index t 0 * 1024 + 1 * k.val = k.val; rw [hi.1]; omega
  | ⟨1, _⟩ => show win0_2.index t 1 * 1024 + 1 * j.val = j.val; rw [hi.2]; omega

theorem out_eq (x : Vec Ideal S512x1024 .f32) (y : Vec Ideal S512x1024 .bf16) (w : Vec Ideal S1024x1024 .bf16) :
    out0_3 x y w = k0_pay1 x y w := by
  have hz : (![0, 0] : Fin 2 → ℕ) = fun _ => 0 := by decide
  unfold out0_3
  rw [View.canon_unit_zero hz]
  simp only [View.ld_unit_zero (S := S512x1024) hz, View.ld_unit_zero (S := S1024x1024) hz]

/-- The final array at an index of block `t`. -/
theorem arr_apply (c : Dev nD) (t : Fin cfg0.N) (r : Fin 512) (j : Fin 1024) (h : 512 * t.val + r.val < 65536) :
    ((dats m 0 c).arrAt 3 cfg0.N : Vec Ideal S65536x1024 .f32) (ix2 ⟨512 * t.val + r.val, h⟩ j)
      = out0_3 (iblk m c 0 t) (iblk m c 1 t) (iblk m c 2 t) (ix2 r j) := by
  have hi := index3 t
  have hb := congrFun ((Value.blocks3 m c t (flush3 t)).trans (Value.flushed3 m c t)) (ix2 r j)
  rw [View.read_apply] at hb
  refine Eq.trans ?_ hb
  refine congrArg ((dats m 0 c).arrAt 3 cfg0.N) ?_
  funext a
  apply Fin.ext
  match a with
  | ⟨0, _⟩ => show 512 * t.val + r.val = win0_3.index t 0 * 512 + 1 * r.val; rw [hi.1]; omega
  | ⟨1, _⟩ => show j.val = win0_3.index t 1 * 1024 + 1 * j.val; rw [hi.2]; omega

/-- The residual plus the projection, entry by entry. -/
def spec (a : Vec Ideal S65536x1024 .f32) (y : Vec Ideal S65536x1024 .bf16) (w : Vec Ideal S1024x1024 .f32) (R : Fin 65536) (j : Fin 1024) : EReal :=
  HAdd.hAdd (α := EReal) (β := EReal) (γ := EReal) (a (ix2 R j)) (∑ k : Fin 1024, y (ix2 R k) * w (ix2 k j))

theorem kernel_apply (c : Dev nD) (R : Fin 65536) (j : Fin 1024) :
    ((dats m 0 c).arrAt 3 cfg0.N : Vec Ideal S65536x1024 .f32) (ix2 R j)
      = spec (m ((c : Thread nD τ).loc main_arg0)) (m ((c : Thread nD τ).loc main_arg1)) (m ((c : Thread nD τ).loc main_arg2)) R j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr_apply m c ⟨R.val / 512, ht⟩ ⟨R.val % 512, by omega⟩ j h
  rw [out_eq, pay_apply] at key
  rw [hR]
  refine key.trans ?_
  unfold spec
  refine congrArg₂ (HAdd.hAdd (α := EReal) (β := EReal) (γ := EReal)) (blk0 m c _ _ j h) (Finset.sum_congr rfl fun k _ => ?_)
  exact congrArg₂ (HMul.hMul (α := EReal) (β := EReal) (γ := EReal)) (blk1 m c _ _ k h) (blk2 m c _ k j)

end Blocks

theorem reference_apply (a : Vec Ideal S65536x1024 .f32) (y : Vec Ideal S65536x1024 .bf16) (w : Vec Ideal S1024x1024 .f32) (R : Fin 65536) (j : Fin 1024) :
    Cert.Reference4Ideal.Read.val_main_v2 (F := Ideal) a y w (ix2 R j) = spec a y w R j := by
  unfold Cert.Reference4Ideal.Read.val_main_v2 Cert.Reference4Ideal.Read.val_main_v1 Cert.Reference4Ideal.Read.val_main_v0 spec
  pointwise

theorem tie (m : (ℓ : Loc nD τ sig) → Buf (Elt Ideal) ℓ) (c : Dev nD) :
    Cert.Reference4Ideal.Read.val_main_v2 (F := Ideal) (m ((c : Thread nD τ).loc main_arg0)) (m ((c : Thread nD τ).loc main_arg1)) (m ((c : Thread nD τ).loc main_arg2))
      = (dats m 0 c).arrAt 3 cfg0.N := by
  funext i
  rw [show i = ix2 (i 0) (i 1) from funext fun a => by match a with | ⟨0, _⟩ => rfl | ⟨1, _⟩ => rfl]
  exact (reference_apply _ _ _ _ _).trans (kernel_apply m c _ _).symm

end Cert.Lin4

end
-- ==== Proof.NormLin.lean ====
module

public import proofs.«01_k».proof.Proof.Gen.Kernel5Ideal.Value
public import proofs.«01_k».proof.Proof.Gen.Reference5Ideal.Read
public import proofs.«01_k».proof.Proof.RowMath
public import Idealize.ShloMosaic.Lib.Pointwise
public import Idealize.ShloMosaic.Lib.IdealHost
public import Idealize.ShloMosaic.Lib.StableHlo.ReadAt

@[expose] public section

noncomputable section

namespace Cert.NormLin

open Cert.RowMath Cert.Kernel5Ideal Cert.Kernel5Ideal.Gen Idealize.ShloMosaic Idealize.ShloMosaic.TcCoe Idealize.SL.Sem

/-- Entry `j` of a normalised row times a matrix column. -/
def proj {n : ℕ} (x w : Fin 1024 → EReal) (u : Fin 1024 → Fin n → EReal) (j : Fin n) : EReal :=
  ∑ k : Fin 1024, rmsRow x w k * u k j

/-! ## The payloads at an index -/

theorem pay5_apply (x : Vec Ideal S512x1024 .f32) (f : Vec Ideal S1x1024 .f32) (r : Fin 512) (k : Fin 1024) :
    k0_pay5 x f (ix2 r k) = rmsRow (fun l => x (ix2 r l)) (fun l => f (ix2 0 l)) k := by
  unfold k0_pay5 rmsRow
  pointwise

theorem mul9_apply (h : FVec Ideal S512x1024 .bf16) (u : Vec Ideal S1024x1536 .bf16) (r : Fin 512) (j : Fin 1536) :
    matmul (φ₂ := .bf16) dot_S512x1024_S1024x1536_S512x1536_1_0_0_1_n_n none h (u : FVec Ideal S1024x1536 .bf16) (constant (F := Ideal) S512x1536 .f32 0x00000000#32) (ix2 r j)
      = ∑ k : Fin 1024, h (ix2 r k) * u (ix2 k j) := by
  pointwise

theorem mul10_apply (h : FVec Ideal S512x1024 .bf16) (u : Vec Ideal S1024x512 .bf16) (r : Fin 512) (j : Fin 512) :
    matmul (φ₂ := .bf16) dot_S512x1024_S1024x512_S512x512_1_0_0_1_n_n none h (u : FVec Ideal S1024x512 .bf16) (constant (F := Ideal) S512x512 .f32 0x00000000#32) (ix2 r j)
      = ∑ k : Fin 1024, h (ix2 r k) * u (ix2 k j) := by
  pointwise

theorem mul11_apply (h : FVec Ideal S512x1024 .bf16) (u : Vec Ideal S1024x128 .bf16) (r : Fin 512) (j : Fin 128) :
    matmul (φ₂ := .bf16) dot_S512x1024_S1024x128_S512x128_1_0_0_1_n_n none h (u : FVec Ideal S1024x128 .bf16) (constant (F := Ideal) S512x128 .f32 0x00000000#32) (ix2 r j)
      = ∑ k : Fin 1024, h (ix2 r k) * u (ix2 k j) := by
  pointwise

theorem mul12_apply (h : FVec Ideal S512x1024 .bf16) (u : Vec Ideal S1024x1024 .bf16) (r : Fin 512) (j : Fin 1024) :
    matmul (φ₂ := .bf16) dot_S512x1024_S1024x1024_S512x1024_1_0_0_1_n_n none h (u : FVec Ideal S1024x1024 .bf16) (constant (F := Ideal) S512x1024 .f32 0x00000000#32) (ix2 r j)
      = ∑ k : Fin 1024, h (ix2 r k) * u (ix2 k j) := by
  pointwise

theorem mul13_apply (h : FVec Ideal S512x1024 .bf16) (u : Vec Ideal S1024x256 .bf16) (r : Fin 512) (j : Fin 256) :
    matmul (φ₂ := .bf16) dot_S512x1024_S1024x256_S512x256_1_0_0_1_n_n none h (u : FVec Ideal S1024x256 .bf16) (constant (F := Ideal) S512x256 .f32 0x00000000#32) (ix2 r j)
      = ∑ k : Fin 1024, h (ix2 r k) * u (ix2 k j) := by
  pointwise

theorem mul14_apply (h : FVec Ideal S512x1024 .bf16) (u : Vec Ideal S1024x512 .bf16) (r : Fin 512) (j : Fin 512) :
    matmul (φ₂ := .bf16) dot_S512x1024_S1024x512_S512x512_1_0_0_1_n_n none h (u : FVec Ideal S1024x512 .bf16) (constant (F := Ideal) S512x512 .f32 0x00000000#32) (ix2 r j)
      = ∑ k : Fin 1024, h (ix2 r k) * u (ix2 k j) := by
  pointwise

theorem mul15_apply (h : FVec Ideal S512x1024 .bf16) (u : Vec Ideal S1024x128 .bf16) (r : Fin 512) (j : Fin 128) :
    matmul (φ₂ := .bf16) dot_S512x1024_S1024x128_S512x128_1_0_0_1_n_n none h (u : FVec Ideal S1024x128 .bf16) (constant (F := Ideal) S512x128 .f32 0x00000000#32) (ix2 r j)
      = ∑ k : Fin 1024, h (ix2 r k) * u (ix2 k j) := by
  pointwise

section Blocks
variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = t.val ∧ win0_9.index t 1 = 0 := by decide +kernel
theorem flush9 : ∀ t : Fin cfg0.N, (cfg0.win 9).flush t = true := by decide +kernel
theorem index10 : ∀ t : Fin cfg0.N, win0_10.index t 0 = t.val ∧ win0_10.index t 1 = 0 := by decide +kernel
theorem flush10 : ∀ t : Fin cfg0.N, (cfg0.win 10).flush t = true := by decide +kernel
theorem index11 : ∀ t : Fin cfg0.N, win0_11.index t 0 = t.val ∧ win0_11.index t 1 = 0 := by decide +kernel
theorem flush11 : ∀ t : Fin cfg0.N, (cfg0.win 11).flush t = true := by decide +kernel
theorem index12 : ∀ t : Fin cfg0.N, win0_12.index t 0 = t.val ∧ win0_12.index t 1 = 0 := by decide +kernel
theorem flush12 : ∀ t : Fin cfg0.N, (cfg0.win 12).flush t = true := by decide +kernel
theorem index13 : ∀ t : Fin cfg0.N, win0_13.index t 0 = t.val ∧ win0_13.index t 1 = 0 := by decide +kernel
theorem flush13 : ∀ t : Fin cfg0.N, (cfg0.win 13).flush t = true := by decide +kernel
theorem index14 : ∀ t : Fin cfg0.N, win0_14.index t 0 = t.val ∧ win0_14.index t 1 = 0 := by decide +kernel
theorem flush14 : ∀ t : Fin cfg0.N, (cfg0.win 14).flush t = true := by decide +kernel
theorem index15 : ∀ t : Fin cfg0.N, win0_15.index t 0 = t.val ∧ win0_15.index t 1 = 0 := by decide +kernel
theorem flush15 : ∀ t : Fin cfg0.N, (cfg0.win 15).flush t = true := by decide +kernel

theorem blk0 (c : Dev nD) (t : Fin cfg0.N) (r : Fin 512) (j : Fin 1024) (h : 512 * t.val + r.val < 65536) :
    (iblk m c 0 t : Vec Ideal S512x1024 .f32) (ix2 r j) = m ((c : Thread nD τ).loc main_arg0) (ix2 ⟨512 * t.val + r.val, h⟩ j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

theorem host1 (c : Dev nD) (k : Fin 1) (j : Fin 1024) : V m c main_v7 (ix2 k j) = m ((c : Thread nD τ).loc main_arg1) (ix1 j) := by
  unfold V
  after_reads_at

theorem blk1 (c : Dev nD) (t : Fin cfg0.N) (k : Fin 1) (j : Fin 1024) :
    (iblk m c 1 t : Vec Ideal S1x1024 .f32) (ix2 k j) = m ((c : Thread nD τ).loc main_arg1) (ix1 j) := by
  refine Eq.trans ?_ (host1 m c k j)
  have hi := index1 t
  unfold iblk
  rw [View.read_apply]
  show V m c main_v7 _ = V m c main_v7 _
  congr 1
  funext a
  apply Fin.ext
  match a with
  | ⟨0, _⟩ => show win0_1.index t 0 * 1 + 1 * k.val = k.val; rw [hi.1]; omega
  | ⟨1, _⟩ => show win0_1.index t 1 * 1024 + 1 * j.val = j.val; rw [hi.2]; omega

theorem host2 (c : Dev nD) (k : Fin 1024) (j : Fin 1536) : V m c main_v0 (ix2 k j) = m ((c : Thread nD τ).loc main_arg2) (ix2 k j) := by
  unfold V
  after_reads_at

theorem blk2 (c : Dev nD) (t : Fin cfg0.N) (k : Fin 1024) (j : Fin 1536) :
    (iblk m c 2 t : Vec Ideal S1024x1536 .bf16) (ix2 k j) = m ((c : Thread nD τ).loc main_arg2) (ix2 k j) := by
  refine Eq.trans ?_ (host2 m c k j)
  have hi := index2 t
  unfold iblk
  rw [View.read_apply]
  show V m c main_v0 _ = V m c main_v0 _
  congr 1
  funext a
  apply Fin.ext
  match a with
  | ⟨0, _⟩ => show win0_2.index t 0 * 1024 + 1 * k.val = k.val; rw [hi.1]; omega
  | ⟨1, _⟩ => show win0_2.index t 1 * 1536 + 1 * j.val = j.val; rw [hi.2]; omega

theorem host3 (c : Dev nD) (k : Fin 1024) (j : Fin 512) : V m c main_v1 (ix2 k j) = m ((c : Thread nD τ).loc main_arg3) (ix2 k j) := by
  unfold V
  after_reads_at

theorem blk3 (c : Dev nD) (t : Fin cfg0.N) (k : Fin 1024) (j : Fin 512) :
    (iblk m c 3 t : Vec Ideal S1024x512 .bf16) (ix2 k j) = m ((c : Thread nD τ).loc main_arg3) (ix2 k j) := by
  refine Eq.trans ?_ (host3 m c k j)
  have hi := index3 t
  unfold iblk
  rw [View.read_apply]
  show V m c main_v1 _ = V m c main_v1 _
  congr 1
  funext a
  apply Fin.ext
  match a with
  | ⟨0, _⟩ => show win0_3.index t 0 * 1024 + 1 * k.val = k.val; rw [hi.1]; omega
  | ⟨1, _⟩ => show win0_3.index t 1 * 512 + 1 * j.val = j.val; rw [hi.2]; omega

theorem host4 (c : Dev nD) (k : Fin 1024) (j : Fin 128) : V m c main_v2 (ix2 k j) = m ((c : Thread nD τ).loc main_arg4) (ix2 k j) := by
  unfold V
  after_reads_at

theorem blk4 (c : Dev nD) (t : Fin cfg0.N) (k : Fin 1024) (j : Fin 128) :
    (iblk m c 4 t : Vec Ideal S1024x128 .bf16) (ix2 k j) = m ((c : Thread nD τ).loc main_arg4) (ix2 k j) := by
  refine Eq.trans ?_ (host4 m c k j)
  have hi := index4 t
  unfold iblk
  rw [View.read_apply]
  show V m c main_v2 _ = V m c main_v2 _
  congr 1
  funext a
  apply Fin.ext
  match a with
  | ⟨0, _⟩ => show win0_4.index t 0 * 1024 + 1 * k.val = k.val; rw [hi.1]; omega
  | ⟨1, _⟩ => show win0_4.index t 1 * 128 + 1 * j.val = j.val; rw [hi.2]; omega

theorem host5 (c : Dev nD) (k : Fin 1024) (j : Fin 1024) : V m c main_v3 (ix2 k j) = m ((c : Thread nD τ).loc main_arg5) (ix2 k j) := by
  unfold V
  after_reads_at

theorem blk5 (c : Dev nD) (t : Fin cfg0.N) (k : Fin 1024) (j : Fin 1024) :
    (iblk m c 5 t : Vec Ideal S1024x1024 .bf16) (ix2 k j) = m ((c : Thread nD τ).loc main_arg5) (ix2 k j) := by
  refine Eq.trans ?_ (host5 m c k j)
  have hi := index5 t
  unfold iblk
  rw [View.read_apply]
  show V m c main_v3 _ = V m c main_v3 _
  congr 1
  funext a
  apply Fin.ext
  match a with
  | ⟨0, _⟩ => show win0_5.index t 0 * 1024 + 1 * k.val = k.val; rw [hi.1]; omega
  | ⟨1, _⟩ => show win0_5.index t 1 * 1024 + 1 * j.val = j.val; rw [hi.2]; omega

theorem host6 (c : Dev nD) (k : Fin 1024) (j : Fin 256) : V m c main_v4 (ix2 k j) = m ((c : Thread nD τ).loc main_arg6) (ix2 k j) := by
  unfold V
  after_reads_at

theorem blk6 (c : Dev nD) (t : Fin cfg0.N) (k : Fin 1024) (j : Fin 256) :
    (iblk m c 6 t : Vec Ideal S1024x256 .bf16) (ix2 k j) = m ((c : Thread nD τ).loc main_arg6) (ix2 k j) := by
  refine Eq.trans ?_ (host6 m c k j)
  have hi := index6 t
  unfold iblk
  rw [View.read_apply]
  show V m c main_v4 _ = V m c main_v4 _
  congr 1
  funext a
  apply Fin.ext
  match a with
  | ⟨0, _⟩ => show win0_6.index t 0 * 1024 + 1 * k.val = k.val; rw [hi.1]; omega
  | ⟨1, _⟩ => show win0_6.index t 1 * 256 + 1 * j.val = j.val; rw [hi.2]; omega

theorem host7 (c : Dev nD) (k : Fin 1024) (j : Fin 512) : V m c main_v5 (ix2 k j) = m ((c : Thread nD τ).loc main_arg7) (ix2 k j) := by
  unfold V
  after_reads_at

theorem blk7 (c : Dev nD) (t : Fin cfg0.N) (k : Fin 1024) (j : Fin 512) :
    (iblk m c 7 t : Vec Ideal S1024x512 .bf16) (ix2 k j) = m ((c : Thread nD τ).loc main_arg7) (ix2 k j) := by
  refine Eq.trans ?_ (host7 m c k j)
  have hi := index7 t
  unfold iblk
  rw [View.read_apply]
  show V m c main_v5 _ = V m c main_v5 _
  congr 1
  funext a
  apply Fin.ext
  match a with
  | ⟨0, _⟩ => show win0_7.index t 0 * 1024 + 1 * k.val = k.val; rw [hi.1]; omega
  | ⟨1, _⟩ => show win0_7.index t 1 * 512 + 1 * j.val = j.val; rw [hi.2]; omega

theorem host8 (c : Dev nD) (k : Fin 1024) (j : Fin 128) : V m c main_v6 (ix2 k j) = m ((c : Thread nD τ).loc main_arg8) (ix2 k j) := by
  unfold V
  after_reads_at

theorem blk8 (c : Dev nD) (t : Fin cfg0.N) (k : Fin 1024) (j : Fin 128) :
    (iblk m c 8 t : Vec Ideal S1024x128 .bf16) (ix2 k j) = m ((c : Thread nD τ).loc main_arg8) (ix2 k j) := by
  refine Eq.trans ?_ (host8 m c k j)
  have hi := index8 t
  unfold iblk
  rw [View.read_apply]
  show V m c main_v6 _ = V m c main_v6 _
  congr 1
  funext a
  apply Fin.ext
  match a with
  | ⟨0, _⟩ => show win0_8.index t 0 * 1024 + 1 * k.val = k.val; rw [hi.1]; omega
  | ⟨1, _⟩ => show win0_8.index t 1 * 128 + 1 * j.val = j.val; rw [hi.2]; omega

theorem hz : (![0, 0] : Fin 2 → ℕ) = fun _ => 0 := by decide

theorem out9_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 1536) :
    out0_9 x0 x1 x2 x3 x4 x5 x6 x7 x8 (ix2 r j) = proj (fun l => x0 (ix2 r l)) (fun l => x1 (ix2 0 l)) (fun k i => x2 (ix2 k i)) j := by
  unfold out0_9
  rw [View.canon_unit_zero hz]
  unfold k0_pay6
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul9_apply _ _ r j).trans ?_
  simp only [pay5_apply]
  rfl

theorem arr9_apply (c : Dev nD) (t : Fin cfg0.N) (r : Fin 512) (j : Fin 1536) (h : 512 * t.val + r.val < 65536) :
    ((dats m 0 c).arrAt 9 cfg0.N : Vec Ideal S65536x1536 .f32) (ix2 ⟨512 * t.val + r.val, h⟩ j)
      = out0_9 (iblk m c 0 t) (iblk m c 1 t) (iblk m c 2 t) (iblk m c 3 t) (iblk m c 4 t) (iblk m c 5 t) (iblk m c 6 t) (iblk m c 7 t) (iblk m c 8 t) (ix2 r j) := by
  have hi := index9 t
  have hb := congrFun ((Value.blocks9 m c t (flush9 t)).trans (Value.flushed9 m c t)) (ix2 r j)
  rw [View.read_apply] at hb
  refine Eq.trans ?_ hb
  refine congrArg ((dats m 0 c).arrAt 9 cfg0.N) ?_
  funext a
  apply Fin.ext
  match a with
  | ⟨0, _⟩ => show 512 * t.val + r.val = win0_9.index t 0 * 512 + 1 * r.val; rw [hi.1]; omega
  | ⟨1, _⟩ => show j.val = win0_9.index t 1 * 1536 + 1 * j.val; rw [hi.2]; omega

theorem kernel9_apply (c : Dev nD) (R : Fin 65536) (j : Fin 1536) :
    ((dats m 0 c).arrAt 9 cfg0.N : Vec Ideal S65536x1536 .f32) (ix2 R j)
      = proj (fun l => (m ((c : Thread nD τ).loc main_arg0)) (ix2 R l)) (fun l => (m ((c : Thread nD τ).loc main_arg1)) (ix1 l)) (fun k i => (m ((c : Thread nD τ).loc main_arg2)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr9_apply m c ⟨R.val / 512, ht⟩ ⟨R.val % 512, by omega⟩ j h
  rw [out9_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 2 ⟨R.val / 512, ht⟩ : Vec Ideal S1024x1536 .bf16) (ix2 k i)) = _ from
      funext fun k => funext fun i => blk2 m c ⟨R.val / 512, ht⟩ k i]

theorem out10_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 512) :
    out0_10 x0 x1 x2 x3 x4 x5 x6 x7 x8 (ix2 r j) = proj (fun l => x0 (ix2 r l)) (fun l => x1 (ix2 0 l)) (fun k i => x3 (ix2 k i)) j := by
  unfold out0_10
  rw [View.canon_unit_zero hz]
  unfold k0_pay7
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul10_apply _ _ r j).trans ?_
  simp only [pay5_apply]
  rfl

theorem arr10_apply (c : Dev nD) (t : Fin cfg0.N) (r : Fin 512) (j : Fin 512) (h : 512 * t.val + r.val < 65536) :
    ((dats m 0 c).arrAt 10 cfg0.N : Vec Ideal S65536x512 .f32) (ix2 ⟨512 * t.val + r.val, h⟩ j)
      = out0_10 (iblk m c 0 t) (iblk m c 1 t) (iblk m c 2 t) (iblk m c 3 t) (iblk m c 4 t) (iblk m c 5 t) (iblk m c 6 t) (iblk m c 7 t) (iblk m c 8 t) (ix2 r j) := by
  have hi := index10 t
  have hb := congrFun ((Value.blocks10 m c t (flush10 t)).trans (Value.flushed10 m c t)) (ix2 r j)
  rw [View.read_apply] at hb
  refine Eq.trans ?_ hb
  refine congrArg ((dats m 0 c).arrAt 10 cfg0.N) ?_
  funext a
  apply Fin.ext
  match a with
  | ⟨0, _⟩ => show 512 * t.val + r.val = win0_10.index t 0 * 512 + 1 * r.val; rw [hi.1]; omega
  | ⟨1, _⟩ => show j.val = win0_10.index t 1 * 512 + 1 * j.val; rw [hi.2]; omega

theorem kernel10_apply (c : Dev nD) (R : Fin 65536) (j : Fin 512) :
    ((dats m 0 c).arrAt 10 cfg0.N : Vec Ideal S65536x512 .f32) (ix2 R j)
      = proj (fun l => (m ((c : Thread nD τ).loc main_arg0)) (ix2 R l)) (fun l => (m ((c : Thread nD τ).loc main_arg1)) (ix1 l)) (fun k i => (m ((c : Thread nD τ).loc main_arg3)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr10_apply m c ⟨R.val / 512, ht⟩ ⟨R.val % 512, by omega⟩ j h
  rw [out10_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 3 ⟨R.val / 512, ht⟩ : Vec Ideal S1024x512 .bf16) (ix2 k i)) = _ from
      funext fun k => funext fun i => blk3 m c ⟨R.val / 512, ht⟩ k i]

theorem out11_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 128) :
    out0_11 x0 x1 x2 x3 x4 x5 x6 x7 x8 (ix2 r j) = proj (fun l => x0 (ix2 r l)) (fun l => x1 (ix2 0 l)) (fun k i => x4 (ix2 k i)) j := by
  unfold out0_11
  rw [View.canon_unit_zero hz]
  unfold k0_pay8
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul11_apply _ _ r j).trans ?_
  simp only [pay5_apply]
  rfl

theorem arr11_apply (c : Dev nD) (t : Fin cfg0.N) (r : Fin 512) (j : Fin 128) (h : 512 * t.val + r.val < 65536) :
    ((dats m 0 c).arrAt 11 cfg0.N : Vec Ideal S65536x128 .f32) (ix2 ⟨512 * t.val + r.val, h⟩ j)
      = out0_11 (iblk m c 0 t) (iblk m c 1 t) (iblk m c 2 t) (iblk m c 3 t) (iblk m c 4 t) (iblk m c 5 t) (iblk m c 6 t) (iblk m c 7 t) (iblk m c 8 t) (ix2 r j) := by
  have hi := index11 t
  have hb := congrFun ((Value.blocks11 m c t (flush11 t)).trans (Value.flushed11 m c t)) (ix2 r j)
  rw [View.read_apply] at hb
  refine Eq.trans ?_ hb
  refine congrArg ((dats m 0 c).arrAt 11 cfg0.N) ?_
  funext a
  apply Fin.ext
  match a with
  | ⟨0, _⟩ => show 512 * t.val + r.val = win0_11.index t 0 * 512 + 1 * r.val; rw [hi.1]; omega
  | ⟨1, _⟩ => show j.val = win0_11.index t 1 * 128 + 1 * j.val; rw [hi.2]; omega

theorem kernel11_apply (c : Dev nD) (R : Fin 65536) (j : Fin 128) :
    ((dats m 0 c).arrAt 11 cfg0.N : Vec Ideal S65536x128 .f32) (ix2 R j)
      = proj (fun l => (m ((c : Thread nD τ).loc main_arg0)) (ix2 R l)) (fun l => (m ((c : Thread nD τ).loc main_arg1)) (ix1 l)) (fun k i => (m ((c : Thread nD τ).loc main_arg4)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr11_apply m c ⟨R.val / 512, ht⟩ ⟨R.val % 512, by omega⟩ j h
  rw [out11_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 4 ⟨R.val / 512, ht⟩ : Vec Ideal S1024x128 .bf16) (ix2 k i)) = _ from
      funext fun k => funext fun i => blk4 m c ⟨R.val / 512, ht⟩ k i]

theorem out12_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 1024) :
    out0_12 x0 x1 x2 x3 x4 x5 x6 x7 x8 (ix2 r j) = proj (fun l => x0 (ix2 r l)) (fun l => x1 (ix2 0 l)) (fun k i => x5 (ix2 k i)) j := by
  unfold out0_12
  rw [View.canon_unit_zero hz]
  unfold k0_pay1 k0_pay9
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul12_apply _ _ r j).trans ?_
  simp only [pay5_apply]
  rfl

theorem arr12_apply (c : Dev nD) (t : Fin cfg0.N) (r : Fin 512) (j : Fin 1024) (h : 512 * t.val + r.val < 65536) :
    ((dats m 0 c).arrAt 12 cfg0.N : Vec Ideal S65536x1024 .bf16) (ix2 ⟨512 * t.val + r.val, h⟩ j)
      = out0_12 (iblk m c 0 t) (iblk m c 1 t) (iblk m c 2 t) (iblk m c 3 t) (iblk m c 4 t) (iblk m c 5 t) (iblk m c 6 t) (iblk m c 7 t) (iblk m c 8 t) (ix2 r j) := by
  have hi := index12 t
  have hb := congrFun ((Value.blocks12 m c t (flush12 t)).trans (Value.flushed12 m c t)) (ix2 r j)
  rw [View.read_apply] at hb
  refine Eq.trans ?_ hb
  refine congrArg ((dats m 0 c).arrAt 12 cfg0.N) ?_
  funext a
  apply Fin.ext
  match a with
  | ⟨0, _⟩ => show 512 * t.val + r.val = win0_12.index t 0 * 512 + 1 * r.val; rw [hi.1]; omega
  | ⟨1, _⟩ => show j.val = win0_12.index t 1 * 1024 + 1 * j.val; rw [hi.2]; omega

theorem kernel12_apply (c : Dev nD) (R : Fin 65536) (j : Fin 1024) :
    ((dats m 0 c).arrAt 12 cfg0.N : Vec Ideal S65536x1024 .bf16) (ix2 R j)
      = proj (fun l => (m ((c : Thread nD τ).loc main_arg0)) (ix2 R l)) (fun l => (m ((c : Thread nD τ).loc main_arg1)) (ix1 l)) (fun k i => (m ((c : Thread nD τ).loc main_arg5)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr12_apply m c ⟨R.val / 512, ht⟩ ⟨R.val % 512, by omega⟩ j h
  rw [out12_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 5 ⟨R.val / 512, ht⟩ : Vec Ideal S1024x1024 .bf16) (ix2 k i)) = _ from
      funext fun k => funext fun i => blk5 m c ⟨R.val / 512, ht⟩ k i]

theorem out13_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 256) :
    out0_13 x0 x1 x2 x3 x4 x5 x6 x7 x8 (ix2 r j) = proj (fun l => x0 (ix2 r l)) (fun l => x1 (ix2 0 l)) (fun k i => x6 (ix2 k i)) j := by
  unfold out0_13
  rw [View.canon_unit_zero hz]
  unfold k0_pay2 k0_pay10
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul13_apply _ _ r j).trans ?_
  simp only [pay5_apply]
  rfl

theorem arr13_apply (c : Dev nD) (t : Fin cfg0.N) (r : Fin 512) (j : Fin 256) (h : 512 * t.val + r.val < 65536) :
    ((dats m 0 c).arrAt 13 cfg0.N : Vec Ideal S65536x256 .f32) (ix2 ⟨512 * t.val + r.val, h⟩ j)
      = out0_13 (iblk m c 0 t) (iblk m c 1 t) (iblk m c 2 t) (iblk m c 3 t) (iblk m c 4 t) (iblk m c 5 t) (iblk m c 6 t) (iblk m c 7 t) (iblk m c 8 t) (ix2 r j) := by
  have hi := index13 t
  have hb := congrFun ((Value.blocks13 m c t (flush13 t)).trans (Value.flushed13 m c t)) (ix2 r j)
  rw [View.read_apply] at hb
  refine Eq.trans ?_ hb
  refine congrArg ((dats m 0 c).arrAt 13 cfg0.N) ?_
  funext a
  apply Fin.ext
  match a with
  | ⟨0, _⟩ => show 512 * t.val + r.val = win0_13.index t 0 * 512 + 1 * r.val; rw [hi.1]; omega
  | ⟨1, _⟩ => show j.val = win0_13.index t 1 * 256 + 1 * j.val; rw [hi.2]; omega

theorem kernel13_apply (c : Dev nD) (R : Fin 65536) (j : Fin 256) :
    ((dats m 0 c).arrAt 13 cfg0.N : Vec Ideal S65536x256 .f32) (ix2 R j)
      = proj (fun l => (m ((c : Thread nD τ).loc main_arg0)) (ix2 R l)) (fun l => (m ((c : Thread nD τ).loc main_arg1)) (ix1 l)) (fun k i => (m ((c : Thread nD τ).loc main_arg6)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr13_apply m c ⟨R.val / 512, ht⟩ ⟨R.val % 512, by omega⟩ j h
  rw [out13_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 6 ⟨R.val / 512, ht⟩ : Vec Ideal S1024x256 .bf16) (ix2 k i)) = _ from
      funext fun k => funext fun i => blk6 m c ⟨R.val / 512, ht⟩ k i]

theorem out14_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 512) :
    out0_14 x0 x1 x2 x3 x4 x5 x6 x7 x8 (ix2 r j) = proj (fun l => x0 (ix2 r l)) (fun l => x1 (ix2 0 l)) (fun k i => x7 (ix2 k i)) j := by
  unfold out0_14
  rw [View.canon_unit_zero hz]
  unfold k0_pay3 k0_pay10
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul14_apply _ _ r j).trans ?_
  simp only [pay5_apply]
  rfl

theorem arr14_apply (c : Dev nD) (t : Fin cfg0.N) (r : Fin 512) (j : Fin 512) (h : 512 * t.val + r.val < 65536) :
    ((dats m 0 c).arrAt 14 cfg0.N : Vec Ideal S65536x512 .bf16) (ix2 ⟨512 * t.val + r.val, h⟩ j)
      = out0_14 (iblk m c 0 t) (iblk m c 1 t) (iblk m c 2 t) (iblk m c 3 t) (iblk m c 4 t) (iblk m c 5 t) (iblk m c 6 t) (iblk m c 7 t) (iblk m c 8 t) (ix2 r j) := by
  have hi := index14 t
  have hb := congrFun ((Value.blocks14 m c t (flush14 t)).trans (Value.flushed14 m c t)) (ix2 r j)
  rw [View.read_apply] at hb
  refine Eq.trans ?_ hb
  refine congrArg ((dats m 0 c).arrAt 14 cfg0.N) ?_
  funext a
  apply Fin.ext
  match a with
  | ⟨0, _⟩ => show 512 * t.val + r.val = win0_14.index t 0 * 512 + 1 * r.val; rw [hi.1]; omega
  | ⟨1, _⟩ => show j.val = win0_14.index t 1 * 512 + 1 * j.val; rw [hi.2]; omega

theorem kernel14_apply (c : Dev nD) (R : Fin 65536) (j : Fin 512) :
    ((dats m 0 c).arrAt 14 cfg0.N : Vec Ideal S65536x512 .bf16) (ix2 R j)
      = proj (fun l => (m ((c : Thread nD τ).loc main_arg0)) (ix2 R l)) (fun l => (m ((c : Thread nD τ).loc main_arg1)) (ix1 l)) (fun k i => (m ((c : Thread nD τ).loc main_arg7)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr14_apply m c ⟨R.val / 512, ht⟩ ⟨R.val % 512, by omega⟩ j h
  rw [out14_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 7 ⟨R.val / 512, ht⟩ : Vec Ideal S1024x512 .bf16) (ix2 k i)) = _ from
      funext fun k => funext fun i => blk7 m c ⟨R.val / 512, ht⟩ k i]

theorem out15_eq (x0 : Vec Ideal S512x1024 .f32) (x1 : Vec Ideal S1x1024 .f32) (x2 : Vec Ideal S1024x1536 .bf16) (x3 : Vec Ideal S1024x512 .bf16) (x4 : Vec Ideal S1024x128 .bf16) (x5 : Vec Ideal S1024x1024 .bf16) (x6 : Vec Ideal S1024x256 .bf16) (x7 : Vec Ideal S1024x512 .bf16) (x8 : Vec Ideal S1024x128 .bf16) (r : Fin 512) (j : Fin 128) :
    out0_15 x0 x1 x2 x3 x4 x5 x6 x7 x8 (ix2 r j) = proj (fun l => x0 (ix2 r l)) (fun l => x1 (ix2 0 l)) (fun k i => x8 (ix2 k i)) j := by
  unfold out0_15
  rw [View.canon_unit_zero hz]
  unfold k0_pay4 k0_pay10
  simp only [View.ld_unit_zero (S := S512x1024) hz, View.ld_unit_zero (S := S1x1024) hz, View.ld_unit_zero (S := S1024x1024) hz, View.ld_unit_zero (S := S1024x128) hz, View.ld_unit_zero (S := S1024x1536) hz, View.ld_unit_zero (S := S1024x256) hz, View.ld_unit_zero (S := S1024x512) hz, shapeCast_self]
  refine (mul15_apply _ _ r j).trans ?_
  simp only [pay5_apply]
  rfl

theorem arr15_apply (c : Dev nD) (t : Fin cfg0.N) (r : Fin 512) (j : Fin 128) (h : 512 * t.val + r.val < 65536) :
    ((dats m 0 c).arrAt 15 cfg0.N : Vec Ideal S65536x128 .f32) (ix2 ⟨512 * t.val + r.val, h⟩ j)
      = out0_15 (iblk m c 0 t) (iblk m c 1 t) (iblk m c 2 t) (iblk m c 3 t) (iblk m c 4 t) (iblk m c 5 t) (iblk m c 6 t) (iblk m c 7 t) (iblk m c 8 t) (ix2 r j) := by
  have hi := index15 t
  have hb := congrFun ((Value.blocks15 m c t (flush15 t)).trans (Value.flushed15 m c t)) (ix2 r j)
  rw [View.read_apply] at hb
  refine Eq.trans ?_ hb
  refine congrArg ((dats m 0 c).arrAt 15 cfg0.N) ?_
  funext a
  apply Fin.ext
  match a with
  | ⟨0, _⟩ => show 512 * t.val + r.val = win0_15.index t 0 * 512 + 1 * r.val; rw [hi.1]; omega
  | ⟨1, _⟩ => show j.val = win0_15.index t 1 * 128 + 1 * j.val; rw [hi.2]; omega

theorem kernel15_apply (c : Dev nD) (R : Fin 65536) (j : Fin 128) :
    ((dats m 0 c).arrAt 15 cfg0.N : Vec Ideal S65536x128 .f32) (ix2 R j)
      = proj (fun l => (m ((c : Thread nD τ).loc main_arg0)) (ix2 R l)) (fun l => (m ((c : Thread nD τ).loc main_arg1)) (ix1 l)) (fun k i => (m ((c : Thread nD τ).loc main_arg8)) (ix2 k i)) j := by
  have hN : cfg0.N = 128 := by decide +kernel
  have ht : R.val / 512 < cfg0.N := by rw [hN]; omega
  have h : 512 * (R.val / 512) + (R.val % 512) < 65536 := by omega
  have hR : R = ⟨512 * (R.val / 512) + (R.val % 512), h⟩ := Fin.ext (by show R.val = 512 * (R.val / 512) + (R.val % 512); omega)
  have key := arr15_apply m c ⟨R.val / 512, ht⟩ ⟨R.val % 512, by omega⟩ j h
  rw [out15_eq] at key
  rw [hR]
  refine key.trans ?_
  rw [show (fun l => (iblk m c 0 ⟨R.val / 512, ht⟩ : Vec Ideal S512x1024 .f32) (ix2 ⟨R.val % 512, by omega⟩ l)) = _ from
      funext fun l => blk0 m c ⟨R.val / 512, ht⟩ ⟨R.val % 512, by omega⟩ l h,
    show (fun l => (iblk m c 1 ⟨R.val / 512, ht⟩ : Vec Ideal S1x1024 .f32) (ix2 0 l)) = _ from funext fun l => blk1 m c ⟨R.val / 512, ht⟩ 0 l,
    show (fun k i => (iblk m c 8 ⟨R.val / 512, ht⟩ : Vec Ideal S1024x128 .bf16) (ix2 k i)) = _ from
      funext fun k => funext fun i => blk8 m c ⟨R.val / 512, ht⟩ k i]

end Blocks

theorem norm_apply (x : Vec Ideal S65536x1024 .f32) (f : Vec Ideal S1024 .f32) (r : Fin 65536) (k : Fin 1024) :
    Cert.Reference5Ideal.Read.val_main_v12 (F := Ideal) x f (ix2 r k) = rmsRow (fun l => x (ix2 r l)) (fun l => f (ix1 l)) k := by
  unfold Cert.Reference5Ideal.Read.val_main_v12 Cert.Reference5Ideal.Read.val_main_v11 Cert.Reference5Ideal.Read.val_main_v10 Cert.Reference5Ideal.Read.val_main_v9 Cert.Reference5Ideal.Read.val_main_v8 Cert.Reference5Ideal.Read.val_main_v7 Cert.Reference5Ideal.Read.val_main_v6 Cert.Reference5Ideal.Read.val_main_v5 Cert.Reference5Ideal.Read.val_main_cst_1 Cert.Reference5Ideal.Read.val_main_v4 Cert.Reference5Ideal.Read.val_main_v3 Cert.Reference5Ideal.Read.val_main_cst_0 Cert.Reference5Ideal.Read.val_main_v2 Cert.Reference5Ideal.Read.val_main_v1 Cert.Reference5Ideal.Read.val_main_cst Cert.Reference5Ideal.Read.val_main_v0 rmsRow
  pointwise

theorem reference9_apply (x : Vec Ideal S65536x1024 .f32) (f : Vec Ideal S1024 .f32) (u : Vec Ideal S1024x1536 .f32) (r : Fin 65536) (j : Fin 1536) :
    Cert.Reference5Ideal.Read.val_main_v13 (F := Ideal) x f u (ix2 r j) = proj (fun l => x (ix2 r l)) (fun l => f (ix1 l)) (fun k i => u (ix2 k i)) j := by
  have hs : Cert.Reference5Ideal.Read.val_main_v13 (F := Ideal) x f u (ix2 r j) = ∑ k : Fin 1024, Cert.Reference5Ideal.Read.val_main_v12 (F := Ideal) x f (ix2 r k) * u (ix2 k j) := by
    unfold Cert.Reference5Ideal.Read.val_main_v13
    pointwise
  rw [hs]
  simp only [norm_apply]
  rfl

theorem tie9 (m : (ℓ : Loc nD τ sig) → Buf (Elt Ideal) ℓ) (c : Dev nD) :
    Cert.Reference5Ideal.Read.val_main_v13 (F := Ideal) (m ((c : Thread nD τ).loc main_arg0)) (m ((c : Thread nD τ).loc main_arg1)) (m ((c : Thread nD τ).loc main_arg2)) = (dats m 0 c).arrAt 9 cfg0.N := by
  funext i
  rw [show i = ix2 (i 0) (i 1) from funext fun a => by match a with | ⟨0, _⟩ => rfl | ⟨1, _⟩ => rfl]
  exact (reference9_apply _ _ _ _ _).trans (kernel9_apply m c _ _).symm

theorem reference10_apply (x : Vec Ideal S65536x1024 .f32) (f : Vec Ideal S1024 .f32) (u : Vec Ideal S1024x512 .f32) (r : Fin 65536) (j : Fin 512) :
    Cert.Reference5Ideal.Read.val_main_v14 (F := Ideal) x f u (ix2 r j) = proj (fun l => x (ix2 r l)) (fun l => f (ix1 l)) (fun k i => u (ix2 k i)) j := by
  have hs : Cert.Reference5Ideal.Read.val_main_v14 (F := Ideal) x f u (ix2 r j) = ∑ k : Fin 1024, Cert.Reference5Ideal.Read.val_main_v12 (F := Ideal) x f (ix2 r k) * u (ix2 k j) := by
    unfold Cert.Reference5Ideal.Read.val_main_v14
    pointwise
  rw [hs]
  simp only [norm_apply]
  rfl

theorem tie10 (m : (ℓ : Loc nD τ sig) → Buf (Elt Ideal) ℓ) (c : Dev nD) :
    Cert.Reference5Ideal.Read.val_main_v14 (F := Ideal) (m ((c : Thread nD τ).loc main_arg0)) (m ((c : Thread nD τ).loc main_arg1)) (m ((c : Thread nD τ).loc main_arg3)) = (dats m 0 c).arrAt 10 cfg0.N := by
  funext i
  rw [show i = ix2 (i 0) (i 1) from funext fun a => by match a with | ⟨0, _⟩ => rfl | ⟨1, _⟩ => rfl]
  exact (reference10_apply _ _ _ _ _).trans (kernel10_apply m c _ _).symm

theorem reference11_apply (x : Vec Ideal S65536x1024 .f32) (f : Vec Ideal S1024 .f32) (u : Vec Ideal S1024x128 .f32) (r : Fin 65536) (j : Fin 128) :
    Cert.Reference5Ideal.Read.val_main_v15 (F := Ideal) x f u (ix2 r j) = proj (fun l => x (ix2 r l)) (fun l => f (ix1 l)) (fun k i => u (ix2 k i)) j := by
  have hs : Cert.Reference5Ideal.Read.val_main_v15 (F := Ideal) x f u (ix2 r j) = ∑ k : Fin 1024, Cert.Reference5Ideal.Read.val_main_v12 (F := Ideal) x f (ix2 r k) * u (ix2 k j) := by
    unfold Cert.Reference5Ideal.Read.val_main_v15
    pointwise
  rw [hs]
  simp only [norm_apply]
  rfl

theorem tie11 (m : (ℓ : Loc nD τ sig) → Buf (Elt Ideal) ℓ) (c : Dev nD) :
    Cert.Reference5Ideal.Read.val_main_v15 (F := Ideal) (m ((c : Thread nD τ).loc main_arg0)) (m ((c : Thread nD τ).loc main_arg1)) (m ((c : Thread nD τ).loc main_arg4)) = (dats m 0 c).arrAt 11 cfg0.N := by
  funext i
  rw [show i = ix2 (i 0) (i 1) from funext fun a => by match a with | ⟨0, _⟩ => rfl | ⟨1, _⟩ => rfl]
  exact (reference11_apply _ _ _ _ _).trans (kernel11_apply m c _ _).symm

theorem reference12_apply (x : Vec Ideal S65536x1024 .f32) (f : Vec Ideal S1024 .f32) (u : Vec Ideal S1024x1024 .f32) (r : Fin 65536) (j : Fin 1024) :
    Cert.Reference5Ideal.Read.val_main_v17 (F := Ideal) x f u (ix2 r j) = proj (fun l => x (ix2 r l)) (fun l => f (ix1 l)) (fun k i => u (ix2 k i)) j := by
  have hs : Cert.Reference5Ideal.Read.val_main_v17 (F := Ideal) x f u (ix2 r j) = ∑ k : Fin 1024, Cert.Reference5Ideal.Read.val_main_v12 (F := Ideal) x f (ix2 r k) * u (ix2 k j) := by
    unfold Cert.Reference5Ideal.Read.val_main_v17 Cert.Reference5Ideal.Read.val_main_v16
    pointwise
  rw [hs]
  simp only [norm_apply]
  rfl

theorem tie12 (m : (ℓ : Loc nD τ sig) → Buf (Elt Ideal) ℓ) (c : Dev nD) :
    Cert.Reference5Ideal.Read.val_main_v17 (F := Ideal) (m ((c : Thread nD τ).loc main_arg0)) (m ((c : Thread nD τ).loc main_arg1)) (m ((c : Thread nD τ).loc main_arg5)) = (dats m 0 c).arrAt 12 cfg0.N := by
  funext i
  rw [show i = ix2 (i 0) (i 1) from funext fun a => by match a with | ⟨0, _⟩ => rfl | ⟨1, _⟩ => rfl]
  exact (reference12_apply _ _ _ _ _).trans (kernel12_apply m c _ _).symm

theorem reference13_apply (x : Vec Ideal S65536x1024 .f32) (f : Vec Ideal S1024 .f32) (u : Vec Ideal S1024x256 .f32) (r : Fin 65536) (j : Fin 256) :
    Cert.Reference5Ideal.Read.val_main_v18 (F := Ideal) x f u (ix2 r j) = proj (fun l => x (ix2 r l)) (fun l => f (ix1 l)) (fun k i => u (ix2 k i)) j := by
  have hs : Cert.Reference5Ideal.Read.val_main_v18 (F := Ideal) x f u (ix2 r j) = ∑ k : Fin 1024, Cert.Reference5Ideal.Read.val_main_v12 (F := Ideal) x f (ix2 r k) * u (ix2 k j) := by
    unfold Cert.Reference5Ideal.Read.val_main_v18
    pointwise
  rw [hs]
  simp only [norm_apply]
  rfl

theorem tie13 (m : (ℓ : Loc nD τ sig) → Buf (Elt Ideal) ℓ) (c : Dev nD) :
    Cert.Reference5Ideal.Read.val_main_v18 (F := Ideal) (m ((c : Thread nD τ).loc main_arg0)) (m ((c : Thread nD τ).loc main_arg1)) (m ((c : Thread nD τ).loc main_arg6)) = (dats m 0 c).arrAt 13 cfg0.N := by
  funext i
  rw [show i = ix2 (i 0) (i 1) from funext fun a => by match a with | ⟨0, _⟩ => rfl | ⟨1, _⟩ => rfl]
  exact (reference13_apply _ _ _ _ _).trans (kernel13_apply m c _ _).symm

theorem reference14_apply (x : Vec Ideal S65536x1024 .f32) (f : Vec Ideal S1024 .f32) (u : Vec Ideal S1024x512 .f32) (r : Fin 65536) (j : Fin 512) :
    Cert.Reference5Ideal.Read.val_main_v20 (F := Ideal) x f u (ix2 r j) = proj (fun l => x (ix2 r l)) (fun l => f (ix1 l)) (fun k i => u (ix2 k i)) j := by
  have hs : Cert.Reference5Ideal.Read.val_main_v20 (F := Ideal) x f u (ix2 r j) = ∑ k : Fin 1024, Cert.Reference5Ideal.Read.val_main_v12 (F := Ideal) x f (ix2 r k) * u (ix2 k j) := by
    unfold Cert.Reference5Ideal.Read.val_main_v20 Cert.Reference5Ideal.Read.val_main_v19
    pointwise
  rw [hs]
  simp only [norm_apply]
  rfl

theorem tie14 (m : (ℓ : Loc nD τ sig) → Buf (Elt Ideal) ℓ) (c : Dev nD) :
    Cert.Reference5Ideal.Read.val_main_v20 (F := Ideal) (m ((c : Thread nD τ).loc main_arg0)) (m ((c : Thread nD τ).loc main_arg1)) (m ((c : Thread nD τ).loc main_arg7)) = (dats m 0 c).arrAt 14 cfg0.N := by
  funext i
  rw [show i = ix2 (i 0) (i 1) from funext fun a => by match a with | ⟨0, _⟩ => rfl | ⟨1, _⟩ => rfl]
  exact (reference14_apply _ _ _ _ _).trans (kernel14_apply m c _ _).symm

theorem reference15_apply (x : Vec Ideal S65536x1024 .f32) (f : Vec Ideal S1024 .f32) (u : Vec Ideal S1024x128 .f32) (r : Fin 65536) (j : Fin 128) :
    Cert.Reference5Ideal.Read.val_main_v21 (F := Ideal) x f u (ix2 r j) = proj (fun l => x (ix2 r l)) (fun l => f (ix1 l)) (fun k i => u (ix2 k i)) j := by
  have hs : Cert.Reference5Ideal.Read.val_main_v21 (F := Ideal) x f u (ix2 r j) = ∑ k : Fin 1024, Cert.Reference5Ideal.Read.val_main_v12 (F := Ideal) x f (ix2 r k) * u (ix2 k j) := by
    unfold Cert.Reference5Ideal.Read.val_main_v21
    pointwise
  rw [hs]
  simp only [norm_apply]
  rfl

theorem tie15 (m : (ℓ : Loc nD τ sig) → Buf (Elt Ideal) ℓ) (c : Dev nD) :
    Cert.Reference5Ideal.Read.val_main_v21 (F := Ideal) (m ((c : Thread nD τ).loc main_arg0)) (m ((c : Thread nD τ).loc main_arg1)) (m ((c : Thread nD τ).loc main_arg8)) = (dats m 0 c).arrAt 15 cfg0.N := by
  funext i
  rw [show i = ix2 (i 0) (i 1) from funext fun a => by match a with | ⟨0, _⟩ => rfl | ⟨1, _⟩ => rfl]
  exact (reference15_apply _ _ _ _ _).trans (kernel15_apply m c _ _).symm

end Cert.NormLin

end
-- ==== Proof.WkvMath.lean ====
/- The mathematics of the chunked delta-rule recurrence over the reals: a chunk of 64 tokens taken in one go by matrix
   products is the same chunk taken token by token, and the nilpotent series the kernel sums is the inverse it stands for. -/
module

public import Mathlib.Analysis.SpecialFunctions.Exp
public import Mathlib.Data.Matrix.Mul
public import Mathlib.Tactic.NoncommRing
public import Mathlib.Tactic.Ring
public import Mathlib.Tactic.LinearCombination
public import Mathlib.Tactic.Linarith

@[expose] public section

noncomputable section

namespace Cert.Wkv

open Matrix

/-- A square matrix over one head's 64 tokens or 64 channels. -/
abbrev Mat := Matrix (Fin 64) (Fin 64) ℝ

/-! ## The inverse by nilpotent series -/

/-- `A` vanishes wherever the row's grade is less than `k` above the column's. -/
def Low (f : Fin 64 → ℕ) (k : ℕ) (A : Mat) : Prop := ∀ i j, f i < f j + k → A i j = 0

theorem Low.mul {f : Fin 64 → ℕ} {k l : ℕ} {A B : Mat} (hA : Low f k A) (hB : Low f l B) : Low f (k + l) (A * B) := by
  intro i j h
  rw [Matrix.mul_apply]
  refine Finset.sum_eq_zero fun x _ => ?_
  by_cases hx : f i < f x + k
  · rw [hA i x hx, zero_mul]
  · rw [hB x j (by omega), mul_zero]

theorem Low.add {f : Fin 64 → ℕ} {k : ℕ} {A B : Mat} (hA : Low f k A) (hB : Low f k B) : Low f k (A + B) := by
  intro i j h
  rw [Matrix.add_apply, hA i j h, hB i j h, add_zero]

theorem Low.sub {f : Fin 64 → ℕ} {k : ℕ} {A B : Mat} (hA : Low f k A) (hB : Low f k B) : Low f k (A - B) := by
  intro i j h
  rw [Matrix.sub_apply, hA i j h, hB i j h, sub_zero]

theorem Low.one (f : Fin 64 → ℕ) : Low f 0 (1 : Mat) := by
  intro i j h
  exact Matrix.one_apply_ne (fun e => by subst e; omega)

/-- `A` vanishes between tokens of different blocks of 16. -/
def Diag16 (A : Mat) : Prop := ∀ i j : Fin 64, i.val / 16 ≠ j.val / 16 → A i j = 0

theorem Diag16.mul {A B : Mat} (hA : Diag16 A) (hB : Diag16 B) : Diag16 (A * B) := by
  intro i j h
  rw [Matrix.mul_apply]
  refine Finset.sum_eq_zero fun x _ => ?_
  by_cases hx : i.val / 16 = x.val / 16
  · rw [hB x j (hx ▸ h), mul_zero]
  · rw [hA i x hx, zero_mul]

theorem Diag16.low {A : Mat} (hA : Diag16 A) : Low (fun i => i.val / 16) 0 A :=
  fun i j h => hA i j (by dsimp only at h; omega)

/-- The part of a matrix inside the diagonal blocks of 16. -/
def inBlk (L : Mat) : Mat := fun i j => if i.val / 16 = j.val / 16 then L i j else 0

/-- The part outside them. -/
def offBlk (L : Mat) : Mat := fun i j => if i.val / 16 = j.val / 16 then 0 else L i j

/-- The kernel's series inside the blocks: with `D` the part inside, `(1 - D)(1 + D²)(1 + D⁴)(1 + D⁸)`. -/
def blkInv (D : Mat) : Mat :=
  let D2 := D * D
  let D4 := D2 * D2
  let D8 := D4 * D4
  let n1 := ((1 - D) + D2) - D * D2
  let n2 := n1 + n1 * D4
  n2 + n2 * D8

/-- The kernel's inverse of `1 + L`. -/
def triInv (L : Mat) : Mat :=
  let x := blkInv (inBlk L)
  let M := x * offBlk L
  let M2 := M * M
  let Mx := M * x
  (x - Mx) + (M2 * x - M2 * Mx)

theorem inBlk_add_offBlk (L : Mat) : inBlk L + offBlk L = L := by
  ext i j
  simp only [Matrix.add_apply, inBlk, offBlk]
  split <;> simp

theorem triInv_mul (L : Mat) (hL : ∀ i j : Fin 64, i ≤ j → L i j = 0) : triInv L * (1 + L) = 1 := by
  have hD1 : Low (fun i => i.val) 1 (inBlk L) := by
    intro i j h
    simp only [inBlk]
    split
    · exact hL i j (Fin.le_def.mpr (by dsimp only at h; omega))
    · rfl
  have hDd : Diag16 (inBlk L) := fun i j h => by simp only [inBlk, if_neg h]
  have hO : Low (fun i => i.val / 16) 1 (offBlk L) := by
    intro i j h
    simp only [offBlk]
    split
    · rfl
    · exact hL i j (Fin.le_def.mpr (by dsimp only at h; omega))
  set D := inBlk L with hDdef
  set O := offBlk L with hOdef
  have d2 := hDd.mul hDd
  have d4 := d2.mul d2
  have d8 := d4.mul d4
  have l2 := hD1.mul hD1
  have l4 := l2.mul l2
  have l8 := l4.mul l4
  have h16 : (D * D * (D * D) * (D * D * (D * D))) * (D * D * (D * D) * (D * D * (D * D))) = 0 := by
    ext i j
    by_cases h : i.val / 16 = j.val / 16
    · exact (l8.mul l8) i j (by dsimp only; omega)
    · exact (d8.mul d8) i j h
  have hx : Low (fun i => i.val / 16) 0 (blkInv D) := by
    have o := Low.one (fun i : Fin 64 => i.val / 16)
    have n1 := ((o.sub hDd.low).add d2.low).sub (hDd.mul d2).low
    have n2 := n1.add (n1.mul d4.low)
    exact n2.add (n2.mul d8.low)
  have hxD : blkInv D * (1 + D) = 1 := by
    have : blkInv D * (1 + D) = 1 - (D * D * (D * D) * (D * D * (D * D))) * (D * D * (D * D) * (D * D * (D * D))) := by
      simp only [blkInv]
      noncomm_ring
    rw [this, h16, sub_zero]
  have hM : Low (fun i => i.val / 16) 1 (blkInv D * O) := by simpa using hx.mul hO
  have hM4 : (blkInv D * O) * (blkInv D * O) * ((blkInv D * O) * (blkInv D * O)) = 0 := by
    ext i j
    exact ((hM.mul hM).mul (hM.mul hM)) i j (by dsimp only; omega)
  have hL' : (1 + L : Mat) = (1 + D) + O := by rw [add_assoc, hDdef, hOdef, inBlk_add_offBlk]
  have hxL : blkInv D * (1 + L) = 1 + blkInv D * O := by rw [hL', mul_add, hxD]
  have key : triInv L * (1 + L) = (1 - blkInv D * O + (blkInv D * O) * (blkInv D * O) - (blkInv D * O) * (blkInv D * O) * (blkInv D * O)) * (blkInv D * (1 + L)) := by
    simp only [triInv, ← hDdef, ← hOdef]
    noncomm_ring
  rw [key, hxL]
  generalize blkInv D * O = M at hM4 ⊢
  have : (1 - M + M * M - M * M * M) * (1 + M) = 1 - M * M * (M * M) := by noncomm_ring
  rw [this, hM4, sub_zero]

/-! ## One token, and a chunk of 64 -/

/-- One token: the state decays channel by channel, then takes the delta-rule term and the new key and value. -/
def stepH (w a b k v : Fin 64 → ℝ) (H : Mat) : Mat :=
  fun j i => H j i * w j + (∑ l, H l i * a l) * b j + v i * k j

/-- The decay's logarithm summed over the tokens before `n`. -/
def cum (lw : Mat) (n : ℕ) (j : Fin 64) : ℝ := ∑ s : Fin 64, if s.val < n then lw s j else 0

theorem cum_zero (lw : Mat) (j : Fin 64) : cum lw 0 j = 0 := by simp [cum]

theorem sum_lt_succ (t : Fin 64) (f : Fin 64 → ℝ) :
    (∑ s : Fin 64, if s.val < t.val + 1 then f s else 0) = (∑ s : Fin 64, if s.val < t.val then f s else 0) + f t := by
  have : ∀ s : Fin 64, (if s.val < t.val + 1 then f s else 0) = (if s.val < t.val then f s else 0) + (if s = t then f s else 0) := by
    intro s
    rcases lt_trichotomy s.val t.val with h | h | h
    · rw [if_pos (by omega), if_pos h, if_neg (fun e => by subst e; omega), add_zero]
    · rw [if_pos (by omega), if_neg (by omega), if_pos (Fin.ext h), zero_add]
    · rw [if_neg (by omega), if_neg (by omega), if_neg (fun e => by subst e; omega), add_zero]
  rw [Finset.sum_congr rfl fun s _ => this s, Finset.sum_add_distrib, Finset.sum_ite_eq' Finset.univ t f, if_pos (Finset.mem_univ t)]

theorem cum_succ (lw : Mat) (t : Fin 64) (j : Fin 64) : cum lw (t.val + 1) j = cum lw t.val j + lw t j :=
  sum_lt_succ t fun s => lw s j

section Chunk

variable (lw r k v a b : Mat)

/-- The running sum of the decay's logarithm, token included. -/
def cs : Mat := fun t j => cum lw (t.val + 1) j

def aT : Mat := fun t j => a t j * Real.exp (cs lw t j - lw t j)
def rT : Mat := fun t j => r t j * Real.exp (cs lw t j)
def invT (x : Mat) : Mat := fun t j => x t j * Real.exp (-cs lw t j)
def endT (x : Mat) : Mat := fun t j => x t j * Real.exp (cs lw (Fin.last 63) j - cs lw t j)
/-- Strictly below the diagonal. -/
def strict (A : Mat) : Mat := fun t s => if s.val < t.val then A t s else 0
/-- On the diagonal and below. -/
def incl (A : Mat) : Mat := fun t s => if s.val ≤ t.val then A t s else 0

def lAB : Mat := strict (-(aT lw a * (invT lw b)ᵀ))
def lAK : Mat := strict (aT lw a * (invT lw k)ᵀ)
def mRB : Mat := incl (rT lw r * (invT lw b)ᵀ)
def mRK : Mat := incl (rT lw r * (invT lw k)ᵀ)
def pMat : Mat := triInv (lAB lw a b) * aT lw a
def qMat : Mat := triInv (lAB lw a b) * (lAK lw k a * v)
def rHat : Mat := rT lw r + mRB lw r b * pMat lw a b
def yHat : Mat := mRB lw r b * qMat lw k v a b + mRK lw r k * v
def transM : Mat := Matrix.diagonal (fun j => Real.exp (cs lw (Fin.last 63) j)) + (endT lw b)ᵀ * pMat lw a b
def hAdd : Mat := (endT lw b)ᵀ * qMat lw k v a b + (endT lw k)ᵀ * v

variable {lw r k v a b}
variable {H : ℕ → Mat} (hH : ∀ t : Fin 64, H (t.val + 1) = stepH (fun j => Real.exp (lw t j)) (a t) (b t) (k t) (v t) (H t.val))

/-- What the delta rule reads of the state at each token. -/
def zMat (a : Mat) (H : ℕ → Mat) : Mat := fun t i => ∑ l, H t.val l i * a t l

include hH in
theorem closed (n : ℕ) (hn : n ≤ 64) (j i : Fin 64) :
    H n j i = Real.exp (cum lw n j) * (H 0 j i
      + ∑ s : Fin 64, if s.val < n then invT lw b s j * zMat a H s i + invT lw k s j * v s i else 0) := by
  induction n with
  | zero => simp [cum_zero]
  | succ n ih =>
    have ih := ih (by omega)
    have e := congrFun (congrFun (hH ⟨n, by omega⟩) j) i
    have c := cum_succ lw ⟨n, by omega⟩ j
    have s := sum_lt_succ ⟨n, by omega⟩ fun s => invT lw b s j * zMat a H s i + invT lw k s j * v s i
    dsimp only at e c s
    rw [e, s, c]
    simp only [stepH]
    rw [ih]
    have hz : (∑ l, H n l i * a ⟨n, by omega⟩ l) = zMat a H ⟨n, by omega⟩ i := rfl
    have hinv : ∀ x : Mat, Real.exp (cum lw n j + lw ⟨n, by omega⟩ j) * invT lw x ⟨n, by omega⟩ j = x ⟨n, by omega⟩ j := by
      intro x
      simp only [invT, cs]
      rw [c, mul_comm (x _ _), ← mul_assoc, ← Real.exp_add, add_neg_cancel, Real.exp_zero, one_mul]
    rw [hz]
    have hb := hinv b
    have hk := hinv k
    rw [Real.exp_add] at hb hk ⊢
    linear_combination (-(zMat a H ⟨n, by omega⟩ i)) * hb - v ⟨n, by omega⟩ i * hk

theorem cs_sub (t j : Fin 64) : cs lw t j - lw t j = cum lw t.val j := by
  simp only [cs]; rw [cum_succ]; ring

include hH in
theorem chunk_z : (1 + lAB lw a b) * zMat a H = aT lw a * H 0 + lAK lw k a * v := by
  ext t i
  have : zMat a H t i = (aT lw a * H 0) t i + ∑ s : Fin 64, if s.val < t.val then
      (aT lw a * (invT lw b)ᵀ) t s * zMat a H s i + (aT lw a * (invT lw k)ᵀ) t s * v s i else 0 := by
    conv_lhs => simp only [zMat]
    simp only [closed hH t.val (by omega)]
    simp only [Matrix.mul_apply, Matrix.transpose_apply, aT, cs_sub]
    rw [Finset.sum_congr rfl fun l _ => show Real.exp (cum lw t.val l) * (H 0 l i
      + ∑ s : Fin 64, if s.val < t.val then invT lw b s l * zMat a H s i + invT lw k s l * v s i else 0) * a t l
      = a t l * Real.exp (cum lw t.val l) * H 0 l i + ∑ s : Fin 64, (if s.val < t.val then
        (a t l * Real.exp (cum lw t.val l) * invT lw b s l) * zMat a H s i + (a t l * Real.exp (cum lw t.val l) * invT lw k s l) * v s i else 0) by
      rw [mul_add, add_mul, Finset.mul_sum, Finset.sum_mul]
      congr 1
      · ring
      · refine Finset.sum_congr rfl fun s _ => ?_
        split
        · ring
        · ring]
    rw [Finset.sum_add_distrib, Finset.sum_comm]
    congr 1
    refine Finset.sum_congr rfl fun s _ => ?_
    split
    · rw [Finset.sum_add_distrib, Finset.sum_mul, Finset.sum_mul]
    · exact Finset.sum_const_zero
  rw [add_mul, one_mul, Matrix.add_apply, Matrix.add_apply, this, add_assoc]
  congr 1
  rw [Matrix.mul_apply, Matrix.mul_apply, ← Finset.sum_add_distrib]
  refine Finset.sum_congr rfl fun s _ => ?_
  simp only [lAB, lAK, strict, Matrix.neg_apply]
  split <;> ring

include hH in
theorem chunk_zPQ : zMat a H = pMat lw a b * H 0 + qMat lw k v a b := by
  have hT := triInv_mul (lAB lw a b) (fun i j h => by
    simp only [lAB, strict]; exact if_neg (Nat.not_lt.mpr (Fin.le_def.mp h)))
  calc zMat a H = (triInv (lAB lw a b) * (1 + lAB lw a b)) * zMat a H := by rw [hT, one_mul]
    _ = _ := by rw [mul_assoc, chunk_z hH, mul_add, pMat, qMat, mul_assoc]

include hH in
/-- The chunk's outputs, all 64 at once. -/
theorem chunk_y (t i : Fin 64) : ∑ j, H (t.val + 1) j i * r t j = (rHat lw r a b * H 0 + yHat lw r k v a b) t i := by
  have h1 : rHat lw r a b * H 0 + yHat lw r k v a b = rT lw r * H 0 + (mRB lw r b * zMat a H + mRK lw r k * v) := by
    rw [chunk_zPQ hH, rHat, yHat]; noncomm_ring
  rw [h1, Matrix.add_apply, Matrix.add_apply]
  simp only [closed hH (t.val + 1) (by omega)]
  simp only [Matrix.mul_apply, mRB, mRK, incl, Matrix.transpose_apply]
  rw [← Finset.sum_add_distrib]
  rw [Finset.sum_congr rfl fun l _ => show Real.exp (cum lw (t.val + 1) l) * (H 0 l i
      + ∑ s : Fin 64, if s.val < t.val + 1 then invT lw b s l * zMat a H s i + invT lw k s l * v s i else 0) * r t l
      = rT lw r t l * H 0 l i + ∑ s : Fin 64, (if s.val < t.val + 1 then
        (rT lw r t l * invT lw b s l) * zMat a H s i + (rT lw r t l * invT lw k s l) * v s i else 0) by
      rw [mul_add, add_mul, Finset.mul_sum, Finset.sum_mul]
      congr 1
      · simp only [rT, cs]; ring
      · refine Finset.sum_congr rfl fun s _ => ?_
        simp only [rT, cs]
        split <;> ring]
  rw [Finset.sum_add_distrib, Finset.sum_comm]
  congr 1
  refine Finset.sum_congr rfl fun s _ => ?_
  by_cases h : s.val ≤ t.val
  · simp only [if_pos h, if_pos (Nat.lt_succ_of_le h)]
    rw [Finset.sum_add_distrib, Finset.sum_mul, Finset.sum_mul]
  · simp only [if_neg h, if_neg (fun h' => h (Nat.lt_succ_iff.mp h'))]
    simp

include hH in
/-- The state after the chunk. -/
theorem chunk_H : H 64 = transM lw a b * H 0 + hAdd lw k v a b := by
  have h1 : transM lw a b * H 0 + hAdd lw k v a b = Matrix.diagonal (fun j => Real.exp (cs lw (Fin.last 63) j)) * H 0
      + ((endT lw b)ᵀ * zMat a H + (endT lw k)ᵀ * v) := by
    rw [chunk_zPQ hH, transM, hAdd]; noncomm_ring
  rw [h1]
  ext j i
  rw [closed hH 64 le_rfl, Matrix.add_apply, Matrix.add_apply, Matrix.diagonal_mul, mul_add, Matrix.mul_apply, Matrix.mul_apply,
    ← Finset.sum_add_distrib, Finset.mul_sum]
  have hl : cs lw (Fin.last 63) j = cum lw 64 j := rfl
  congr 1
  refine Finset.sum_congr rfl fun s _ => ?_
  rw [if_pos s.isLt]
  simp only [Matrix.transpose_apply, endT, invT, hl, sub_eq_add_neg, Real.exp_add]
  ring

end Chunk

end Cert.Wkv
-- ==== Proof.WkvVec.lean ====
module

public import proofs.«01_k».proof.Proof.Gen.Kernel6Ideal.Skeleton
public import proofs.«01_k».proof.Proof.WkvMath
public import Idealize.ShloMosaic.Lib.Pointwise
public import Idealize.ShloMosaic.Lib.IdealHost

@[expose] public section

/-! One chunk of the recurrence on the kernel's own vectors: two heads side by side in 128 lanes, and what the vectors hold
    when every entry is a real number. -/

noncomputable section

namespace Cert.Wkv

open Cert.Kernel6Ideal Cert.Kernel6Ideal.Gen Idealize.ShloMosaic Idealize.ShloMosaic.TcCoe

abbrev V64 := FVec Ideal S64x128 .f32
abbrev V128 := FVec Ideal S128x128 .f32
abbrev R128 := FVec Ideal S1x128 .f32

/-! ## The kernel's operations on a chunk -/

def m0 : R128 :=
  sitofp .f32 (extui 32 (cmpi .slt (iota .tc S1x128 32 [1] iota_S1x128_d1_w32) (broadcast S1x128 64#32)) natLt_1_32)
def m1 : R128 := subf (broadcast S1x128 (Scalar.ofBits .f32 0x3F800000#32)) m0
def zero64 : V64 := broadcast S64x128 (Scalar.ofBits .f32 0x00000000#32)
def zero128 : V128 := broadcast S128x128 (Scalar.ofBits .f32 0x00000000#32)
/-- The two heads of a pair stacked on the diagonal. -/
def stk (x : V64) : V128 :=
  concatenate S128x128 0 [⟨S64x128, mulf x (broadcastTo S64x128 m0 broadcasts_S1x128_S64x128)⟩,
    ⟨S64x128, mulf x (broadcastTo S64x128 m1 broadcasts_S1x128_S64x128)⟩] concatenates_S64x128_S64x128_S128x128_d0
def mm (x : V64) (y : V128) : V64 :=
  matmul dot_S64x128_S128x128_S64x128_1_0_0_1_n_n none (truncf .bf16 x bitsLt_bf16_f32) (truncf .bf16 y bitsLt_bf16_f32)
    (constant S64x128 .f32 0x00000000#32)
def mmNt (x y : V128) : V128 :=
  matmul dot_S128x128_S128x128_S128x128_1_1_0_0_n_n none (truncf .bf16 x bitsLt_bf16_f32) (truncf .bf16 y bitsLt_bf16_f32)
    (constant S128x128 .f32 0x00000000#32)
def mmSq (x y : FVec Ideal S128x128 .bf16) : V128 :=
  matmul dot_S128x128_S128x128_S128x128_1_0_0_1_n_n none x y (constant S128x128 .f32 0x00000000#32)
def cat2 (x y : V64) : V128 :=
  concatenate S128x128 0 [⟨S64x128, x⟩, ⟨S64x128, y⟩] concatenates_S64x128_S64x128_S128x128_d0
def top (x : V128) : V64 := extractStridedSlice S64x128 ![0, 0] x slices_S128x128_o0_0_S64x128
def bot (x : V128) : V64 := extractStridedSlice S64x128 ![64, 0] x slices_S128x128_o64_0_S64x128
def rows : IVec S64x128 32 := iota .tc S64x128 32 [0] iota_S64x128_d0_w32
def cols : IVec S64x128 32 := andi (iota .tc S64x128 32 [1] iota_S64x128_d1_w32) (broadcast S64x128 63#32)
def strictM : IVec S64x128 1 := cmpi .sgt rows cols
def inclM : IVec S64x128 1 := cmpi .sge rows cols
def blkM : IVec S64x128 1 := cmpi .eq (shrsi rows (broadcast S64x128 4#32)) (shrsi cols (broadcast S64x128 4#32))
def eye64 : V64 := sitofp .f32 (extui 32 (cmpi .eq rows cols) natLt_1_32)
def eye128 : V128 := sitofp .f32 (extui 32 (cmpi .eq (iota .tc S128x128 32 [0] iota_S128x128_d0_w32)
  (iota .tc S128x128 32 [1] iota_S128x128_d1_w32)) natLt_1_32)
def bdM : IVec S128x128 1 := cmpi .eq (shrsi (iota .tc S128x128 32 [0] iota_S128x128_d0_w32) (broadcast S128x128 6#32))
  (shrsi (iota .tc S128x128 32 [1] iota_S128x128_d1_w32) (broadcast S128x128 6#32))
def ltri : FVec Ideal S64x64 .bf16 := truncf .bf16 (sitofp .f32 (extui 32 (cmpi .sge (iota .tc S64x64 32 [0] iota_S64x64_d0_w32)
  (iota .tc S64x64 32 [1] iota_S64x64_d1_w32)) natLt_1_32)) bitsLt_bf16_f32
def hiOf (x : V64) : FVec Ideal S64x128 .bf16 := truncf .bf16 x bitsLt_bf16_f32
def loOf (x : V64) : V64 := subf x (extf .f32 (hiOf x) bitsLt_bf16_f32)
def mmTri (x : FVec Ideal S64x128 .bf16) : V64 :=
  matmul dot_S64x64_S64x128_S64x128_1_0_0_1_n_n none ltri x (constant S64x128 .f32 0x00000000#32)
/-- The decay's logarithm summed down a chunk. -/
def csum (l : V64) : V64 := addf (mmTri (hiOf l)) (addf (mmTri (hiOf (loOf l))) (mmTri (hiOf (loOf (loOf l)))))
def last (c : V64) : R128 := extractStridedSlice S1x128 ![63, 0] c slices_S64x128_o63_0_S1x128

/-- The series inside the blocks of 16. -/
def blkInvV (d : V64) : V64 :=
  let d2 := mm d (stk d)
  let d4 := mm d2 (stk d2)
  let d8 := mm d4 (stk d4)
  let n1 := subf (addf (subf eye64 d) d2) (mm d (stk d2))
  let n2 := addf n1 (mm n1 (stk d4))
  addf n2 (mm n2 (stk d8))
/-- The inverse of one plus a strictly lower triangular matrix, for both heads. -/
def triInvV (l : V64) : V64 :=
  let x := blkInvV (select blkM l zero64)
  let m := mm x (stk (select blkM zero64 l))
  let m2 := mm m (stk m)
  let mx := mm m (stk x)
  addf (subf x mx) (subf (mm m2 (stk x)) (mm m2 (stk mx)))

def aTV (l a : V64) : V64 := mulf a (exp (subf (csum l) l))
def rTV (l r : V64) : V64 := mulf r (exp (csum l))
def invTV (l x : V64) : V64 := mulf x (exp (subf zero64 (csum l)))
def endV (l : V64) : V64 := exp (subf (broadcastTo S64x128 (last (csum l)) broadcasts_S1x128_S64x128) (csum l))
def bktV (l k b : V64) : V128 :=
  transpose S128x128 [1, 0] (cat2 (mulf b (endV l)) (mulf k (endV l))) transposes_S128x128_p1_0_S128x128
def gV (l r a x : V64) : V128 := mmNt (cat2 (aTV l a) (rTV l r)) (stk (invTV l x))
def lABV (l r a b : V64) : V64 := select strictM (subf zero64 (top (gV l r a b))) zero64
def lAKV (l r k a : V64) : V64 := select strictM (top (gV l r a k)) zero64
def mRBV (l r a b : V64) : V64 := select inclM (bot (gV l r a b)) zero64
def mRKV (l r k a : V64) : V64 := select inclM (bot (gV l r a k)) zero64
def pV (l r a b : V64) : V64 := mm (triInvV (lABV l r a b)) (stk (aTV l a))
def qV (l r k v a b : V64) : V64 := mm (triInvV (lABV l r a b)) (stk (mm (lAKV l r k a) (stk v)))
def rHatV (l r a b : V64) : V64 := addf (rTV l r) (mm (mRBV l r a b) (stk (pV l r a b)))
def yHatV (l r k v a b : V64) : V64 := addf (mm (mRBV l r a b) (stk (qV l r k v a b))) (mm (mRKV l r k a) (stk v))
def mmB (x y : V128) : V128 := mmSq (truncf .bf16 x bitsLt_bf16_f32) (truncf .bf16 y bitsLt_bf16_f32)
def transV (l r k a b : V64) : V128 :=
  addf (mulf eye128 (broadcastTo S128x128 (exp (last (csum l))) broadcasts_S1x128_S128x128))
    (select bdM (mmB (bktV l k b) (cat2 (pV l r a b) zero64)) zero128)
def hAddV (l r k v a b : V64) : V128 := select bdM (mmB (bktV l k b) (cat2 (qV l r k v a b) v)) zero128
def loOf128 (x : V128) : V128 := subf x (extf .f32 (truncf .bf16 x bitsLt_bf16_f32 : FVec Ideal S128x128 .bf16) bitsLt_bf16_f32)
def mm3 (x y : V128) : V128 := addf (mmB x y) (addf (mmB x (loOf128 y)) (mmB (loOf128 x) y))
/-- The chunk's outputs from the state it starts with. -/
def chunkY (l r k v a b : V64) (h : V128) : V64 := addf (mm (rHatV l r a b) h) (yHatV l r k v a b)
/-- The state after the chunk. -/
def chunkH (l r k v a b : V64) (h : V128) : V128 := addf (mm3 (transV l r k a b) h) (hAddV l r k v a b)

/-! ## Masks -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sit1 : (FloatOps.sitofp FTy.f32 (1#32) : Ideal .f32) = (1 : EReal) := by
  change ((((1#32 : BitVec 32).toInt : ℤ) : ℝ) : EReal) = 1
  norm_num
theorem sit0 : (FloatOps.sitofp FTy.f32 (0#32) : Ideal .f32) = (0 : EReal) := by
  change ((((0#32 : BitVec 32).toInt : ℤ) : ℝ) : EReal) = 0
  norm_num

/-- Lane `j` of head `h` of a pair. -/
def lane (h : Fin 2) (j : Fin 64) : Fin 128 := ⟨64 * h.val + j.val, by omega⟩

theorem lane_lt (h : Fin 2) (j : Fin 64) : (lane h j).val < 64 ↔ h = 0 := by
  simp only [lane, Fin.ext_iff]; omega

theorem sum_lane {M : Type*} [AddCommMonoid M] (f : Fin 128 → M) : ∑ l, f l = ∑ h : Fin 2, ∑ j : Fin 64, f (lane h j) := by
  rw [Fin.sum_univ_add (a := 64) (b := 64) f, Fin.sum_univ_two]
  congr 1

theorem m0_apply (h : Fin 2) (j : Fin 64) : m0 (ix2 0 (lane h j)) = if h = 0 then (1 : EReal) else 0 := by
  unfold m0
  pointwise
  have : BitVec.setWidth 32 (IntOp.cmpi CmpIPredicate.slt (BitVec.ofNat 32 (lane h j).val) 64#32)
      = if h = 0 then 1#32 else 0#32 := by revert h j; decide +kernel
  rw [this]; split
  · exact sit1
  · exact sit0

theorem m1_apply (h : Fin 2) (j : Fin 64) : m1 (ix2 0 (lane h j)) = if h = 1 then (1 : EReal) else 0 := by
  unfold m1
  pointwise
  rw [m0_apply]
  match h with
  | 0 =>
    simp only [if_true]
    rw [if_neg (by decide)]
    rw [show (1 : EReal) = ((1 : ℝ) : EReal) from rfl, ← EReal.coe_sub, sub_self]; rfl
  | 1 => simp

theorem strictM_apply (i : Fin 64) (h : Fin 2) (j : Fin 64) :
    strictM (ix2 i (lane h j)) = if j.val < i.val then 1#1 else 0#1 := by
  unfold strictM rows cols
  pointwise
  revert i h j
  decide +kernel

theorem inclM_apply (i : Fin 64) (h : Fin 2) (j : Fin 64) :
    inclM (ix2 i (lane h j)) = if j.val ≤ i.val then 1#1 else 0#1 := by
  unfold inclM rows cols
  pointwise
  revert i h j
  decide +kernel

theorem blkM_apply (i : Fin 64) (h : Fin 2) (j : Fin 64) :
    blkM (ix2 i (lane h j)) = if i.val / 16 = j.val / 16 then 1#1 else 0#1 := by
  unfold blkM rows cols
  pointwise
  revert i h j
  decide +kernel

theorem eye64_apply (i : Fin 64) (h : Fin 2) (j : Fin 64) :
    eye64 (ix2 i (lane h j)) = if i = j then (1 : EReal) else 0 := by
  unfold eye64 rows cols
  pointwise
  have : BitVec.setWidth 32 (IntOp.cmpi CmpIPredicate.eq (BitVec.ofNat 32 i.val)
      (IntOp.andi (BitVec.ofNat 32 (lane h j).val) 63#32)) = if i = j then 1#32 else 0#32 := by revert i h j; decide +kernel
  rw [this]; split
  · exact sit1
  · exact sit0

theorem eye128_apply (h : Fin 2) (i : Fin 64) (h' : Fin 2) (j : Fin 64) :
    eye128 (ix2 (lane h i) (lane h' j)) = if h = h' ∧ i = j then (1 : EReal) else 0 := by
  unfold eye128
  pointwise
  have : BitVec.setWidth 32 (IntOp.cmpi CmpIPredicate.eq (BitVec.ofNat 32 (lane h i).val)
      (BitVec.ofNat 32 (lane h' j).val)) = if h = h' ∧ i = j then 1#32 else 0#32 := by revert h i h' j; decide +kernel
  rw [this]; split
  · exact sit1
  · exact sit0

theorem bdM_apply (h : Fin 2) (i : Fin 64) (h' : Fin 2) (j : Fin 64) :
    bdM (ix2 (lane h i) (lane h' j)) = if h = h' then 1#1 else 0#1 := by
  unfold bdM
  pointwise
  revert h i h' j
  decide +kernel

theorem ltri_apply (i j : Fin 64) : ltri (ix2 i j) = if j.val ≤ i.val then (1 : EReal) else 0 := by
  unfold ltri
  pointwise
  have : BitVec.setWidth 32 (IntOp.cmpi CmpIPredicate.sge (BitVec.ofNat 32 i.val)
      (BitVec.ofNat 32 j.val)) = if j.val ≤ i.val then 1#32 else 0#32 := by revert i j; decide +kernel
  rw [this]; split
  · exact sit1
  · exact sit0

end Cert.Wkv
end
-- ==== Proof.WkvItem.lean ====
module

public import proofs.«01_k».proof.Proof.WkvVec

@[expose] public section

/-! The chunk's vectors, read as real matrices. -/

noncomputable section

namespace Cert.Wkv

open Matrix Cert.Kernel6Ideal Cert.Kernel6Ideal.Gen Idealize.ShloMosaic Idealize.ShloMosaic.TcCoe

abbrev Two := Fin 2 → Mat

/-- The vector holds the two heads' matrices side by side. -/
def CatR (X : V64) (M : Two) : Prop := ∀ h i j, X (ix2 i (lane h j)) = ((M h i j : ℝ) : EReal)
/-- The vector holds the two heads' matrices on the diagonal. -/
def BdR (X : V128) (M : Two) : Prop :=
  ∀ h i h' j, X (ix2 (lane h i) (lane h' j)) = if h = h' then ((M h i j : ℝ) : EReal) else 0
/-- The vector holds a row for each head. -/
def RowR (X : R128) (m : Fin 2 → Fin 64 → ℝ) : Prop := ∀ h j, X (ix2 0 (lane h j)) = ((m h j : ℝ) : EReal)

variable {X Y Z : V64} {M N L : Two} {S T : V128}

theorem ite_coe (p : Prop) [Decidable p] (x : ℝ) : (if p then (x : EReal) else 0) = (((if p then x else 0 : ℝ)) : EReal) := by
  split <;> simp

theorem sel1 {α : Type} (x y : α) : Scalar.select (1#1) x y = x := rfl
theorem sel0 {α : Type} (x y : α) : Scalar.select (0#1) x y = y := rfl

theorem CatR.add (hX : CatR X M) (hY : CatR Y N) : CatR (addf X Y) (fun h => M h + N h) := by
  intro h i j
  pointwise
  rw [hX, hY, ← EReal.coe_add, Matrix.add_apply]
theorem CatR.sub (hX : CatR X M) (hY : CatR Y N) : CatR (subf X Y) (fun h => M h - N h) := by
  intro h i j
  pointwise
  rw [hX, hY, ← EReal.coe_sub, Matrix.sub_apply]
theorem CatR.mul (hX : CatR X M) (hY : CatR Y N) : CatR (mulf X Y) (fun h i j => M h i j * N h i j) := by
  intro h i j
  pointwise
  rw [hX, hY, ← EReal.coe_mul]
theorem CatR.exp (hX : CatR X M) : CatR (exp X) (fun h i j => Real.exp (M h i j)) := by
  intro h i j
  pointwise
  rw [hX, Ideal.exp_coe]
theorem CatR.zero : CatR zero64 (fun _ => 0) := by
  intro h i j
  unfold zero64
  pointwise
  simp
theorem CatR.eye : CatR eye64 (fun _ => 1) := by
  intro h i j
  rw [eye64_apply]
  change _ = (((1 : Mat) i j : ℝ) : EReal)
  rw [Matrix.one_apply]
  split <;> simp

theorem CatR.stk (hX : CatR X M) : BdR (stk X) M := by
  intro h i h' j
  unfold Wkv.stk
  pointwise
  have e0 : ∀ p : (lane h i).val < 64, h = 0 → (⟨(lane h i).val, p⟩ : Fin 64) = i := fun p e => by
    subst e; exact Fin.ext (by simp [lane])
  have e1 : ∀ p : (lane h i).val - 64 < 64, h = 1 → (⟨(lane h i).val - 64, p⟩ : Fin 64) = i := fun p e => by
    subst e; exact Fin.ext (by simp [lane])
  match h, h' with
  | 0, 0 => rw [dif_pos ((lane_lt _ _).2 rfl), e0 _ rfl, hX, m0_apply]; simp
  | 0, 1 => rw [dif_pos ((lane_lt _ _).2 rfl), e0 _ rfl, hX, m0_apply]; simp
  | 1, 0 => rw [dif_neg (by rw [lane_lt]; simp), e1 _ rfl, hX, m1_apply]; simp
  | 1, 1 => rw [dif_neg (by rw [lane_lt]; simp), e1 _ rfl, hX, m1_apply]; simp

theorem CatR.mm (hX : CatR X M) (hT : BdR T N) : CatR (mm X T) (fun h => M h * N h) := by
  intro h i j
  unfold Wkv.mm
  pointwise
  rw [sum_lane, Matrix.mul_apply, coe_sum]
  simp only [hX _ _ _, hT _ _ _ _]
  match h with
  | 0 => simp [EReal.coe_mul]
  | 1 => simp [EReal.coe_mul]

theorem CatR.selStrict (hX : CatR X M) : CatR (select strictM X zero64) (fun h => strict (M h)) := by
  intro h i j
  pointwise
  rw [strictM_apply, hX, CatR.zero]
  unfold strict
  split <;> simp_all [sel1, sel0]
theorem CatR.selIncl (hX : CatR X M) : CatR (select inclM X zero64) (fun h => incl (M h)) := by
  intro h i j
  pointwise
  rw [inclM_apply, hX, CatR.zero]
  unfold incl
  split <;> simp_all [sel1, sel0]
theorem CatR.selIn (hX : CatR X M) : CatR (select blkM X zero64) (fun h => inBlk (M h)) := by
  intro h i j
  pointwise
  rw [blkM_apply, hX, CatR.zero]
  unfold inBlk
  split <;> simp_all [sel1, sel0]
theorem CatR.selOff (hX : CatR X M) : CatR (select blkM zero64 X) (fun h => offBlk (M h)) := by
  intro h i j
  pointwise
  rw [blkM_apply, hX, CatR.zero]
  unfold offBlk
  split <;> simp_all [sel1, sel0]

theorem CatR.blkInv (hX : CatR X M) : CatR (blkInvV X) (fun h => blkInv (M h)) := by
  have d2 := hX.mm hX.stk
  have d4 := d2.mm d2.stk
  have d8 := d4.mm d4.stk
  have n1 := ((CatR.eye.sub hX).add d2).sub (hX.mm d2.stk)
  have n2 := n1.add (n1.mm d4.stk)
  exact n2.add (n2.mm d8.stk)

theorem CatR.triInv (hX : CatR X M) : CatR (triInvV X) (fun h => triInv (M h)) := by
  have x := hX.selIn.blkInv
  have m := x.mm hX.selOff.stk
  have m2 := m.mm m.stk
  have mx := m.mm x.stk
  exact (x.sub mx).add ((m2.mm x.stk).sub (m2.mm mx.stk))

theorem CatR.lo (hX : CatR X M) : CatR (loOf X) (fun _ => 0) := by
  intro h i j
  unfold loOf hiOf
  pointwise
  rw [hX, ← EReal.coe_sub, sub_self]; rfl

theorem CatR.tri (hX : CatR X M) : CatR (mmTri (hiOf X)) (fun h => cs (M h)) := by
  intro h i j
  unfold mmTri hiOf
  pointwise
  simp only [ltri_apply, hX _ _ _, cs, cum]
  rw [coe_sum]
  refine Finset.sum_congr rfl fun s _ => ?_
  by_cases c : s.val ≤ i.val
  · rw [if_pos c, if_pos (by omega), one_mul]
  · rw [if_neg c, if_neg (by omega), zero_mul]; rfl

theorem cs_zero : cs (0 : Mat) = 0 := by
  funext t j; simp [cs, cum]

theorem CatR.csum (hX : CatR X M) : CatR (csum X) (fun h => cs (M h)) := by
  have := hX.tri.add (hX.lo.tri.add hX.lo.lo.tri)
  simp only [cs_zero, add_zero] at this
  exact this

theorem CatR.last (hX : CatR X M) : RowR (last X) (fun h => M h (Fin.last 63)) := by
  intro h j
  unfold Wkv.last
  pointwise
  exact hX h (Fin.last 63) j

section
variable {l r k v a b : V64} {l' r' k' v' a' b' : Two}
variable (hl : CatR l l') (hr : CatR r r') (hk : CatR k k') (hv : CatR v v') (ha : CatR a a') (hb : CatR b b')
include hl

include ha in
theorem aTV_eq : CatR (aTV l a) (fun h => aT (l' h) (a' h)) := ha.mul (hl.csum.sub hl).exp
include hr in
theorem rTV_eq : CatR (rTV l r) (fun h => rT (l' h) (r' h)) := hr.mul hl.csum.exp
theorem invTV_eq {x : V64} {x' : Two} (hx : CatR x x') : CatR (invTV l x) (fun h => invT (l' h) (x' h)) := by
  have := hx.mul (CatR.zero.sub hl.csum).exp
  simp only [zero_sub] at this
  exact this
theorem endV_eq : CatR (endV l) (fun h t j => Real.exp (cs (l' h) (Fin.last 63) j - cs (l' h) t j)) := by
  refine CatR.exp (M := fun h => (Matrix.of fun _ j => cs (l' h) (Fin.last 63) j) - cs (l' h)) (CatR.sub (fun h i j => ?_) hl.csum)
  pointwise
  exact hl.csum.last h j
theorem endT_eq {x : V64} {x' : Two} (hx : CatR x x') : CatR (mulf x (endV l)) (fun h => endT (l' h) (x' h)) := hx.mul (endV_eq hl)
end

/-- Rows of the first part times the diagonal's transpose. -/
theorem top_mmNt (hX : CatR X M) (hT : BdR T N) : CatR (top (mmNt (cat2 X Y) T)) (fun h => M h * (N h)ᵀ) := by
  intro h i j
  unfold top mmNt cat2
  pointwise
  rw [sum_lane, Matrix.mul_apply, coe_sum]
  simp only [hX _ _ _, hT _ _ _ _, Matrix.transpose_apply]
  match h with
  | 0 => simp [EReal.coe_mul]
  | 1 => simp [EReal.coe_mul]
theorem bot_mmNt (hY : CatR Y M) (hT : BdR T N) : CatR (bot (mmNt (cat2 X Y) T)) (fun h => M h * (N h)ᵀ) := by
  intro h i j
  unfold bot mmNt cat2
  pointwise
  rw [sum_lane, Matrix.mul_apply, coe_sum]
  simp only [hY _ _ _, hT _ _ _ _, Matrix.transpose_apply]
  match h with
  | 0 => simp [EReal.coe_mul]
  | 1 => simp [EReal.coe_mul]

theorem sel_bkt {B K P V : V64} {B' K' P' V' : Two} (hB : CatR B B') (hK : CatR K K') (hP : CatR P P') (hV : CatR V V') :
    BdR (select bdM (mmB (transpose S128x128 [1, 0] (cat2 B K) transposes_S128x128_p1_0_S128x128) (cat2 P V)) zero128)
      (fun h => (B' h)ᵀ * P' h + (K' h)ᵀ * V' h) := by
  intro h i h' j
  unfold mmB mmSq cat2 zero128
  pointwise
  rw [bdM_apply]
  by_cases e : h = h'
  · subst e
    rw [if_pos rfl, if_pos rfl, sel1, Matrix.add_apply, Matrix.mul_apply, Matrix.mul_apply, EReal.coe_add, coe_sum, coe_sum]
    simp only [hB _ _ _, hK _ _ _, hP _ _ _, hV _ _ _, Matrix.transpose_apply, EReal.coe_mul]
  · rw [if_neg e, if_neg e, sel0]

theorem BdR.add (hS : BdR S M) (hT : BdR T N) : BdR (addf S T) (fun h => M h + N h) := by
  intro h i h' j
  pointwise
  rw [hS, hT]
  split
  · rw [← EReal.coe_add, Matrix.add_apply]
  · simp
theorem eye_row {R : R128} {m : Fin 2 → Fin 64 → ℝ} (hR : RowR R m) :
    BdR (mulf eye128 (broadcastTo S128x128 R broadcasts_S1x128_S128x128)) (fun h => Matrix.diagonal (m h)) := by
  intro h i h' j
  pointwise
  rw [eye128_apply, hR, Matrix.diagonal_apply]
  by_cases e : h = h'
  · by_cases f : i = j
    · simp [e, f]
    · simp [f]
  · simp [e]
theorem BdR.lo (hS : BdR S M) : BdR (loOf128 S) (fun _ => 0) := by
  intro h i h' j
  unfold loOf128
  pointwise
  rw [hS]
  split
  · rw [← EReal.coe_sub, sub_self]; rfl
  · simp
theorem BdR.mmB (hS : BdR S M) (hT : BdR T N) : BdR (mmB S T) (fun h => M h * N h) := by
  intro h i h' j
  unfold Wkv.mmB mmSq
  pointwise
  rw [sum_lane, Matrix.mul_apply, coe_sum]
  simp only [hS _ _ _ _, hT _ _ _ _]
  match h, h' with
  | 0, 0 => simp [EReal.coe_mul]
  | 1, 1 => simp [EReal.coe_mul]
  | 0, 1 => simp
  | 1, 0 => simp
theorem BdR.mm3 (hS : BdR S M) (hT : BdR T N) : BdR (mm3 S T) (fun h => M h * N h) := by
  have := (hS.mmB hT).add ((hS.mmB hT.lo).add (hS.lo.mmB hT))
  simp only [mul_zero, zero_mul, add_zero] at this
  exact this

section
variable {l r k v a b : V64} {l' r' k' v' a' b' : Two}
variable (hl : CatR l l') (hr : CatR r r') (hk : CatR k k') (hv : CatR v v') (ha : CatR a a') (hb : CatR b b')
include hl hr ha

include hb in
theorem lABV_eq : CatR (lABV l r a b) (fun h => lAB (l' h) (a' h) (b' h)) := by
  have := (CatR.zero.sub (top_mmNt (Y := rTV l r) (aTV_eq hl ha) (invTV_eq hl hb).stk)).selStrict
  simp only [zero_sub] at this
  exact this
include hk in
theorem lAKV_eq : CatR (lAKV l r k a) (fun h => lAK (l' h) (k' h) (a' h)) :=
  (top_mmNt (Y := rTV l r) (aTV_eq hl ha) (invTV_eq hl hk).stk).selStrict
include hb in
theorem mRBV_eq : CatR (mRBV l r a b) (fun h => mRB (l' h) (r' h) (b' h)) :=
  (bot_mmNt (X := aTV l a) (rTV_eq hl hr) (invTV_eq hl hb).stk).selIncl
include hk in
theorem mRKV_eq : CatR (mRKV l r k a) (fun h => mRK (l' h) (r' h) (k' h)) :=
  (bot_mmNt (X := aTV l a) (rTV_eq hl hr) (invTV_eq hl hk).stk).selIncl
include hb in
theorem pV_eq : CatR (pV l r a b) (fun h => pMat (l' h) (a' h) (b' h)) :=
  (lABV_eq hl hr ha hb).triInv.mm (aTV_eq hl ha).stk
include hb hk hv in
theorem qV_eq : CatR (qV l r k v a b) (fun h => qMat (l' h) (k' h) (v' h) (a' h) (b' h)) :=
  (lABV_eq hl hr ha hb).triInv.mm ((lAKV_eq hl hr hk ha).mm hv.stk).stk
include hb in
theorem rHatV_eq : CatR (rHatV l r a b) (fun h => rHat (l' h) (r' h) (a' h) (b' h)) :=
  (rTV_eq hl hr).add ((mRBV_eq hl hr ha hb).mm (pV_eq hl hr ha hb).stk)
include hb hk hv in
theorem yHatV_eq : CatR (yHatV l r k v a b) (fun h => yHat (l' h) (r' h) (k' h) (v' h) (a' h) (b' h)) :=
  ((mRBV_eq hl hr ha hb).mm (qV_eq hl hr hk hv ha hb).stk).add ((mRKV_eq hl hr hk ha).mm hv.stk)
include hb hk in
theorem transV_eq : BdR (transV l r k a b) (fun h => transM (l' h) (a' h) (b' h)) := by
  have h1 := eye_row (m := fun h j => Real.exp (cs (l' h) (Fin.last 63) j)) (R := exp (last (csum l))) (fun h j => by
    pointwise
    rw [hl.csum.last, Ideal.exp_coe])
  have := h1.add (sel_bkt (endT_eq hl hb) (endT_eq hl hk) (pV_eq hl hr ha hb) CatR.zero)
  simp only [mul_zero, add_zero] at this
  exact this
include hb hk hv in
theorem hAddV_eq : BdR (hAddV l r k v a b) (fun h => hAdd (l' h) (k' h) (v' h) (a' h) (b' h)) :=
  sel_bkt (endT_eq hl hb) (endT_eq hl hk) (qV_eq hl hr hk hv ha hb) hv
include hb hk hv in
theorem chunkY_eq {H : V128} {H' : Two} (hH : BdR H H') : CatR (chunkY l r k v a b H)
    (fun h => rHat (l' h) (r' h) (a' h) (b' h) * H' h + yHat (l' h) (r' h) (k' h) (v' h) (a' h) (b' h)) :=
  ((rHatV_eq hl hr ha hb).mm hH).add (yHatV_eq hl hr hk hv ha hb)
include hb hk hv in
theorem chunkH_eq {H : V128} {H' : Two} (hH : BdR H H') : BdR (chunkH l r k v a b H)
    (fun h => transM (l' h) (a' h) (b' h) * H' h + hAdd (l' h) (k' h) (v' h) (a' h) (b' h)) :=
  ((transV_eq hl hr hk ha hb).mm3 hH).add (hAddV_eq hl hr hk hv ha hb)
end

end Cert.Wkv
end
-- ==== Proof.WkvPoint.lean ====
module

public import proofs.«01_k».proof.Proof.WkvItem

@[expose] public section

/-! One grid point of the recurrence: eight chunks for each pair of heads, then the group norm, the bonus and the gate. -/

noncomputable section

namespace Cert.Wkv

open Cert.Kernel6Ideal Cert.Kernel6Ideal.Gen Idealize.ShloMosaic Idealize.ShloMosaic.TcCoe

abbrev T512 := FVec Ideal S512x128 .f32

def tile (x : FVec Ideal S1x512x128 .bf16) : T512 := extf .f32 (shapeCast S512x128 x shapeCasts_S1x512x128_S512x128) bitsLt_bf16_f32
def lowM : IVec S1x128 1 := cmpi .slt (iota .tc S1x128 32 [1] iota_S1x128_d1_w32) (broadcast S1x128 64#32)
def rowSum (x : T512) : T512 :=
  broadcastTo S512x128 (shapeCast S512x1 (shapeCast S512x1 (multiReduction .add [1] S512 x 0x00000000#32 reduces_S512x128_S512 (.inl rfl) rfl)
    shapeCasts_S512_S512x1) shapeCasts_S512x1_S512x1) broadcasts_S512x1_S512x128
/-- Every lane's head summed. -/
def segSum (x : T512) : T512 :=
  select (broadcastTo S512x128 (shapeCast S1x128 lowM shapeCasts_S1x128_S1x128) broadcasts_S1x128_S512x128)
    (rowSum (mulf x (broadcastTo S512x128 m0 broadcasts_S1x128_S512x128)))
    (rowSum (mulf x (broadcastTo S512x128 m1 broadcasts_S1x128_S512x128)))
def splat (b : BitVec 32) : T512 := broadcast S512x128 (Scalar.ofBits .f32 b)
def unitV (k : T512) : T512 := mulf k (rsqrt (addf (segSum (mulf k k)) (splat 0x2B8CBCCC#32)))
def aAll (kk : T512) : T512 := subf (splat 0x00000000#32) (unitV kk)
def bAll (kk a : T512) : T512 := mulf (unitV kk) a

def slc : ℕ → T512 → V64
  | 0 => fun x => extractStridedSlice S64x128 ![0, 0] x slices_S512x128_o0_0_S64x128
  | 1 => fun x => extractStridedSlice S64x128 ![64, 0] x slices_S512x128_o64_0_S64x128
  | 2 => fun x => extractStridedSlice S64x128 ![128, 0] x slices_S512x128_o128_0_S64x128
  | 3 => fun x => extractStridedSlice S64x128 ![192, 0] x slices_S512x128_o192_0_S64x128
  | 4 => fun x => extractStridedSlice S64x128 ![256, 0] x slices_S512x128_o256_0_S64x128
  | 5 => fun x => extractStridedSlice S64x128 ![320, 0] x slices_S512x128_o320_0_S64x128
  | 6 => fun x => extractStridedSlice S64x128 ![384, 0] x slices_S512x128_o384_0_S64x128
  | _ => fun x => extractStridedSlice S64x128 ![448, 0] x slices_S512x128_o448_0_S64x128

/-- The state before chunk `n`. -/
def hAt (l : ℕ → V64) (r k v a b : T512) (s : V128) : ℕ → V128
  | 0 => s
  | n + 1 => chunkH (l n) (slc n r) (slc n k) (slc n v) (slc n a) (slc n b) (hAt l r k v a b s n)
/-- The outputs of chunk `n`. -/
def yAt (l : ℕ → V64) (r k v a b : T512) (s : V128) (n : ℕ) : V64 :=
  chunkY (l n) (slc n r) (slc n k) (slc n v) (slc n a) (slc n b) (hAt l r k v a b s n)
def yAll (l : ℕ → V64) (r k v a b : T512) (s : V128) : T512 :=
  concatenate S512x128 0 [⟨S64x128, yAt l r k v a b s 0⟩, ⟨S64x128, yAt l r k v a b s 1⟩, ⟨S64x128, yAt l r k v a b s 2⟩,
    ⟨S64x128, yAt l r k v a b s 3⟩, ⟨S64x128, yAt l r k v a b s 4⟩, ⟨S64x128, yAt l r k v a b s 5⟩, ⟨S64x128, yAt l r k v a b s 6⟩,
    ⟨S64x128, yAt l r k v a b s 7⟩] concatenates_S64x128_S64x128_S64x128_S64x128_S64x128_S64x128_S64x128_S64x128_S512x128_d0

def row1 (w : R128) : T512 := broadcastTo S512x128 (shapeCast S1x128 w shapeCasts_S1x128_S1x128) broadcasts_S1x128_S512x128
def dlt (y : T512) : T512 := subf y (mulf (segSum y) (splat 0x3C800000#32))
def gnorm (y : T512) (w b : R128) : T512 :=
  addf (mulf (mulf (dlt y) (rsqrt (addf (mulf (segSum (mulf (dlt y) (dlt y))) (splat 0x3C800000#32)) (splat 0x3A27C5AC#32)))) (row1 w)) (row1 b)
/-- What the point writes for a pair. -/
def outV (y r k v g : T512) (w b rk : R128) : FVec Ideal S1x512x128 .bf16 :=
  shapeCast S1x512x128 (truncf .bf16 (mulf (addf (gnorm y w b) (mulf (segSum (mulf (mulf r k) (row1 rk))) v)) g) bitsLt_bf16_f32 : FVec Ideal S512x128 .bf16)
    shapeCasts_S512x128_S1x512x128

end Cert.Wkv
end
-- ==== Proof.WkvLd.lean ====
module

public import proofs.«01_k».proof.Proof.WkvPoint

@[expose] public section

/-! The vectors of one grid point, from the blocks it loads. -/

noncomputable section

namespace Cert.Wkv

open Cert.Kernel6Ideal Cert.Kernel6Ideal.Gen Idealize.ShloMosaic Idealize.ShloMosaic.TcCoe

abbrev B16 := Vec Ideal S1x512x256 .bf16
abbrev B32 := Vec Ideal S1x512x256 .f32
abbrev BSt := Vec Ideal S2x128x128 .f32

def tl0 (x : B16) : T512 := tile (View.ld (Val := Elt Ideal) x (Rect.unit ![0, 0, 0] S1x512x128.size inb_S1x512x256_S1x512x128_0_0_0))
def rw0 (x : Vec Ideal S1x256 .f32) : R128 := View.ld (Val := Elt Ideal) x (Rect.unit (s := S1x256) ![0, 0] S1x128.size inb_S1x256_S1x128_0_0)
def st0 (x : BSt) : V128 :=
  shapeCast S128x128 (View.ld (Val := Elt Ideal) x (Rect.unit ![0, 0, 0] S1x128x128.size inb_S2x128x128_S1x128x128_0_0_0)) shapeCasts_S1x128x128_S128x128
def lw0 (x : B32) : ℕ → V64
  | 0 => shapeCast S64x128 (View.ld (Val := Elt Ideal) x (Rect.unit ![0, 0, 0] S1x64x128.size inb_S1x512x256_S1x64x128_0_0_0)) shapeCasts_S1x64x128_S64x128
  | 1 => shapeCast S64x128 (View.ld (Val := Elt Ideal) x (Rect.unit ![0, 64, 0] S1x64x128.size inb_S1x512x256_S1x64x128_0_64_0)) shapeCasts_S1x64x128_S64x128
  | 2 => shapeCast S64x128 (View.ld (Val := Elt Ideal) x (Rect.unit ![0, 128, 0] S1x64x128.size inb_S1x512x256_S1x64x128_0_128_0)) shapeCasts_S1x64x128_S64x128
  | 3 => shapeCast S64x128 (View.ld (Val := Elt Ideal) x (Rect.unit ![0, 192, 0] S1x64x128.size inb_S1x512x256_S1x64x128_0_192_0)) shapeCasts_S1x64x128_S64x128
  | 4 => shapeCast S64x128 (View.ld (Val := Elt Ideal) x (Rect.unit ![0, 256, 0] S1x64x128.size inb_S1x512x256_S1x64x128_0_256_0)) shapeCasts_S1x64x128_S64x128
  | 5 => shapeCast S64x128 (View.ld (Val := Elt Ideal) x (Rect.unit ![0, 320, 0] S1x64x128.size inb_S1x512x256_S1x64x128_0_320_0)) shapeCasts_S1x64x128_S64x128
  | 6 => shapeCast S64x128 (View.ld (Val := Elt Ideal) x (Rect.unit ![0, 384, 0] S1x64x128.size inb_S1x512x256_S1x64x128_0_384_0)) shapeCasts_S1x64x128_S64x128
  | _ => shapeCast S64x128 (View.ld (Val := Elt Ideal) x (Rect.unit ![0, 448, 0] S1x64x128.size inb_S1x512x256_S1x64x128_0_448_0)) shapeCasts_S1x64x128_S64x128
def ptH0 (x0 x1 x2 : B16) (x3 : B32) (x4 x5 : B16) (s : V128) : V128 :=
  hAt (lw0 x3) (tl0 x0) (tl0 x1) (tl0 x2) (aAll (tl0 x4)) (bAll (tl0 x4) (tl0 x5)) s 8
def ptO0 (x0 x1 x2 : B16) (x3 : B32) (x4 x5 x6 : B16) (x7 x8 x9 : Vec Ideal S1x256 .f32) (s : V128) : FVec Ideal S1x512x128 .bf16 :=
  outV (yAll (lw0 x3) (tl0 x0) (tl0 x1) (tl0 x2) (aAll (tl0 x4)) (bAll (tl0 x4) (tl0 x5)) s) (tl0 x0) (tl0 x1) (tl0 x2) (tl0 x6)
    (rw0 x7) (rw0 x8) (rw0 x9)

def tl1 (x : B16) : T512 := tile (View.ld (Val := Elt Ideal) x (Rect.unit ![0, 0, 128] S1x512x128.size inb_S1x512x256_S1x512x128_0_0_128))
def rw1 (x : Vec Ideal S1x256 .f32) : R128 := View.ld (Val := Elt Ideal) x (Rect.unit (s := S1x256) ![0, 128] S1x128.size inb_S1x256_S1x128_0_128)
def st1 (x : BSt) : V128 :=
  shapeCast S128x128 (View.ld (Val := Elt Ideal) x (Rect.unit ![1, 0, 0] S1x128x128.size inb_S2x128x128_S1x128x128_1_0_0)) shapeCasts_S1x128x128_S128x128
def lw1 (x : B32) : ℕ → V64
  | 0 => shapeCast S64x128 (View.ld (Val := Elt Ideal) x (Rect.unit ![0, 0, 128] S1x64x128.size inb_S1x512x256_S1x64x128_0_0_128)) shapeCasts_S1x64x128_S64x128
  | 1 => shapeCast S64x128 (View.ld (Val := Elt Ideal) x (Rect.unit ![0, 64, 128] S1x64x128.size inb_S1x512x256_S1x64x128_0_64_128)) shapeCasts_S1x64x128_S64x128
  | 2 => shapeCast S64x128 (View.ld (Val := Elt Ideal) x (Rect.unit ![0, 128, 128] S1x64x128.size inb_S1x512x256_S1x64x128_0_128_128)) shapeCasts_S1x64x128_S64x128
  | 3 => shapeCast S64x128 (View.ld (Val := Elt Ideal) x (Rect.unit ![0, 192, 128] S1x64x128.size inb_S1x512x256_S1x64x128_0_192_128)) shapeCasts_S1x64x128_S64x128
  | 4 => shapeCast S64x128 (View.ld (Val := Elt Ideal) x (Rect.unit ![0, 256, 128] S1x64x128.size inb_S1x512x256_S1x64x128_0_256_128)) shapeCasts_S1x64x128_S64x128
  | 5 => shapeCast S64x128 (View.ld (Val := Elt Ideal) x (Rect.unit ![0, 320, 128] S1x64x128.size inb_S1x512x256_S1x64x128_0_320_128)) shapeCasts_S1x64x128_S64x128
  | 6 => shapeCast S64x128 (View.ld (Val := Elt Ideal) x (Rect.unit ![0, 384, 128] S1x64x128.size inb_S1x512x256_S1x64x128_0_384_128)) shapeCasts_S1x64x128_S64x128
  | _ => shapeCast S64x128 (View.ld (Val := Elt Ideal) x (Rect.unit ![0, 448, 128] S1x64x128.size inb_S1x512x256_S1x64x128_0_448_128)) shapeCasts_S1x64x128_S64x128
def ptH1 (x0 x1 x2 : B16) (x3 : B32) (x4 x5 : B16) (s : V128) : V128 :=
  hAt (lw1 x3) (tl1 x0) (tl1 x1) (tl1 x2) (aAll (tl1 x4)) (bAll (tl1 x4) (tl1 x5)) s 8
def ptO1 (x0 x1 x2 : B16) (x3 : B32) (x4 x5 x6 : B16) (x7 x8 x9 : Vec Ideal S1x256 .f32) (s : V128) : FVec Ideal S1x512x128 .bf16 :=
  outV (yAll (lw1 x3) (tl1 x0) (tl1 x1) (tl1 x2) (aAll (tl1 x4)) (bAll (tl1 x4) (tl1 x5)) s) (tl1 x0) (tl1 x1) (tl1 x2) (tl1 x6)
    (rw1 x7) (rw1 x8) (rw1 x9)

def cat8 (y0 y1 y2 y3 y4 y5 y6 y7 : V64) : T512 :=
  concatenate S512x128 0 [⟨S64x128, y0⟩, ⟨S64x128, y1⟩, ⟨S64x128, y2⟩, ⟨S64x128, y3⟩, ⟨S64x128, y4⟩, ⟨S64x128, y5⟩, ⟨S64x128, y6⟩, ⟨S64x128, y7⟩]
    concatenates_S64x128_S64x128_S64x128_S64x128_S64x128_S64x128_S64x128_S64x128_S512x128_d0

def zst : BSt := k0_pay2 (F := Ideal)

end Cert.Wkv
end
-- ==== Proof.WkvRun.lean ====
module

public import proofs.«01_k».proof.Proof.WkvLd

@[expose] public section

/-! What a grid point computes on real inputs: the recurrence over its 512 tokens. -/

noncomputable section

namespace Cert.Wkv

open Cert.Kernel6Ideal Cert.Kernel6Ideal.Gen Idealize.ShloMosaic Idealize.ShloMosaic.TcCoe

/-! ## The recurrence of one head -/

/-- The rows a head reads, by token: receptance, key, value, log decay, and the two vectors of the delta rule. -/
structure Strm where
  (r k v l a b : ℕ → Fin 64 → ℝ)

/-- The state before token `n`, key channel first. -/
def Strm.H (s : Strm) : ℕ → Mat
  | 0 => 0
  | n + 1 => stepH (fun j => Real.exp (s.l n j)) (s.a n) (s.b n) (s.k n) (s.v n) (s.H n)
/-- The output of token `n`. -/
def Strm.y (s : Strm) (n : ℕ) (i : Fin 64) : ℝ := ∑ j, s.H (n + 1) j i * s.r n j

/-- The 64 rows from token `T`. -/
def rowsAt (f : ℕ → Fin 64 → ℝ) (T : ℕ) : Mat := fun i j => f (T + i.val) j

theorem Strm.H_chunk (s : Strm) (T : ℕ) : s.H (T + 64) =
    transM (rowsAt s.l T) (rowsAt s.a T) (rowsAt s.b T) * s.H T
      + hAdd (rowsAt s.l T) (rowsAt s.k T) (rowsAt s.v T) (rowsAt s.a T) (rowsAt s.b T) :=
  chunk_H (H := fun n => s.H (T + n)) (fun _ => rfl)
theorem Strm.y_chunk (s : Strm) (T : ℕ) (t i : Fin 64) : s.y (T + t.val) i =
    (rHat (rowsAt s.l T) (rowsAt s.r T) (rowsAt s.a T) (rowsAt s.b T) * s.H T
      + yHat (rowsAt s.l T) (rowsAt s.r T) (rowsAt s.k T) (rowsAt s.v T) (rowsAt s.a T) (rowsAt s.b T)) t i :=
  chunk_y (H := fun n => s.H (T + n)) (r := rowsAt s.r T) (fun _ => rfl) t i

/-! ## Tiles of 512 tokens -/

/-- The tile holds the rows `f` of its two heads, from token `T`. -/
def TR (X : T512) (f : Fin 2 → ℕ → Fin 64 → ℝ) (T : ℕ) : Prop :=
  ∀ (t : Fin 512) h j, X (ix2 t (lane h j)) = ((f h (T + t.val) j : ℝ) : EReal)

theorem slc0_apply (X : T512) (i : Fin 64) (q : Fin 128) : slc 0 X (ix2 i q) = X (ix2 ⟨64 * 0 + i.val, by omega⟩ q) := by
  unfold slc
  pointwise
theorem slc1_apply (X : T512) (i : Fin 64) (q : Fin 128) : slc 1 X (ix2 i q) = X (ix2 ⟨64 * 1 + i.val, by omega⟩ q) := by
  unfold slc
  pointwise
theorem slc2_apply (X : T512) (i : Fin 64) (q : Fin 128) : slc 2 X (ix2 i q) = X (ix2 ⟨64 * 2 + i.val, by omega⟩ q) := by
  unfold slc
  pointwise
theorem slc3_apply (X : T512) (i : Fin 64) (q : Fin 128) : slc 3 X (ix2 i q) = X (ix2 ⟨64 * 3 + i.val, by omega⟩ q) := by
  unfold slc
  pointwise
theorem slc4_apply (X : T512) (i : Fin 64) (q : Fin 128) : slc 4 X (ix2 i q) = X (ix2 ⟨64 * 4 + i.val, by omega⟩ q) := by
  unfold slc
  pointwise
theorem slc5_apply (X : T512) (i : Fin 64) (q : Fin 128) : slc 5 X (ix2 i q) = X (ix2 ⟨64 * 5 + i.val, by omega⟩ q) := by
  unfold slc
  pointwise
theorem slc6_apply (X : T512) (i : Fin 64) (q : Fin 128) : slc 6 X (ix2 i q) = X (ix2 ⟨64 * 6 + i.val, by omega⟩ q) := by
  unfold slc
  pointwise
theorem slc7_apply (X : T512) (i : Fin 64) (q : Fin 128) : slc 7 X (ix2 i q) = X (ix2 ⟨64 * 7 + i.val, by omega⟩ q) := by
  unfold slc
  pointwise

theorem slc_apply (n : ℕ) (hn : n < 8) (X : T512) (i : Fin 64) (q : Fin 128) :
    slc n X (ix2 i q) = X (ix2 ⟨64 * n + i.val, by omega⟩ q) := by
  match n, hn with
  | 0, _ => exact slc0_apply X i q
  | 1, _ => exact slc1_apply X i q
  | 2, _ => exact slc2_apply X i q
  | 3, _ => exact slc3_apply X i q
  | 4, _ => exact slc4_apply X i q
  | 5, _ => exact slc5_apply X i q
  | 6, _ => exact slc6_apply X i q
  | 7, _ => exact slc7_apply X i q
  | n + 8, h => exact absurd h (by omega)

theorem TR.slc {X : T512} {f : Fin 2 → ℕ → Fin 64 → ℝ} {T : ℕ} (hX : TR X f T) (n : ℕ) (hn : n < 8) :
    CatR (slc n X) (fun h => rowsAt (f h) (T + 64 * n)) := by
  intro h i j
  rw [slc_apply n hn, hX]
  simp only [rowsAt, Nat.add_assoc]

theorem cat8_apply (y : ℕ → V64) (n : ℕ) (hn : n < 8) (i : Fin 64) (q : Fin 128) :
    cat8 (y 0) (y 1) (y 2) (y 3) (y 4) (y 5) (y 6) (y 7) (ix2 ⟨64 * n + i.val, by omega⟩ q) = y n (ix2 i q) := by
  unfold cat8
  pointwise
  match n, hn with
  | 0, _ =>
    rw [dif_pos (by omega)]
    exact congrArg (fun z => y 0 (ix2 z q)) (Fin.ext (by simp only; omega))
  | 1, _ =>
    rw [dif_neg (by omega), dif_pos (by omega)]
    exact congrArg (fun z => y 1 (ix2 z q)) (Fin.ext (by simp only; omega))
  | 2, _ =>
    rw [dif_neg (by omega), dif_neg (by omega), dif_pos (by omega)]
    exact congrArg (fun z => y 2 (ix2 z q)) (Fin.ext (by simp only; omega))
  | 3, _ =>
    rw [dif_neg (by omega), dif_neg (by omega), dif_neg (by omega), dif_pos (by omega)]
    exact congrArg (fun z => y 3 (ix2 z q)) (Fin.ext (by simp only; omega))
  | 4, _ =>
    rw [dif_neg (by omega), dif_neg (by omega), dif_neg (by omega), dif_neg (by omega), dif_pos (by omega)]
    exact congrArg (fun z => y 4 (ix2 z q)) (Fin.ext (by simp only; omega))
  | 5, _ =>
    rw [dif_neg (by omega), dif_neg (by omega), dif_neg (by omega), dif_neg (by omega), dif_neg (by omega), dif_pos (by omega)]
    exact congrArg (fun z => y 5 (ix2 z q)) (Fin.ext (by simp only; omega))
  | 6, _ =>
    rw [dif_neg (by omega), dif_neg (by omega), dif_neg (by omega), dif_neg (by omega), dif_neg (by omega), dif_neg (by omega), dif_pos (by omega)]
    exact congrArg (fun z => y 6 (ix2 z q)) (Fin.ext (by simp only; omega))
  | 7, _ =>
    rw [dif_neg (by omega), dif_neg (by omega), dif_neg (by omega), dif_neg (by omega), dif_neg (by omega), dif_neg (by omega), dif_neg (by omega)]
    exact congrArg (fun z => y 7 (ix2 z q)) (Fin.ext (by simp only; omega))
  | n + 8, h => exact absurd h (by omega)

section Point

variable {l : ℕ → V64} {r k v a b : T512} {s : V128} {m : Fin 2 → Strm} {T : ℕ}
variable (hl : ∀ n < 8, CatR (l n) (fun h => rowsAt (m h).l (T + 64 * n))) (hr : TR r (fun h => (m h).r) T)
  (hk : TR k (fun h => (m h).k) T) (hv : TR v (fun h => (m h).v) T) (ha : TR a (fun h => (m h).a) T)
  (hb : TR b (fun h => (m h).b) T) (hs : BdR s (fun h => (m h).H T))

include hl hr hk hv ha hb hs

theorem hAt_eq (n : ℕ) (hn : n ≤ 8) : BdR (hAt l r k v a b s n) (fun h => (m h).H (T + 64 * n)) := by
  induction n with
  | zero => exact hs
  | succ n ih =>
    have h := chunkH_eq (hl n hn) (hr.slc n hn) (hk.slc n hn) (hv.slc n hn) (ha.slc n hn) (hb.slc n hn) (ih (by omega))
    simp only [← Strm.H_chunk] at h
    rw [hAt]
    exact h

theorem yAt_eq (n : ℕ) (hn : n < 8) : CatR (yAt l r k v a b s n) (fun h => rowsAt (m h).y (T + 64 * n)) := by
  have h := chunkY_eq (hl n hn) (hr.slc n hn) (hk.slc n hn) (hv.slc n hn) (ha.slc n hn) (hb.slc n hn)
    (hAt_eq hl hr hk hv ha hb hs n (by omega))
  exact fun p i j => (h p i j).trans (congrArg _ (Strm.y_chunk _ _ _ _).symm)

theorem yAll_eq : TR (yAll l r k v a b s) (fun h => (m h).y) T := by
  intro t h j
  have e : t = ⟨64 * (t.val / 64) + (⟨t.val % 64, by omega⟩ : Fin 64).val, by simp only; omega⟩ := Fin.ext (by simp only; omega)
  have := cat8_apply (yAt l r k v a b s) (t.val / 64) (by omega) ⟨t.val % 64, by omega⟩ (lane h j)
  rw [← e] at this
  refine this.trans ?_
  rw [yAt_eq hl hr hk hv ha hb hs (t.val / 64) (by omega)]
  simp only [rowsAt]
  rw [show T + 64 * (t.val / 64) + t.val % 64 = T + t.val by omega]

end Point

/-! ## Sums over a head -/

theorem lowM_apply (h : Fin 2) (j : Fin 64) : lowM (ix2 0 (lane h j)) = if h = 0 then 1#1 else 0#1 := by
  unfold lowM
  pointwise
  revert h j
  decide +kernel

theorem segSum_apply (X : T512) (t : Fin 512) (h : Fin 2) (j : Fin 64) :
    segSum X (ix2 t (lane h j)) = ∑ l : Fin 64, X (ix2 t (lane h l)) := by
  unfold segSum rowSum
  pointwise
  rw [lowM_apply]
  simp only [sum_lane, m0_apply, m1_apply]
  match h with
  | 0 => simp [sel1]
  | 1 => simp [sel0]

end Cert.Wkv
end
-- ==== Proof.WkvRead.lean ====
module

public import proofs.«01_k».proof.Proof.WkvRun

@[expose] public section

/-! What a grid point reads of its blocks, and the output it writes of them. -/

noncomputable section

namespace Cert.Wkv

open Cert.Kernel6Ideal Cert.Kernel6Ideal.Gen Idealize.ShloMosaic Idealize.ShloMosaic.TcCoe

/-- Lane `j` of head `h` of pair `p` of a block. -/
def quad (p h : Fin 2) (j : Fin 64) : Fin 256 := ⟨128 * p.val + (64 * h.val + j.val), by omega⟩

theorem ix3_eq {a a' : Fin 512} {b b' : Fin 256} (ha : a.val = a'.val) (hb : b.val = b'.val) :
    (ix3 (0 : Fin 1) a b) = ix3 0 a' b' := by
  rw [Fin.ext ha, Fin.ext hb]

theorem tl0_apply (x : B16) (t : Fin 512) (h : Fin 2) (j : Fin 64) : tl0 x (ix2 t (lane h j)) = x (ix3 0 t (quad 0 h j)) := by
  unfold tl0 tile
  pointwise
  exact congrArg x (ix3_eq rfl (by simp [lane, quad]))
theorem rw0_apply (x : Vec Ideal S1x256 .f32) (h : Fin 2) (j : Fin 64) : rw0 x (ix2 0 (lane h j)) = x (ix2 0 (quad 0 h j)) := by
  unfold rw0
  pointwise
  exact congrArg (fun z => x (ix2 0 z)) (Fin.ext (by simp [lane, quad]))
theorem st0_apply (x : BSt) (i j : Fin 128) : st0 x (ix2 i j) = x (ix3 0 i j) := by
  unfold st0
  pointwise
theorem lw0_apply (x : B32) (n : ℕ) (hn : n < 8) (i : Fin 64) (h : Fin 2) (j : Fin 64) :
    lw0 x n (ix2 i (lane h j)) = x (ix3 0 ⟨64 * n + i.val, by omega⟩ (quad 0 h j)) := by
  match n, hn with
  | 0, _ =>
    unfold lw0
    pointwise
    exact congrArg x (ix3_eq (by simp) (by simp [lane, quad]))
  | 1, _ =>
    unfold lw0
    pointwise
    exact congrArg x (ix3_eq (by simp) (by simp [lane, quad]))
  | 2, _ =>
    unfold lw0
    pointwise
    exact congrArg x (ix3_eq (by simp) (by simp [lane, quad]))
  | 3, _ =>
    unfold lw0
    pointwise
    exact congrArg x (ix3_eq (by simp) (by simp [lane, quad]))
  | 4, _ =>
    unfold lw0
    pointwise
    exact congrArg x (ix3_eq (by simp) (by simp [lane, quad]))
  | 5, _ =>
    unfold lw0
    pointwise
    exact congrArg x (ix3_eq (by simp) (by simp [lane, quad]))
  | 6, _ =>
    unfold lw0
    pointwise
    exact congrArg x (ix3_eq (by simp) (by simp [lane, quad]))
  | 7, _ =>
    unfold lw0
    pointwise
    exact congrArg x (ix3_eq (by simp) (by simp [lane, quad]))
  | n + 8, h => exact absurd h (by omega)

theorem tl1_apply (x : B16) (t : Fin 512) (h : Fin 2) (j : Fin 64) : tl1 x (ix2 t (lane h j)) = x (ix3 0 t (quad 1 h j)) := by
  unfold tl1 tile
  pointwise
  exact congrArg x (ix3_eq rfl (by simp [lane, quad]))
theorem rw1_apply (x : Vec Ideal S1x256 .f32) (h : Fin 2) (j : Fin 64) : rw1 x (ix2 0 (lane h j)) = x (ix2 0 (quad 1 h j)) := by
  unfold rw1
  pointwise
  exact congrArg (fun z => x (ix2 0 z)) (Fin.ext (by simp [lane, quad]))
theorem st1_apply (x : BSt) (i j : Fin 128) : st1 x (ix2 i j) = x (ix3 1 i j) := by
  unfold st1
  pointwise
theorem lw1_apply (x : B32) (n : ℕ) (hn : n < 8) (i : Fin 64) (h : Fin 2) (j : Fin 64) :
    lw1 x n (ix2 i (lane h j)) = x (ix3 0 ⟨64 * n + i.val, by omega⟩ (quad 1 h j)) := by
  match n, hn with
  | 0, _ =>
    unfold lw1
    pointwise
    exact congrArg x (ix3_eq (by simp) (by simp [lane, quad]))
  | 1, _ =>
    unfold lw1
    pointwise
    exact congrArg x (ix3_eq (by simp) (by simp [lane, quad]))
  | 2, _ =>
    unfold lw1
    pointwise
    exact congrArg x (ix3_eq (by simp) (by simp [lane, quad]))
  | 3, _ =>
    unfold lw1
    pointwise
    exact congrArg x (ix3_eq (by simp) (by simp [lane, quad]))
  | 4, _ =>
    unfold lw1
    pointwise
    exact congrArg x (ix3_eq (by simp) (by simp [lane, quad]))
  | 5, _ =>
    unfold lw1
    pointwise
    exact congrArg x (ix3_eq (by simp) (by simp [lane, quad]))
  | 6, _ =>
    unfold lw1
    pointwise
    exact congrArg x (ix3_eq (by simp) (by simp [lane, quad]))
  | 7, _ =>
    unfold lw1
    pointwise
    exact congrArg x (ix3_eq (by simp) (by simp [lane, quad]))
  | n + 8, h => exact absurd h (by omega)

theorem zst_apply (i : Fin 2) (a b : Fin 128) : zst (ix3 i a b) = 0 := by
  unfold zst k0_pay2
  pointwise

/-- A head's output: the group norm of the row `Y`, the bonus, the gate. -/
def outS (Y r k v g w b rk : Fin 64 → EReal) (j : Fin 64) : EReal :=
  let c : EReal := FloatOps.ofBits (F := Ideal) .f32 0x3C800000#32
  let d : Fin 64 → EReal := fun l => Y l - (∑ l, Y l) * c
  ((d j * Ideal.rsqrt ((∑ l, d l * d l) * c + FloatOps.ofBits (F := Ideal) .f32 0x3A27C5AC#32)) * w j + b j
    + (∑ l, r l * k l * rk l) * v j) * g j

theorem outV_apply (y r k v g : T512) (w b rk : R128) (t : Fin 512) (h : Fin 2) (j : Fin 64) :
    outV y r k v g w b rk (ix3 0 t (lane h j)) = outS (fun l => y (ix2 t (lane h l))) (fun l => r (ix2 t (lane h l)))
      (fun l => k (ix2 t (lane h l))) (fun l => v (ix2 t (lane h l))) (fun l => g (ix2 t (lane h l)))
      (fun l => w (ix2 0 (lane h l))) (fun l => b (ix2 0 (lane h l))) (fun l => rk (ix2 0 (lane h l))) j := by
  unfold outV gnorm row1
  pointwise
  simp only [segSum_apply]
  unfold dlt splat
  pointwise
  simp only [segSum_apply]
  pointwise
  rfl

theorem eps12 : ∃ e : ℝ, 0 < e ∧ (FloatOps.ofBits (F := Ideal) .f32 0x2B8CBCCC#32 : EReal) = (e : EReal) := by
  refine ⟨_, ?_, by simp [FloatOps.ofBits, Ideal.ofBits, Ideal.ieee, -EReal.coe_mul]; rfl⟩
  norm_num

/-- The row scaled to unit length. -/
def unitRow (f : Fin 64 → ℝ) (j : Fin 64) : ℝ := f j * (√((∑ l, f l * f l) + eps12.choose))⁻¹

theorem rsqrt_pos {x : ℝ} (h : 0 < x) : Ideal.rsqrt (x : EReal) = (((√x)⁻¹ : ℝ) : EReal) := by
  rw [Ideal.rsqrt_coe, if_neg (by linarith), if_neg h.ne']

theorem unit_eq (f : Fin 64 → ℝ) (j : Fin 64) :
    (f j : EReal) * Ideal.rsqrt ((∑ l, (f l : EReal) * f l) + FloatOps.ofBits (F := Ideal) .f32 0x2B8CBCCC#32) = ((unitRow f j : ℝ) : EReal) := by
  obtain ⟨h0, h1⟩ := eps12.choose_spec
  rw [h1]
  simp only [← EReal.coe_mul]
  rw [← coe_sum, ← EReal.coe_add, rsqrt_pos (by have := Finset.sum_nonneg (fun l (_ : l ∈ Finset.univ) => mul_self_nonneg (f l)); linarith), ← EReal.coe_mul]
  rfl

theorem TR.unit {X : T512} {f : Fin 2 → ℕ → Fin 64 → ℝ} {T : ℕ} (hX : TR X f T) : TR (unitV X) (fun h n => unitRow (f h n)) T := by
  intro t h j
  unfold unitV splat
  pointwise
  rw [segSum_apply]
  pointwise
  simp only [hX _ _ _]
  exact unit_eq _ _

theorem TR.aAll {X : T512} {f : Fin 2 → ℕ → Fin 64 → ℝ} {T : ℕ} (hX : TR X f T) : TR (aAll X) (fun h n j => -unitRow (f h n) j) T := by
  intro t h j
  unfold Wkv.aAll splat
  pointwise
  rw [hX.unit, sub_eq_add_neg, zero_add, EReal.coe_neg]
theorem TR.bAll {X Y : T512} {f g : Fin 2 → ℕ → Fin 64 → ℝ} {T : ℕ} (hX : TR X f T) (hY : TR Y g T) :
    TR (bAll X Y) (fun h n j => unitRow (f h n) j * g h n j) T := by
  intro t h j
  unfold Wkv.bAll
  pointwise
  rw [hX.unit, hY, ← EReal.coe_mul]

end Cert.Wkv
end
-- ==== Proof.WkvStep.lean ====
module

public import proofs.«01_k».proof.Proof.WkvRead

@[expose] public section

/-! A grid point on real inputs: the state it carries on, and the block it writes. -/

noncomputable section

namespace Cert.Wkv

open Cert.Kernel6Ideal Cert.Kernel6Ideal.Gen Idealize.ShloMosaic Idealize.ShloMosaic.TcCoe

/-- The six real arguments of one sequence and head, by token. -/
structure Raw where
  (r k v l kk a : ℕ → Fin 64 → ℝ)

def Raw.strm (q : Raw) : Strm where
  r := q.r
  k := q.k
  v := q.v
  l := q.l
  a := fun n j => -unitRow (q.kk n) j
  b := fun n j => unitRow (q.kk n) j * q.a n j

/-- The six real blocks of a point. -/
structure Blk (q : Fin 2 → Fin 2 → Raw) (T : ℕ) (x0 x1 x2 : B16) (x3 : B32) (x4 x5 : B16) : Prop where
  r : ∀ p h (t : Fin 512) j, x0 (ix3 0 t (quad p h j)) = (((q p h).r (T + t.val) j : ℝ) : EReal)
  k : ∀ p h (t : Fin 512) j, x1 (ix3 0 t (quad p h j)) = (((q p h).k (T + t.val) j : ℝ) : EReal)
  v : ∀ p h (t : Fin 512) j, x2 (ix3 0 t (quad p h j)) = (((q p h).v (T + t.val) j : ℝ) : EReal)
  l : ∀ p h (t : Fin 512) j, x3 (ix3 0 t (quad p h j)) = (((q p h).l (T + t.val) j : ℝ) : EReal)
  kk : ∀ p h (t : Fin 512) j, x4 (ix3 0 t (quad p h j)) = (((q p h).kk (T + t.val) j : ℝ) : EReal)
  a : ∀ p h (t : Fin 512) j, x5 (ix3 0 t (quad p h j)) = (((q p h).a (T + t.val) j : ℝ) : EReal)

/-- The scratch holds the states `M` of its pairs and heads. -/
def StR (s : BSt) (M : Fin 2 → Fin 2 → Mat) : Prop :=
  ∀ p h i h' j, s (ix3 p (lane h i) (lane h' j)) = if h = h' then ((M p h i j : ℝ) : EReal) else 0

theorem StR.zero : StR zst (fun _ _ => 0) := by
  intro p h i h' j
  rw [zst_apply]
  split <;> simp

variable {q : Fin 2 → Fin 2 → Raw} {T : ℕ} {x0 x1 x2 : B16} {x3 : B32} {x4 x5 : B16} {s : BSt}

section
variable (B : Blk q T x0 x1 x2 x3 x4 x5) (hs : StR s (fun p h => (q p h).strm.H T))
include B hs

theorem lw0_eq : ∀ n < 8, CatR (lw0 x3 n) (fun h => rowsAt (q 0 h).strm.l (T + 64 * n)) := by
  intro n hn h i j
  rw [lw0_apply x3 n hn, B.l]
  simp only [rowsAt, Nat.add_assoc]
  rfl

theorem st0_eq : BdR (st0 s) (fun h => (q 0 h).strm.H T) := by
  intro h i h' j
  rw [st0_apply, hs]

theorem ptH0_eq : BdR (ptH0 x0 x1 x2 x3 x4 x5 (st0 s)) (fun h => (q 0 h).strm.H (T + 512)) := by
  have hkk : TR (tl0 x4) (fun h => (q 0 h).kk) T := fun t h j => by rw [tl0_apply, B.kk]
  exact hAt_eq (lw0_eq B hs) (fun t h j => by rw [tl0_apply, B.r]; rfl) (fun t h j => by rw [tl0_apply, B.k]; rfl)
    (fun t h j => by rw [tl0_apply, B.v]; rfl) hkk.aAll (hkk.bAll (Y := tl0 x5) (g := fun h => (q 0 h).a) (fun t h j => by rw [tl0_apply, B.a])) (st0_eq B hs) 8 le_rfl

theorem ptO0_eq (x6 : B16) (x7 x8 x9 : Vec Ideal S1x256 .f32) (t : Fin 512) (h : Fin 2) (j : Fin 64) :
    ptO0 x0 x1 x2 x3 x4 x5 x6 x7 x8 x9 (st0 s) (ix3 0 t (lane h j)) =
      outS (fun l => (((q 0 h).strm.y (T + t.val) l : ℝ) : EReal)) (fun l => x0 (ix3 0 t (quad 0 h l)))
        (fun l => x1 (ix3 0 t (quad 0 h l))) (fun l => x2 (ix3 0 t (quad 0 h l))) (fun l => x6 (ix3 0 t (quad 0 h l)))
        (fun l => x7 (ix2 0 (quad 0 h l))) (fun l => x8 (ix2 0 (quad 0 h l))) (fun l => x9 (ix2 0 (quad 0 h l))) j := by
  have hkk : TR (tl0 x4) (fun h => (q 0 h).kk) T := fun t h j => by rw [tl0_apply, B.kk]
  have hy := yAll_eq (lw0_eq B hs) (r := tl0 x0) (k := tl0 x1) (v := tl0 x2) (fun t h j => by rw [tl0_apply, B.r]; rfl)
    (fun t h j => by rw [tl0_apply, B.k]; rfl) (fun t h j => by rw [tl0_apply, B.v]; rfl) hkk.aAll
    (hkk.bAll (Y := tl0 x5) (g := fun h => (q 0 h).a) (fun t h j => by rw [tl0_apply, B.a])) (st0_eq B hs)
  unfold ptO0
  rw [outV_apply]
  simp only [tl0_apply, rw0_apply, hy t h _]

end

section
variable (B : Blk q T x0 x1 x2 x3 x4 x5) (hs : StR s (fun p h => (q p h).strm.H T))
include B hs

theorem lw1_eq : ∀ n < 8, CatR (lw1 x3 n) (fun h => rowsAt (q 1 h).strm.l (T + 64 * n)) := by
  intro n hn h i j
  rw [lw1_apply x3 n hn, B.l]
  simp only [rowsAt, Nat.add_assoc]
  rfl

theorem st1_eq : BdR (st1 s) (fun h => (q 1 h).strm.H T) := by
  intro h i h' j
  rw [st1_apply, hs]

theorem ptH1_eq : BdR (ptH1 x0 x1 x2 x3 x4 x5 (st1 s)) (fun h => (q 1 h).strm.H (T + 512)) := by
  have hkk : TR (tl1 x4) (fun h => (q 1 h).kk) T := fun t h j => by rw [tl1_apply, B.kk]
  exact hAt_eq (lw1_eq B hs) (fun t h j => by rw [tl1_apply, B.r]; rfl) (fun t h j => by rw [tl1_apply, B.k]; rfl)
    (fun t h j => by rw [tl1_apply, B.v]; rfl) hkk.aAll (hkk.bAll (Y := tl1 x5) (g := fun h => (q 1 h).a) (fun t h j => by rw [tl1_apply, B.a])) (st1_eq B hs) 8 le_rfl

theorem ptO1_eq (x6 : B16) (x7 x8 x9 : Vec Ideal S1x256 .f32) (t : Fin 512) (h : Fin 2) (j : Fin 64) :
    ptO1 x0 x1 x2 x3 x4 x5 x6 x7 x8 x9 (st1 s) (ix3 0 t (lane h j)) =
      outS (fun l => (((q 1 h).strm.y (T + t.val) l : ℝ) : EReal)) (fun l => x0 (ix3 0 t (quad 1 h l)))
        (fun l => x1 (ix3 0 t (quad 1 h l))) (fun l => x2 (ix3 0 t (quad 1 h l))) (fun l => x6 (ix3 0 t (quad 1 h l)))
        (fun l => x7 (ix2 0 (quad 1 h l))) (fun l => x8 (ix2 0 (quad 1 h l))) (fun l => x9 (ix2 0 (quad 1 h l))) j := by
  have hkk : TR (tl1 x4) (fun h => (q 1 h).kk) T := fun t h j => by rw [tl1_apply, B.kk]
  have hy := yAll_eq (lw1_eq B hs) (r := tl1 x0) (k := tl1 x1) (v := tl1 x2) (fun t h j => by rw [tl1_apply, B.r]; rfl)
    (fun t h j => by rw [tl1_apply, B.k]; rfl) (fun t h j => by rw [tl1_apply, B.v]; rfl) hkk.aAll
    (hkk.bAll (Y := tl1 x5) (g := fun h => (q 1 h).a) (fun t h j => by rw [tl1_apply, B.a])) (st1_eq B hs)
  unfold ptO1
  rw [outV_apply]
  simp only [tl1_apply, rw1_apply, hy t h _]

end

/-! ## The two stores -/

theorem canon_st (w1 w0 : FVec Ideal S1x128x128 .f32) (L : List (View.Piece (Elt Ideal) S2x128x128 .f32)) (a b : Fin 128) :
    View.canon (Val := Elt Ideal) (s := S2x128x128) (e := .f32)
      (⟨Rect.unit ![1, 0, 0] S1x128x128.size inb_S2x128x128_S1x128x128_1_0_0, w1⟩
        :: ⟨Rect.unit ![0, 0, 0] S1x128x128.size inb_S2x128x128_S1x128x128_0_0_0, w0⟩ :: L) (ix3 1 a b) = w1 (ix3 0 a b)
    ∧ View.canon (Val := Elt Ideal) (s := S2x128x128) (e := .f32)
      (⟨Rect.unit ![1, 0, 0] S1x128x128.size inb_S2x128x128_S1x128x128_1_0_0, w1⟩
        :: ⟨Rect.unit ![0, 0, 0] S1x128x128.size inb_S2x128x128_S1x128x128_0_0_0, w0⟩ :: L) (ix3 0 a b) = w0 (ix3 0 a b) := by
  have e1 : (ix3 1 a b : S2x128x128.Idx) = (Rect.unit (s := S2x128x128) ![1, 0, 0] S1x128x128.size inb_S2x128x128_S1x128x128_1_0_0).emb (ix3 0 a b) := by
    funext x
    refine Fin.ext ?_
    rw [Rect.emb_apply, Rect.off_unit, Rect.stride_unit]
    fin_cases x <;> simp [ix3]
  have e0 : (ix3 0 a b : S2x128x128.Idx) = (Rect.unit (s := S2x128x128) ![0, 0, 0] S1x128x128.size inb_S2x128x128_S1x128x128_0_0_0).emb (ix3 0 a b) := by
    funext x
    refine Fin.ext ?_
    rw [Rect.emb_apply, Rect.off_unit, Rect.stride_unit]
    fin_cases x <;> simp [ix3]
  constructor
  · rw [e1]; exact View.canon_cons_emb _ _ _ _
  · rw [View.canon_cons_of_not_mem, e0]
    · exact View.canon_cons_emb _ _ _ _
    · intro hm
      have := ((Rect.mem_set_unit (inb := inb_S2x128x128_S1x128x128_1_0_0)).mp hm 0).1
      simp [ix3] at this

theorem canon_out (w1 w0 : FVec Ideal S1x512x128 .bf16) (t : Fin 512) (h : Fin 2) (j : Fin 64) :
    View.canon (Val := Elt Ideal) (s := S1x512x256) (e := .bf16)
      [⟨Rect.unit ![0, 0, 128] S1x512x128.size inb_S1x512x256_S1x512x128_0_0_128, w1⟩,
       ⟨Rect.unit ![0, 0, 0] S1x512x128.size inb_S1x512x256_S1x512x128_0_0_0, w0⟩] (ix3 0 t (quad 1 h j)) = w1 (ix3 0 t (lane h j))
    ∧ View.canon (Val := Elt Ideal) (s := S1x512x256) (e := .bf16)
      [⟨Rect.unit ![0, 0, 128] S1x512x128.size inb_S1x512x256_S1x512x128_0_0_128, w1⟩,
       ⟨Rect.unit ![0, 0, 0] S1x512x128.size inb_S1x512x256_S1x512x128_0_0_0, w0⟩] (ix3 0 t (quad 0 h j)) = w0 (ix3 0 t (lane h j)) := by
  have e1 : (ix3 0 t (quad 1 h j) : S1x512x256.Idx) = (Rect.unit (s := S1x512x256) ![0, 0, 128] S1x512x128.size inb_S1x512x256_S1x512x128_0_0_128).emb (ix3 0 t (lane h j)) := by
    funext x
    refine Fin.ext ?_
    rw [Rect.emb_apply, Rect.off_unit, Rect.stride_unit]
    fin_cases x <;> simp [ix3, quad, lane]
  have e0 : (ix3 0 t (quad 0 h j) : S1x512x256.Idx) = (Rect.unit (s := S1x512x256) ![0, 0, 0] S1x512x128.size inb_S1x512x256_S1x512x128_0_0_0).emb (ix3 0 t (lane h j)) := by
    funext x
    refine Fin.ext ?_
    rw [Rect.emb_apply, Rect.off_unit, Rect.stride_unit]
    fin_cases x <;> simp [ix3, quad, lane]
  constructor
  · rw [e1]; exact View.canon_cons_emb _ _ _ _
  · rw [View.canon_cons_of_not_mem, e0]
    · exact View.canon_cons_emb _ _ _ _
    · intro hm
      have := ((Rect.mem_set_unit (inb := inb_S1x512x256_S1x512x128_0_0_128)).mp hm 2).1
      simp [ix3, quad] at this
      omega

theorem scratch_eq (B : Blk q T x0 x1 x2 x3 x4 x5) (hs : StR s (fun p h => (q p h).strm.H T))
    (L : List (View.Piece (Elt Ideal) S2x128x128 .f32)) :
    StR (View.canon (Val := Elt Ideal) (s := S2x128x128) (e := .f32)
      (⟨Rect.unit ![1, 0, 0] S1x128x128.size inb_S2x128x128_S1x128x128_1_0_0,
          shapeCast S1x128x128 (ptH1 x0 x1 x2 x3 x4 x5 (st1 s)) shapeCasts_S128x128_S1x128x128⟩
        :: ⟨Rect.unit ![0, 0, 0] S1x128x128.size inb_S2x128x128_S1x128x128_0_0_0,
          shapeCast S1x128x128 (ptH0 x0 x1 x2 x3 x4 x5 (st0 s)) shapeCasts_S128x128_S1x128x128⟩ :: L))
      (fun p h => (q p h).strm.H (T + 512)) := by
  intro p h i h' j
  match p with
  | 0 =>
    rw [(canon_st _ _ L _ _).2]
    pointwise
    exact ptH0_eq B hs h i h' j
  | 1 =>
    rw [(canon_st _ _ L _ _).1]
    pointwise
    exact ptH1_eq B hs h i h' j

theorem written_eq (B : Blk q T x0 x1 x2 x3 x4 x5) (hs : StR s (fun p h => (q p h).strm.H T))
    (x6 : B16) (x7 x8 x9 : Vec Ideal S1x256 .f32) (p : Fin 2) (t : Fin 512) (h : Fin 2) (j : Fin 64) :
    View.canon (Val := Elt Ideal) (s := S1x512x256) (e := .bf16)
      [⟨Rect.unit ![0, 0, 128] S1x512x128.size inb_S1x512x256_S1x512x128_0_0_128, ptO1 x0 x1 x2 x3 x4 x5 x6 x7 x8 x9 (st1 s)⟩,
       ⟨Rect.unit ![0, 0, 0] S1x512x128.size inb_S1x512x256_S1x512x128_0_0_0, ptO0 x0 x1 x2 x3 x4 x5 x6 x7 x8 x9 (st0 s)⟩]
      (ix3 0 t (quad p h j)) =
      outS (fun l => (((q p h).strm.y (T + t.val) l : ℝ) : EReal)) (fun l => x0 (ix3 0 t (quad p h l)))
        (fun l => x1 (ix3 0 t (quad p h l))) (fun l => x2 (ix3 0 t (quad p h l))) (fun l => x6 (ix3 0 t (quad p h l)))
        (fun l => x7 (ix2 0 (quad p h l))) (fun l => x8 (ix2 0 (quad p h l))) (fun l => x9 (ix2 0 (quad p h l))) j := by
  match p with
  | 0 => rw [(canon_out _ _ _ _ _).2]; exact ptO0_eq B hs x6 x7 x8 x9 t h j
  | 1 => rw [(canon_out _ _ _ _ _).1]; exact ptO1_eq B hs x6 x7 x8 x9 t h j

end Cert.Wkv
end
-- ==== Proof.WkvLoop.lean ====
module

public import proofs.«01_k».proof.Proof.Gen.Reference6Ideal.Run
public import proofs.«01_k».proof.Proof.WkvStep

@[expose] public section

/-! The reference's loop: after `n` trips the state and the first `n` outputs are the recurrence's. -/

noncomputable section

namespace Cert.WkvRef

open Cert.Reference6Ideal Cert.Reference6Ideal.Gen Cert.Reference6Ideal.Value Idealize.ShloMosaic Idealize.ShloMosaic.TcCoe
open Cert.Wkv (Mat stepH Strm coe_sum)

abbrev Arr := FVec Ideal S2048x32x16x64 .f32
abbrev Sta := FVec Ideal S32x16x64x64 .f32
abbrev Row := FVec Ideal S32x16x64 .f32

/-- Where a trip slices: its token. -/
def starts (n : ℕ) : Fin 4 → ℤ := fun k => ((![fun _ => BitVec.ofNat 32 n, constantI S_ 32 0#32, constantI S_ 32 0#32, constantI S_ 32 0#32]
  : Fin 4 → (⟨S_, .i32⟩ : BufTy).Contents (Elt Ideal)) k (Shape.Idx.first h_S_)).toInt

theorem starts_eq (n : ℕ) (hn : n < 2048) : starts n 0 = n ∧ starts n 1 = (0 : ℕ) ∧ starts n 2 = (0 : ℕ) ∧ starts n 3 = (0 : ℕ) := by
  refine ⟨?_, rfl, rfl, rfl⟩
  change (BitVec.ofNat 32 n).toInt = n
  rw [BitVec.toInt_eq_toNat_cond, BitVec.toNat_ofNat]
  split <;> omega

/-- Token `n`'s rows. -/
def rowN (n : ℕ) (x : Arr) : Row := shapeCast S32x16x64 (Host.dynamicSlice S1x32x16x64 x (starts n) sliceFits_S2048x32x16x64_S1x32x16x64)
  shapeCasts_S1x32x16x64_S32x16x64

theorem clamp_eq (n : ℕ) (hn : n < 2048) (h : S1x32x16x64.rank = S2048x32x16x64.rank) :
    Host.clampedStart S2048x32x16x64 S1x32x16x64 h (starts n) 0 = n ∧ Host.clampedStart S2048x32x16x64 S1x32x16x64 h (starts n) 1 = 0
    ∧ Host.clampedStart S2048x32x16x64 S1x32x16x64 h (starts n) 2 = 0 ∧ Host.clampedStart S2048x32x16x64 S1x32x16x64 h (starts n) 3 = 0 := by
  obtain ⟨h0, h1, h2, h3⟩ := starts_eq n hn
  exact ⟨Host.clampedStart_of_le h _ 0 n h0 (Nat.succ_le_of_lt hn), Host.clampedStart_of_le h _ 1 0 h1 (by show 0 + 32 ≤ 32; decide),
    Host.clampedStart_of_le h _ 2 0 h2 (by show 0 + 16 ≤ 16; decide), Host.clampedStart_of_le h _ 3 0 h3 (by show 0 + 64 ≤ 64; decide)⟩

theorem rowN_apply (n : ℕ) (hn : n < 2048) (x : Arr) (b : Fin 32) (h : Fin 16) (j : Fin 64) :
    rowN n x (ix3 b h j) = x (ix4 ⟨n, hn⟩ b h j) := by
  unfold rowN
  pointwise
  obtain ⟨h0, h1, h2, h3⟩ := clamp_eq n hn rfl
  simp only [h0, h1, h2, h3, Nat.zero_add, Nat.add_zero]

/-- The state after a trip. -/
def nextV (n : ℕ) (w k v a b : Arr) (S : Sta) : Sta :=
  addf (addf (mulf S (broadcastInDim S32x16x64x64 ![0, 1, 2, 3] bcast_S32x16x1x64_S32x16x64x64_0_1_2_3
      (broadcastInDim S32x16x1x64 ![0, 1, 3] bcast_S32x16x64_S32x16x1x64_0_1_3 (rowN n w))))
    (mulf (broadcastInDim S32x16x64x64 ![0, 1, 2, 3] bcast_S32x16x64x1_S32x16x64x64_0_1_2_3
      (broadcastInDim S32x16x64x1 ![0, 1, 2] bcast_S32x16x64_S32x16x64x1_0_1_2
        (Host.dotGeneral dot_S32x16x64x64_S32x16x64_S32x16x64_3_2_2_n_01_01 none S (rowN n a))))
      (broadcastInDim S32x16x64x64 ![0, 1, 2, 3] bcast_S32x16x1x64_S32x16x64x64_0_1_2_3
        (broadcastInDim S32x16x1x64 ![0, 1, 3] bcast_S32x16x64_S32x16x1x64_0_1_3 (rowN n b)))))
    (mulf (broadcastInDim S32x16x64x64 ![0, 1, 2, 3] bcast_S32x16x64x1_S32x16x64x64_0_1_2_3
      (broadcastInDim S32x16x64x1 ![0, 1, 2] bcast_S32x16x64_S32x16x64x1_0_1_2 (rowN n v)))
      (broadcastInDim S32x16x64x64 ![0, 1, 2, 3] bcast_S32x16x1x64_S32x16x64x64_0_1_2_3
        (broadcastInDim S32x16x1x64 ![0, 1, 3] bcast_S32x16x64_S32x16x1x64_0_1_3 (rowN n k))))

theorem nextV_apply (n : ℕ) (w k v a b : Arr) (S : Sta) (p : Fin 32) (h : Fin 16) (i j : Fin 64) :
    nextV n w k v a b S (ix4 p h i j) = S (ix4 p h i j) * rowN n w (ix3 p h j)
      + (∑ l : Fin 64, S (ix4 p h i l) * rowN n a (ix3 p h l)) * rowN n b (ix3 p h j) + rowN n v (ix3 p h i) * rowN n k (ix3 p h j) := by
  unfold nextV
  pointwise

/-- The outputs after a trip. -/
def nextY (n : ℕ) (Y r : Arr) (S : Sta) : Arr :=
  Host.dynamicUpdateSlice Y (broadcastInDim S1x32x16x64 ![1, 2, 3] bcast_S32x16x64_S1x32x16x64_1_2_3
    (Host.dotGeneral dot_S32x16x64x64_S32x16x64_S32x16x64_3_2_2_n_01_01 none S (rowN n r))) (starts n) updateFits_S2048x32x16x64_S1x32x16x64

theorem nextY_apply (n : ℕ) (hn : n < 2048) (Y r : Arr) (S : Sta) (t : Fin 2048) (p : Fin 32) (h : Fin 16) (i : Fin 64) :
    nextY n Y r S (ix4 t p h i) = if t.val = n then ∑ l : Fin 64, S (ix4 p h i l) * rowN n r (ix3 p h l) else Y (ix4 t p h i) := by
  unfold nextY
  rw [Host.dynamicUpdateSlice_apply]
  obtain ⟨h0, h1, h2, h3⟩ := clamp_eq n hn rfl
  by_cases ht : t.val = n
  · rw [if_pos ht, dif_pos]
    · pointwise
      simp only [h0, h1, h2, h3]
      rfl
    · intro a
      match a with
      | 0 => rw [h0]; exact ⟨ht.ge, by show t.val < n + 1; omega⟩
      | 1 => rw [h1]; exact ⟨Nat.zero_le _, by show p.val < 0 + 32; omega⟩
      | 2 => rw [h2]; exact ⟨Nat.zero_le _, by show h.val < 0 + 16; omega⟩
      | 3 => rw [h3]; exact ⟨Nat.zero_le _, by show i.val < 0 + 64; omega⟩
  · rw [if_neg ht, dif_neg]
    intro hin
    have := hin 0
    rw [h0] at this
    exact ht (by have h1 : n ≤ t.val := this.1; have h2 : t.val < n + 1 := this.2; omega)

section Step
variable (V : Valuation τ sig (Elt Ideal)) (n : ℕ) (h6 : V (Proc.devRef .tc main_v30_6) = fun _ => BitVec.ofNat 32 n)
include h6

theorem step7 : STEP V (Proc.devRef .tc main_v30_7) = nextV n (V (Proc.devRef .tc main_v30_1)) (V (Proc.devRef .tc main_v30_2))
    (V (Proc.devRef .tc main_v30_3)) (V (Proc.devRef .tc main_v30_4)) (V (Proc.devRef .tc main_v30_5)) (V (Proc.devRef .tc main_v30_7)) := by
  rw [STEP_main_v30_7]
  unfold step_main_v30_7 res_main_while0b_v98
  rw [h6]
  rfl
theorem step8 : STEP V (Proc.devRef .tc main_v30_8) = nextY n (V (Proc.devRef .tc main_v30_8)) (V (Proc.devRef .tc main_v30_0))
    (nextV n (V (Proc.devRef .tc main_v30_1)) (V (Proc.devRef .tc main_v30_2))
    (V (Proc.devRef .tc main_v30_3)) (V (Proc.devRef .tc main_v30_4)) (V (Proc.devRef .tc main_v30_5)) (V (Proc.devRef .tc main_v30_7))) := by
  rw [STEP_main_v30_8]
  unfold step_main_v30_8 res_main_while0b_v98
  rw [h6]
  rfl
theorem step6 : STEP V (Proc.devRef .tc main_v30_6) = fun _ => BitVec.ofNat 32 (n + 1) := by
  rw [STEP_main_v30_6]
  unfold step_main_v30_6
  rw [h6]
  funext x
  exact (BitVec.ofNat_add n 1).symm
end Step

/-! ## The loop -/

/-- The arrays the loop reads, as streams. -/
structure Feeds (V : Valuation τ sig (Elt Ideal)) (s : Fin 32 → Fin 16 → Strm) : Prop where
  r : ∀ (t : Fin 2048) p h j, V (Proc.devRef .tc main_v30_0) (ix4 t p h j) = (((s p h).r t.val j : ℝ) : EReal)
  w : ∀ (t : Fin 2048) p h j, V (Proc.devRef .tc main_v30_1) (ix4 t p h j) = ((Real.exp ((s p h).l t.val j) : ℝ) : EReal)
  k : ∀ (t : Fin 2048) p h j, V (Proc.devRef .tc main_v30_2) (ix4 t p h j) = (((s p h).k t.val j : ℝ) : EReal)
  v : ∀ (t : Fin 2048) p h j, V (Proc.devRef .tc main_v30_3) (ix4 t p h j) = (((s p h).v t.val j : ℝ) : EReal)
  a : ∀ (t : Fin 2048) p h j, V (Proc.devRef .tc main_v30_4) (ix4 t p h j) = (((s p h).a t.val j : ℝ) : EReal)
  b : ∀ (t : Fin 2048) p h j, V (Proc.devRef .tc main_v30_5) (ix4 t p h j) = (((s p h).b t.val j : ℝ) : EReal)

/-- What holds after `n` trips. -/
structure Inv (V : Valuation τ sig (Elt Ideal)) (s : Fin 32 → Fin 16 → Strm) (n : ℕ) : Prop where
  feeds : Feeds V s
  ctr : V (Proc.devRef .tc main_v30_6) = fun _ => BitVec.ofNat 32 n
  state : ∀ p h i j, V (Proc.devRef .tc main_v30_7) (ix4 p h i j) = (((s p h).H n j i : ℝ) : EReal)
  out : ∀ (t : Fin 2048) p h i, t.val < n → V (Proc.devRef .tc main_v30_8) (ix4 t p h i) = (((s p h).y t.val i : ℝ) : EReal)

theorem next_state {V : Valuation τ sig (Elt Ideal)} {s : Fin 32 → Fin 16 → Strm} {n : ℕ} (hn : n < 2048) (I : Inv V s n)
    (p : Fin 32) (h : Fin 16) (i j : Fin 64) :
    nextV n (V (Proc.devRef .tc main_v30_1)) (V (Proc.devRef .tc main_v30_2)) (V (Proc.devRef .tc main_v30_3))
      (V (Proc.devRef .tc main_v30_4)) (V (Proc.devRef .tc main_v30_5)) (V (Proc.devRef .tc main_v30_7)) (ix4 p h i j)
      = (((s p h).H (n + 1) j i : ℝ) : EReal) := by
  rw [nextV_apply]
  simp only [rowN_apply n hn, I.state _ _ _ _, I.feeds.w _ _ _ _, I.feeds.k _ _ _ _, I.feeds.v _ _ _ _, I.feeds.a _ _ _ _, I.feeds.b _ _ _ _,
    ← EReal.coe_mul, ← coe_sum, ← EReal.coe_add]
  rfl

theorem Inv.step {V : Valuation τ sig (Elt Ideal)} {s : Fin 32 → Fin 16 → Strm} {n : ℕ} (hn : n < 2048) (I : Inv V s n) :
    Inv (STEP V) s (n + 1) where
  feeds := ⟨fun t p h j => by rw [STEP_main_v30_0, I.feeds.r], fun t p h j => by rw [STEP_main_v30_1, I.feeds.w],
    fun t p h j => by rw [STEP_main_v30_2, I.feeds.k], fun t p h j => by rw [STEP_main_v30_3, I.feeds.v],
    fun t p h j => by rw [STEP_main_v30_4, I.feeds.a], fun t p h j => by rw [STEP_main_v30_5, I.feeds.b]⟩
  ctr := step6 V n I.ctr
  state := fun p h i j => by rw [step7 V n I.ctr]; exact next_state hn I p h i j
  out := fun t p h i ht => by
    rw [step8 V n I.ctr, nextY_apply n hn]
    split
    · rename_i e
      simp only [rowN_apply n hn, next_state hn I _ _ _ _, I.feeds.r _ _ _ _, ← EReal.coe_mul, ← coe_sum]
      rw [e]
      rfl
    · exact I.out t p h i (by omega)

theorem Inv.iter {V : Valuation τ sig (Elt Ideal)} {s : Fin 32 → Fin 16 → Strm} (I : Inv V s 0) :
    ∀ n, n ≤ 2048 → Inv (STEP^[n] V) s n
  | 0, _ => I
  | n + 1, h => by
    rw [Function.iterate_succ_apply']
    exact (I.iter n (by omega)).step (by omega)

end Cert.WkvRef
end
-- ==== Proof.WkvRef.lean ====
module

public import proofs.«01_k».proof.Proof.WkvLoop

@[expose] public section

/-! The reference's result, read at an index. -/

noncomputable section

namespace Cert.WkvRef

open Cert.Reference6Ideal Cert.Reference6Ideal.Gen Cert.Reference6Ideal.Value Idealize.ShloMosaic Idealize.ShloMosaic.TcCoe
open Cert.Reference6Ideal Cert.Reference6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.Wkv (Mat stepH Strm coe_sum Raw outS unitRow unit_eq)

/-- Channel `j` of head `h`. -/
def chan (h : Fin 16) (j : Fin 64) : Fin 1024 := ⟨h.val * 64 + j.val, by omega⟩

abbrev Big := (⟨3, ![32, 2048, 1024]⟩ : Shape).Idx → EReal

/-- A real argument's rows of one sequence and head, by token. -/
def rowsOf (x : Big) (p : Fin 32) (h : Fin 16) : ℕ → Fin 64 → ℝ :=
  fun n j => if hn : n < 2048 then EReal.toReal (x (ix3 p ⟨n, hn⟩ (chan h j))) else 0

/-- Every element is a real. -/
def Fin' (x : Big) : Prop := ∀ i, x i ≠ ⊤ ∧ x i ≠ ⊥

theorem rowsOf_eq {x : Big} (hx : Fin' x) (p : Fin 32) (t : Fin 2048) (h : Fin 16) (j : Fin 64) :
    x (ix3 p t (chan h j)) = ((rowsOf x p h t.val j : ℝ) : EReal) := by
  unfold rowsOf
  rw [dif_pos t.isLt, EReal.coe_toReal (hx _).1 (hx _).2]

def rawOf (r k v l kk a : Big) (p : Fin 32) (h : Fin 16) : Raw where
  r := rowsOf r p h
  k := rowsOf k p h
  v := rowsOf v p h
  l := rowsOf l p h
  kk := rowsOf kk p h
  a := rowsOf a p h

variable (m : (ℓ : Loc nD τ sig) → ℓ.ty.Contents (Elt Ideal)) (c : Dev nD)

/-- The fifth argument's entry of a token, head and lane. -/
abbrev argAt (t : Fin 2048) (p : Fin 32) (h : Fin 16) (j : Fin 64) : EReal := m ((c.tc : Thread nD τ).loc main_arg4) (ix3 p t (chan h j))
theorem entry0 (t : Fin 2048) (p : Fin 32) (h : Fin 16) (j : Fin 64) :
    entryContents preI m c (Proc.devRef .tc main_v30_0) (ix4 t p h j) = m ((c.tc : Thread nD τ).loc main_arg0) (ix3 p t (chan h j)) := by
  simp only [entryContents, afterL_cons, afterL_nil]
  after_reads_simp
  simp only [id_eq]
  pointwise
  rfl
theorem entry1 (t : Fin 2048) (p : Fin 32) (h : Fin 16) (j : Fin 64) :
    entryContents preI m c (Proc.devRef .tc main_v30_1) (ix4 t p h j) = Ideal.exp (m ((c.tc : Thread nD τ).loc main_arg3) (ix3 p t (chan h j))) := by
  simp only [entryContents, afterL_cons, afterL_nil]
  after_reads_simp
  simp only [id_eq]
  pointwise
  rfl
theorem entry2 (t : Fin 2048) (p : Fin 32) (h : Fin 16) (j : Fin 64) :
    entryContents preI m c (Proc.devRef .tc main_v30_2) (ix4 t p h j) = m ((c.tc : Thread nD τ).loc main_arg1) (ix3 p t (chan h j)) := by
  simp only [entryContents, afterL_cons, afterL_nil]
  after_reads_simp
  simp only [id_eq]
  pointwise
  rfl
theorem entry3 (t : Fin 2048) (p : Fin 32) (h : Fin 16) (j : Fin 64) :
    entryContents preI m c (Proc.devRef .tc main_v30_3) (ix4 t p h j) = m ((c.tc : Thread nD τ).loc main_arg2) (ix3 p t (chan h j)) := by
  simp only [entryContents, afterL_cons, afterL_nil]
  after_reads_simp
  simp only [id_eq]
  pointwise
  rfl
theorem entry4 (t : Fin 2048) (p : Fin 32) (h : Fin 16) (j : Fin 64) :
    entryContents preI m c (Proc.devRef .tc main_v30_4) (ix4 t p h j) = -(argAt m c t p h j * Ideal.rsqrt ((∑ l, argAt m c t p h l * argAt m c t p h l) + FloatOps.ofBits (F := Ideal) .f32 0x2B8CBCCC#32)) := by
  simp only [entryContents, afterL_cons, afterL_nil]
  after_reads_simp
  simp only [id_eq]
  pointwise
  rfl
theorem entry5 (t : Fin 2048) (p : Fin 32) (h : Fin 16) (j : Fin 64) :
    entryContents preI m c (Proc.devRef .tc main_v30_5) (ix4 t p h j) = (argAt m c t p h j * Ideal.rsqrt ((∑ l, argAt m c t p h l * argAt m c t p h l) + FloatOps.ofBits (F := Ideal) .f32 0x2B8CBCCC#32)) * m ((c.tc : Thread nD τ).loc main_arg5) (ix3 p t (chan h j)) := by
  simp only [entryContents, afterL_cons, afterL_nil]
  after_reads_simp
  simp only [id_eq]
  pointwise
  rfl
theorem entry7 (p : Fin 32) (h : Fin 16) (i j : Fin 64) : entryContents preI m c (Proc.devRef .tc main_v30_7) (ix4 p h i j) = (0 : EReal) := by
  simp only [entryContents, afterL_cons, afterL_nil]
  after_reads_simp
  simp only [id_eq]
  pointwise

/-- The streams of the launch's arguments. -/
abbrev raws (p : Fin 32) (h : Fin 16) : Raw :=
  rawOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) p h

section
variable (h0 : Fin' (m ((c.tc : Thread nD τ).loc main_arg0))) (h1 : Fin' (m ((c.tc : Thread nD τ).loc main_arg1)))
  (h2 : Fin' (m ((c.tc : Thread nD τ).loc main_arg2))) (h3 : Fin' (m ((c.tc : Thread nD τ).loc main_arg3)))
  (h4 : Fin' (m ((c.tc : Thread nD τ).loc main_arg4))) (h5 : Fin' (m ((c.tc : Thread nD τ).loc main_arg5)))
include h0 h1 h2 h3 h4 h5

theorem start : Inv (entryContents preI m c) (fun p h => (raws m c p h).strm) 0 where
  feeds := {
    r := fun t p h j => by rw [entry0, rowsOf_eq h0]; rfl
    w := fun t p h j => by rw [entry1, rowsOf_eq h3, Ideal.exp_coe]; rfl
    k := fun t p h j => by rw [entry2, rowsOf_eq h1]; rfl
    v := fun t p h j => by rw [entry3, rowsOf_eq h2]; rfl
    a := fun t p h j => by
      rw [entry4]
      simp only [argAt, rowsOf_eq h4]
      rw [unit_eq, ← EReal.coe_neg]; rfl
    b := fun t p h j => by
      rw [entry5]
      simp only [argAt, rowsOf_eq h4]
      rw [unit_eq, rowsOf_eq h5, ← EReal.coe_mul]; rfl }
  ctr := ctr_entry m c
  state := fun p h i j => by rw [entry7]; rfl
  out := fun t p h i ht => absurd ht (Nat.not_lt_zero _)

end

/-- The result at a token, head and lane. -/
def spec (x0 x1 x2 x3 x4 x5 x6 : Big) (x7 x8 x9 : (⟨1, ![1024]⟩ : Shape).Idx → EReal) (p : Fin 32) (t : Fin 2048) (h : Fin 16) (j : Fin 64) : EReal :=
  outS (fun l => (((rawOf x0 x1 x2 x3 x4 x5 p h).strm.y t.val l : ℝ) : EReal)) (fun l => x0 (ix3 p t (chan h l)))
    (fun l => x1 (ix3 p t (chan h l))) (fun l => x2 (ix3 p t (chan h l))) (fun l => x6 (ix3 p t (chan h l)))
    (fun l => x7 (ix1 (chan h l))) (fun l => x8 (ix1 (chan h l))) (fun l => x9 (ix1 (chan h l))) j

theorem div64 (x : EReal) : Ideal.div x (Ideal.ofBits FTy.f32 1115684864#32) = x * Ideal.ofBits FTy.f32 1015021568#32 := by
  have a : Ideal.ofBits FTy.f32 1115684864#32 = ((64 : ℝ) : EReal) := by
    simp [Ideal.ofBits, Ideal.ieee, -EReal.coe_mul]; norm_num
  have b : Ideal.ofBits FTy.f32 1015021568#32 = (((64 : ℝ)⁻¹ : ℝ) : EReal) := by
    simp [Ideal.ofBits, Ideal.ieee, -EReal.coe_mul]; norm_num
  rw [a, b, EReal.coe_inv]
  unfold Ideal.div
  rw [if_neg (by norm_num)]

theorem out_apply (V : Valuation τ sig (Elt Ideal)) (p : Fin 32) (t : Fin 2048) (h : Fin 16) (j : Fin 64) :
    out_main_v76 V (ix3 p t (chan h j)) = outS (fun l => V (Proc.devRef .tc main_v30_8) (ix4 t p h l))
    (fun l => V (Proc.devRef .tc main_arg0) (ix3 p t (chan h l))) (fun l => V (Proc.devRef .tc main_arg1) (ix3 p t (chan h l)))
    (fun l => V (Proc.devRef .tc main_arg2) (ix3 p t (chan h l))) (fun l => V (Proc.devRef .tc main_arg6) (ix3 p t (chan h l)))
    (fun l => V (Proc.devRef .tc main_arg7) (ix1 (chan h l))) (fun l => V (Proc.devRef .tc main_arg8) (ix1 (chan h l)))
    (fun l => V (Proc.devRef .tc main_arg9) (ix1 (chan h l))) j := by
  unfold out_main_v76
  pointwise
  have e1 : ∀ q : (chan h j).val / 64 < 16, (⟨(chan h j).val / 64, q⟩ : Fin 16) = h := fun _ => Fin.ext (by simp only [chan]; omega)
  have e2 : ∀ q : (chan h j).val % 64 < 64, (⟨(chan h j).val % 64, q⟩ : Fin 64) = j := fun _ => Fin.ext (by simp only [chan]; omega)
  have e3 : ∀ (x : Fin 64) (q : (chan h j).val / 64 * 64 + x.val < 1024), (⟨(chan h j).val / 64 * 64 + x.val, q⟩ : Fin 1024) = chan h x :=
    fun x _ => Fin.ext (by simp only [chan]; omega)
  simp only [e1, e2, e3, div64]
  rfl

theorem result_apply (h0 : Fin' (m ((c.tc : Thread nD τ).loc main_arg0))) (h1 : Fin' (m ((c.tc : Thread nD τ).loc main_arg1)))
    (h2 : Fin' (m ((c.tc : Thread nD τ).loc main_arg2))) (h3 : Fin' (m ((c.tc : Thread nD τ).loc main_arg3)))
    (h4 : Fin' (m ((c.tc : Thread nD τ).loc main_arg4))) (h5 : Fin' (m ((c.tc : Thread nD τ).loc main_arg5)))
    (p : Fin 32) (t : Fin 2048) (h : Fin 16) (j : Fin 64) :
    out_main_v76 (STEP^[2048] (entryContents preI m c)) (ix3 p t (chan h j)) =
      spec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) p t h j := by
  have I := (start m c h0 h1 h2 h3 h4 h5).iter 2048 le_rfl
  rw [out_apply, iter_main_arg0, iter_main_arg1, iter_main_arg2, iter_main_arg6, iter_main_arg7, iter_main_arg8, iter_main_arg9]
  unfold spec
  simp only [I.out _ _ _ _ t.isLt]

end Cert.WkvRef
end
-- ==== Proof.WkvPre.lean ====
module

public import proofs.«01_k».proof.Defs
public import proofs.«01_k».proof.Proof.WkvRef
public import Idealize.ShloMosaic.Lib.ReduceAll
public import Idealize.ShloMosaic.Lib.Pointwise
public import Idealize.ShloMosaic.Lib.IdealHost

@[expose] public section

/-! What the precondition says of the arguments: every element of the six is a real. -/

noncomputable section

namespace Cert.WkvPre

open Cert.Pre_finite6 Idealize.ShloMosaic

instance facts : Cert.Pre_finite6.Facts where
  bcast_S_S32x2048x1024 := by decide
  reducesTo_S32x2048x1024_S_d0_1_2 := by decide
  h_S_ := by decide

theorem low16 : Ideal.ofBits FTy.bf16 0xFF80#16 = (⊥ : EReal) := by simp [Ideal.ofBits, Ideal.ieee]
theorem high16 : Ideal.ofBits FTy.bf16 0x7F80#16 = (⊤ : EReal) := by simp [Ideal.ofBits, Ideal.ieee]
theorem low32 : Ideal.ofBits FTy.f32 0xFF800000#32 = (⊥ : EReal) := by simp [Ideal.ofBits, Ideal.ieee]
theorem high32 : Ideal.ofBits FTy.f32 0x7F800000#32 = (⊤ : EReal) := by simp [Ideal.ofBits, Ideal.ieee]

theorem both (x lo hi : EReal) (hlo : lo = ⊥) (hhi : hi = ⊤) (h : IntOp.andi (Ideal.cmp .ogt x lo) (Ideal.cmp .olt x hi) = 1#1) : x ≠ ⊤ ∧ x ≠ ⊥ := by
  subst hlo hhi
  rw [IntOp.andi_eq_one] at h
  refine ⟨?_, ?_⟩
  · rintro rfl; exact absurd h.2 (by simp [Ideal.cmp])
  · rintro rfl; exact absurd h.1 (by simp [Ideal.cmp])

variable [Cert.Pre_finite6.Facts]
open Cert.Pre_finite6.Facts

theorem all16 (x : FVec Ideal S32x2048x1024 .bf16) (j : S_.Idx)
    (h : Host.reduce IntOp.andi (andi (cmpf .ogt x (broadcastInDim S32x2048x1024 ![] bcast_S_S32x2048x1024 (constant (F := Ideal) S_ .bf16 0xFF80#16)))
      (cmpf .olt x (broadcastInDim S32x2048x1024 ![] bcast_S_S32x2048x1024 (constant (F := Ideal) S_ .bf16 0x7F80#16)))) (constantI S_ 1 1#1)
      reducesTo_S32x2048x1024_S_d0_1_2 h_S_ j = 1#1) : Cert.WkvRef.Fin' x := by
  haveI : Subsingleton S_.Idx := ⟨fun a b => funext fun k => k.elim0⟩
  intro i
  exact both (x i) _ _ low16 high16 (Host.reduce_andi_all _ _ _ _ j h i)

theorem all32 (x : FVec Ideal S32x2048x1024 .f32) (j : S_.Idx)
    (h : Host.reduce IntOp.andi (andi (cmpf .ogt x (broadcastInDim S32x2048x1024 ![] bcast_S_S32x2048x1024 (constant (F := Ideal) S_ .f32 0xFF800000#32)))
      (cmpf .olt x (broadcastInDim S32x2048x1024 ![] bcast_S_S32x2048x1024 (constant (F := Ideal) S_ .f32 0x7F800000#32)))) (constantI S_ 1 1#1)
      reducesTo_S32x2048x1024_S_d0_1_2 h_S_ j = 1#1) : Cert.WkvRef.Fin' x := by
  haveI : Subsingleton S_.Idx := ⟨fun a b => funext fun k => k.elim0⟩
  intro i
  exact both (x i) _ _ low32 high32 (Host.reduce_andi_all _ _ _ _ j h i)

theorem reals (x0 x1 x2 : FVec Ideal S32x2048x1024 .bf16) (x3 : FVec Ideal S32x2048x1024 .f32) (x4 x5 x6 : FVec Ideal S32x2048x1024 .bf16) (x7 x8 x9 : FVec Ideal S1024 .f32)
    (h : fn (F := Ideal) x0 x1 x2 x3 x4 x5 x6 x7 x8 x9 = fun _ => 1#1) :
    Cert.WkvRef.Fin' x0 ∧ Cert.WkvRef.Fin' x1 ∧ Cert.WkvRef.Fin' x2 ∧ Cert.WkvRef.Fin' x3 ∧ Cert.WkvRef.Fin' x4 ∧ Cert.WkvRef.Fin' x5 := by
  have e := congrFun h (fun k => k.elim0)
  unfold fn fn_part1 fn_part2 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all16 x0 _ e0, all16 x1 _ e1, all16 x2 _ e2, all32 x3 _ e3, all16 x4 _ e4, all16 x5 _ e5⟩

end Cert.WkvPre

end
-- ==== Proof.WkvPairA.lean ====
module

public import proofs.«01_k».proof.Proof.Gen.Kernel6Ideal.Value
public import proofs.«01_k».proof.Proof.WkvLd

@[expose] public section

/-! What the body leaves at a point that opens a sequence. -/

set_option maxRecDepth 100000

noncomputable section

namespace Cert.Wkv

open Cert.Kernel6Ideal Cert.Kernel6Ideal.Gen Idealize.ShloMosaic Idealize.ShloMosaic.TcCoe

variable  (c : Dev nD) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x512x256 .bf16) (harg13 : arg13.IsWhole) (arg14 : Memref sig .tc .vmem S2x128x128 .f32) (harg14 : arg14.IsWhole)
    (x0 : Vec Ideal S1x512x256 .bf16) (x1 : Vec Ideal S1x512x256 .bf16) (x2 : Vec Ideal S1x512x256 .bf16) (x3 : Vec Ideal S1x512x256 .f32) (x4 : Vec Ideal S1x512x256 .bf16) (x5 : Vec Ideal S1x512x256 .bf16) (x6 : Vec Ideal S1x512x256 .bf16) (x7 : Vec Ideal S1x256 .f32) (x8 : Vec Ideal S1x256 .f32) (x9 : Vec Ideal S1x256 .f32)

theorem tlr0_A : (kernelRun0_A.sl.r (F := Ideal) c arg3 harg3 x0) = tl0 (arg3.view.read (Elt Ideal) (harg3.unread x0)) := rfl
theorem tlk0_A : (kernelRun0_A.sl.r_2 (F := Ideal) c arg4 harg4 x1) = tl0 (arg4.view.read (Elt Ideal) (harg4.unread x1)) := rfl
theorem tlv0_A : (kernelRun0_A.sl.r_4 (F := Ideal) c arg5 harg5 x2) = tl0 (arg5.view.read (Elt Ideal) (harg5.unread x2)) := rfl
theorem tla0_A : (kernelRun0_A.sl.r_8 (F := Ideal) c arg7 harg7 x4) = aAll (tl0 (arg7.view.read (Elt Ideal) (harg7.unread x4))) := rfl
theorem tlb0_A : (kernelRun0_A.sl.r_10 (F := Ideal) c arg7 harg7 arg8 harg8 x4 x5) = bAll (tl0 (arg7.view.read (Elt Ideal) (harg7.unread x4))) (tl0 (arg8.view.read (Elt Ideal) (harg8.unread x5))) := rfl
theorem tlr1_A : (kernelRun0_A.sl.r_1 (F := Ideal) c arg3 harg3 x0) = tl1 (arg3.view.read (Elt Ideal) (harg3.unread x0)) := rfl
theorem tlk1_A : (kernelRun0_A.sl.r_3 (F := Ideal) c arg4 harg4 x1) = tl1 (arg4.view.read (Elt Ideal) (harg4.unread x1)) := rfl
theorem tlv1_A : (kernelRun0_A.sl.r_5 (F := Ideal) c arg5 harg5 x2) = tl1 (arg5.view.read (Elt Ideal) (harg5.unread x2)) := rfl
theorem tla1_A : (kernelRun0_A.sl.r_9 (F := Ideal) c arg7 harg7 x4) = aAll (tl1 (arg7.view.read (Elt Ideal) (harg7.unread x4))) := rfl
theorem tlb1_A : (kernelRun0_A.sl.r_11 (F := Ideal) c arg7 harg7 arg8 harg8 x4 x5) = bAll (tl1 (arg7.view.read (Elt Ideal) (harg7.unread x4))) (tl1 (arg8.view.read (Elt Ideal) (harg8.unread x5))) := rfl
theorem wr0_A : (kernelRun0_A.sl.v145 (F := Ideal) c arg3 harg3 x0) = slc 0 (kernelRun0_A.sl.r (F := Ideal) c arg3 harg3 x0) := rfl
theorem wk0_A : (kernelRun0_A.sl.v161 (F := Ideal) c arg4 harg4 x1) = slc 0 (kernelRun0_A.sl.r_2 (F := Ideal) c arg4 harg4 x1) := rfl
theorem wv0_A : (kernelRun0_A.sl.v177 (F := Ideal) c arg5 harg5 x2) = slc 0 (kernelRun0_A.sl.r_4 (F := Ideal) c arg5 harg5 x2) := rfl
theorem wa0_A : (kernelRun0_A.sl.v193 (F := Ideal) c arg7 harg7 x4) = slc 0 (kernelRun0_A.sl.r_8 (F := Ideal) c arg7 harg7 x4) := rfl
theorem wb0_A : (kernelRun0_A.sl.r_23 (F := Ideal) c arg7 harg7 arg8 harg8 x4 x5) = slc 0 (kernelRun0_A.sl.r_10 (F := Ideal) c arg7 harg7 arg8 harg8 x4 x5) := rfl
theorem wl0_A : (kernelRun0_A.sl.r_12 (F := Ideal) c arg6 harg6 x3) = lw0 (arg6.view.read (Elt Ideal) (harg6.unread x3)) 0 := rfl
theorem wtr0_A : (kernelRun0_A.sl.r_734 (F := Ideal) c arg3 harg3 arg4 harg4 arg6 harg6 arg7 harg7 arg8 harg8 x0 x1 x3 x4 x5) = transV (kernelRun0_A.sl.r_12 (F := Ideal) c arg6 harg6 x3) (kernelRun0_A.sl.v145 (F := Ideal) c arg3 harg3 x0) (kernelRun0_A.sl.v161 (F := Ideal) c arg4 harg4 x1) (kernelRun0_A.sl.v193 (F := Ideal) c arg7 harg7 x4) (kernelRun0_A.sl.r_23 (F := Ideal) c arg7 harg7 arg8 harg8 x4 x5) := rfl
theorem wha0_A : (kernelRun0_A.sl.r_750 (F := Ideal) c arg3 harg3 arg4 harg4 arg5 harg5 arg6 harg6 arg7 harg7 arg8 harg8 x0 x1 x2 x3 x4 x5) = hAddV (kernelRun0_A.sl.r_12 (F := Ideal) c arg6 harg6 x3) (kernelRun0_A.sl.v145 (F := Ideal) c arg3 harg3 x0) (kernelRun0_A.sl.v161 (F := Ideal) c arg4 harg4 x1) (kernelRun0_A.sl.v177 (F := Ideal) c arg5 harg5 x2) (kernelRun0_A.sl.v193 (F := Ideal) c arg7 harg7 x4) (kernelRun0_A.sl.r_23 (F := Ideal) c arg7 harg7 arg8 harg8 x4 x5) := rfl
theorem wrh0_A : (kernelRun0_A.sl.r_691 (F := Ideal) c arg3 harg3 arg6 harg6 arg7 harg7 arg8 harg8 x0 x3 x4 x5) = rHatV (kernelRun0_A.sl.r_12 (F := Ideal) c arg6 harg6 x3) (kernelRun0_A.sl.v145 (F := Ideal) c arg3 harg3 x0) (kernelRun0_A.sl.v193 (F := Ideal) c arg7 harg7 x4) (kernelRun0_A.sl.r_23 (F := Ideal) c arg7 harg7 arg8 harg8 x4 x5) := rfl
theorem wyh0_A : (kernelRun0_A.sl.r_713 (F := Ideal) c arg3 harg3 arg4 harg4 arg5 harg5 arg6 harg6 arg7 harg7 arg8 harg8 x0 x1 x2 x3 x4 x5) = yHatV (kernelRun0_A.sl.r_12 (F := Ideal) c arg6 harg6 x3) (kernelRun0_A.sl.v145 (F := Ideal) c arg3 harg3 x0) (kernelRun0_A.sl.v161 (F := Ideal) c arg4 harg4 x1) (kernelRun0_A.sl.v177 (F := Ideal) c arg5 harg5 x2) (kernelRun0_A.sl.v193 (F := Ideal) c arg7 harg7 x4) (kernelRun0_A.sl.r_23 (F := Ideal) c arg7 harg7 arg8 harg8 x4 x5) := rfl
theorem wh0_A : (kernelRun0_A.sl.r_770 (F := Ideal) c arg3 harg3 arg4 harg4 arg5 harg5 arg6 harg6 arg7 harg7 arg8 harg8 arg14 x0 x1 x2 x3 x4 x5) = addf (mm3 (kernelRun0_A.sl.r_734 (F := Ideal) c arg3 harg3 arg4 harg4 arg6 harg6 arg7 harg7 arg8 harg8 x0 x1 x3 x4 x5) ((shapeCast S128x128 (kernelRun0_A.sl.v3572 (F := Ideal) c arg14) shapeCasts_S1x128x128_S128x128))) (kernelRun0_A.sl.r_750 (F := Ideal) c arg3 harg3 arg4 harg4 arg5 harg5 arg6 harg6 arg7 harg7 arg8 harg8 x0 x1 x2 x3 x4 x5) := rfl
theorem wy0_A : (kernelRun0_A.sl.r_769 (F := Ideal) c arg3 harg3 arg4 harg4 arg5 harg5 arg6 harg6 arg7 harg7 arg8 harg8 arg14 x0 x1 x2 x3 x4 x5) = addf (mm (kernelRun0_A.sl.r_691 (F := Ideal) c arg3 harg3 arg6 harg6 arg7 harg7 arg8 harg8 x0 x3 x4 x5) ((shapeCast S128x128 (kernelRun0_A.sl.v3572 (F := Ideal) c arg14) shapeCasts_S1x128x128_S128x128))) (kernelRun0_A.sl.r_713 (F := Ideal) c arg3 harg3 arg4 harg4 arg5 harg5 arg6 harg6 arg7 harg7 arg8 harg8 x0 x1 x2 x3 x4 x5) := rfl
theorem sh0_A : (kernelRun0_A.sl.r_770 (F := Ideal) c arg3 harg3 arg4 harg4 arg5 harg5 arg6 harg6 arg7 harg7 arg8 harg8 arg14 x0 x1 x2 x3 x4 x5) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 1 := by
  rw [wh0_A, wtr0_A, wha0_A, wl0_A, wr0_A, tlr0_A, wk0_A, tlk0_A, wv0_A, tlv0_A, wa0_A, tla0_A, wb0_A, tlb0_A]; rfl
theorem sy0_A : (kernelRun0_A.sl.r_769 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 0 := by
  rw [wy0_A, wrh0_A, wyh0_A, wl0_A, wr0_A, tlr0_A, wk0_A, tlk0_A, wv0_A, tlv0_A, wa0_A, tla0_A, wb0_A, tlb0_A]; rfl

theorem wr2_A : (kernelRun0_A.sl.v147 (F := Ideal) c arg3 harg3 x0) = slc 1 (kernelRun0_A.sl.r (F := Ideal) c arg3 harg3 x0) := rfl
theorem wk2_A : (kernelRun0_A.sl.v163 (F := Ideal) c arg4 harg4 x1) = slc 1 (kernelRun0_A.sl.r_2 (F := Ideal) c arg4 harg4 x1) := rfl
theorem wv2_A : (kernelRun0_A.sl.v179 (F := Ideal) c arg5 harg5 x2) = slc 1 (kernelRun0_A.sl.r_4 (F := Ideal) c arg5 harg5 x2) := rfl
theorem wa2_A : (kernelRun0_A.sl.v195 (F := Ideal) c arg7 harg7 x4) = slc 1 (kernelRun0_A.sl.r_8 (F := Ideal) c arg7 harg7 x4) := rfl
theorem wb2_A : (kernelRun0_A.sl.r_25 (F := Ideal) c arg7 harg7 arg8 harg8 x4 x5) = slc 1 (kernelRun0_A.sl.r_10 (F := Ideal) c arg7 harg7 arg8 harg8 x4 x5) := rfl
theorem wl2_A : (kernelRun0_A.sl.r_14 (F := Ideal) c arg6 harg6 x3) = lw0 (arg6.view.read (Elt Ideal) (harg6.unread x3)) 1 := rfl
theorem wtr2_A : (kernelRun0_A.sl.r_736 (F := Ideal) c arg3 harg3 arg4 harg4 arg6 harg6 arg7 harg7 arg8 harg8 x0 x1 x3 x4 x5) = transV (kernelRun0_A.sl.r_14 (F := Ideal) c arg6 harg6 x3) (kernelRun0_A.sl.v147 (F := Ideal) c arg3 harg3 x0) (kernelRun0_A.sl.v163 (F := Ideal) c arg4 harg4 x1) (kernelRun0_A.sl.v195 (F := Ideal) c arg7 harg7 x4) (kernelRun0_A.sl.r_25 (F := Ideal) c arg7 harg7 arg8 harg8 x4 x5) := rfl
theorem wha2_A : (kernelRun0_A.sl.r_752 (F := Ideal) c arg3 harg3 arg4 harg4 arg5 harg5 arg6 harg6 arg7 harg7 arg8 harg8 x0 x1 x2 x3 x4 x5) = hAddV (kernelRun0_A.sl.r_14 (F := Ideal) c arg6 harg6 x3) (kernelRun0_A.sl.v147 (F := Ideal) c arg3 harg3 x0) (kernelRun0_A.sl.v163 (F := Ideal) c arg4 harg4 x1) (kernelRun0_A.sl.v179 (F := Ideal) c arg5 harg5 x2) (kernelRun0_A.sl.v195 (F := Ideal) c arg7 harg7 x4) (kernelRun0_A.sl.r_25 (F := Ideal) c arg7 harg7 arg8 harg8 x4 x5) := rfl
theorem wrh2_A : (kernelRun0_A.sl.r_695 (F := Ideal) c arg3 harg3 arg6 harg6 arg7 harg7 arg8 harg8 x0 x3 x4 x5) = rHatV (kernelRun0_A.sl.r_14 (F := Ideal) c arg6 harg6 x3) (kernelRun0_A.sl.v147 (F := Ideal) c arg3 harg3 x0) (kernelRun0_A.sl.v195 (F := Ideal) c arg7 harg7 x4) (kernelRun0_A.sl.r_25 (F := Ideal) c arg7 harg7 arg8 harg8 x4 x5) := rfl
theorem wyh2_A : (kernelRun0_A.sl.r_715 (F := Ideal) c arg3 harg3 arg4 harg4 arg5 harg5 arg6 harg6 arg7 harg7 arg8 harg8 x0 x1 x2 x3 x4 x5) = yHatV (kernelRun0_A.sl.r_14 (F := Ideal) c arg6 harg6 x3) (kernelRun0_A.sl.v147 (F := Ideal) c arg3 harg3 x0) (kernelRun0_A.sl.v163 (F := Ideal) c arg4 harg4 x1) (kernelRun0_A.sl.v179 (F := Ideal) c arg5 harg5 x2) (kernelRun0_A.sl.v195 (F := Ideal) c arg7 harg7 x4) (kernelRun0_A.sl.r_25 (F := Ideal) c arg7 harg7 arg8 harg8 x4 x5) := rfl
theorem wh2_A : (kernelRun0_A.sl.r_775 (F := Ideal) c arg3 harg3 arg4 harg4 arg5 harg5 arg6 harg6 arg7 harg7 arg8 harg8 arg14 x0 x1 x2 x3 x4 x5) = addf (mm3 (kernelRun0_A.sl.r_736 (F := Ideal) c arg3 harg3 arg4 harg4 arg6 harg6 arg7 harg7 arg8 harg8 x0 x1 x3 x4 x5) ((kernelRun0_A.sl.r_770 (F := Ideal) c arg3 harg3 arg4 harg4 arg5 harg5 arg6 harg6 arg7 harg7 arg8 harg8 arg14 x0 x1 x2 x3 x4 x5))) (kernelRun0_A.sl.r_752 (F := Ideal) c arg3 harg3 arg4 harg4 arg5 harg5 arg6 harg6 arg7 harg7 arg8 harg8 x0 x1 x2 x3 x4 x5) := rfl
theorem wy2_A : (kernelRun0_A.sl.r_774 (F := Ideal) c arg3 harg3 arg4 harg4 arg5 harg5 arg6 harg6 arg7 harg7 arg8 harg8 arg14 x0 x1 x2 x3 x4 x5) = addf (mm (kernelRun0_A.sl.r_695 (F := Ideal) c arg3 harg3 arg6 harg6 arg7 harg7 arg8 harg8 x0 x3 x4 x5) ((kernelRun0_A.sl.r_770 (F := Ideal) c arg3 harg3 arg4 harg4 arg5 harg5 arg6 harg6 arg7 harg7 arg8 harg8 arg14 x0 x1 x2 x3 x4 x5))) (kernelRun0_A.sl.r_715 (F := Ideal) c arg3 harg3 arg4 harg4 arg5 harg5 arg6 harg6 arg7 harg7 arg8 harg8 x0 x1 x2 x3 x4 x5) := rfl
theorem sh2_A : (kernelRun0_A.sl.r_775 (F := Ideal) c arg3 harg3 arg4 harg4 arg5 harg5 arg6 harg6 arg7 harg7 arg8 harg8 arg14 x0 x1 x2 x3 x4 x5) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 2 := by
  rw [wh2_A, sh0_A, wtr2_A, wha2_A, wl2_A, wr2_A, tlr0_A, wk2_A, tlk0_A, wv2_A, tlv0_A, wa2_A, tla0_A, wb2_A, tlb0_A]; rfl
theorem sy2_A : (kernelRun0_A.sl.r_774 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 1 := by
  rw [wy2_A, sh0_A, wrh2_A, wyh2_A, wl2_A, wr2_A, tlr0_A, wk2_A, tlk0_A, wv2_A, tlv0_A, wa2_A, tla0_A, wb2_A, tlb0_A]; rfl

theorem wr4_A : (kernelRun0_A.sl.v149 (F := Ideal) c arg3 harg3 x0) = slc 2 (kernelRun0_A.sl.r (F := Ideal) c arg3 harg3 x0) := rfl
theorem wk4_A : (kernelRun0_A.sl.v165 (F := Ideal) c arg4 harg4 x1) = slc 2 (kernelRun0_A.sl.r_2 (F := Ideal) c arg4 harg4 x1) := rfl
theorem wv4_A : (kernelRun0_A.sl.v181 (F := Ideal) c arg5 harg5 x2) = slc 2 (kernelRun0_A.sl.r_4 (F := Ideal) c arg5 harg5 x2) := rfl
theorem wa4_A : (kernelRun0_A.sl.v197 (F := Ideal) c arg7 harg7 x4) = slc 2 (kernelRun0_A.sl.r_8 (F := Ideal) c arg7 harg7 x4) := rfl
theorem wb4_A : (kernelRun0_A.sl.r_27 (F := Ideal) c arg7 harg7 arg8 harg8 x4 x5) = slc 2 (kernelRun0_A.sl.r_10 (F := Ideal) c arg7 harg7 arg8 harg8 x4 x5) := rfl
theorem wl4_A : (kernelRun0_A.sl.v122 (F := Ideal) c arg6 harg6 x3) = lw0 (arg6.view.read (Elt Ideal) (harg6.unread x3)) 2 := rfl
theorem wtr4_A : (kernelRun0_A.sl.r_738 (F := Ideal) c arg3 harg3 arg4 harg4 arg6 harg6 arg7 harg7 arg8 harg8 x0 x1 x3 x4 x5) = transV (kernelRun0_A.sl.v122 (F := Ideal) c arg6 harg6 x3) (kernelRun0_A.sl.v149 (F := Ideal) c arg3 harg3 x0) (kernelRun0_A.sl.v165 (F := Ideal) c arg4 harg4 x1) (kernelRun0_A.sl.v197 (F := Ideal) c arg7 harg7 x4) (kernelRun0_A.sl.r_27 (F := Ideal) c arg7 harg7 arg8 harg8 x4 x5) := rfl
theorem wha4_A : (kernelRun0_A.sl.r_754 (F := Ideal) c arg3 harg3 arg4 harg4 arg5 harg5 arg6 harg6 arg7 harg7 arg8 harg8 x0 x1 x2 x3 x4 x5) = hAddV (kernelRun0_A.sl.v122 (F := Ideal) c arg6 harg6 x3) (kernelRun0_A.sl.v149 (F := Ideal) c arg3 harg3 x0) (kernelRun0_A.sl.v165 (F := Ideal) c arg4 harg4 x1) (kernelRun0_A.sl.v181 (F := Ideal) c arg5 harg5 x2) (kernelRun0_A.sl.v197 (F := Ideal) c arg7 harg7 x4) (kernelRun0_A.sl.r_27 (F := Ideal) c arg7 harg7 arg8 harg8 x4 x5) := rfl
theorem wrh4_A : (kernelRun0_A.sl.r_697 (F := Ideal) c arg3 harg3 arg6 harg6 arg7 harg7 arg8 harg8 x0 x3 x4 x5) = rHatV (kernelRun0_A.sl.v122 (F := Ideal) c arg6 harg6 x3) (kernelRun0_A.sl.v149 (F := Ideal) c arg3 harg3 x0) (kernelRun0_A.sl.v197 (F := Ideal) c arg7 harg7 x4) (kernelRun0_A.sl.r_27 (F := Ideal) c arg7 harg7 arg8 harg8 x4 x5) := rfl
theorem wyh4_A : (kernelRun0_A.sl.r_718 (F := Ideal) c arg3 harg3 arg4 harg4 arg5 harg5 arg6 harg6 arg7 harg7 arg8 harg8 x0 x1 x2 x3 x4 x5) = yHatV (kernelRun0_A.sl.v122 (F := Ideal) c arg6 harg6 x3) (kernelRun0_A.sl.v149 (F := Ideal) c arg3 harg3 x0) (kernelRun0_A.sl.v165 (F := Ideal) c arg4 harg4 x1) (kernelRun0_A.sl.v181 (F := Ideal) c arg5 harg5 x2) (kernelRun0_A.sl.v197 (F := Ideal) c arg7 harg7 x4) (kernelRun0_A.sl.r_27 (F := Ideal) c arg7 harg7 arg8 harg8 x4 x5) := rfl
theorem wh4_A : (addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)) = addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5) := rfl
theorem wy4_A : (kernelRun0_A.sl.r_780 (F := Ideal) c arg3 harg3 arg4 harg4 arg5 harg5 arg6 harg6 arg7 harg7 arg8 harg8 arg14 x0 x1 x2 x3 x4 x5) = addf (mm (kernelRun0_A.sl.r_697 (F := Ideal) c arg3 harg3 arg6 harg6 arg7 harg7 arg8 harg8 x0 x3 x4 x5) ((kernelRun0_A.sl.r_775 (F := Ideal) c arg3 harg3 arg4 harg4 arg5 harg5 arg6 harg6 arg7 harg7 arg8 harg8 arg14 x0 x1 x2 x3 x4 x5))) (kernelRun0_A.sl.r_718 (F := Ideal) c arg3 harg3 arg4 harg4 arg5 harg5 arg6 harg6 arg7 harg7 arg8 harg8 x0 x1 x2 x3 x4 x5) := rfl
theorem sh4_A : (addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 3 := by
  rw [wh4_A, sh2_A, wtr4_A, wha4_A, wl4_A, wr4_A, tlr0_A, wk4_A, tlk0_A, wv4_A, tlv0_A, wa4_A, tla0_A, wb4_A, tlb0_A]; rfl
theorem sy4_A : (kernelRun0_A.sl.r_780 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 2 := by
  rw [wy4_A, sh2_A, wrh4_A, wyh4_A, wl4_A, wr4_A, tlr0_A, wk4_A, tlk0_A, wv4_A, tlv0_A, wa4_A, tla0_A, wb4_A, tlb0_A]; rfl

theorem wr6_A : (kernelRun0_A.sl.v151 (F := Ideal) c arg3 harg3 x0) = slc 3 (kernelRun0_A.sl.r (F := Ideal) c arg3 harg3 x0) := rfl
theorem wk6_A : (kernelRun0_A.sl.v167 (F := Ideal) c arg4 harg4 x1) = slc 3 (kernelRun0_A.sl.r_2 (F := Ideal) c arg4 harg4 x1) := rfl
theorem wv6_A : (kernelRun0_A.sl.v183 (F := Ideal) c arg5 harg5 x2) = slc 3 (kernelRun0_A.sl.r_4 (F := Ideal) c arg5 harg5 x2) := rfl
theorem wa6_A : (kernelRun0_A.sl.v199 (F := Ideal) c arg7 harg7 x4) = slc 3 (kernelRun0_A.sl.r_8 (F := Ideal) c arg7 harg7 x4) := rfl
theorem wb6_A : (kernelRun0_A.sl.r_29 (F := Ideal) c arg7 harg7 arg8 harg8 x4 x5) = slc 3 (kernelRun0_A.sl.r_10 (F := Ideal) c arg7 harg7 arg8 harg8 x4 x5) := rfl
theorem wl6_A : (kernelRun0_A.sl.v126 (F := Ideal) c arg6 harg6 x3) = lw0 (arg6.view.read (Elt Ideal) (harg6.unread x3)) 3 := rfl
theorem wtr6_A : (kernelRun0_A.sl.r_740 (F := Ideal) c arg3 harg3 arg4 harg4 arg6 harg6 arg7 harg7 arg8 harg8 x0 x1 x3 x4 x5) = transV (kernelRun0_A.sl.v126 (F := Ideal) c arg6 harg6 x3) (kernelRun0_A.sl.v151 (F := Ideal) c arg3 harg3 x0) (kernelRun0_A.sl.v167 (F := Ideal) c arg4 harg4 x1) (kernelRun0_A.sl.v199 (F := Ideal) c arg7 harg7 x4) (kernelRun0_A.sl.r_29 (F := Ideal) c arg7 harg7 arg8 harg8 x4 x5) := rfl
theorem wha6_A : (kernelRun0_A.sl.r_756 (F := Ideal) c arg3 harg3 arg4 harg4 arg5 harg5 arg6 harg6 arg7 harg7 arg8 harg8 x0 x1 x2 x3 x4 x5) = hAddV (kernelRun0_A.sl.v126 (F := Ideal) c arg6 harg6 x3) (kernelRun0_A.sl.v151 (F := Ideal) c arg3 harg3 x0) (kernelRun0_A.sl.v167 (F := Ideal) c arg4 harg4 x1) (kernelRun0_A.sl.v183 (F := Ideal) c arg5 harg5 x2) (kernelRun0_A.sl.v199 (F := Ideal) c arg7 harg7 x4) (kernelRun0_A.sl.r_29 (F := Ideal) c arg7 harg7 arg8 harg8 x4 x5) := rfl
theorem wrh6_A : (kernelRun0_A.sl.r_699 (F := Ideal) c arg3 harg3 arg6 harg6 arg7 harg7 arg8 harg8 x0 x3 x4 x5) = rHatV (kernelRun0_A.sl.v126 (F := Ideal) c arg6 harg6 x3) (kernelRun0_A.sl.v151 (F := Ideal) c arg3 harg3 x0) (kernelRun0_A.sl.v199 (F := Ideal) c arg7 harg7 x4) (kernelRun0_A.sl.r_29 (F := Ideal) c arg7 harg7 arg8 harg8 x4 x5) := rfl
theorem wyh6_A : (kernelRun0_A.sl.r_720 (F := Ideal) c arg3 harg3 arg4 harg4 arg5 harg5 arg6 harg6 arg7 harg7 arg8 harg8 x0 x1 x2 x3 x4 x5) = yHatV (kernelRun0_A.sl.v126 (F := Ideal) c arg6 harg6 x3) (kernelRun0_A.sl.v151 (F := Ideal) c arg3 harg3 x0) (kernelRun0_A.sl.v167 (F := Ideal) c arg4 harg4 x1) (kernelRun0_A.sl.v183 (F := Ideal) c arg5 harg5 x2) (kernelRun0_A.sl.v199 (F := Ideal) c arg7 harg7 x4) (kernelRun0_A.sl.r_29 (F := Ideal) c arg7 harg7 arg8 harg8 x4 x5) := rfl
theorem wh6_A : (addf (mm3 (kernelRun0_A.sl.r_740 (F := Ideal) c arg3 harg3 arg4 harg4 arg6 harg6 arg7 harg7 arg8 harg8 x0 x1 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_756 (F := Ideal) c arg3 harg3 arg4 harg4 arg5 harg5 arg6 harg6 arg7 harg7 arg8 harg8 x0 x1 x2 x3 x4 x5)) = addf (mm3 (kernelRun0_A.sl.r_740 (F := Ideal) c arg3 harg3 arg4 harg4 arg6 harg6 arg7 harg7 arg8 harg8 x0 x1 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_756 (F := Ideal) c arg3 harg3 arg4 harg4 arg5 harg5 arg6 harg6 arg7 harg7 arg8 harg8 x0 x1 x2 x3 x4 x5) := rfl
theorem wy6_A : (kernelRun0_A.sl.r_783 (F := Ideal) c arg3 harg3 arg4 harg4 arg5 harg5 arg6 harg6 arg7 harg7 arg8 harg8 arg14 x0 x1 x2 x3 x4 x5) = addf (mm (kernelRun0_A.sl.r_699 (F := Ideal) c arg3 harg3 arg6 harg6 arg7 harg7 arg8 harg8 x0 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_720 (F := Ideal) c arg3 harg3 arg4 harg4 arg5 harg5 arg6 harg6 arg7 harg7 arg8 harg8 x0 x1 x2 x3 x4 x5) := rfl
theorem sh6_A : (addf (mm3 (kernelRun0_A.sl.r_740 (F := Ideal) c arg3 harg3 arg4 harg4 arg6 harg6 arg7 harg7 arg8 harg8 x0 x1 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_756 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 4 := by
  rw [wh6_A, sh4_A, wtr6_A, wha6_A, wl6_A, wr6_A, tlr0_A, wk6_A, tlk0_A, wv6_A, tlv0_A, wa6_A, tla0_A, wb6_A, tlb0_A]; rfl
theorem sy6_A : (kernelRun0_A.sl.r_783 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 3 := by
  rw [wy6_A, sh4_A, wrh6_A, wyh6_A, wl6_A, wr6_A, tlr0_A, wk6_A, tlk0_A, wv6_A, tlv0_A, wa6_A, tla0_A, wb6_A, tlb0_A]; rfl

theorem wr8_A : (kernelRun0_A.sl.v153 (F := Ideal) c arg3 harg3 x0) = slc 4 (kernelRun0_A.sl.r (F := Ideal) c arg3 harg3 x0) := rfl
theorem wk8_A : (kernelRun0_A.sl.v169 (F := Ideal) c arg4 harg4 x1) = slc 4 (kernelRun0_A.sl.r_2 (F := Ideal) c arg4 harg4 x1) := rfl
theorem wv8_A : (kernelRun0_A.sl.v185 (F := Ideal) c arg5 harg5 x2) = slc 4 (kernelRun0_A.sl.r_4 (F := Ideal) c arg5 harg5 x2) := rfl
theorem wa8_A : (kernelRun0_A.sl.r_15 (F := Ideal) c arg7 harg7 x4) = slc 4 (kernelRun0_A.sl.r_8 (F := Ideal) c arg7 harg7 x4) := rfl
theorem wb8_A : (kernelRun0_A.sl.r_31 (F := Ideal) c arg7 harg7 arg8 harg8 x4 x5) = slc 4 (kernelRun0_A.sl.r_10 (F := Ideal) c arg7 harg7 arg8 harg8 x4 x5) := rfl
theorem wl8_A : (kernelRun0_A.sl.v130 (F := Ideal) c arg6 harg6 x3) = lw0 (arg6.view.read (Elt Ideal) (harg6.unread x3)) 4 := rfl
theorem wtr8_A : (kernelRun0_A.sl.r_742 (F := Ideal) c arg3 harg3 arg4 harg4 arg6 harg6 arg7 harg7 arg8 harg8 x0 x1 x3 x4 x5) = transV (kernelRun0_A.sl.v130 (F := Ideal) c arg6 harg6 x3) (kernelRun0_A.sl.v153 (F := Ideal) c arg3 harg3 x0) (kernelRun0_A.sl.v169 (F := Ideal) c arg4 harg4 x1) (kernelRun0_A.sl.r_15 (F := Ideal) c arg7 harg7 x4) (kernelRun0_A.sl.r_31 (F := Ideal) c arg7 harg7 arg8 harg8 x4 x5) := rfl
theorem wha8_A : (kernelRun0_A.sl.r_758 (F := Ideal) c arg3 harg3 arg4 harg4 arg5 harg5 arg6 harg6 arg7 harg7 arg8 harg8 x0 x1 x2 x3 x4 x5) = hAddV (kernelRun0_A.sl.v130 (F := Ideal) c arg6 harg6 x3) (kernelRun0_A.sl.v153 (F := Ideal) c arg3 harg3 x0) (kernelRun0_A.sl.v169 (F := Ideal) c arg4 harg4 x1) (kernelRun0_A.sl.v185 (F := Ideal) c arg5 harg5 x2) (kernelRun0_A.sl.r_15 (F := Ideal) c arg7 harg7 x4) (kernelRun0_A.sl.r_31 (F := Ideal) c arg7 harg7 arg8 harg8 x4 x5) := rfl
theorem wrh8_A : (kernelRun0_A.sl.r_703 (F := Ideal) c arg3 harg3 arg6 harg6 arg7 harg7 arg8 harg8 x0 x3 x4 x5) = rHatV (kernelRun0_A.sl.v130 (F := Ideal) c arg6 harg6 x3) (kernelRun0_A.sl.v153 (F := Ideal) c arg3 harg3 x0) (kernelRun0_A.sl.r_15 (F := Ideal) c arg7 harg7 x4) (kernelRun0_A.sl.r_31 (F := Ideal) c arg7 harg7 arg8 harg8 x4 x5) := rfl
theorem wyh8_A : (kernelRun0_A.sl.r_724 (F := Ideal) c arg3 harg3 arg4 harg4 arg5 harg5 arg6 harg6 arg7 harg7 arg8 harg8 x0 x1 x2 x3 x4 x5) = yHatV (kernelRun0_A.sl.v130 (F := Ideal) c arg6 harg6 x3) (kernelRun0_A.sl.v153 (F := Ideal) c arg3 harg3 x0) (kernelRun0_A.sl.v169 (F := Ideal) c arg4 harg4 x1) (kernelRun0_A.sl.v185 (F := Ideal) c arg5 harg5 x2) (kernelRun0_A.sl.r_15 (F := Ideal) c arg7 harg7 x4) (kernelRun0_A.sl.r_31 (F := Ideal) c arg7 harg7 arg8 harg8 x4 x5) := rfl
theorem wh8_A : (kernelRun0_A.sl.r_790 (F := Ideal) c arg3 harg3 arg4 harg4 arg5 harg5 arg6 harg6 arg7 harg7 arg8 harg8 arg14 x0 x1 x2 x3 x4 x5) = addf (mm3 (kernelRun0_A.sl.r_742 (F := Ideal) c arg3 harg3 arg4 harg4 arg6 harg6 arg7 harg7 arg8 harg8 x0 x1 x3 x4 x5) ((addf (mm3 (kernelRun0_A.sl.r_740 (F := Ideal) c arg3 harg3 arg4 harg4 arg6 harg6 arg7 harg7 arg8 harg8 x0 x1 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_756 (F := Ideal) c arg3 harg3 arg4 harg4 arg5 harg5 arg6 harg6 arg7 harg7 arg8 harg8 x0 x1 x2 x3 x4 x5)))) (kernelRun0_A.sl.r_758 (F := Ideal) c arg3 harg3 arg4 harg4 arg5 harg5 arg6 harg6 arg7 harg7 arg8 harg8 x0 x1 x2 x3 x4 x5) := rfl
theorem wy8_A : (kernelRun0_A.sl.r_789 (F := Ideal) c arg3 harg3 arg4 harg4 arg5 harg5 arg6 harg6 arg7 harg7 arg8 harg8 arg14 x0 x1 x2 x3 x4 x5) = addf (mm (kernelRun0_A.sl.r_703 (F := Ideal) c arg3 harg3 arg6 harg6 arg7 harg7 arg8 harg8 x0 x3 x4 x5) ((addf (mm3 (kernelRun0_A.sl.r_740 (F := Ideal) c arg3 harg3 arg4 harg4 arg6 harg6 arg7 harg7 arg8 harg8 x0 x1 x3 x4 x5) ((addf (mm3 (kernelRun0_A.sl.r_738 (F := Ideal) c arg3 harg3 arg4 harg4 arg6 harg6 arg7 harg7 arg8 harg8 x0 x1 x3 x4 x5) ((kernelRun0_A.sl.r_775 (F := Ideal) c arg3 harg3 arg4 harg4 arg5 harg5 arg6 harg6 arg7 harg7 arg8 harg8 arg14 x0 x1 x2 x3 x4 x5))) (kernelRun0_A.sl.r_754 (F := Ideal) c arg3 harg3 arg4 harg4 arg5 harg5 arg6 harg6 arg7 harg7 arg8 harg8 x0 x1 x2 x3 x4 x5)))) (kernelRun0_A.sl.r_756 (F := Ideal) c arg3 harg3 arg4 harg4 arg5 harg5 arg6 harg6 arg7 harg7 arg8 harg8 x0 x1 x2 x3 x4 x5)))) (kernelRun0_A.sl.r_724 (F := Ideal) c arg3 harg3 arg4 harg4 arg5 harg5 arg6 harg6 arg7 harg7 arg8 harg8 x0 x1 x2 x3 x4 x5) := rfl
theorem sh8_A : (kernelRun0_A.sl.r_790 (F := Ideal) c arg3 harg3 arg4 harg4 arg5 harg5 arg6 harg6 arg7 harg7 arg8 harg8 arg14 x0 x1 x2 x3 x4 x5) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 5 := by
  rw [wh8_A, sh6_A, wtr8_A, wha8_A, wl8_A, wr8_A, tlr0_A, wk8_A, tlk0_A, wv8_A, tlv0_A, wa8_A, tla0_A, wb8_A, tlb0_A]; rfl
theorem sy8_A : (kernelRun0_A.sl.r_789 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 4 := by
  rw [wy8_A, sh6_A, wrh8_A, wyh8_A, wl8_A, wr8_A, tlr0_A, wk8_A, tlk0_A, wv8_A, tlv0_A, wa8_A, tla0_A, wb8_A, tlb0_A]; rfl

theorem wr10_A : (kernelRun0_A.sl.v155 (F := Ideal) c arg3 harg3 x0) = slc 5 (kernelRun0_A.sl.r (F := Ideal) c arg3 harg3 x0) := rfl
theorem wk10_A : (kernelRun0_A.sl.v171 (F := Ideal) c arg4 harg4 x1) = slc 5 (kernelRun0_A.sl.r_2 (F := Ideal) c arg4 harg4 x1) := rfl
theorem wv10_A : (kernelRun0_A.sl.v187 (F := Ideal) c arg5 harg5 x2) = slc 5 (kernelRun0_A.sl.r_4 (F := Ideal) c arg5 harg5 x2) := rfl
theorem wa10_A : (kernelRun0_A.sl.r_17 (F := Ideal) c arg7 harg7 x4) = slc 5 (kernelRun0_A.sl.r_8 (F := Ideal) c arg7 harg7 x4) := rfl
theorem wb10_A : (kernelRun0_A.sl.r_33 (F := Ideal) c arg7 harg7 arg8 harg8 x4 x5) = slc 5 (kernelRun0_A.sl.r_10 (F := Ideal) c arg7 harg7 arg8 harg8 x4 x5) := rfl
theorem wl10_A : (kernelRun0_A.sl.v134 (F := Ideal) c arg6 harg6 x3) = lw0 (arg6.view.read (Elt Ideal) (harg6.unread x3)) 5 := rfl
theorem wtr10_A : (kernelRun0_A.sl.r_744 (F := Ideal) c arg3 harg3 arg4 harg4 arg6 harg6 arg7 harg7 arg8 harg8 x0 x1 x3 x4 x5) = transV (kernelRun0_A.sl.v134 (F := Ideal) c arg6 harg6 x3) (kernelRun0_A.sl.v155 (F := Ideal) c arg3 harg3 x0) (kernelRun0_A.sl.v171 (F := Ideal) c arg4 harg4 x1) (kernelRun0_A.sl.r_17 (F := Ideal) c arg7 harg7 x4) (kernelRun0_A.sl.r_33 (F := Ideal) c arg7 harg7 arg8 harg8 x4 x5) := rfl
theorem wha10_A : (kernelRun0_A.sl.r_760 (F := Ideal) c arg3 harg3 arg4 harg4 arg5 harg5 arg6 harg6 arg7 harg7 arg8 harg8 x0 x1 x2 x3 x4 x5) = hAddV (kernelRun0_A.sl.v134 (F := Ideal) c arg6 harg6 x3) (kernelRun0_A.sl.v155 (F := Ideal) c arg3 harg3 x0) (kernelRun0_A.sl.v171 (F := Ideal) c arg4 harg4 x1) (kernelRun0_A.sl.v187 (F := Ideal) c arg5 harg5 x2) (kernelRun0_A.sl.r_17 (F := Ideal) c arg7 harg7 x4) (kernelRun0_A.sl.r_33 (F := Ideal) c arg7 harg7 arg8 harg8 x4 x5) := rfl
theorem wrh10_A : (kernelRun0_A.sl.r_705 (F := Ideal) c arg3 harg3 arg6 harg6 arg7 harg7 arg8 harg8 x0 x3 x4 x5) = rHatV (kernelRun0_A.sl.v134 (F := Ideal) c arg6 harg6 x3) (kernelRun0_A.sl.v155 (F := Ideal) c arg3 harg3 x0) (kernelRun0_A.sl.r_17 (F := Ideal) c arg7 harg7 x4) (kernelRun0_A.sl.r_33 (F := Ideal) c arg7 harg7 arg8 harg8 x4 x5) := rfl
theorem wyh10_A : (kernelRun0_A.sl.r_726 (F := Ideal) c arg3 harg3 arg4 harg4 arg5 harg5 arg6 harg6 arg7 harg7 arg8 harg8 x0 x1 x2 x3 x4 x5) = yHatV (kernelRun0_A.sl.v134 (F := Ideal) c arg6 harg6 x3) (kernelRun0_A.sl.v155 (F := Ideal) c arg3 harg3 x0) (kernelRun0_A.sl.v171 (F := Ideal) c arg4 harg4 x1) (kernelRun0_A.sl.v187 (F := Ideal) c arg5 harg5 x2) (kernelRun0_A.sl.r_17 (F := Ideal) c arg7 harg7 x4) (kernelRun0_A.sl.r_33 (F := Ideal) c arg7 harg7 arg8 harg8 x4 x5) := rfl
theorem wh10_A : (kernelRun0_A.sl.r_797 (F := Ideal) c arg3 harg3 arg4 harg4 arg5 harg5 arg6 harg6 arg7 harg7 arg8 harg8 arg14 x0 x1 x2 x3 x4 x5) = addf (mm3 (kernelRun0_A.sl.r_744 (F := Ideal) c arg3 harg3 arg4 harg4 arg6 harg6 arg7 harg7 arg8 harg8 x0 x1 x3 x4 x5) ((kernelRun0_A.sl.r_790 (F := Ideal) c arg3 harg3 arg4 harg4 arg5 harg5 arg6 harg6 arg7 harg7 arg8 harg8 arg14 x0 x1 x2 x3 x4 x5))) (kernelRun0_A.sl.r_760 (F := Ideal) c arg3 harg3 arg4 harg4 arg5 harg5 arg6 harg6 arg7 harg7 arg8 harg8 x0 x1 x2 x3 x4 x5) := rfl
theorem wy10_A : (kernelRun0_A.sl.r_796 (F := Ideal) c arg3 harg3 arg4 harg4 arg5 harg5 arg6 harg6 arg7 harg7 arg8 harg8 arg14 x0 x1 x2 x3 x4 x5) = addf (mm (kernelRun0_A.sl.r_705 (F := Ideal) c arg3 harg3 arg6 harg6 arg7 harg7 arg8 harg8 x0 x3 x4 x5) ((kernelRun0_A.sl.r_790 (F := Ideal) c arg3 harg3 arg4 harg4 arg5 harg5 arg6 harg6 arg7 harg7 arg8 harg8 arg14 x0 x1 x2 x3 x4 x5))) (kernelRun0_A.sl.r_726 (F := Ideal) c arg3 harg3 arg4 harg4 arg5 harg5 arg6 harg6 arg7 harg7 arg8 harg8 x0 x1 x2 x3 x4 x5) := rfl
theorem sh10_A : (kernelRun0_A.sl.r_797 (F := Ideal) c arg3 harg3 arg4 harg4 arg5 harg5 arg6 harg6 arg7 harg7 arg8 harg8 arg14 x0 x1 x2 x3 x4 x5) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 6 := by
  rw [wh10_A, sh8_A, wtr10_A, wha10_A, wl10_A, wr10_A, tlr0_A, wk10_A, tlk0_A, wv10_A, tlv0_A, wa10_A, tla0_A, wb10_A, tlb0_A]; rfl
theorem sy10_A : (kernelRun0_A.sl.r_796 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 5 := by
  rw [wy10_A, sh8_A, wrh10_A, wyh10_A, wl10_A, wr10_A, tlr0_A, wk10_A, tlk0_A, wv10_A, tlv0_A, wa10_A, tla0_A, wb10_A, tlb0_A]; rfl

theorem wr12_A : (kernelRun0_A.sl.v157 (F := Ideal) c arg3 harg3 x0) = slc 6 (kernelRun0_A.sl.r (F := Ideal) c arg3 harg3 x0) := rfl
theorem wk12_A : (kernelRun0_A.sl.v173 (F := Ideal) c arg4 harg4 x1) = slc 6 (kernelRun0_A.sl.r_2 (F := Ideal) c arg4 harg4 x1) := rfl
theorem wv12_A : (kernelRun0_A.sl.v189 (F := Ideal) c arg5 harg5 x2) = slc 6 (kernelRun0_A.sl.r_4 (F := Ideal) c arg5 harg5 x2) := rfl
theorem wa12_A : (kernelRun0_A.sl.r_19 (F := Ideal) c arg7 harg7 x4) = slc 6 (kernelRun0_A.sl.r_8 (F := Ideal) c arg7 harg7 x4) := rfl
theorem wb12_A : (kernelRun0_A.sl.r_35 (F := Ideal) c arg7 harg7 arg8 harg8 x4 x5) = slc 6 (kernelRun0_A.sl.r_10 (F := Ideal) c arg7 harg7 arg8 harg8 x4 x5) := rfl
theorem wl12_A : (kernelRun0_A.sl.v138 (F := Ideal) c arg6 harg6 x3) = lw0 (arg6.view.read (Elt Ideal) (harg6.unread x3)) 6 := rfl
theorem wtr12_A : (kernelRun0_A.sl.r_746 (F := Ideal) c arg3 harg3 arg4 harg4 arg6 harg6 arg7 harg7 arg8 harg8 x0 x1 x3 x4 x5) = transV (kernelRun0_A.sl.v138 (F := Ideal) c arg6 harg6 x3) (kernelRun0_A.sl.v157 (F := Ideal) c arg3 harg3 x0) (kernelRun0_A.sl.v173 (F := Ideal) c arg4 harg4 x1) (kernelRun0_A.sl.r_19 (F := Ideal) c arg7 harg7 x4) (kernelRun0_A.sl.r_35 (F := Ideal) c arg7 harg7 arg8 harg8 x4 x5) := rfl
theorem wha12_A : (kernelRun0_A.sl.r_762 (F := Ideal) c arg3 harg3 arg4 harg4 arg5 harg5 arg6 harg6 arg7 harg7 arg8 harg8 x0 x1 x2 x3 x4 x5) = hAddV (kernelRun0_A.sl.v138 (F := Ideal) c arg6 harg6 x3) (kernelRun0_A.sl.v157 (F := Ideal) c arg3 harg3 x0) (kernelRun0_A.sl.v173 (F := Ideal) c arg4 harg4 x1) (kernelRun0_A.sl.v189 (F := Ideal) c arg5 harg5 x2) (kernelRun0_A.sl.r_19 (F := Ideal) c arg7 harg7 x4) (kernelRun0_A.sl.r_35 (F := Ideal) c arg7 harg7 arg8 harg8 x4 x5) := rfl
theorem wrh12_A : (kernelRun0_A.sl.r_707 (F := Ideal) c arg3 harg3 arg6 harg6 arg7 harg7 arg8 harg8 x0 x3 x4 x5) = rHatV (kernelRun0_A.sl.v138 (F := Ideal) c arg6 harg6 x3) (kernelRun0_A.sl.v157 (F := Ideal) c arg3 harg3 x0) (kernelRun0_A.sl.r_19 (F := Ideal) c arg7 harg7 x4) (kernelRun0_A.sl.r_35 (F := Ideal) c arg7 harg7 arg8 harg8 x4 x5) := rfl
theorem wyh12_A : (kernelRun0_A.sl.r_730 (F := Ideal) c arg3 harg3 arg4 harg4 arg5 harg5 arg6 harg6 arg7 harg7 arg8 harg8 x0 x1 x2 x3 x4 x5) = yHatV (kernelRun0_A.sl.v138 (F := Ideal) c arg6 harg6 x3) (kernelRun0_A.sl.v157 (F := Ideal) c arg3 harg3 x0) (kernelRun0_A.sl.v173 (F := Ideal) c arg4 harg4 x1) (kernelRun0_A.sl.v189 (F := Ideal) c arg5 harg5 x2) (kernelRun0_A.sl.r_19 (F := Ideal) c arg7 harg7 x4) (kernelRun0_A.sl.r_35 (F := Ideal) c arg7 harg7 arg8 harg8 x4 x5) := rfl
theorem wh12_A : (addf (mm3 (kernelRun0_A.sl.r_746 (F := Ideal) c arg3 harg3 arg4 harg4 arg6 harg6 arg7 harg7 arg8 harg8 x0 x1 x3 x4 x5) ((kernelRun0_A.sl.r_797 (F := Ideal) c arg3 harg3 arg4 harg4 arg5 harg5 arg6 harg6 arg7 harg7 arg8 harg8 arg14 x0 x1 x2 x3 x4 x5))) (kernelRun0_A.sl.r_762 (F := Ideal) c arg3 harg3 arg4 harg4 arg5 harg5 arg6 harg6 arg7 harg7 arg8 harg8 x0 x1 x2 x3 x4 x5)) = addf (mm3 (kernelRun0_A.sl.r_746 (F := Ideal) c arg3 harg3 arg4 harg4 arg6 harg6 arg7 harg7 arg8 harg8 x0 x1 x3 x4 x5) ((kernelRun0_A.sl.r_797 (F := Ideal) c arg3 harg3 arg4 harg4 arg5 harg5 arg6 harg6 arg7 harg7 arg8 harg8 arg14 x0 x1 x2 x3 x4 x5))) (kernelRun0_A.sl.r_762 (F := Ideal) c arg3 harg3 arg4 harg4 arg5 harg5 arg6 harg6 arg7 harg7 arg8 harg8 x0 x1 x2 x3 x4 x5) := rfl
theorem wy12_A : (kernelRun0_A.sl.r_800 (F := Ideal) c arg3 harg3 arg4 harg4 arg5 harg5 arg6 harg6 arg7 harg7 arg8 harg8 arg14 x0 x1 x2 x3 x4 x5) = addf (mm (kernelRun0_A.sl.r_707 (F := Ideal) c arg3 harg3 arg6 harg6 arg7 harg7 arg8 harg8 x0 x3 x4 x5) ((kernelRun0_A.sl.r_797 (F := Ideal) c arg3 harg3 arg4 harg4 arg5 harg5 arg6 harg6 arg7 harg7 arg8 harg8 arg14 x0 x1 x2 x3 x4 x5))) (kernelRun0_A.sl.r_730 (F := Ideal) c arg3 harg3 arg4 harg4 arg5 harg5 arg6 harg6 arg7 harg7 arg8 harg8 x0 x1 x2 x3 x4 x5) := rfl
theorem sh12_A : (addf (mm3 (kernelRun0_A.sl.r_746 (F := Ideal) c arg3 harg3 arg4 harg4 arg6 harg6 arg7 harg7 arg8 harg8 x0 x1 x3 x4 x5) ((kernelRun0_A.sl.r_797 (F := Ideal) c arg3 harg3 arg4 harg4 arg5 harg5 arg6 harg6 arg7 harg7 arg8 harg8 arg14 x0 x1 x2 x3 x4 x5))) (kernelRun0_A.sl.r_762 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 7 := by
  rw [wh12_A, sh10_A, wtr12_A, wha12_A, wl12_A, wr12_A, tlr0_A, wk12_A, tlk0_A, wv12_A, tlv0_A, wa12_A, tla0_A, wb12_A, tlb0_A]; rfl
theorem sy12_A : (kernelRun0_A.sl.r_800 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 6 := by
  rw [wy12_A, sh10_A, wrh12_A, wyh12_A, wl12_A, wr12_A, tlr0_A, wk12_A, tlk0_A, wv12_A, tlv0_A, wa12_A, tla0_A, wb12_A, tlb0_A]; rfl

theorem wr14_A : (kernelRun0_A.sl.v159 (F := Ideal) c arg3 harg3 x0) = slc 7 (kernelRun0_A.sl.r (F := Ideal) c arg3 harg3 x0) := rfl
theorem wk14_A : (kernelRun0_A.sl.v175 (F := Ideal) c arg4 harg4 x1) = slc 7 (kernelRun0_A.sl.r_2 (F := Ideal) c arg4 harg4 x1) := rfl
theorem wv14_A : (kernelRun0_A.sl.v191 (F := Ideal) c arg5 harg5 x2) = slc 7 (kernelRun0_A.sl.r_4 (F := Ideal) c arg5 harg5 x2) := rfl
theorem wa14_A : (kernelRun0_A.sl.r_21 (F := Ideal) c arg7 harg7 x4) = slc 7 (kernelRun0_A.sl.r_8 (F := Ideal) c arg7 harg7 x4) := rfl
theorem wb14_A : (kernelRun0_A.sl.r_37 (F := Ideal) c arg7 harg7 arg8 harg8 x4 x5) = slc 7 (kernelRun0_A.sl.r_10 (F := Ideal) c arg7 harg7 arg8 harg8 x4 x5) := rfl
theorem wl14_A : (kernelRun0_A.sl.v142 (F := Ideal) c arg6 harg6 x3) = lw0 (arg6.view.read (Elt Ideal) (harg6.unread x3)) 7 := rfl
theorem wtr14_A : (kernelRun0_A.sl.r_748 (F := Ideal) c arg3 harg3 arg4 harg4 arg6 harg6 arg7 harg7 arg8 harg8 x0 x1 x3 x4 x5) = transV (kernelRun0_A.sl.v142 (F := Ideal) c arg6 harg6 x3) (kernelRun0_A.sl.v159 (F := Ideal) c arg3 harg3 x0) (kernelRun0_A.sl.v175 (F := Ideal) c arg4 harg4 x1) (kernelRun0_A.sl.r_21 (F := Ideal) c arg7 harg7 x4) (kernelRun0_A.sl.r_37 (F := Ideal) c arg7 harg7 arg8 harg8 x4 x5) := rfl
theorem wha14_A : (kernelRun0_A.sl.r_766 (F := Ideal) c arg3 harg3 arg4 harg4 arg5 harg5 arg6 harg6 arg7 harg7 arg8 harg8 x0 x1 x2 x3 x4 x5) = hAddV (kernelRun0_A.sl.v142 (F := Ideal) c arg6 harg6 x3) (kernelRun0_A.sl.v159 (F := Ideal) c arg3 harg3 x0) (kernelRun0_A.sl.v175 (F := Ideal) c arg4 harg4 x1) (kernelRun0_A.sl.v191 (F := Ideal) c arg5 harg5 x2) (kernelRun0_A.sl.r_21 (F := Ideal) c arg7 harg7 x4) (kernelRun0_A.sl.r_37 (F := Ideal) c arg7 harg7 arg8 harg8 x4 x5) := rfl
theorem wrh14_A : (kernelRun0_A.sl.r_711 (F := Ideal) c arg3 harg3 arg6 harg6 arg7 harg7 arg8 harg8 x0 x3 x4 x5) = rHatV (kernelRun0_A.sl.v142 (F := Ideal) c arg6 harg6 x3) (kernelRun0_A.sl.v159 (F := Ideal) c arg3 harg3 x0) (kernelRun0_A.sl.r_21 (F := Ideal) c arg7 harg7 x4) (kernelRun0_A.sl.r_37 (F := Ideal) c arg7 harg7 arg8 harg8 x4 x5) := rfl
theorem wyh14_A : (kernelRun0_A.sl.r_732 (F := Ideal) c arg3 harg3 arg4 harg4 arg5 harg5 arg6 harg6 arg7 harg7 arg8 harg8 x0 x1 x2 x3 x4 x5) = yHatV (kernelRun0_A.sl.v142 (F := Ideal) c arg6 harg6 x3) (kernelRun0_A.sl.v159 (F := Ideal) c arg3 harg3 x0) (kernelRun0_A.sl.v175 (F := Ideal) c arg4 harg4 x1) (kernelRun0_A.sl.v191 (F := Ideal) c arg5 harg5 x2) (kernelRun0_A.sl.r_21 (F := Ideal) c arg7 harg7 x4) (kernelRun0_A.sl.r_37 (F := Ideal) c arg7 harg7 arg8 harg8 x4 x5) := rfl
theorem wh14_A : (kernelRun0_A.sl.r_805 (F := Ideal) c arg3 harg3 arg4 harg4 arg5 harg5 arg6 harg6 arg7 harg7 arg8 harg8 arg14 x0 x1 x2 x3 x4 x5) = addf (mm3 (kernelRun0_A.sl.r_748 (F := Ideal) c arg3 harg3 arg4 harg4 arg6 harg6 arg7 harg7 arg8 harg8 x0 x1 x3 x4 x5) ((addf (mm3 (kernelRun0_A.sl.r_746 (F := Ideal) c arg3 harg3 arg4 harg4 arg6 harg6 arg7 harg7 arg8 harg8 x0 x1 x3 x4 x5) ((kernelRun0_A.sl.r_797 (F := Ideal) c arg3 harg3 arg4 harg4 arg5 harg5 arg6 harg6 arg7 harg7 arg8 harg8 arg14 x0 x1 x2 x3 x4 x5))) (kernelRun0_A.sl.r_762 (F := Ideal) c arg3 harg3 arg4 harg4 arg5 harg5 arg6 harg6 arg7 harg7 arg8 harg8 x0 x1 x2 x3 x4 x5)))) (kernelRun0_A.sl.r_766 (F := Ideal) c arg3 harg3 arg4 harg4 arg5 harg5 arg6 harg6 arg7 harg7 arg8 harg8 x0 x1 x2 x3 x4 x5) := rfl
theorem wy14_A : (kernelRun0_A.sl.r_804 (F := Ideal) c arg3 harg3 arg4 harg4 arg5 harg5 arg6 harg6 arg7 harg7 arg8 harg8 arg14 x0 x1 x2 x3 x4 x5) = addf (mm (kernelRun0_A.sl.r_711 (F := Ideal) c arg3 harg3 arg6 harg6 arg7 harg7 arg8 harg8 x0 x3 x4 x5) ((addf (mm3 (kernelRun0_A.sl.r_746 (F := Ideal) c arg3 harg3 arg4 harg4 arg6 harg6 arg7 harg7 arg8 harg8 x0 x1 x3 x4 x5) ((kernelRun0_A.sl.r_797 (F := Ideal) c arg3 harg3 arg4 harg4 arg5 harg5 arg6 harg6 arg7 harg7 arg8 harg8 arg14 x0 x1 x2 x3 x4 x5))) (kernelRun0_A.sl.r_762 (F := Ideal) c arg3 harg3 arg4 harg4 arg5 harg5 arg6 harg6 arg7 harg7 arg8 harg8 x0 x1 x2 x3 x4 x5)))) (kernelRun0_A.sl.r_732 (F := Ideal) c arg3 harg3 arg4 harg4 arg5 harg5 arg6 harg6 arg7 harg7 arg8 harg8 x0 x1 x2 x3 x4 x5) := rfl
theorem sh14_A : (kernelRun0_A.sl.r_805 (F := Ideal) c arg3 harg3 arg4 harg4 arg5 harg5 arg6 harg6 arg7 harg7 arg8 harg8 arg14 x0 x1 x2 x3 x4 x5) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 8 := by
  rw [wh14_A, sh12_A, wtr14_A, wha14_A, wl14_A, wr14_A, tlr0_A, wk14_A, tlk0_A, wv14_A, tlv0_A, wa14_A, tla0_A, wb14_A, tlb0_A]; rfl
theorem sy14_A : (kernelRun0_A.sl.r_804 (F := Ideal) c arg3 harg3 arg4 harg4 arg5 harg5 arg6 harg6 arg7 harg7 arg8 harg8 arg14 x0 x1 x2 x3 x4 x5) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) ((shapeCast S128x128 (kernelRun0_A.sl.v3572 (F := Ideal) c arg14) shapeCasts_S1x128x128_S128x128)) 7 := by
  rw [wy14_A, sh12_A, wrh14_A, wyh14_A, wl14_A, wr14_A, tlr0_A, wk14_A, tlk0_A, wv14_A, tlv0_A, wa14_A, tla0_A, wb14_A, tlb0_A]; rfl

theorem wr1_A : (kernelRun0_A.sl.v146 (F := Ideal) c arg3 harg3 x0) = slc 0 (kernelRun0_A.sl.r_1 (F := Ideal) c arg3 harg3 x0) := rfl
theorem wk1_A : (kernelRun0_A.sl.v162 (F := Ideal) c arg4 harg4 x1) = slc 0 (kernelRun0_A.sl.r_3 (F := Ideal) c arg4 harg4 x1) := rfl
theorem wv1_A : (kernelRun0_A.sl.v178 (F := Ideal) c arg5 harg5 x2) = slc 0 (kernelRun0_A.sl.r_5 (F := Ideal) c arg5 harg5 x2) := rfl
theorem wa1_A : (kernelRun0_A.sl.v194 (F := Ideal) c arg7 harg7 x4) = slc 0 (kernelRun0_A.sl.r_9 (F := Ideal) c arg7 harg7 x4) := rfl
theorem wb1_A : (kernelRun0_A.sl.r_24 (F := Ideal) c arg7 harg7 arg8 harg8 x4 x5) = slc 0 (kernelRun0_A.sl.r_11 (F := Ideal) c arg7 harg7 arg8 harg8 x4 x5) := rfl
theorem wl1_A : (kernelRun0_A.sl.r_13 (F := Ideal) c arg6 harg6 x3) = lw1 (arg6.view.read (Elt Ideal) (harg6.unread x3)) 0 := rfl
theorem wtr1_A : (kernelRun0_A.sl.r_735 (F := Ideal) c arg3 harg3 arg4 harg4 arg6 harg6 arg7 harg7 arg8 harg8 x0 x1 x3 x4 x5) = transV (kernelRun0_A.sl.r_13 (F := Ideal) c arg6 harg6 x3) (kernelRun0_A.sl.v146 (F := Ideal) c arg3 harg3 x0) (kernelRun0_A.sl.v162 (F := Ideal) c arg4 harg4 x1) (kernelRun0_A.sl.v194 (F := Ideal) c arg7 harg7 x4) (kernelRun0_A.sl.r_24 (F := Ideal) c arg7 harg7 arg8 harg8 x4 x5) := rfl
theorem wha1_A : (kernelRun0_A.sl.r_751 (F := Ideal) c arg3 harg3 arg4 harg4 arg5 harg5 arg6 harg6 arg7 harg7 arg8 harg8 x0 x1 x2 x3 x4 x5) = hAddV (kernelRun0_A.sl.r_13 (F := Ideal) c arg6 harg6 x3) (kernelRun0_A.sl.v146 (F := Ideal) c arg3 harg3 x0) (kernelRun0_A.sl.v162 (F := Ideal) c arg4 harg4 x1) (kernelRun0_A.sl.v178 (F := Ideal) c arg5 harg5 x2) (kernelRun0_A.sl.v194 (F := Ideal) c arg7 harg7 x4) (kernelRun0_A.sl.r_24 (F := Ideal) c arg7 harg7 arg8 harg8 x4 x5) := rfl
theorem wrh1_A : (kernelRun0_A.sl.r_692 (F := Ideal) c arg3 harg3 arg6 harg6 arg7 harg7 arg8 harg8 x0 x3 x4 x5) = rHatV (kernelRun0_A.sl.r_13 (F := Ideal) c arg6 harg6 x3) (kernelRun0_A.sl.v146 (F := Ideal) c arg3 harg3 x0) (kernelRun0_A.sl.v194 (F := Ideal) c arg7 harg7 x4) (kernelRun0_A.sl.r_24 (F := Ideal) c arg7 harg7 arg8 harg8 x4 x5) := rfl
theorem wyh1_A : (kernelRun0_A.sl.r_714 (F := Ideal) c arg3 harg3 arg4 harg4 arg5 harg5 arg6 harg6 arg7 harg7 arg8 harg8 x0 x1 x2 x3 x4 x5) = yHatV (kernelRun0_A.sl.r_13 (F := Ideal) c arg6 harg6 x3) (kernelRun0_A.sl.v146 (F := Ideal) c arg3 harg3 x0) (kernelRun0_A.sl.v162 (F := Ideal) c arg4 harg4 x1) (kernelRun0_A.sl.v178 (F := Ideal) c arg5 harg5 x2) (kernelRun0_A.sl.v194 (F := Ideal) c arg7 harg7 x4) (kernelRun0_A.sl.r_24 (F := Ideal) c arg7 harg7 arg8 harg8 x4 x5) := rfl
theorem wh1_A : (addf (mm3 (kernelRun0_A.sl.r_735 (F := Ideal) c arg3 harg3 arg4 harg4 arg6 harg6 arg7 harg7 arg8 harg8 x0 x1 x3 x4 x5) ((shapeCast S128x128 (kernelRun0_A.sl.v3574 (F := Ideal) c arg14) shapeCasts_S1x128x128_S128x128))) (kernelRun0_A.sl.r_751 (F := Ideal) c arg3 harg3 arg4 harg4 arg5 harg5 arg6 harg6 arg7 harg7 arg8 harg8 x0 x1 x2 x3 x4 x5)) = addf (mm3 (kernelRun0_A.sl.r_735 (F := Ideal) c arg3 harg3 arg4 harg4 arg6 harg6 arg7 harg7 arg8 harg8 x0 x1 x3 x4 x5) ((shapeCast S128x128 (kernelRun0_A.sl.v3574 (F := Ideal) c arg14) shapeCasts_S1x128x128_S128x128))) (kernelRun0_A.sl.r_751 (F := Ideal) c arg3 harg3 arg4 harg4 arg5 harg5 arg6 harg6 arg7 harg7 arg8 harg8 x0 x1 x2 x3 x4 x5) := rfl
theorem wy1_A : (kernelRun0_A.sl.r_771 (F := Ideal) c arg3 harg3 arg4 harg4 arg5 harg5 arg6 harg6 arg7 harg7 arg8 harg8 arg14 x0 x1 x2 x3 x4 x5) = addf (mm (kernelRun0_A.sl.r_692 (F := Ideal) c arg3 harg3 arg6 harg6 arg7 harg7 arg8 harg8 x0 x3 x4 x5) ((shapeCast S128x128 (kernelRun0_A.sl.v3574 (F := Ideal) c arg14) shapeCasts_S1x128x128_S128x128))) (kernelRun0_A.sl.r_714 (F := Ideal) c arg3 harg3 arg4 harg4 arg5 harg5 arg6 harg6 arg7 harg7 arg8 harg8 x0 x1 x2 x3 x4 x5) := rfl
theorem sh1_A : (addf (mm3 (kernelRun0_A.sl.r_735 (F := Ideal) c arg3 harg3 arg4 harg4 arg6 harg6 arg7 harg7 arg8 harg8 x0 x1 x3 x4 x5) ((shapeCast S128x128 (kernelRun0_A.sl.v3574 (F := Ideal) c arg14) shapeCasts_S1x128x128_S128x128))) (kernelRun0_A.sl.r_751 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 1 := by
  rw [wh1_A, wtr1_A, wha1_A, wl1_A, wr1_A, tlr1_A, wk1_A, tlk1_A, wv1_A, tlv1_A, wa1_A, tla1_A, wb1_A, tlb1_A]; rfl
theorem sy1_A : (kernelRun0_A.sl.r_771 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 0 := by
  rw [wy1_A, wrh1_A, wyh1_A, wl1_A, wr1_A, tlr1_A, wk1_A, tlk1_A, wv1_A, tlv1_A, wa1_A, tla1_A, wb1_A, tlb1_A]; rfl

theorem wr3_A : (kernelRun0_A.sl.v148 (F := Ideal) c arg3 harg3 x0) = slc 1 (kernelRun0_A.sl.r_1 (F := Ideal) c arg3 harg3 x0) := rfl
theorem wk3_A : (kernelRun0_A.sl.v164 (F := Ideal) c arg4 harg4 x1) = slc 1 (kernelRun0_A.sl.r_3 (F := Ideal) c arg4 harg4 x1) := rfl
theorem wv3_A : (kernelRun0_A.sl.v180 (F := Ideal) c arg5 harg5 x2) = slc 1 (kernelRun0_A.sl.r_5 (F := Ideal) c arg5 harg5 x2) := rfl
theorem wa3_A : (kernelRun0_A.sl.v196 (F := Ideal) c arg7 harg7 x4) = slc 1 (kernelRun0_A.sl.r_9 (F := Ideal) c arg7 harg7 x4) := rfl
theorem wb3_A : (kernelRun0_A.sl.r_26 (F := Ideal) c arg7 harg7 arg8 harg8 x4 x5) = slc 1 (kernelRun0_A.sl.r_11 (F := Ideal) c arg7 harg7 arg8 harg8 x4 x5) := rfl
theorem wl3_A : (kernelRun0_A.sl.v120 (F := Ideal) c arg6 harg6 x3) = lw1 (arg6.view.read (Elt Ideal) (harg6.unread x3)) 1 := rfl
theorem wtr3_A : (kernelRun0_A.sl.r_737 (F := Ideal) c arg3 harg3 arg4 harg4 arg6 harg6 arg7 harg7 arg8 harg8 x0 x1 x3 x4 x5) = transV (kernelRun0_A.sl.v120 (F := Ideal) c arg6 harg6 x3) (kernelRun0_A.sl.v148 (F := Ideal) c arg3 harg3 x0) (kernelRun0_A.sl.v164 (F := Ideal) c arg4 harg4 x1) (kernelRun0_A.sl.v196 (F := Ideal) c arg7 harg7 x4) (kernelRun0_A.sl.r_26 (F := Ideal) c arg7 harg7 arg8 harg8 x4 x5) := rfl
theorem wha3_A : (kernelRun0_A.sl.r_753 (F := Ideal) c arg3 harg3 arg4 harg4 arg5 harg5 arg6 harg6 arg7 harg7 arg8 harg8 x0 x1 x2 x3 x4 x5) = hAddV (kernelRun0_A.sl.v120 (F := Ideal) c arg6 harg6 x3) (kernelRun0_A.sl.v148 (F := Ideal) c arg3 harg3 x0) (kernelRun0_A.sl.v164 (F := Ideal) c arg4 harg4 x1) (kernelRun0_A.sl.v180 (F := Ideal) c arg5 harg5 x2) (kernelRun0_A.sl.v196 (F := Ideal) c arg7 harg7 x4) (kernelRun0_A.sl.r_26 (F := Ideal) c arg7 harg7 arg8 harg8 x4 x5) := rfl
theorem wrh3_A : (kernelRun0_A.sl.r_696 (F := Ideal) c arg3 harg3 arg6 harg6 arg7 harg7 arg8 harg8 x0 x3 x4 x5) = rHatV (kernelRun0_A.sl.v120 (F := Ideal) c arg6 harg6 x3) (kernelRun0_A.sl.v148 (F := Ideal) c arg3 harg3 x0) (kernelRun0_A.sl.v196 (F := Ideal) c arg7 harg7 x4) (kernelRun0_A.sl.r_26 (F := Ideal) c arg7 harg7 arg8 harg8 x4 x5) := rfl
theorem wyh3_A : (kernelRun0_A.sl.r_717 (F := Ideal) c arg3 harg3 arg4 harg4 arg5 harg5 arg6 harg6 arg7 harg7 arg8 harg8 x0 x1 x2 x3 x4 x5) = yHatV (kernelRun0_A.sl.v120 (F := Ideal) c arg6 harg6 x3) (kernelRun0_A.sl.v148 (F := Ideal) c arg3 harg3 x0) (kernelRun0_A.sl.v164 (F := Ideal) c arg4 harg4 x1) (kernelRun0_A.sl.v180 (F := Ideal) c arg5 harg5 x2) (kernelRun0_A.sl.v196 (F := Ideal) c arg7 harg7 x4) (kernelRun0_A.sl.r_26 (F := Ideal) c arg7 harg7 arg8 harg8 x4 x5) := rfl
theorem wh3_A : (kernelRun0_A.sl.r_777 (F := Ideal) c arg3 harg3 arg4 harg4 arg5 harg5 arg6 harg6 arg7 harg7 arg8 harg8 arg14 x0 x1 x2 x3 x4 x5) = addf (mm3 (kernelRun0_A.sl.r_737 (F := Ideal) c arg3 harg3 arg4 harg4 arg6 harg6 arg7 harg7 arg8 harg8 x0 x1 x3 x4 x5) ((addf (mm3 (kernelRun0_A.sl.r_735 (F := Ideal) c arg3 harg3 arg4 harg4 arg6 harg6 arg7 harg7 arg8 harg8 x0 x1 x3 x4 x5) ((shapeCast S128x128 (kernelRun0_A.sl.v3574 (F := Ideal) c arg14) shapeCasts_S1x128x128_S128x128))) (kernelRun0_A.sl.r_751 (F := Ideal) c arg3 harg3 arg4 harg4 arg5 harg5 arg6 harg6 arg7 harg7 arg8 harg8 x0 x1 x2 x3 x4 x5)))) (kernelRun0_A.sl.r_753 (F := Ideal) c arg3 harg3 arg4 harg4 arg5 harg5 arg6 harg6 arg7 harg7 arg8 harg8 x0 x1 x2 x3 x4 x5) := rfl
theorem wy3_A : (kernelRun0_A.sl.r_776 (F := Ideal) c arg3 harg3 arg4 harg4 arg5 harg5 arg6 harg6 arg7 harg7 arg8 harg8 arg14 x0 x1 x2 x3 x4 x5) = addf (mm (kernelRun0_A.sl.r_696 (F := Ideal) c arg3 harg3 arg6 harg6 arg7 harg7 arg8 harg8 x0 x3 x4 x5) ((addf (mm3 (kernelRun0_A.sl.r_735 (F := Ideal) c arg3 harg3 arg4 harg4 arg6 harg6 arg7 harg7 arg8 harg8 x0 x1 x3 x4 x5) ((shapeCast S128x128 (kernelRun0_A.sl.v3574 (F := Ideal) c arg14) shapeCasts_S1x128x128_S128x128))) (kernelRun0_A.sl.r_751 (F := Ideal) c arg3 harg3 arg4 harg4 arg5 harg5 arg6 harg6 arg7 harg7 arg8 harg8 x0 x1 x2 x3 x4 x5)))) (kernelRun0_A.sl.r_717 (F := Ideal) c arg3 harg3 arg4 harg4 arg5 harg5 arg6 harg6 arg7 harg7 arg8 harg8 x0 x1 x2 x3 x4 x5) := rfl
theorem sh3_A : (kernelRun0_A.sl.r_777 (F := Ideal) c arg3 harg3 arg4 harg4 arg5 harg5 arg6 harg6 arg7 harg7 arg8 harg8 arg14 x0 x1 x2 x3 x4 x5) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 2 := by
  rw [wh3_A, sh1_A, wtr3_A, wha3_A, wl3_A, wr3_A, tlr1_A, wk3_A, tlk1_A, wv3_A, tlv1_A, wa3_A, tla1_A, wb3_A, tlb1_A]; rfl
theorem sy3_A : (kernelRun0_A.sl.r_776 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 1 := by
  rw [wy3_A, sh1_A, wrh3_A, wyh3_A, wl3_A, wr3_A, tlr1_A, wk3_A, tlk1_A, wv3_A, tlv1_A, wa3_A, tla1_A, wb3_A, tlb1_A]; rfl

theorem wr5_A : (kernelRun0_A.sl.v150 (F := Ideal) c arg3 harg3 x0) = slc 2 (kernelRun0_A.sl.r_1 (F := Ideal) c arg3 harg3 x0) := rfl
theorem wk5_A : (kernelRun0_A.sl.v166 (F := Ideal) c arg4 harg4 x1) = slc 2 (kernelRun0_A.sl.r_3 (F := Ideal) c arg4 harg4 x1) := rfl
theorem wv5_A : (kernelRun0_A.sl.v182 (F := Ideal) c arg5 harg5 x2) = slc 2 (kernelRun0_A.sl.r_5 (F := Ideal) c arg5 harg5 x2) := rfl
theorem wa5_A : (kernelRun0_A.sl.v198 (F := Ideal) c arg7 harg7 x4) = slc 2 (kernelRun0_A.sl.r_9 (F := Ideal) c arg7 harg7 x4) := rfl
theorem wb5_A : (kernelRun0_A.sl.r_28 (F := Ideal) c arg7 harg7 arg8 harg8 x4 x5) = slc 2 (kernelRun0_A.sl.r_11 (F := Ideal) c arg7 harg7 arg8 harg8 x4 x5) := rfl
theorem wl5_A : (kernelRun0_A.sl.v124 (F := Ideal) c arg6 harg6 x3) = lw1 (arg6.view.read (Elt Ideal) (harg6.unread x3)) 2 := rfl
theorem wtr5_A : (kernelRun0_A.sl.r_739 (F := Ideal) c arg3 harg3 arg4 harg4 arg6 harg6 arg7 harg7 arg8 harg8 x0 x1 x3 x4 x5) = transV (kernelRun0_A.sl.v124 (F := Ideal) c arg6 harg6 x3) (kernelRun0_A.sl.v150 (F := Ideal) c arg3 harg3 x0) (kernelRun0_A.sl.v166 (F := Ideal) c arg4 harg4 x1) (kernelRun0_A.sl.v198 (F := Ideal) c arg7 harg7 x4) (kernelRun0_A.sl.r_28 (F := Ideal) c arg7 harg7 arg8 harg8 x4 x5) := rfl
theorem wha5_A : (kernelRun0_A.sl.r_755 (F := Ideal) c arg3 harg3 arg4 harg4 arg5 harg5 arg6 harg6 arg7 harg7 arg8 harg8 x0 x1 x2 x3 x4 x5) = hAddV (kernelRun0_A.sl.v124 (F := Ideal) c arg6 harg6 x3) (kernelRun0_A.sl.v150 (F := Ideal) c arg3 harg3 x0) (kernelRun0_A.sl.v166 (F := Ideal) c arg4 harg4 x1) (kernelRun0_A.sl.v182 (F := Ideal) c arg5 harg5 x2) (kernelRun0_A.sl.v198 (F := Ideal) c arg7 harg7 x4) (kernelRun0_A.sl.r_28 (F := Ideal) c arg7 harg7 arg8 harg8 x4 x5) := rfl
theorem wrh5_A : (kernelRun0_A.sl.r_698 (F := Ideal) c arg3 harg3 arg6 harg6 arg7 harg7 arg8 harg8 x0 x3 x4 x5) = rHatV (kernelRun0_A.sl.v124 (F := Ideal) c arg6 harg6 x3) (kernelRun0_A.sl.v150 (F := Ideal) c arg3 harg3 x0) (kernelRun0_A.sl.v198 (F := Ideal) c arg7 harg7 x4) (kernelRun0_A.sl.r_28 (F := Ideal) c arg7 harg7 arg8 harg8 x4 x5) := rfl
theorem wyh5_A : (kernelRun0_A.sl.r_719 (F := Ideal) c arg3 harg3 arg4 harg4 arg5 harg5 arg6 harg6 arg7 harg7 arg8 harg8 x0 x1 x2 x3 x4 x5) = yHatV (kernelRun0_A.sl.v124 (F := Ideal) c arg6 harg6 x3) (kernelRun0_A.sl.v150 (F := Ideal) c arg3 harg3 x0) (kernelRun0_A.sl.v166 (F := Ideal) c arg4 harg4 x1) (kernelRun0_A.sl.v182 (F := Ideal) c arg5 harg5 x2) (kernelRun0_A.sl.v198 (F := Ideal) c arg7 harg7 x4) (kernelRun0_A.sl.r_28 (F := Ideal) c arg7 harg7 arg8 harg8 x4 x5) := rfl
theorem wh5_A : (kernelRun0_A.sl.r_782 (F := Ideal) c arg3 harg3 arg4 harg4 arg5 harg5 arg6 harg6 arg7 harg7 arg8 harg8 arg14 x0 x1 x2 x3 x4 x5) = addf (mm3 (kernelRun0_A.sl.r_739 (F := Ideal) c arg3 harg3 arg4 harg4 arg6 harg6 arg7 harg7 arg8 harg8 x0 x1 x3 x4 x5) ((kernelRun0_A.sl.r_777 (F := Ideal) c arg3 harg3 arg4 harg4 arg5 harg5 arg6 harg6 arg7 harg7 arg8 harg8 arg14 x0 x1 x2 x3 x4 x5))) (kernelRun0_A.sl.r_755 (F := Ideal) c arg3 harg3 arg4 harg4 arg5 harg5 arg6 harg6 arg7 harg7 arg8 harg8 x0 x1 x2 x3 x4 x5) := rfl
theorem wy5_A : (kernelRun0_A.sl.r_781 (F := Ideal) c arg3 harg3 arg4 harg4 arg5 harg5 arg6 harg6 arg7 harg7 arg8 harg8 arg14 x0 x1 x2 x3 x4 x5) = addf (mm (kernelRun0_A.sl.r_698 (F := Ideal) c arg3 harg3 arg6 harg6 arg7 harg7 arg8 harg8 x0 x3 x4 x5) ((kernelRun0_A.sl.r_777 (F := Ideal) c arg3 harg3 arg4 harg4 arg5 harg5 arg6 harg6 arg7 harg7 arg8 harg8 arg14 x0 x1 x2 x3 x4 x5))) (kernelRun0_A.sl.r_719 (F := Ideal) c arg3 harg3 arg4 harg4 arg5 harg5 arg6 harg6 arg7 harg7 arg8 harg8 x0 x1 x2 x3 x4 x5) := rfl
theorem sh5_A : (kernelRun0_A.sl.r_782 (F := Ideal) c arg3 harg3 arg4 harg4 arg5 harg5 arg6 harg6 arg7 harg7 arg8 harg8 arg14 x0 x1 x2 x3 x4 x5) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 3 := by
  rw [wh5_A, sh3_A, wtr5_A, wha5_A, wl5_A, wr5_A, tlr1_A, wk5_A, tlk1_A, wv5_A, tlv1_A, wa5_A, tla1_A, wb5_A, tlb1_A]; rfl
theorem sy5_A : (kernelRun0_A.sl.r_781 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 2 := by
  rw [wy5_A, sh3_A, wrh5_A, wyh5_A, wl5_A, wr5_A, tlr1_A, wk5_A, tlk1_A, wv5_A, tlv1_A, wa5_A, tla1_A, wb5_A, tlb1_A]; rfl

theorem wr7_A : (kernelRun0_A.sl.v152 (F := Ideal) c arg3 harg3 x0) = slc 3 (kernelRun0_A.sl.r_1 (F := Ideal) c arg3 harg3 x0) := rfl
theorem wk7_A : (kernelRun0_A.sl.v168 (F := Ideal) c arg4 harg4 x1) = slc 3 (kernelRun0_A.sl.r_3 (F := Ideal) c arg4 harg4 x1) := rfl
theorem wv7_A : (kernelRun0_A.sl.v184 (F := Ideal) c arg5 harg5 x2) = slc 3 (kernelRun0_A.sl.r_5 (F := Ideal) c arg5 harg5 x2) := rfl
theorem wa7_A : (kernelRun0_A.sl.v200 (F := Ideal) c arg7 harg7 x4) = slc 3 (kernelRun0_A.sl.r_9 (F := Ideal) c arg7 harg7 x4) := rfl
theorem wb7_A : (kernelRun0_A.sl.r_30 (F := Ideal) c arg7 harg7 arg8 harg8 x4 x5) = slc 3 (kernelRun0_A.sl.r_11 (F := Ideal) c arg7 harg7 arg8 harg8 x4 x5) := rfl
theorem wl7_A : (kernelRun0_A.sl.v128 (F := Ideal) c arg6 harg6 x3) = lw1 (arg6.view.read (Elt Ideal) (harg6.unread x3)) 3 := rfl
theorem wtr7_A : (kernelRun0_A.sl.r_741 (F := Ideal) c arg3 harg3 arg4 harg4 arg6 harg6 arg7 harg7 arg8 harg8 x0 x1 x3 x4 x5) = transV (kernelRun0_A.sl.v128 (F := Ideal) c arg6 harg6 x3) (kernelRun0_A.sl.v152 (F := Ideal) c arg3 harg3 x0) (kernelRun0_A.sl.v168 (F := Ideal) c arg4 harg4 x1) (kernelRun0_A.sl.v200 (F := Ideal) c arg7 harg7 x4) (kernelRun0_A.sl.r_30 (F := Ideal) c arg7 harg7 arg8 harg8 x4 x5) := rfl
theorem wha7_A : (kernelRun0_A.sl.r_757 (F := Ideal) c arg3 harg3 arg4 harg4 arg5 harg5 arg6 harg6 arg7 harg7 arg8 harg8 x0 x1 x2 x3 x4 x5) = hAddV (kernelRun0_A.sl.v128 (F := Ideal) c arg6 harg6 x3) (kernelRun0_A.sl.v152 (F := Ideal) c arg3 harg3 x0) (kernelRun0_A.sl.v168 (F := Ideal) c arg4 harg4 x1) (kernelRun0_A.sl.v184 (F := Ideal) c arg5 harg5 x2) (kernelRun0_A.sl.v200 (F := Ideal) c arg7 harg7 x4) (kernelRun0_A.sl.r_30 (F := Ideal) c arg7 harg7 arg8 harg8 x4 x5) := rfl
theorem wrh7_A : (kernelRun0_A.sl.r_700 (F := Ideal) c arg3 harg3 arg6 harg6 arg7 harg7 arg8 harg8 x0 x3 x4 x5) = rHatV (kernelRun0_A.sl.v128 (F := Ideal) c arg6 harg6 x3) (kernelRun0_A.sl.v152 (F := Ideal) c arg3 harg3 x0) (kernelRun0_A.sl.v200 (F := Ideal) c arg7 harg7 x4) (kernelRun0_A.sl.r_30 (F := Ideal) c arg7 harg7 arg8 harg8 x4 x5) := rfl
theorem wyh7_A : (kernelRun0_A.sl.r_723 (F := Ideal) c arg3 harg3 arg4 harg4 arg5 harg5 arg6 harg6 arg7 harg7 arg8 harg8 x0 x1 x2 x3 x4 x5) = yHatV (kernelRun0_A.sl.v128 (F := Ideal) c arg6 harg6 x3) (kernelRun0_A.sl.v152 (F := Ideal) c arg3 harg3 x0) (kernelRun0_A.sl.v168 (F := Ideal) c arg4 harg4 x1) (kernelRun0_A.sl.v184 (F := Ideal) c arg5 harg5 x2) (kernelRun0_A.sl.v200 (F := Ideal) c arg7 harg7 x4) (kernelRun0_A.sl.r_30 (F := Ideal) c arg7 harg7 arg8 harg8 x4 x5) := rfl
theorem wh7_A : (addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)) = addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5) := rfl
theorem wy7_A : (kernelRun0_A.sl.r_788 (F := Ideal) c arg3 harg3 arg4 harg4 arg5 harg5 arg6 harg6 arg7 harg7 arg8 harg8 arg14 x0 x1 x2 x3 x4 x5) = addf (mm (kernelRun0_A.sl.r_700 (F := Ideal) c arg3 harg3 arg6 harg6 arg7 harg7 arg8 harg8 x0 x3 x4 x5) ((kernelRun0_A.sl.r_782 (F := Ideal) c arg3 harg3 arg4 harg4 arg5 harg5 arg6 harg6 arg7 harg7 arg8 harg8 arg14 x0 x1 x2 x3 x4 x5))) (kernelRun0_A.sl.r_723 (F := Ideal) c arg3 harg3 arg4 harg4 arg5 harg5 arg6 harg6 arg7 harg7 arg8 harg8 x0 x1 x2 x3 x4 x5) := rfl
theorem sh7_A : (addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 4 := by
  rw [wh7_A, sh5_A, wtr7_A, wha7_A, wl7_A, wr7_A, tlr1_A, wk7_A, tlk1_A, wv7_A, tlv1_A, wa7_A, tla1_A, wb7_A, tlb1_A]; rfl
theorem sy7_A : (kernelRun0_A.sl.r_788 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 3 := by
  rw [wy7_A, sh5_A, wrh7_A, wyh7_A, wl7_A, wr7_A, tlr1_A, wk7_A, tlk1_A, wv7_A, tlv1_A, wa7_A, tla1_A, wb7_A, tlb1_A]; rfl

theorem wr9_A : (kernelRun0_A.sl.v154 (F := Ideal) c arg3 harg3 x0) = slc 4 (kernelRun0_A.sl.r_1 (F := Ideal) c arg3 harg3 x0) := rfl
theorem wk9_A : (kernelRun0_A.sl.v170 (F := Ideal) c arg4 harg4 x1) = slc 4 (kernelRun0_A.sl.r_3 (F := Ideal) c arg4 harg4 x1) := rfl
theorem wv9_A : (kernelRun0_A.sl.v186 (F := Ideal) c arg5 harg5 x2) = slc 4 (kernelRun0_A.sl.r_5 (F := Ideal) c arg5 harg5 x2) := rfl
theorem wa9_A : (kernelRun0_A.sl.r_16 (F := Ideal) c arg7 harg7 x4) = slc 4 (kernelRun0_A.sl.r_9 (F := Ideal) c arg7 harg7 x4) := rfl
theorem wb9_A : (kernelRun0_A.sl.r_32 (F := Ideal) c arg7 harg7 arg8 harg8 x4 x5) = slc 4 (kernelRun0_A.sl.r_11 (F := Ideal) c arg7 harg7 arg8 harg8 x4 x5) := rfl
theorem wl9_A : (kernelRun0_A.sl.v132 (F := Ideal) c arg6 harg6 x3) = lw1 (arg6.view.read (Elt Ideal) (harg6.unread x3)) 4 := rfl
theorem wtr9_A : (kernelRun0_A.sl.r_743 (F := Ideal) c arg3 harg3 arg4 harg4 arg6 harg6 arg7 harg7 arg8 harg8 x0 x1 x3 x4 x5) = transV (kernelRun0_A.sl.v132 (F := Ideal) c arg6 harg6 x3) (kernelRun0_A.sl.v154 (F := Ideal) c arg3 harg3 x0) (kernelRun0_A.sl.v170 (F := Ideal) c arg4 harg4 x1) (kernelRun0_A.sl.r_16 (F := Ideal) c arg7 harg7 x4) (kernelRun0_A.sl.r_32 (F := Ideal) c arg7 harg7 arg8 harg8 x4 x5) := rfl
theorem wha9_A : (kernelRun0_A.sl.r_759 (F := Ideal) c arg3 harg3 arg4 harg4 arg5 harg5 arg6 harg6 arg7 harg7 arg8 harg8 x0 x1 x2 x3 x4 x5) = hAddV (kernelRun0_A.sl.v132 (F := Ideal) c arg6 harg6 x3) (kernelRun0_A.sl.v154 (F := Ideal) c arg3 harg3 x0) (kernelRun0_A.sl.v170 (F := Ideal) c arg4 harg4 x1) (kernelRun0_A.sl.v186 (F := Ideal) c arg5 harg5 x2) (kernelRun0_A.sl.r_16 (F := Ideal) c arg7 harg7 x4) (kernelRun0_A.sl.r_32 (F := Ideal) c arg7 harg7 arg8 harg8 x4 x5) := rfl
theorem wrh9_A : (kernelRun0_A.sl.r_704 (F := Ideal) c arg3 harg3 arg6 harg6 arg7 harg7 arg8 harg8 x0 x3 x4 x5) = rHatV (kernelRun0_A.sl.v132 (F := Ideal) c arg6 harg6 x3) (kernelRun0_A.sl.v154 (F := Ideal) c arg3 harg3 x0) (kernelRun0_A.sl.r_16 (F := Ideal) c arg7 harg7 x4) (kernelRun0_A.sl.r_32 (F := Ideal) c arg7 harg7 arg8 harg8 x4 x5) := rfl
theorem wyh9_A : (kernelRun0_A.sl.r_725 (F := Ideal) c arg3 harg3 arg4 harg4 arg5 harg5 arg6 harg6 arg7 harg7 arg8 harg8 x0 x1 x2 x3 x4 x5) = yHatV (kernelRun0_A.sl.v132 (F := Ideal) c arg6 harg6 x3) (kernelRun0_A.sl.v154 (F := Ideal) c arg3 harg3 x0) (kernelRun0_A.sl.v170 (F := Ideal) c arg4 harg4 x1) (kernelRun0_A.sl.v186 (F := Ideal) c arg5 harg5 x2) (kernelRun0_A.sl.r_16 (F := Ideal) c arg7 harg7 x4) (kernelRun0_A.sl.r_32 (F := Ideal) c arg7 harg7 arg8 harg8 x4 x5) := rfl
theorem wh9_A : (addf (mm3 (kernelRun0_A.sl.r_743 (F := Ideal) c arg3 harg3 arg4 harg4 arg6 harg6 arg7 harg7 arg8 harg8 x0 x1 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_759 (F := Ideal) c arg3 harg3 arg4 harg4 arg5 harg5 arg6 harg6 arg7 harg7 arg8 harg8 x0 x1 x2 x3 x4 x5)) = addf (mm3 (kernelRun0_A.sl.r_743 (F := Ideal) c arg3 harg3 arg4 harg4 arg6 harg6 arg7 harg7 arg8 harg8 x0 x1 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_759 (F := Ideal) c arg3 harg3 arg4 harg4 arg5 harg5 arg6 harg6 arg7 harg7 arg8 harg8 x0 x1 x2 x3 x4 x5) := rfl
theorem wy9_A : (kernelRun0_A.sl.r_791 (F := Ideal) c arg3 harg3 arg4 harg4 arg5 harg5 arg6 harg6 arg7 harg7 arg8 harg8 arg14 x0 x1 x2 x3 x4 x5) = addf (mm (kernelRun0_A.sl.r_704 (F := Ideal) c arg3 harg3 arg6 harg6 arg7 harg7 arg8 harg8 x0 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_725 (F := Ideal) c arg3 harg3 arg4 harg4 arg5 harg5 arg6 harg6 arg7 harg7 arg8 harg8 x0 x1 x2 x3 x4 x5) := rfl
theorem sh9_A : (addf (mm3 (kernelRun0_A.sl.r_743 (F := Ideal) c arg3 harg3 arg4 harg4 arg6 harg6 arg7 harg7 arg8 harg8 x0 x1 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_759 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 5 := by
  rw [wh9_A, sh7_A, wtr9_A, wha9_A, wl9_A, wr9_A, tlr1_A, wk9_A, tlk1_A, wv9_A, tlv1_A, wa9_A, tla1_A, wb9_A, tlb1_A]; rfl
theorem sy9_A : (kernelRun0_A.sl.r_791 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 4 := by
  rw [wy9_A, sh7_A, wrh9_A, wyh9_A, wl9_A, wr9_A, tlr1_A, wk9_A, tlk1_A, wv9_A, tlv1_A, wa9_A, tla1_A, wb9_A, tlb1_A]; rfl

theorem wr11_A : (kernelRun0_A.sl.v156 (F := Ideal) c arg3 harg3 x0) = slc 5 (kernelRun0_A.sl.r_1 (F := Ideal) c arg3 harg3 x0) := rfl
theorem wk11_A : (kernelRun0_A.sl.v172 (F := Ideal) c arg4 harg4 x1) = slc 5 (kernelRun0_A.sl.r_3 (F := Ideal) c arg4 harg4 x1) := rfl
theorem wv11_A : (kernelRun0_A.sl.v188 (F := Ideal) c arg5 harg5 x2) = slc 5 (kernelRun0_A.sl.r_5 (F := Ideal) c arg5 harg5 x2) := rfl
theorem wa11_A : (kernelRun0_A.sl.r_18 (F := Ideal) c arg7 harg7 x4) = slc 5 (kernelRun0_A.sl.r_9 (F := Ideal) c arg7 harg7 x4) := rfl
theorem wb11_A : (kernelRun0_A.sl.r_34 (F := Ideal) c arg7 harg7 arg8 harg8 x4 x5) = slc 5 (kernelRun0_A.sl.r_11 (F := Ideal) c arg7 harg7 arg8 harg8 x4 x5) := rfl
theorem wl11_A : (kernelRun0_A.sl.v136 (F := Ideal) c arg6 harg6 x3) = lw1 (arg6.view.read (Elt Ideal) (harg6.unread x3)) 5 := rfl
theorem wtr11_A : (kernelRun0_A.sl.r_745 (F := Ideal) c arg3 harg3 arg4 harg4 arg6 harg6 arg7 harg7 arg8 harg8 x0 x1 x3 x4 x5) = transV (kernelRun0_A.sl.v136 (F := Ideal) c arg6 harg6 x3) (kernelRun0_A.sl.v156 (F := Ideal) c arg3 harg3 x0) (kernelRun0_A.sl.v172 (F := Ideal) c arg4 harg4 x1) (kernelRun0_A.sl.r_18 (F := Ideal) c arg7 harg7 x4) (kernelRun0_A.sl.r_34 (F := Ideal) c arg7 harg7 arg8 harg8 x4 x5) := rfl
theorem wha11_A : (kernelRun0_A.sl.r_761 (F := Ideal) c arg3 harg3 arg4 harg4 arg5 harg5 arg6 harg6 arg7 harg7 arg8 harg8 x0 x1 x2 x3 x4 x5) = hAddV (kernelRun0_A.sl.v136 (F := Ideal) c arg6 harg6 x3) (kernelRun0_A.sl.v156 (F := Ideal) c arg3 harg3 x0) (kernelRun0_A.sl.v172 (F := Ideal) c arg4 harg4 x1) (kernelRun0_A.sl.v188 (F := Ideal) c arg5 harg5 x2) (kernelRun0_A.sl.r_18 (F := Ideal) c arg7 harg7 x4) (kernelRun0_A.sl.r_34 (F := Ideal) c arg7 harg7 arg8 harg8 x4 x5) := rfl
theorem wrh11_A : (kernelRun0_A.sl.r_706 (F := Ideal) c arg3 harg3 arg6 harg6 arg7 harg7 arg8 harg8 x0 x3 x4 x5) = rHatV (kernelRun0_A.sl.v136 (F := Ideal) c arg6 harg6 x3) (kernelRun0_A.sl.v156 (F := Ideal) c arg3 harg3 x0) (kernelRun0_A.sl.r_18 (F := Ideal) c arg7 harg7 x4) (kernelRun0_A.sl.r_34 (F := Ideal) c arg7 harg7 arg8 harg8 x4 x5) := rfl
theorem wyh11_A : (kernelRun0_A.sl.r_729 (F := Ideal) c arg3 harg3 arg4 harg4 arg5 harg5 arg6 harg6 arg7 harg7 arg8 harg8 x0 x1 x2 x3 x4 x5) = yHatV (kernelRun0_A.sl.v136 (F := Ideal) c arg6 harg6 x3) (kernelRun0_A.sl.v156 (F := Ideal) c arg3 harg3 x0) (kernelRun0_A.sl.v172 (F := Ideal) c arg4 harg4 x1) (kernelRun0_A.sl.v188 (F := Ideal) c arg5 harg5 x2) (kernelRun0_A.sl.r_18 (F := Ideal) c arg7 harg7 x4) (kernelRun0_A.sl.r_34 (F := Ideal) c arg7 harg7 arg8 harg8 x4 x5) := rfl
theorem wh11_A : (kernelRun0_A.sl.r_799 (F := Ideal) c arg3 harg3 arg4 harg4 arg5 harg5 arg6 harg6 arg7 harg7 arg8 harg8 arg14 x0 x1 x2 x3 x4 x5) = addf (mm3 (kernelRun0_A.sl.r_745 (F := Ideal) c arg3 harg3 arg4 harg4 arg6 harg6 arg7 harg7 arg8 harg8 x0 x1 x3 x4 x5) ((addf (mm3 (kernelRun0_A.sl.r_743 (F := Ideal) c arg3 harg3 arg4 harg4 arg6 harg6 arg7 harg7 arg8 harg8 x0 x1 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_759 (F := Ideal) c arg3 harg3 arg4 harg4 arg5 harg5 arg6 harg6 arg7 harg7 arg8 harg8 x0 x1 x2 x3 x4 x5)))) (kernelRun0_A.sl.r_761 (F := Ideal) c arg3 harg3 arg4 harg4 arg5 harg5 arg6 harg6 arg7 harg7 arg8 harg8 x0 x1 x2 x3 x4 x5) := rfl
theorem wy11_A : (kernelRun0_A.sl.r_798 (F := Ideal) c arg3 harg3 arg4 harg4 arg5 harg5 arg6 harg6 arg7 harg7 arg8 harg8 arg14 x0 x1 x2 x3 x4 x5) = addf (mm (kernelRun0_A.sl.r_706 (F := Ideal) c arg3 harg3 arg6 harg6 arg7 harg7 arg8 harg8 x0 x3 x4 x5) ((addf (mm3 (kernelRun0_A.sl.r_743 (F := Ideal) c arg3 harg3 arg4 harg4 arg6 harg6 arg7 harg7 arg8 harg8 x0 x1 x3 x4 x5) ((addf (mm3 (kernelRun0_A.sl.r_741 (F := Ideal) c arg3 harg3 arg4 harg4 arg6 harg6 arg7 harg7 arg8 harg8 x0 x1 x3 x4 x5) ((kernelRun0_A.sl.r_782 (F := Ideal) c arg3 harg3 arg4 harg4 arg5 harg5 arg6 harg6 arg7 harg7 arg8 harg8 arg14 x0 x1 x2 x3 x4 x5))) (kernelRun0_A.sl.r_757 (F := Ideal) c arg3 harg3 arg4 harg4 arg5 harg5 arg6 harg6 arg7 harg7 arg8 harg8 x0 x1 x2 x3 x4 x5)))) (kernelRun0_A.sl.r_759 (F := Ideal) c arg3 harg3 arg4 harg4 arg5 harg5 arg6 harg6 arg7 harg7 arg8 harg8 x0 x1 x2 x3 x4 x5)))) (kernelRun0_A.sl.r_729 (F := Ideal) c arg3 harg3 arg4 harg4 arg5 harg5 arg6 harg6 arg7 harg7 arg8 harg8 x0 x1 x2 x3 x4 x5) := rfl
theorem sh11_A : (kernelRun0_A.sl.r_799 (F := Ideal) c arg3 harg3 arg4 harg4 arg5 harg5 arg6 harg6 arg7 harg7 arg8 harg8 arg14 x0 x1 x2 x3 x4 x5) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 6 := by
  rw [wh11_A, sh9_A, wtr11_A, wha11_A, wl11_A, wr11_A, tlr1_A, wk11_A, tlk1_A, wv11_A, tlv1_A, wa11_A, tla1_A, wb11_A, tlb1_A]; rfl
theorem sy11_A : (kernelRun0_A.sl.r_798 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 5 := by
  rw [wy11_A, sh9_A, wrh11_A, wyh11_A, wl11_A, wr11_A, tlr1_A, wk11_A, tlk1_A, wv11_A, tlv1_A, wa11_A, tla1_A, wb11_A, tlb1_A]; rfl

theorem wr13_A : (kernelRun0_A.sl.v158 (F := Ideal) c arg3 harg3 x0) = slc 6 (kernelRun0_A.sl.r_1 (F := Ideal) c arg3 harg3 x0) := rfl
theorem wk13_A : (kernelRun0_A.sl.v174 (F := Ideal) c arg4 harg4 x1) = slc 6 (kernelRun0_A.sl.r_3 (F := Ideal) c arg4 harg4 x1) := rfl
theorem wv13_A : (kernelRun0_A.sl.v190 (F := Ideal) c arg5 harg5 x2) = slc 6 (kernelRun0_A.sl.r_5 (F := Ideal) c arg5 harg5 x2) := rfl
theorem wa13_A : (kernelRun0_A.sl.r_20 (F := Ideal) c arg7 harg7 x4) = slc 6 (kernelRun0_A.sl.r_9 (F := Ideal) c arg7 harg7 x4) := rfl
theorem wb13_A : (kernelRun0_A.sl.r_36 (F := Ideal) c arg7 harg7 arg8 harg8 x4 x5) = slc 6 (kernelRun0_A.sl.r_11 (F := Ideal) c arg7 harg7 arg8 harg8 x4 x5) := rfl
theorem wl13_A : (kernelRun0_A.sl.v140 (F := Ideal) c arg6 harg6 x3) = lw1 (arg6.view.read (Elt Ideal) (harg6.unread x3)) 6 := rfl
theorem wtr13_A : (kernelRun0_A.sl.r_747 (F := Ideal) c arg3 harg3 arg4 harg4 arg6 harg6 arg7 harg7 arg8 harg8 x0 x1 x3 x4 x5) = transV (kernelRun0_A.sl.v140 (F := Ideal) c arg6 harg6 x3) (kernelRun0_A.sl.v158 (F := Ideal) c arg3 harg3 x0) (kernelRun0_A.sl.v174 (F := Ideal) c arg4 harg4 x1) (kernelRun0_A.sl.r_20 (F := Ideal) c arg7 harg7 x4) (kernelRun0_A.sl.r_36 (F := Ideal) c arg7 harg7 arg8 harg8 x4 x5) := rfl
theorem wha13_A : (kernelRun0_A.sl.r_765 (F := Ideal) c arg3 harg3 arg4 harg4 arg5 harg5 arg6 harg6 arg7 harg7 arg8 harg8 x0 x1 x2 x3 x4 x5) = hAddV (kernelRun0_A.sl.v140 (F := Ideal) c arg6 harg6 x3) (kernelRun0_A.sl.v158 (F := Ideal) c arg3 harg3 x0) (kernelRun0_A.sl.v174 (F := Ideal) c arg4 harg4 x1) (kernelRun0_A.sl.v190 (F := Ideal) c arg5 harg5 x2) (kernelRun0_A.sl.r_20 (F := Ideal) c arg7 harg7 x4) (kernelRun0_A.sl.r_36 (F := Ideal) c arg7 harg7 arg8 harg8 x4 x5) := rfl
theorem wrh13_A : (kernelRun0_A.sl.r_708 (F := Ideal) c arg3 harg3 arg6 harg6 arg7 harg7 arg8 harg8 x0 x3 x4 x5) = rHatV (kernelRun0_A.sl.v140 (F := Ideal) c arg6 harg6 x3) (kernelRun0_A.sl.v158 (F := Ideal) c arg3 harg3 x0) (kernelRun0_A.sl.r_20 (F := Ideal) c arg7 harg7 x4) (kernelRun0_A.sl.r_36 (F := Ideal) c arg7 harg7 arg8 harg8 x4 x5) := rfl
theorem wyh13_A : (kernelRun0_A.sl.r_731 (F := Ideal) c arg3 harg3 arg4 harg4 arg5 harg5 arg6 harg6 arg7 harg7 arg8 harg8 x0 x1 x2 x3 x4 x5) = yHatV (kernelRun0_A.sl.v140 (F := Ideal) c arg6 harg6 x3) (kernelRun0_A.sl.v158 (F := Ideal) c arg3 harg3 x0) (kernelRun0_A.sl.v174 (F := Ideal) c arg4 harg4 x1) (kernelRun0_A.sl.v190 (F := Ideal) c arg5 harg5 x2) (kernelRun0_A.sl.r_20 (F := Ideal) c arg7 harg7 x4) (kernelRun0_A.sl.r_36 (F := Ideal) c arg7 harg7 arg8 harg8 x4 x5) := rfl
theorem wh13_A : (kernelRun0_A.sl.r_803 (F := Ideal) c arg3 harg3 arg4 harg4 arg5 harg5 arg6 harg6 arg7 harg7 arg8 harg8 arg14 x0 x1 x2 x3 x4 x5) = addf (mm3 (kernelRun0_A.sl.r_747 (F := Ideal) c arg3 harg3 arg4 harg4 arg6 harg6 arg7 harg7 arg8 harg8 x0 x1 x3 x4 x5) ((kernelRun0_A.sl.r_799 (F := Ideal) c arg3 harg3 arg4 harg4 arg5 harg5 arg6 harg6 arg7 harg7 arg8 harg8 arg14 x0 x1 x2 x3 x4 x5))) (kernelRun0_A.sl.r_765 (F := Ideal) c arg3 harg3 arg4 harg4 arg5 harg5 arg6 harg6 arg7 harg7 arg8 harg8 x0 x1 x2 x3 x4 x5) := rfl
theorem wy13_A : (kernelRun0_A.sl.r_802 (F := Ideal) c arg3 harg3 arg4 harg4 arg5 harg5 arg6 harg6 arg7 harg7 arg8 harg8 arg14 x0 x1 x2 x3 x4 x5) = addf (mm (kernelRun0_A.sl.r_708 (F := Ideal) c arg3 harg3 arg6 harg6 arg7 harg7 arg8 harg8 x0 x3 x4 x5) ((kernelRun0_A.sl.r_799 (F := Ideal) c arg3 harg3 arg4 harg4 arg5 harg5 arg6 harg6 arg7 harg7 arg8 harg8 arg14 x0 x1 x2 x3 x4 x5))) (kernelRun0_A.sl.r_731 (F := Ideal) c arg3 harg3 arg4 harg4 arg5 harg5 arg6 harg6 arg7 harg7 arg8 harg8 x0 x1 x2 x3 x4 x5) := rfl
theorem sh13_A : (kernelRun0_A.sl.r_803 (F := Ideal) c arg3 harg3 arg4 harg4 arg5 harg5 arg6 harg6 arg7 harg7 arg8 harg8 arg14 x0 x1 x2 x3 x4 x5) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 7 := by
  rw [wh13_A, sh11_A, wtr13_A, wha13_A, wl13_A, wr13_A, tlr1_A, wk13_A, tlk1_A, wv13_A, tlv1_A, wa13_A, tla1_A, wb13_A, tlb1_A]; rfl
theorem sy13_A : (kernelRun0_A.sl.r_802 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 6 := by
  rw [wy13_A, sh11_A, wrh13_A, wyh13_A, wl13_A, wr13_A, tlr1_A, wk13_A, tlk1_A, wv13_A, tlv1_A, wa13_A, tla1_A, wb13_A, tlb1_A]; rfl

theorem wr15_A : (kernelRun0_A.sl.v160 (F := Ideal) c arg3 harg3 x0) = slc 7 (kernelRun0_A.sl.r_1 (F := Ideal) c arg3 harg3 x0) := rfl
theorem wk15_A : (kernelRun0_A.sl.v176 (F := Ideal) c arg4 harg4 x1) = slc 7 (kernelRun0_A.sl.r_3 (F := Ideal) c arg4 harg4 x1) := rfl
theorem wv15_A : (kernelRun0_A.sl.v192 (F := Ideal) c arg5 harg5 x2) = slc 7 (kernelRun0_A.sl.r_5 (F := Ideal) c arg5 harg5 x2) := rfl
theorem wa15_A : (kernelRun0_A.sl.r_22 (F := Ideal) c arg7 harg7 x4) = slc 7 (kernelRun0_A.sl.r_9 (F := Ideal) c arg7 harg7 x4) := rfl
theorem wb15_A : (kernelRun0_A.sl.r_38 (F := Ideal) c arg7 harg7 arg8 harg8 x4 x5) = slc 7 (kernelRun0_A.sl.r_11 (F := Ideal) c arg7 harg7 arg8 harg8 x4 x5) := rfl
theorem wl15_A : (kernelRun0_A.sl.v144 (F := Ideal) c arg6 harg6 x3) = lw1 (arg6.view.read (Elt Ideal) (harg6.unread x3)) 7 := rfl
theorem wtr15_A : (kernelRun0_A.sl.r_749 (F := Ideal) c arg3 harg3 arg4 harg4 arg6 harg6 arg7 harg7 arg8 harg8 x0 x1 x3 x4 x5) = transV (kernelRun0_A.sl.v144 (F := Ideal) c arg6 harg6 x3) (kernelRun0_A.sl.v160 (F := Ideal) c arg3 harg3 x0) (kernelRun0_A.sl.v176 (F := Ideal) c arg4 harg4 x1) (kernelRun0_A.sl.r_22 (F := Ideal) c arg7 harg7 x4) (kernelRun0_A.sl.r_38 (F := Ideal) c arg7 harg7 arg8 harg8 x4 x5) := rfl
theorem wha15_A : (kernelRun0_A.sl.r_767 (F := Ideal) c arg3 harg3 arg4 harg4 arg5 harg5 arg6 harg6 arg7 harg7 arg8 harg8 x0 x1 x2 x3 x4 x5) = hAddV (kernelRun0_A.sl.v144 (F := Ideal) c arg6 harg6 x3) (kernelRun0_A.sl.v160 (F := Ideal) c arg3 harg3 x0) (kernelRun0_A.sl.v176 (F := Ideal) c arg4 harg4 x1) (kernelRun0_A.sl.v192 (F := Ideal) c arg5 harg5 x2) (kernelRun0_A.sl.r_22 (F := Ideal) c arg7 harg7 x4) (kernelRun0_A.sl.r_38 (F := Ideal) c arg7 harg7 arg8 harg8 x4 x5) := rfl
theorem wrh15_A : (kernelRun0_A.sl.r_712 (F := Ideal) c arg3 harg3 arg6 harg6 arg7 harg7 arg8 harg8 x0 x3 x4 x5) = rHatV (kernelRun0_A.sl.v144 (F := Ideal) c arg6 harg6 x3) (kernelRun0_A.sl.v160 (F := Ideal) c arg3 harg3 x0) (kernelRun0_A.sl.r_22 (F := Ideal) c arg7 harg7 x4) (kernelRun0_A.sl.r_38 (F := Ideal) c arg7 harg7 arg8 harg8 x4 x5) := rfl
theorem wyh15_A : (kernelRun0_A.sl.r_733 (F := Ideal) c arg3 harg3 arg4 harg4 arg5 harg5 arg6 harg6 arg7 harg7 arg8 harg8 x0 x1 x2 x3 x4 x5) = yHatV (kernelRun0_A.sl.v144 (F := Ideal) c arg6 harg6 x3) (kernelRun0_A.sl.v160 (F := Ideal) c arg3 harg3 x0) (kernelRun0_A.sl.v176 (F := Ideal) c arg4 harg4 x1) (kernelRun0_A.sl.v192 (F := Ideal) c arg5 harg5 x2) (kernelRun0_A.sl.r_22 (F := Ideal) c arg7 harg7 x4) (kernelRun0_A.sl.r_38 (F := Ideal) c arg7 harg7 arg8 harg8 x4 x5) := rfl
theorem wh15_A : (kernelRun0_A.sl.r_807 (F := Ideal) c arg3 harg3 arg4 harg4 arg5 harg5 arg6 harg6 arg7 harg7 arg8 harg8 arg14 x0 x1 x2 x3 x4 x5) = addf (mm3 (kernelRun0_A.sl.r_749 (F := Ideal) c arg3 harg3 arg4 harg4 arg6 harg6 arg7 harg7 arg8 harg8 x0 x1 x3 x4 x5) ((kernelRun0_A.sl.r_803 (F := Ideal) c arg3 harg3 arg4 harg4 arg5 harg5 arg6 harg6 arg7 harg7 arg8 harg8 arg14 x0 x1 x2 x3 x4 x5))) (kernelRun0_A.sl.r_767 (F := Ideal) c arg3 harg3 arg4 harg4 arg5 harg5 arg6 harg6 arg7 harg7 arg8 harg8 x0 x1 x2 x3 x4 x5) := rfl
theorem wy15_A : (kernelRun0_A.sl.r_806 (F := Ideal) c arg3 harg3 arg4 harg4 arg5 harg5 arg6 harg6 arg7 harg7 arg8 harg8 arg14 x0 x1 x2 x3 x4 x5) = addf (mm (kernelRun0_A.sl.r_712 (F := Ideal) c arg3 harg3 arg6 harg6 arg7 harg7 arg8 harg8 x0 x3 x4 x5) ((kernelRun0_A.sl.r_803 (F := Ideal) c arg3 harg3 arg4 harg4 arg5 harg5 arg6 harg6 arg7 harg7 arg8 harg8 arg14 x0 x1 x2 x3 x4 x5))) (kernelRun0_A.sl.r_733 (F := Ideal) c arg3 harg3 arg4 harg4 arg5 harg5 arg6 harg6 arg7 harg7 arg8 harg8 x0 x1 x2 x3 x4 x5) := rfl
theorem sh15_A : (kernelRun0_A.sl.r_807 (F := Ideal) c arg3 harg3 arg4 harg4 arg5 harg5 arg6 harg6 arg7 harg7 arg8 harg8 arg14 x0 x1 x2 x3 x4 x5) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 8 := by
  rw [wh15_A, sh13_A, wtr15_A, wha15_A, wl15_A, wr15_A, tlr1_A, wk15_A, tlk1_A, wv15_A, tlv1_A, wa15_A, tla1_A, wb15_A, tlb1_A]; rfl
theorem sy15_A : (kernelRun0_A.sl.r_806 (F := Ideal) c arg3 harg3 arg4 harg4 arg5 harg5 arg6 harg6 arg7 harg7 arg8 harg8 arg14 x0 x1 x2 x3 x4 x5) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) ((shapeCast S128x128 (kernelRun0_A.sl.v3574 (F := Ideal) c arg14) shapeCasts_S1x128x128_S128x128)) 7 := by
  rw [wy15_A, sh13_A, wrh15_A, wyh15_A, wl15_A, wr15_A, tlr1_A, wk15_A, tlk1_A, wv15_A, tlv1_A, wa15_A, tla1_A, wb15_A, tlb1_A]; rfl

end Cert.Wkv
end
-- ==== Proof.WkvOutA.lean ====
module

public import proofs.«01_k».proof.Proof.WkvPairA

@[expose] public section

/-! The two stores of a point that opens a sequence. -/

set_option maxRecDepth 100000

noncomputable section

namespace Cert.Wkv

open Cert.Kernel6Ideal Cert.Kernel6Ideal.Gen Idealize.ShloMosaic Idealize.ShloMosaic.TcCoe

variable  (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x512x256 .bf16) (harg13 : arg13.IsWhole) (arg14 : Memref sig .tc .vmem S2x128x128 .f32) (harg14 : arg14.IsWhole) (hc0 : cond0_0 i)
    (x0 : Vec Ideal S1x512x256 .bf16) (x1 : Vec Ideal S1x512x256 .bf16) (x2 : Vec Ideal S1x512x256 .bf16) (x3 : Vec Ideal S1x512x256 .f32) (x4 : Vec Ideal S1x512x256 .bf16) (x5 : Vec Ideal S1x512x256 .bf16) (x6 : Vec Ideal S1x512x256 .bf16) (x7 : Vec Ideal S1x256 .f32) (x8 : Vec Ideal S1x256 .f32) (x9 : Vec Ideal S1x256 .f32)

theorem dlt0_A : (kernelRun0_A.sl.r_808 (F := Ideal) c arg3 harg3 arg4 harg4 arg5 harg5 arg6 harg6 arg7 harg7 arg8 harg8 arg14 x0 x1 x2 x3 x4 x5) = dlt (cat8 (kernelRun0_A.sl.r_769 (F := Ideal) c arg3 harg3 arg4 harg4 arg5 harg5 arg6 harg6 arg7 harg7 arg8 harg8 arg14 x0 x1 x2 x3 x4 x5) (kernelRun0_A.sl.r_774 (F := Ideal) c arg3 harg3 arg4 harg4 arg5 harg5 arg6 harg6 arg7 harg7 arg8 harg8 arg14 x0 x1 x2 x3 x4 x5) (kernelRun0_A.sl.r_780 (F := Ideal) c arg3 harg3 arg4 harg4 arg5 harg5 arg6 harg6 arg7 harg7 arg8 harg8 arg14 x0 x1 x2 x3 x4 x5) (kernelRun0_A.sl.r_783 (F := Ideal) c arg3 harg3 arg4 harg4 arg5 harg5 arg6 harg6 arg7 harg7 arg8 harg8 arg14 x0 x1 x2 x3 x4 x5) (kernelRun0_A.sl.r_789 (F := Ideal) c arg3 harg3 arg4 harg4 arg5 harg5 arg6 harg6 arg7 harg7 arg8 harg8 arg14 x0 x1 x2 x3 x4 x5) (kernelRun0_A.sl.r_796 (F := Ideal) c arg3 harg3 arg4 harg4 arg5 harg5 arg6 harg6 arg7 harg7 arg8 harg8 arg14 x0 x1 x2 x3 x4 x5) (kernelRun0_A.sl.r_800 (F := Ideal) c arg3 harg3 arg4 harg4 arg5 harg5 arg6 harg6 arg7 harg7 arg8 harg8 arg14 x0 x1 x2 x3 x4 x5) (kernelRun0_A.sl.r_804 (F := Ideal) c arg3 harg3 arg4 harg4 arg5 harg5 arg6 harg6 arg7 harg7 arg8 harg8 arg14 x0 x1 x2 x3 x4 x5)) := rfl
theorem gn0_A : (kernelRun0_A.sl.r_811 (F := Ideal) c arg3 harg3 arg4 harg4 arg5 harg5 arg6 harg6 arg7 harg7 arg8 harg8 arg10 harg10 arg11 harg11 arg12 harg12 arg14 x0 x1 x2 x3 x4 x5 x7 x8 x9) = addf (gnorm (cat8 (kernelRun0_A.sl.r_769 (F := Ideal) c arg3 harg3 arg4 harg4 arg5 harg5 arg6 harg6 arg7 harg7 arg8 harg8 arg14 x0 x1 x2 x3 x4 x5) (kernelRun0_A.sl.r_774 (F := Ideal) c arg3 harg3 arg4 harg4 arg5 harg5 arg6 harg6 arg7 harg7 arg8 harg8 arg14 x0 x1 x2 x3 x4 x5) (kernelRun0_A.sl.r_780 (F := Ideal) c arg3 harg3 arg4 harg4 arg5 harg5 arg6 harg6 arg7 harg7 arg8 harg8 arg14 x0 x1 x2 x3 x4 x5) (kernelRun0_A.sl.r_783 (F := Ideal) c arg3 harg3 arg4 harg4 arg5 harg5 arg6 harg6 arg7 harg7 arg8 harg8 arg14 x0 x1 x2 x3 x4 x5) (kernelRun0_A.sl.r_789 (F := Ideal) c arg3 harg3 arg4 harg4 arg5 harg5 arg6 harg6 arg7 harg7 arg8 harg8 arg14 x0 x1 x2 x3 x4 x5) (kernelRun0_A.sl.r_796 (F := Ideal) c arg3 harg3 arg4 harg4 arg5 harg5 arg6 harg6 arg7 harg7 arg8 harg8 arg14 x0 x1 x2 x3 x4 x5) (kernelRun0_A.sl.r_800 (F := Ideal) c arg3 harg3 arg4 harg4 arg5 harg5 arg6 harg6 arg7 harg7 arg8 harg8 arg14 x0 x1 x2 x3 x4 x5) (kernelRun0_A.sl.r_804 (F := Ideal) c arg3 harg3 arg4 harg4 arg5 harg5 arg6 harg6 arg7 harg7 arg8 harg8 arg14 x0 x1 x2 x3 x4 x5)) (rw0 (arg10.view.read (Elt Ideal) (harg10.unread x7))) (rw0 (arg11.view.read (Elt Ideal) (harg11.unread x8)))) (mulf (segSum (mulf (mulf (kernelRun0_A.sl.r (F := Ideal) c arg3 harg3 x0) (kernelRun0_A.sl.r_2 (F := Ideal) c arg4 harg4 x1)) (row1 (rw0 (arg12.view.read (Elt Ideal) (harg12.unread x9)))))) (kernelRun0_A.sl.r_4 (F := Ideal) c arg5 harg5 x2)) := rfl
theorem dlt1_A : (kernelRun0_A.sl.r_813 (F := Ideal) c arg3 harg3 arg4 harg4 arg5 harg5 arg6 harg6 arg7 harg7 arg8 harg8 arg14 x0 x1 x2 x3 x4 x5) = dlt (cat8 (kernelRun0_A.sl.r_771 (F := Ideal) c arg3 harg3 arg4 harg4 arg5 harg5 arg6 harg6 arg7 harg7 arg8 harg8 arg14 x0 x1 x2 x3 x4 x5) (kernelRun0_A.sl.r_776 (F := Ideal) c arg3 harg3 arg4 harg4 arg5 harg5 arg6 harg6 arg7 harg7 arg8 harg8 arg14 x0 x1 x2 x3 x4 x5) (kernelRun0_A.sl.r_781 (F := Ideal) c arg3 harg3 arg4 harg4 arg5 harg5 arg6 harg6 arg7 harg7 arg8 harg8 arg14 x0 x1 x2 x3 x4 x5) (kernelRun0_A.sl.r_788 (F := Ideal) c arg3 harg3 arg4 harg4 arg5 harg5 arg6 harg6 arg7 harg7 arg8 harg8 arg14 x0 x1 x2 x3 x4 x5) (kernelRun0_A.sl.r_791 (F := Ideal) c arg3 harg3 arg4 harg4 arg5 harg5 arg6 harg6 arg7 harg7 arg8 harg8 arg14 x0 x1 x2 x3 x4 x5) (kernelRun0_A.sl.r_798 (F := Ideal) c arg3 harg3 arg4 harg4 arg5 harg5 arg6 harg6 arg7 harg7 arg8 harg8 arg14 x0 x1 x2 x3 x4 x5) (kernelRun0_A.sl.r_802 (F := Ideal) c arg3 harg3 arg4 harg4 arg5 harg5 arg6 harg6 arg7 harg7 arg8 harg8 arg14 x0 x1 x2 x3 x4 x5) (kernelRun0_A.sl.r_806 (F := Ideal) c arg3 harg3 arg4 harg4 arg5 harg5 arg6 harg6 arg7 harg7 arg8 harg8 arg14 x0 x1 x2 x3 x4 x5)) := rfl
theorem gn1_A : (kernelRun0_A.sl.r_815 (F := Ideal) c arg3 harg3 arg4 harg4 arg5 harg5 arg6 harg6 arg7 harg7 arg8 harg8 arg10 harg10 arg11 harg11 arg14 x0 x1 x2 x3 x4 x5 x7 x8) = gnorm (cat8 (kernelRun0_A.sl.r_771 (F := Ideal) c arg3 harg3 arg4 harg4 arg5 harg5 arg6 harg6 arg7 harg7 arg8 harg8 arg14 x0 x1 x2 x3 x4 x5) (kernelRun0_A.sl.r_776 (F := Ideal) c arg3 harg3 arg4 harg4 arg5 harg5 arg6 harg6 arg7 harg7 arg8 harg8 arg14 x0 x1 x2 x3 x4 x5) (kernelRun0_A.sl.r_781 (F := Ideal) c arg3 harg3 arg4 harg4 arg5 harg5 arg6 harg6 arg7 harg7 arg8 harg8 arg14 x0 x1 x2 x3 x4 x5) (kernelRun0_A.sl.r_788 (F := Ideal) c arg3 harg3 arg4 harg4 arg5 harg5 arg6 harg6 arg7 harg7 arg8 harg8 arg14 x0 x1 x2 x3 x4 x5) (kernelRun0_A.sl.r_791 (F := Ideal) c arg3 harg3 arg4 harg4 arg5 harg5 arg6 harg6 arg7 harg7 arg8 harg8 arg14 x0 x1 x2 x3 x4 x5) (kernelRun0_A.sl.r_798 (F := Ideal) c arg3 harg3 arg4 harg4 arg5 harg5 arg6 harg6 arg7 harg7 arg8 harg8 arg14 x0 x1 x2 x3 x4 x5) (kernelRun0_A.sl.r_802 (F := Ideal) c arg3 harg3 arg4 harg4 arg5 harg5 arg6 harg6 arg7 harg7 arg8 harg8 arg14 x0 x1 x2 x3 x4 x5) (kernelRun0_A.sl.r_806 (F := Ideal) c arg3 harg3 arg4 harg4 arg5 harg5 arg6 harg6 arg7 harg7 arg8 harg8 arg14 x0 x1 x2 x3 x4 x5)) (rw1 (arg10.view.read (Elt Ideal) (harg10.unread x7))) (rw1 (arg11.view.read (Elt Ideal) (harg11.unread x8))) := rfl
theorem bo1_A : (kernelRun0_A.sl.r_816 (F := Ideal) c arg3 harg3 arg4 harg4 arg12 harg12 x0 x1 x9) = segSum (mulf (mulf (kernelRun0_A.sl.r_1 (F := Ideal) c arg3 harg3 x0) (kernelRun0_A.sl.r_3 (F := Ideal) c arg4 harg4 x1)) (row1 (rw1 (arg12.view.read (Elt Ideal) (harg12.unread x9))))) := rfl
theorem ini0 : shapeCast S128x128 (kernelRun0_A.sl.v3572 (F := Ideal) c arg14) shapeCasts_S1x128x128_S128x128 = st0 zst := by
  have hz : (kernelRun0_A.sl.v3572 (F := Ideal) c arg14) = View.ld (Val := Elt Ideal) zst (Rect.unit ![0, 0, 0] S1x128x128.size inb_S2x128x128_S1x128x128_0_0_0) := by
    refine (View.readCov_eq_canon' arg14.view _ _).trans ?_
    unfold kernelRun0_A.sl.HS0_1; rw [View.canon_cons_unit_zero (show (![0, 0, 0] : Fin 3 → ℕ) = fun _ => 0 by decide)]
    rfl
  rw [hz]; rfl
theorem ini1 : shapeCast S128x128 (kernelRun0_A.sl.v3574 (F := Ideal) c arg14) shapeCasts_S1x128x128_S128x128 = st1 zst := by
  have hz : (kernelRun0_A.sl.v3574 (F := Ideal) c arg14) = View.ld (Val := Elt Ideal) zst (Rect.unit ![1, 0, 0] S1x128x128.size inb_S2x128x128_S1x128x128_1_0_0) := by
    refine (View.readCov_eq_canon' arg14.view _ _).trans ?_
    unfold kernelRun0_A.sl.HS0_1; rw [View.canon_cons_unit_zero (show (![0, 0, 0] : Fin 3 → ℕ) = fun _ => 0 by decide)]
    rfl
  rw [hz]; rfl
theorem fin0_A : (kernelRun0_A.sl.r_805 (F := Ideal) c arg3 harg3 arg4 harg4 arg5 harg5 arg6 harg6 arg7 harg7 arg8 harg8 arg14 x0 x1 x2 x3 x4 x5) = ptH0 x0 x1 x2 x3 x4 x5 (st0 zst) := by
  rw [sh14_A, ini0, harg3.read_unread x0, harg4.read_unread x1, harg5.read_unread x2, harg6.read_unread x3, harg7.read_unread x4, harg8.read_unread x5]; rfl
theorem fin1_A : (kernelRun0_A.sl.r_807 (F := Ideal) c arg3 harg3 arg4 harg4 arg5 harg5 arg6 harg6 arg7 harg7 arg8 harg8 arg14 x0 x1 x2 x3 x4 x5) = ptH1 x0 x1 x2 x3 x4 x5 (st1 zst) := by
  rw [sh15_A, ini1, harg3.read_unread x0, harg4.read_unread x1, harg5.read_unread x2, harg6.read_unread x3, harg7.read_unread x4, harg8.read_unread x5]; rfl
theorem store0_A : k0_pay921 (kernelRun0_A.sl.r_811 (F := Ideal) c arg3 harg3 arg4 harg4 arg5 harg5 arg6 harg6 arg7 harg7 arg8 harg8 arg10 harg10 arg11 harg11 arg12 harg12 arg14 x0 x1 x2 x3 x4 x5 x7 x8 x9) (kernelRun0_A.sl.r_812 (F := Ideal) c arg9 harg9 x6) = ptO0 x0 x1 x2 x3 x4 x5 x6 x7 x8 x9 (st0 zst) := by
  rw [gn0_A, sy0_A, sy2_A, sy4_A, sy6_A, sy8_A, sy10_A, sy12_A, sy14_A, tlr0_A, tlk0_A, tlv0_A, show (kernelRun0_A.sl.r_812 (F := Ideal) c arg9 harg9 x6) = shapeCast S512x128 (View.ld (Val := Elt Ideal) (arg9.view.read (Elt Ideal) (harg9.unread x6)) (Rect.unit ![0, 0, 0] S1x512x128.size inb_S1x512x256_S1x512x128_0_0_0)) shapeCasts_S1x512x128_S512x128 from rfl, ini0, harg3.read_unread x0, harg4.read_unread x1, harg5.read_unread x2, harg6.read_unread x3, harg7.read_unread x4, harg8.read_unread x5, harg9.read_unread x6, harg10.read_unread x7, harg11.read_unread x8, harg12.read_unread x9]; rfl
theorem store1_A : k0_pay1 (kernelRun0_A.sl.r_5 (F := Ideal) c arg5 harg5 x2) (kernelRun0_A.sl.r_815 (F := Ideal) c arg3 harg3 arg4 harg4 arg5 harg5 arg6 harg6 arg7 harg7 arg8 harg8 arg10 harg10 arg11 harg11 arg14 x0 x1 x2 x3 x4 x5 x7 x8) (kernelRun0_A.sl.r_816 (F := Ideal) c arg3 harg3 arg4 harg4 arg12 harg12 x0 x1 x9) (View.readAt (Elt Ideal) arg9.view (Rect.unit (s := S1x512x256) ![0, 0, 128] S1x512x128.size inb_S1x512x256_S1x512x128_0_0_128).toLoadRect (harg9.unread x6)) = ptO1 x0 x1 x2 x3 x4 x5 x6 x7 x8 x9 (st1 zst) := by
  rw [gn1_A, bo1_A, sy1_A, sy3_A, sy5_A, sy7_A, sy9_A, sy11_A, sy13_A, sy15_A, tlr1_A, tlk1_A, tlv1_A, View.readAt_eq_ld, ini1, harg3.read_unread x0, harg4.read_unread x1, harg5.read_unread x2, harg6.read_unread x3, harg7.read_unread x4, harg8.read_unread x5, harg9.read_unread x6, harg10.read_unread x7, harg11.read_unread x8, harg12.read_unread x9]; rfl
theorem scratch_A : sout0_A_0 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = View.canon (Val := Elt Ideal) (s := S2x128x128) (e := .f32) (⟨Rect.unit ![1, 0, 0] S1x128x128.size inb_S2x128x128_S1x128x128_1_0_0, shapeCast S1x128x128 (ptH1 x0 x1 x2 x3 x4 x5 (st1 zst)) shapeCasts_S128x128_S1x128x128⟩ :: ⟨Rect.unit ![0, 0, 0] S1x128x128.size inb_S2x128x128_S1x128x128_0_0_0, shapeCast S1x128x128 (ptH0 x0 x1 x2 x3 x4 x5 (st0 zst)) shapeCasts_S128x128_S1x128x128⟩ :: kernelRun0_A.sl.HS0_1 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  rw [fin0_A, fin1_A]
  rfl
theorem written_A : out0_A_10 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = View.canon (Val := Elt Ideal) (s := S1x512x256) (e := .bf16)
    [⟨Rect.unit ![0, 0, 128] S1x512x128.size inb_S1x512x256_S1x512x128_0_0_128, ptO1 x0 x1 x2 x3 x4 x5 x6 x7 x8 x9 (st1 zst)⟩,
     ⟨Rect.unit ![0, 0, 0] S1x512x128.size inb_S1x512x256_S1x512x128_0_0_0, ptO0 x0 x1 x2 x3 x4 x5 x6 x7 x8 x9 (st0 zst)⟩] := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  have h0 := store0_A c arg3 harg3 arg4 harg4 arg5 harg5 arg6 harg6 arg7 harg7 arg8 harg8 arg9 harg9 arg10 harg10 arg11 harg11 arg12 harg12 arg14 x0 x1 x2 x3 x4 x5 x6 x7 x8 x9
  have h1 := store1_A c arg3 harg3 arg4 harg4 arg5 harg5 arg6 harg6 arg7 harg7 arg8 harg8 arg9 harg9 arg10 harg10 arg11 harg11 arg12 harg12 arg14 x0 x1 x2 x3 x4 x5 x6 x7 x8 x9
  rw [h0]
  refine Eq.trans ?_ (congrArg (fun w => View.canon (Val := Elt Ideal) (s := S1x512x256) (e := .bf16) [⟨Rect.unit ![0, 0, 128] S1x512x128.size inb_S1x512x256_S1x512x128_0_0_128, w⟩,
     ⟨Rect.unit ![0, 0, 0] S1x512x128.size inb_S1x512x256_S1x512x128_0_0_0, ptO0 x0 x1 x2 x3 x4 x5 x6 x7 x8 x9 (st0 zst)⟩]) h1)
  rfl

end Cert.Wkv
end
-- ==== Proof.WkvPairB.lean ====
module

public import proofs.«01_k».proof.Proof.Gen.Kernel6Ideal.Value
public import proofs.«01_k».proof.Proof.WkvLd

@[expose] public section

/-! What the body leaves at a point that continues a sequence. -/

set_option maxRecDepth 100000

noncomputable section

namespace Cert.Wkv

open Cert.Kernel6Ideal Cert.Kernel6Ideal.Gen Idealize.ShloMosaic Idealize.ShloMosaic.TcCoe

variable  (c : Dev nD) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x512x256 .bf16) (harg13 : arg13.IsWhole) (arg14 : Memref sig .tc .vmem S2x128x128 .f32) (harg14 : arg14.IsWhole)
    (x0 : Vec Ideal S1x512x256 .bf16) (x1 : Vec Ideal S1x512x256 .bf16) (x2 : Vec Ideal S1x512x256 .bf16) (x3 : Vec Ideal S1x512x256 .f32) (x4 : Vec Ideal S1x512x256 .bf16) (x5 : Vec Ideal S1x512x256 .bf16) (x6 : Vec Ideal S1x512x256 .bf16) (x7 : Vec Ideal S1x256 .f32) (x8 : Vec Ideal S1x256 .f32) (x9 : Vec Ideal S1x256 .f32) (xs0 : Vec Ideal S2x128x128 .f32)

theorem tlr0_B : (kernelRun0_B.sl.r (F := Ideal) c arg3 harg3 x0) = tl0 (arg3.view.read (Elt Ideal) (harg3.unread x0)) := rfl
theorem tlk0_B : (kernelRun0_B.sl.r_2 (F := Ideal) c arg4 harg4 x1) = tl0 (arg4.view.read (Elt Ideal) (harg4.unread x1)) := rfl
theorem tlv0_B : (kernelRun0_B.sl.r_4 (F := Ideal) c arg5 harg5 x2) = tl0 (arg5.view.read (Elt Ideal) (harg5.unread x2)) := rfl
theorem tla0_B : (kernelRun0_B.sl.r_8 (F := Ideal) c arg7 harg7 x4) = aAll (tl0 (arg7.view.read (Elt Ideal) (harg7.unread x4))) := rfl
theorem tlb0_B : (kernelRun0_B.sl.r_10 (F := Ideal) c arg7 harg7 arg8 harg8 x4 x5) = bAll (tl0 (arg7.view.read (Elt Ideal) (harg7.unread x4))) (tl0 (arg8.view.read (Elt Ideal) (harg8.unread x5))) := rfl
theorem tlr1_B : (kernelRun0_B.sl.r_1 (F := Ideal) c arg3 harg3 x0) = tl1 (arg3.view.read (Elt Ideal) (harg3.unread x0)) := rfl
theorem tlk1_B : (kernelRun0_B.sl.r_3 (F := Ideal) c arg4 harg4 x1) = tl1 (arg4.view.read (Elt Ideal) (harg4.unread x1)) := rfl
theorem tlv1_B : (kernelRun0_B.sl.r_5 (F := Ideal) c arg5 harg5 x2) = tl1 (arg5.view.read (Elt Ideal) (harg5.unread x2)) := rfl
theorem tla1_B : (kernelRun0_B.sl.r_9 (F := Ideal) c arg7 harg7 x4) = aAll (tl1 (arg7.view.read (Elt Ideal) (harg7.unread x4))) := rfl
theorem tlb1_B : (kernelRun0_B.sl.r_11 (F := Ideal) c arg7 harg7 arg8 harg8 x4 x5) = bAll (tl1 (arg7.view.read (Elt Ideal) (harg7.unread x4))) (tl1 (arg8.view.read (Elt Ideal) (harg8.unread x5))) := rfl
theorem wr0_B : (kernelRun0_B.sl.v145 (F := Ideal) c arg3 harg3 x0) = slc 0 (kernelRun0_B.sl.r (F := Ideal) c arg3 harg3 x0) := rfl
theorem wk0_B : (kernelRun0_B.sl.v161 (F := Ideal) c arg4 harg4 x1) = slc 0 (kernelRun0_B.sl.r_2 (F := Ideal) c arg4 harg4 x1) := rfl
theorem wv0_B : (kernelRun0_B.sl.v177 (F := Ideal) c arg5 harg5 x2) = slc 0 (kernelRun0_B.sl.r_4 (F := Ideal) c arg5 harg5 x2) := rfl
theorem wa0_B : (kernelRun0_B.sl.v193 (F := Ideal) c arg7 harg7 x4) = slc 0 (kernelRun0_B.sl.r_8 (F := Ideal) c arg7 harg7 x4) := rfl
theorem wb0_B : (kernelRun0_B.sl.r_23 (F := Ideal) c arg7 harg7 arg8 harg8 x4 x5) = slc 0 (kernelRun0_B.sl.r_10 (F := Ideal) c arg7 harg7 arg8 harg8 x4 x5) := rfl
theorem wl0_B : (kernelRun0_B.sl.r_12 (F := Ideal) c arg6 harg6 x3) = lw0 (arg6.view.read (Elt Ideal) (harg6.unread x3)) 0 := rfl
theorem wtr0_B : (kernelRun0_B.sl.r_734 (F := Ideal) c arg3 harg3 arg4 harg4 arg6 harg6 arg7 harg7 arg8 harg8 x0 x1 x3 x4 x5) = transV (kernelRun0_B.sl.r_12 (F := Ideal) c arg6 harg6 x3) (kernelRun0_B.sl.v145 (F := Ideal) c arg3 harg3 x0) (kernelRun0_B.sl.v161 (F := Ideal) c arg4 harg4 x1) (kernelRun0_B.sl.v193 (F := Ideal) c arg7 harg7 x4) (kernelRun0_B.sl.r_23 (F := Ideal) c arg7 harg7 arg8 harg8 x4 x5) := rfl
theorem wha0_B : (kernelRun0_B.sl.r_750 (F := Ideal) c arg3 harg3 arg4 harg4 arg5 harg5 arg6 harg6 arg7 harg7 arg8 harg8 x0 x1 x2 x3 x4 x5) = hAddV (kernelRun0_B.sl.r_12 (F := Ideal) c arg6 harg6 x3) (kernelRun0_B.sl.v145 (F := Ideal) c arg3 harg3 x0) (kernelRun0_B.sl.v161 (F := Ideal) c arg4 harg4 x1) (kernelRun0_B.sl.v177 (F := Ideal) c arg5 harg5 x2) (kernelRun0_B.sl.v193 (F := Ideal) c arg7 harg7 x4) (kernelRun0_B.sl.r_23 (F := Ideal) c arg7 harg7 arg8 harg8 x4 x5) := rfl
theorem wrh0_B : (kernelRun0_B.sl.r_691 (F := Ideal) c arg3 harg3 arg6 harg6 arg7 harg7 arg8 harg8 x0 x3 x4 x5) = rHatV (kernelRun0_B.sl.r_12 (F := Ideal) c arg6 harg6 x3) (kernelRun0_B.sl.v145 (F := Ideal) c arg3 harg3 x0) (kernelRun0_B.sl.v193 (F := Ideal) c arg7 harg7 x4) (kernelRun0_B.sl.r_23 (F := Ideal) c arg7 harg7 arg8 harg8 x4 x5) := rfl
theorem wyh0_B : (kernelRun0_B.sl.r_713 (F := Ideal) c arg3 harg3 arg4 harg4 arg5 harg5 arg6 harg6 arg7 harg7 arg8 harg8 x0 x1 x2 x3 x4 x5) = yHatV (kernelRun0_B.sl.r_12 (F := Ideal) c arg6 harg6 x3) (kernelRun0_B.sl.v145 (F := Ideal) c arg3 harg3 x0) (kernelRun0_B.sl.v161 (F := Ideal) c arg4 harg4 x1) (kernelRun0_B.sl.v177 (F := Ideal) c arg5 harg5 x2) (kernelRun0_B.sl.v193 (F := Ideal) c arg7 harg7 x4) (kernelRun0_B.sl.r_23 (F := Ideal) c arg7 harg7 arg8 harg8 x4 x5) := rfl
theorem wh0_B : (kernelRun0_B.sl.r_770 (F := Ideal) c arg3 harg3 arg4 harg4 arg5 harg5 arg6 harg6 arg7 harg7 arg8 harg8 arg14 harg14 x0 x1 x2 x3 x4 x5 xs0) = addf (mm3 (kernelRun0_B.sl.r_734 (F := Ideal) c arg3 harg3 arg4 harg4 arg6 harg6 arg7 harg7 arg8 harg8 x0 x1 x3 x4 x5) (st0 (arg14.view.read (Elt Ideal) (harg14.unread xs0)))) (kernelRun0_B.sl.r_750 (F := Ideal) c arg3 harg3 arg4 harg4 arg5 harg5 arg6 harg6 arg7 harg7 arg8 harg8 x0 x1 x2 x3 x4 x5) := rfl
theorem wy0_B : (kernelRun0_B.sl.r_769 (F := Ideal) c arg3 harg3 arg4 harg4 arg5 harg5 arg6 harg6 arg7 harg7 arg8 harg8 arg14 harg14 x0 x1 x2 x3 x4 x5 xs0) = addf (mm (kernelRun0_B.sl.r_691 (F := Ideal) c arg3 harg3 arg6 harg6 arg7 harg7 arg8 harg8 x0 x3 x4 x5) (st0 (arg14.view.read (Elt Ideal) (harg14.unread xs0)))) (kernelRun0_B.sl.r_713 (F := Ideal) c arg3 harg3 arg4 harg4 arg5 harg5 arg6 harg6 arg7 harg7 arg8 harg8 x0 x1 x2 x3 x4 x5) := rfl
theorem sh0_B : (kernelRun0_B.sl.r_770 (F := Ideal) c arg3 harg3 arg4 harg4 arg5 harg5 arg6 harg6 arg7 harg7 arg8 harg8 arg14 harg14 x0 x1 x2 x3 x4 x5 xs0) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 1 := by
  rw [wh0_B, wtr0_B, wha0_B, wl0_B, wr0_B, tlr0_B, wk0_B, tlk0_B, wv0_B, tlv0_B, wa0_B, tla0_B, wb0_B, tlb0_B]; rfl
theorem sy0_B : (kernelRun0_B.sl.r_769 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 0 := by
  rw [wy0_B, wrh0_B, wyh0_B, wl0_B, wr0_B, tlr0_B, wk0_B, tlk0_B, wv0_B, tlv0_B, wa0_B, tla0_B, wb0_B, tlb0_B]; rfl

theorem wr2_B : (kernelRun0_B.sl.v147 (F := Ideal) c arg3 harg3 x0) = slc 1 (kernelRun0_B.sl.r (F := Ideal) c arg3 harg3 x0) := rfl
theorem wk2_B : (kernelRun0_B.sl.v163 (F := Ideal) c arg4 harg4 x1) = slc 1 (kernelRun0_B.sl.r_2 (F := Ideal) c arg4 harg4 x1) := rfl
theorem wv2_B : (kernelRun0_B.sl.v179 (F := Ideal) c arg5 harg5 x2) = slc 1 (kernelRun0_B.sl.r_4 (F := Ideal) c arg5 harg5 x2) := rfl
theorem wa2_B : (kernelRun0_B.sl.v195 (F := Ideal) c arg7 harg7 x4) = slc 1 (kernelRun0_B.sl.r_8 (F := Ideal) c arg7 harg7 x4) := rfl
theorem wb2_B : (kernelRun0_B.sl.r_25 (F := Ideal) c arg7 harg7 arg8 harg8 x4 x5) = slc 1 (kernelRun0_B.sl.r_10 (F := Ideal) c arg7 harg7 arg8 harg8 x4 x5) := rfl
theorem wl2_B : (kernelRun0_B.sl.r_14 (F := Ideal) c arg6 harg6 x3) = lw0 (arg6.view.read (Elt Ideal) (harg6.unread x3)) 1 := rfl
theorem wtr2_B : (kernelRun0_B.sl.r_736 (F := Ideal) c arg3 harg3 arg4 harg4 arg6 harg6 arg7 harg7 arg8 harg8 x0 x1 x3 x4 x5) = transV (kernelRun0_B.sl.r_14 (F := Ideal) c arg6 harg6 x3) (kernelRun0_B.sl.v147 (F := Ideal) c arg3 harg3 x0) (kernelRun0_B.sl.v163 (F := Ideal) c arg4 harg4 x1) (kernelRun0_B.sl.v195 (F := Ideal) c arg7 harg7 x4) (kernelRun0_B.sl.r_25 (F := Ideal) c arg7 harg7 arg8 harg8 x4 x5) := rfl
theorem wha2_B : (kernelRun0_B.sl.r_752 (F := Ideal) c arg3 harg3 arg4 harg4 arg5 harg5 arg6 harg6 arg7 harg7 arg8 harg8 x0 x1 x2 x3 x4 x5) = hAddV (kernelRun0_B.sl.r_14 (F := Ideal) c arg6 harg6 x3) (kernelRun0_B.sl.v147 (F := Ideal) c arg3 harg3 x0) (kernelRun0_B.sl.v163 (F := Ideal) c arg4 harg4 x1) (kernelRun0_B.sl.v179 (F := Ideal) c arg5 harg5 x2) (kernelRun0_B.sl.v195 (F := Ideal) c arg7 harg7 x4) (kernelRun0_B.sl.r_25 (F := Ideal) c arg7 harg7 arg8 harg8 x4 x5) := rfl
theorem wrh2_B : (kernelRun0_B.sl.r_695 (F := Ideal) c arg3 harg3 arg6 harg6 arg7 harg7 arg8 harg8 x0 x3 x4 x5) = rHatV (kernelRun0_B.sl.r_14 (F := Ideal) c arg6 harg6 x3) (kernelRun0_B.sl.v147 (F := Ideal) c arg3 harg3 x0) (kernelRun0_B.sl.v195 (F := Ideal) c arg7 harg7 x4) (kernelRun0_B.sl.r_25 (F := Ideal) c arg7 harg7 arg8 harg8 x4 x5) := rfl
theorem wyh2_B : (kernelRun0_B.sl.r_715 (F := Ideal) c arg3 harg3 arg4 harg4 arg5 harg5 arg6 harg6 arg7 harg7 arg8 harg8 x0 x1 x2 x3 x4 x5) = yHatV (kernelRun0_B.sl.r_14 (F := Ideal) c arg6 harg6 x3) (kernelRun0_B.sl.v147 (F := Ideal) c arg3 harg3 x0) (kernelRun0_B.sl.v163 (F := Ideal) c arg4 harg4 x1) (kernelRun0_B.sl.v179 (F := Ideal) c arg5 harg5 x2) (kernelRun0_B.sl.v195 (F := Ideal) c arg7 harg7 x4) (kernelRun0_B.sl.r_25 (F := Ideal) c arg7 harg7 arg8 harg8 x4 x5) := rfl
theorem wh2_B : (kernelRun0_B.sl.r_775 (F := Ideal) c arg3 harg3 arg4 harg4 arg5 harg5 arg6 harg6 arg7 harg7 arg8 harg8 arg14 harg14 x0 x1 x2 x3 x4 x5 xs0) = addf (mm3 (kernelRun0_B.sl.r_736 (F := Ideal) c arg3 harg3 arg4 harg4 arg6 harg6 arg7 harg7 arg8 harg8 x0 x1 x3 x4 x5) ((kernelRun0_B.sl.r_770 (F := Ideal) c arg3 harg3 arg4 harg4 arg5 harg5 arg6 harg6 arg7 harg7 arg8 harg8 arg14 harg14 x0 x1 x2 x3 x4 x5 xs0))) (kernelRun0_B.sl.r_752 (F := Ideal) c arg3 harg3 arg4 harg4 arg5 harg5 arg6 harg6 arg7 harg7 arg8 harg8 x0 x1 x2 x3 x4 x5) := rfl
theorem wy2_B : (kernelRun0_B.sl.r_774 (F := Ideal) c arg3 harg3 arg4 harg4 arg5 harg5 arg6 harg6 arg7 harg7 arg8 harg8 arg14 harg14 x0 x1 x2 x3 x4 x5 xs0) = addf (mm (kernelRun0_B.sl.r_695 (F := Ideal) c arg3 harg3 arg6 harg6 arg7 harg7 arg8 harg8 x0 x3 x4 x5) ((kernelRun0_B.sl.r_770 (F := Ideal) c arg3 harg3 arg4 harg4 arg5 harg5 arg6 harg6 arg7 harg7 arg8 harg8 arg14 harg14 x0 x1 x2 x3 x4 x5 xs0))) (kernelRun0_B.sl.r_715 (F := Ideal) c arg3 harg3 arg4 harg4 arg5 harg5 arg6 harg6 arg7 harg7 arg8 harg8 x0 x1 x2 x3 x4 x5) := rfl
theorem sh2_B : (kernelRun0_B.sl.r_775 (F := Ideal) c arg3 harg3 arg4 harg4 arg5 harg5 arg6 harg6 arg7 harg7 arg8 harg8 arg14 harg14 x0 x1 x2 x3 x4 x5 xs0) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 2 := by
  rw [wh2_B, sh0_B, wtr2_B, wha2_B, wl2_B, wr2_B, tlr0_B, wk2_B, tlk0_B, wv2_B, tlv0_B, wa2_B, tla0_B, wb2_B, tlb0_B]; rfl
theorem sy2_B : (kernelRun0_B.sl.r_774 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 1 := by
  rw [wy2_B, sh0_B, wrh2_B, wyh2_B, wl2_B, wr2_B, tlr0_B, wk2_B, tlk0_B, wv2_B, tlv0_B, wa2_B, tla0_B, wb2_B, tlb0_B]; rfl

theorem wr4_B : (kernelRun0_B.sl.v149 (F := Ideal) c arg3 harg3 x0) = slc 2 (kernelRun0_B.sl.r (F := Ideal) c arg3 harg3 x0) := rfl
theorem wk4_B : (kernelRun0_B.sl.v165 (F := Ideal) c arg4 harg4 x1) = slc 2 (kernelRun0_B.sl.r_2 (F := Ideal) c arg4 harg4 x1) := rfl
theorem wv4_B : (kernelRun0_B.sl.v181 (F := Ideal) c arg5 harg5 x2) = slc 2 (kernelRun0_B.sl.r_4 (F := Ideal) c arg5 harg5 x2) := rfl
theorem wa4_B : (kernelRun0_B.sl.v197 (F := Ideal) c arg7 harg7 x4) = slc 2 (kernelRun0_B.sl.r_8 (F := Ideal) c arg7 harg7 x4) := rfl
theorem wb4_B : (kernelRun0_B.sl.r_27 (F := Ideal) c arg7 harg7 arg8 harg8 x4 x5) = slc 2 (kernelRun0_B.sl.r_10 (F := Ideal) c arg7 harg7 arg8 harg8 x4 x5) := rfl
theorem wl4_B : (kernelRun0_B.sl.v122 (F := Ideal) c arg6 harg6 x3) = lw0 (arg6.view.read (Elt Ideal) (harg6.unread x3)) 2 := rfl
theorem wtr4_B : (kernelRun0_B.sl.r_738 (F := Ideal) c arg3 harg3 arg4 harg4 arg6 harg6 arg7 harg7 arg8 harg8 x0 x1 x3 x4 x5) = transV (kernelRun0_B.sl.v122 (F := Ideal) c arg6 harg6 x3) (kernelRun0_B.sl.v149 (F := Ideal) c arg3 harg3 x0) (kernelRun0_B.sl.v165 (F := Ideal) c arg4 harg4 x1) (kernelRun0_B.sl.v197 (F := Ideal) c arg7 harg7 x4) (kernelRun0_B.sl.r_27 (F := Ideal) c arg7 harg7 arg8 harg8 x4 x5) := rfl
theorem wha4_B : (kernelRun0_B.sl.r_754 (F := Ideal) c arg3 harg3 arg4 harg4 arg5 harg5 arg6 harg6 arg7 harg7 arg8 harg8 x0 x1 x2 x3 x4 x5) = hAddV (kernelRun0_B.sl.v122 (F := Ideal) c arg6 harg6 x3) (kernelRun0_B.sl.v149 (F := Ideal) c arg3 harg3 x0) (kernelRun0_B.sl.v165 (F := Ideal) c arg4 harg4 x1) (kernelRun0_B.sl.v181 (F := Ideal) c arg5 harg5 x2) (kernelRun0_B.sl.v197 (F := Ideal) c arg7 harg7 x4) (kernelRun0_B.sl.r_27 (F := Ideal) c arg7 harg7 arg8 harg8 x4 x5) := rfl
theorem wrh4_B : (kernelRun0_B.sl.r_697 (F := Ideal) c arg3 harg3 arg6 harg6 arg7 harg7 arg8 harg8 x0 x3 x4 x5) = rHatV (kernelRun0_B.sl.v122 (F := Ideal) c arg6 harg6 x3) (kernelRun0_B.sl.v149 (F := Ideal) c arg3 harg3 x0) (kernelRun0_B.sl.v197 (F := Ideal) c arg7 harg7 x4) (kernelRun0_B.sl.r_27 (F := Ideal) c arg7 harg7 arg8 harg8 x4 x5) := rfl
theorem wyh4_B : (kernelRun0_B.sl.r_718 (F := Ideal) c arg3 harg3 arg4 harg4 arg5 harg5 arg6 harg6 arg7 harg7 arg8 harg8 x0 x1 x2 x3 x4 x5) = yHatV (kernelRun0_B.sl.v122 (F := Ideal) c arg6 harg6 x3) (kernelRun0_B.sl.v149 (F := Ideal) c arg3 harg3 x0) (kernelRun0_B.sl.v165 (F := Ideal) c arg4 harg4 x1) (kernelRun0_B.sl.v181 (F := Ideal) c arg5 harg5 x2) (kernelRun0_B.sl.v197 (F := Ideal) c arg7 harg7 x4) (kernelRun0_B.sl.r_27 (F := Ideal) c arg7 harg7 arg8 harg8 x4 x5) := rfl
theorem wh4_B : (addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)) = addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5) := rfl
theorem wy4_B : (kernelRun0_B.sl.r_780 (F := Ideal) c arg3 harg3 arg4 harg4 arg5 harg5 arg6 harg6 arg7 harg7 arg8 harg8 arg14 harg14 x0 x1 x2 x3 x4 x5 xs0) = addf (mm (kernelRun0_B.sl.r_697 (F := Ideal) c arg3 harg3 arg6 harg6 arg7 harg7 arg8 harg8 x0 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_718 (F := Ideal) c arg3 harg3 arg4 harg4 arg5 harg5 arg6 harg6 arg7 harg7 arg8 harg8 x0 x1 x2 x3 x4 x5) := rfl
theorem sh4_B : (addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 3 := by
  rw [wh4_B, sh2_B, wtr4_B, wha4_B, wl4_B, wr4_B, tlr0_B, wk4_B, tlk0_B, wv4_B, tlv0_B, wa4_B, tla0_B, wb4_B, tlb0_B]; rfl
theorem sy4_B : (kernelRun0_B.sl.r_780 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 2 := by
  rw [wy4_B, sh2_B, wrh4_B, wyh4_B, wl4_B, wr4_B, tlr0_B, wk4_B, tlk0_B, wv4_B, tlv0_B, wa4_B, tla0_B, wb4_B, tlb0_B]; rfl

theorem wr6_B : (kernelRun0_B.sl.v151 (F := Ideal) c arg3 harg3 x0) = slc 3 (kernelRun0_B.sl.r (F := Ideal) c arg3 harg3 x0) := rfl
theorem wk6_B : (kernelRun0_B.sl.v167 (F := Ideal) c arg4 harg4 x1) = slc 3 (kernelRun0_B.sl.r_2 (F := Ideal) c arg4 harg4 x1) := rfl
theorem wv6_B : (kernelRun0_B.sl.v183 (F := Ideal) c arg5 harg5 x2) = slc 3 (kernelRun0_B.sl.r_4 (F := Ideal) c arg5 harg5 x2) := rfl
theorem wa6_B : (kernelRun0_B.sl.v199 (F := Ideal) c arg7 harg7 x4) = slc 3 (kernelRun0_B.sl.r_8 (F := Ideal) c arg7 harg7 x4) := rfl
theorem wb6_B : (kernelRun0_B.sl.r_29 (F := Ideal) c arg7 harg7 arg8 harg8 x4 x5) = slc 3 (kernelRun0_B.sl.r_10 (F := Ideal) c arg7 harg7 arg8 harg8 x4 x5) := rfl
theorem wl6_B : (kernelRun0_B.sl.v126 (F := Ideal) c arg6 harg6 x3) = lw0 (arg6.view.read (Elt Ideal) (harg6.unread x3)) 3 := rfl
theorem wtr6_B : (kernelRun0_B.sl.r_740 (F := Ideal) c arg3 harg3 arg4 harg4 arg6 harg6 arg7 harg7 arg8 harg8 x0 x1 x3 x4 x5) = transV (kernelRun0_B.sl.v126 (F := Ideal) c arg6 harg6 x3) (kernelRun0_B.sl.v151 (F := Ideal) c arg3 harg3 x0) (kernelRun0_B.sl.v167 (F := Ideal) c arg4 harg4 x1) (kernelRun0_B.sl.v199 (F := Ideal) c arg7 harg7 x4) (kernelRun0_B.sl.r_29 (F := Ideal) c arg7 harg7 arg8 harg8 x4 x5) := rfl
theorem wha6_B : (kernelRun0_B.sl.r_756 (F := Ideal) c arg3 harg3 arg4 harg4 arg5 harg5 arg6 harg6 arg7 harg7 arg8 harg8 x0 x1 x2 x3 x4 x5) = hAddV (kernelRun0_B.sl.v126 (F := Ideal) c arg6 harg6 x3) (kernelRun0_B.sl.v151 (F := Ideal) c arg3 harg3 x0) (kernelRun0_B.sl.v167 (F := Ideal) c arg4 harg4 x1) (kernelRun0_B.sl.v183 (F := Ideal) c arg5 harg5 x2) (kernelRun0_B.sl.v199 (F := Ideal) c arg7 harg7 x4) (kernelRun0_B.sl.r_29 (F := Ideal) c arg7 harg7 arg8 harg8 x4 x5) := rfl
theorem wrh6_B : (kernelRun0_B.sl.r_699 (F := Ideal) c arg3 harg3 arg6 harg6 arg7 harg7 arg8 harg8 x0 x3 x4 x5) = rHatV (kernelRun0_B.sl.v126 (F := Ideal) c arg6 harg6 x3) (kernelRun0_B.sl.v151 (F := Ideal) c arg3 harg3 x0) (kernelRun0_B.sl.v199 (F := Ideal) c arg7 harg7 x4) (kernelRun0_B.sl.r_29 (F := Ideal) c arg7 harg7 arg8 harg8 x4 x5) := rfl
theorem wyh6_B : (kernelRun0_B.sl.r_720 (F := Ideal) c arg3 harg3 arg4 harg4 arg5 harg5 arg6 harg6 arg7 harg7 arg8 harg8 x0 x1 x2 x3 x4 x5) = yHatV (kernelRun0_B.sl.v126 (F := Ideal) c arg6 harg6 x3) (kernelRun0_B.sl.v151 (F := Ideal) c arg3 harg3 x0) (kernelRun0_B.sl.v167 (F := Ideal) c arg4 harg4 x1) (kernelRun0_B.sl.v183 (F := Ideal) c arg5 harg5 x2) (kernelRun0_B.sl.v199 (F := Ideal) c arg7 harg7 x4) (kernelRun0_B.sl.r_29 (F := Ideal) c arg7 harg7 arg8 harg8 x4 x5) := rfl
theorem wh6_B : (addf (mm3 (kernelRun0_B.sl.r_740 (F := Ideal) c arg3 harg3 arg4 harg4 arg6 harg6 arg7 harg7 arg8 harg8 x0 x1 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_756 (F := Ideal) c arg3 harg3 arg4 harg4 arg5 harg5 arg6 harg6 arg7 harg7 arg8 harg8 x0 x1 x2 x3 x4 x5)) = addf (mm3 (kernelRun0_B.sl.r_740 (F := Ideal) c arg3 harg3 arg4 harg4 arg6 harg6 arg7 harg7 arg8 harg8 x0 x1 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_756 (F := Ideal) c arg3 harg3 arg4 harg4 arg5 harg5 arg6 harg6 arg7 harg7 arg8 harg8 x0 x1 x2 x3 x4 x5) := rfl
theorem wy6_B : (kernelRun0_B.sl.r_783 (F := Ideal) c arg3 harg3 arg4 harg4 arg5 harg5 arg6 harg6 arg7 harg7 arg8 harg8 arg14 harg14 x0 x1 x2 x3 x4 x5 xs0) = addf (mm (kernelRun0_B.sl.r_699 (F := Ideal) c arg3 harg3 arg6 harg6 arg7 harg7 arg8 harg8 x0 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_720 (F := Ideal) c arg3 harg3 arg4 harg4 arg5 harg5 arg6 harg6 arg7 harg7 arg8 harg8 x0 x1 x2 x3 x4 x5) := rfl
theorem sh6_B : (addf (mm3 (kernelRun0_B.sl.r_740 (F := Ideal) c arg3 harg3 arg4 harg4 arg6 harg6 arg7 harg7 arg8 harg8 x0 x1 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_756 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 4 := by
  rw [wh6_B, sh4_B, wtr6_B, wha6_B, wl6_B, wr6_B, tlr0_B, wk6_B, tlk0_B, wv6_B, tlv0_B, wa6_B, tla0_B, wb6_B, tlb0_B]; rfl
theorem sy6_B : (kernelRun0_B.sl.r_783 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 3 := by
  rw [wy6_B, sh4_B, wrh6_B, wyh6_B, wl6_B, wr6_B, tlr0_B, wk6_B, tlk0_B, wv6_B, tlv0_B, wa6_B, tla0_B, wb6_B, tlb0_B]; rfl

theorem wr8_B : (kernelRun0_B.sl.v153 (F := Ideal) c arg3 harg3 x0) = slc 4 (kernelRun0_B.sl.r (F := Ideal) c arg3 harg3 x0) := rfl
theorem wk8_B : (kernelRun0_B.sl.v169 (F := Ideal) c arg4 harg4 x1) = slc 4 (kernelRun0_B.sl.r_2 (F := Ideal) c arg4 harg4 x1) := rfl
theorem wv8_B : (kernelRun0_B.sl.v185 (F := Ideal) c arg5 harg5 x2) = slc 4 (kernelRun0_B.sl.r_4 (F := Ideal) c arg5 harg5 x2) := rfl
theorem wa8_B : (kernelRun0_B.sl.r_15 (F := Ideal) c arg7 harg7 x4) = slc 4 (kernelRun0_B.sl.r_8 (F := Ideal) c arg7 harg7 x4) := rfl
theorem wb8_B : (kernelRun0_B.sl.r_31 (F := Ideal) c arg7 harg7 arg8 harg8 x4 x5) = slc 4 (kernelRun0_B.sl.r_10 (F := Ideal) c arg7 harg7 arg8 harg8 x4 x5) := rfl
theorem wl8_B : (kernelRun0_B.sl.v130 (F := Ideal) c arg6 harg6 x3) = lw0 (arg6.view.read (Elt Ideal) (harg6.unread x3)) 4 := rfl
theorem wtr8_B : (kernelRun0_B.sl.r_742 (F := Ideal) c arg3 harg3 arg4 harg4 arg6 harg6 arg7 harg7 arg8 harg8 x0 x1 x3 x4 x5) = transV (kernelRun0_B.sl.v130 (F := Ideal) c arg6 harg6 x3) (kernelRun0_B.sl.v153 (F := Ideal) c arg3 harg3 x0) (kernelRun0_B.sl.v169 (F := Ideal) c arg4 harg4 x1) (kernelRun0_B.sl.r_15 (F := Ideal) c arg7 harg7 x4) (kernelRun0_B.sl.r_31 (F := Ideal) c arg7 harg7 arg8 harg8 x4 x5) := rfl
theorem wha8_B : (kernelRun0_B.sl.r_758 (F := Ideal) c arg3 harg3 arg4 harg4 arg5 harg5 arg6 harg6 arg7 harg7 arg8 harg8 x0 x1 x2 x3 x4 x5) = hAddV (kernelRun0_B.sl.v130 (F := Ideal) c arg6 harg6 x3) (kernelRun0_B.sl.v153 (F := Ideal) c arg3 harg3 x0) (kernelRun0_B.sl.v169 (F := Ideal) c arg4 harg4 x1) (kernelRun0_B.sl.v185 (F := Ideal) c arg5 harg5 x2) (kernelRun0_B.sl.r_15 (F := Ideal) c arg7 harg7 x4) (kernelRun0_B.sl.r_31 (F := Ideal) c arg7 harg7 arg8 harg8 x4 x5) := rfl
theorem wrh8_B : (kernelRun0_B.sl.r_703 (F := Ideal) c arg3 harg3 arg6 harg6 arg7 harg7 arg8 harg8 x0 x3 x4 x5) = rHatV (kernelRun0_B.sl.v130 (F := Ideal) c arg6 harg6 x3) (kernelRun0_B.sl.v153 (F := Ideal) c arg3 harg3 x0) (kernelRun0_B.sl.r_15 (F := Ideal) c arg7 harg7 x4) (kernelRun0_B.sl.r_31 (F := Ideal) c arg7 harg7 arg8 harg8 x4 x5) := rfl
theorem wyh8_B : (kernelRun0_B.sl.r_724 (F := Ideal) c arg3 harg3 arg4 harg4 arg5 harg5 arg6 harg6 arg7 harg7 arg8 harg8 x0 x1 x2 x3 x4 x5) = yHatV (kernelRun0_B.sl.v130 (F := Ideal) c arg6 harg6 x3) (kernelRun0_B.sl.v153 (F := Ideal) c arg3 harg3 x0) (kernelRun0_B.sl.v169 (F := Ideal) c arg4 harg4 x1) (kernelRun0_B.sl.v185 (F := Ideal) c arg5 harg5 x2) (kernelRun0_B.sl.r_15 (F := Ideal) c arg7 harg7 x4) (kernelRun0_B.sl.r_31 (F := Ideal) c arg7 harg7 arg8 harg8 x4 x5) := rfl
theorem wh8_B : (kernelRun0_B.sl.r_790 (F := Ideal) c arg3 harg3 arg4 harg4 arg5 harg5 arg6 harg6 arg7 harg7 arg8 harg8 arg14 harg14 x0 x1 x2 x3 x4 x5 xs0) = addf (mm3 (kernelRun0_B.sl.r_742 (F := Ideal) c arg3 harg3 arg4 harg4 arg6 harg6 arg7 harg7 arg8 harg8 x0 x1 x3 x4 x5) ((addf (mm3 (kernelRun0_B.sl.r_740 (F := Ideal) c arg3 harg3 arg4 harg4 arg6 harg6 arg7 harg7 arg8 harg8 x0 x1 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_756 (F := Ideal) c arg3 harg3 arg4 harg4 arg5 harg5 arg6 harg6 arg7 harg7 arg8 harg8 x0 x1 x2 x3 x4 x5)))) (kernelRun0_B.sl.r_758 (F := Ideal) c arg3 harg3 arg4 harg4 arg5 harg5 arg6 harg6 arg7 harg7 arg8 harg8 x0 x1 x2 x3 x4 x5) := rfl
theorem wy8_B : (kernelRun0_B.sl.r_789 (F := Ideal) c arg3 harg3 arg4 harg4 arg5 harg5 arg6 harg6 arg7 harg7 arg8 harg8 arg14 harg14 x0 x1 x2 x3 x4 x5 xs0) = addf (mm (kernelRun0_B.sl.r_703 (F := Ideal) c arg3 harg3 arg6 harg6 arg7 harg7 arg8 harg8 x0 x3 x4 x5) ((addf (mm3 (kernelRun0_B.sl.r_740 (F := Ideal) c arg3 harg3 arg4 harg4 arg6 harg6 arg7 harg7 arg8 harg8 x0 x1 x3 x4 x5) ((addf (mm3 (kernelRun0_B.sl.r_738 (F := Ideal) c arg3 harg3 arg4 harg4 arg6 harg6 arg7 harg7 arg8 harg8 x0 x1 x3 x4 x5) ((kernelRun0_B.sl.r_775 (F := Ideal) c arg3 harg3 arg4 harg4 arg5 harg5 arg6 harg6 arg7 harg7 arg8 harg8 arg14 harg14 x0 x1 x2 x3 x4 x5 xs0))) (kernelRun0_B.sl.r_754 (F := Ideal) c arg3 harg3 arg4 harg4 arg5 harg5 arg6 harg6 arg7 harg7 arg8 harg8 x0 x1 x2 x3 x4 x5)))) (kernelRun0_B.sl.r_756 (F := Ideal) c arg3 harg3 arg4 harg4 arg5 harg5 arg6 harg6 arg7 harg7 arg8 harg8 x0 x1 x2 x3 x4 x5)))) (kernelRun0_B.sl.r_724 (F := Ideal) c arg3 harg3 arg4 harg4 arg5 harg5 arg6 harg6 arg7 harg7 arg8 harg8 x0 x1 x2 x3 x4 x5) := rfl
theorem sh8_B : (kernelRun0_B.sl.r_790 (F := Ideal) c arg3 harg3 arg4 harg4 arg5 harg5 arg6 harg6 arg7 harg7 arg8 harg8 arg14 harg14 x0 x1 x2 x3 x4 x5 xs0) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 5 := by
  rw [wh8_B, sh6_B, wtr8_B, wha8_B, wl8_B, wr8_B, tlr0_B, wk8_B, tlk0_B, wv8_B, tlv0_B, wa8_B, tla0_B, wb8_B, tlb0_B]; rfl
theorem sy8_B : (kernelRun0_B.sl.r_789 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 4 := by
  rw [wy8_B, sh6_B, wrh8_B, wyh8_B, wl8_B, wr8_B, tlr0_B, wk8_B, tlk0_B, wv8_B, tlv0_B, wa8_B, tla0_B, wb8_B, tlb0_B]; rfl

theorem wr10_B : (kernelRun0_B.sl.v155 (F := Ideal) c arg3 harg3 x0) = slc 5 (kernelRun0_B.sl.r (F := Ideal) c arg3 harg3 x0) := rfl
theorem wk10_B : (kernelRun0_B.sl.v171 (F := Ideal) c arg4 harg4 x1) = slc 5 (kernelRun0_B.sl.r_2 (F := Ideal) c arg4 harg4 x1) := rfl
theorem wv10_B : (kernelRun0_B.sl.v187 (F := Ideal) c arg5 harg5 x2) = slc 5 (kernelRun0_B.sl.r_4 (F := Ideal) c arg5 harg5 x2) := rfl
theorem wa10_B : (kernelRun0_B.sl.r_17 (F := Ideal) c arg7 harg7 x4) = slc 5 (kernelRun0_B.sl.r_8 (F := Ideal) c arg7 harg7 x4) := rfl
theorem wb10_B : (kernelRun0_B.sl.r_33 (F := Ideal) c arg7 harg7 arg8 harg8 x4 x5) = slc 5 (kernelRun0_B.sl.r_10 (F := Ideal) c arg7 harg7 arg8 harg8 x4 x5) := rfl
theorem wl10_B : (kernelRun0_B.sl.v134 (F := Ideal) c arg6 harg6 x3) = lw0 (arg6.view.read (Elt Ideal) (harg6.unread x3)) 5 := rfl
theorem wtr10_B : (kernelRun0_B.sl.r_744 (F := Ideal) c arg3 harg3 arg4 harg4 arg6 harg6 arg7 harg7 arg8 harg8 x0 x1 x3 x4 x5) = transV (kernelRun0_B.sl.v134 (F := Ideal) c arg6 harg6 x3) (kernelRun0_B.sl.v155 (F := Ideal) c arg3 harg3 x0) (kernelRun0_B.sl.v171 (F := Ideal) c arg4 harg4 x1) (kernelRun0_B.sl.r_17 (F := Ideal) c arg7 harg7 x4) (kernelRun0_B.sl.r_33 (F := Ideal) c arg7 harg7 arg8 harg8 x4 x5) := rfl
theorem wha10_B : (kernelRun0_B.sl.r_760 (F := Ideal) c arg3 harg3 arg4 harg4 arg5 harg5 arg6 harg6 arg7 harg7 arg8 harg8 x0 x1 x2 x3 x4 x5) = hAddV (kernelRun0_B.sl.v134 (F := Ideal) c arg6 harg6 x3) (kernelRun0_B.sl.v155 (F := Ideal) c arg3 harg3 x0) (kernelRun0_B.sl.v171 (F := Ideal) c arg4 harg4 x1) (kernelRun0_B.sl.v187 (F := Ideal) c arg5 harg5 x2) (kernelRun0_B.sl.r_17 (F := Ideal) c arg7 harg7 x4) (kernelRun0_B.sl.r_33 (F := Ideal) c arg7 harg7 arg8 harg8 x4 x5) := rfl
theorem wrh10_B : (kernelRun0_B.sl.r_705 (F := Ideal) c arg3 harg3 arg6 harg6 arg7 harg7 arg8 harg8 x0 x3 x4 x5) = rHatV (kernelRun0_B.sl.v134 (F := Ideal) c arg6 harg6 x3) (kernelRun0_B.sl.v155 (F := Ideal) c arg3 harg3 x0) (kernelRun0_B.sl.r_17 (F := Ideal) c arg7 harg7 x4) (kernelRun0_B.sl.r_33 (F := Ideal) c arg7 harg7 arg8 harg8 x4 x5) := rfl
theorem wyh10_B : (kernelRun0_B.sl.r_726 (F := Ideal) c arg3 harg3 arg4 harg4 arg5 harg5 arg6 harg6 arg7 harg7 arg8 harg8 x0 x1 x2 x3 x4 x5) = yHatV (kernelRun0_B.sl.v134 (F := Ideal) c arg6 harg6 x3) (kernelRun0_B.sl.v155 (F := Ideal) c arg3 harg3 x0) (kernelRun0_B.sl.v171 (F := Ideal) c arg4 harg4 x1) (kernelRun0_B.sl.v187 (F := Ideal) c arg5 harg5 x2) (kernelRun0_B.sl.r_17 (F := Ideal) c arg7 harg7 x4) (kernelRun0_B.sl.r_33 (F := Ideal) c arg7 harg7 arg8 harg8 x4 x5) := rfl
theorem wh10_B : (kernelRun0_B.sl.r_797 (F := Ideal) c arg3 harg3 arg4 harg4 arg5 harg5 arg6 harg6 arg7 harg7 arg8 harg8 arg14 harg14 x0 x1 x2 x3 x4 x5 xs0) = addf (mm3 (kernelRun0_B.sl.r_744 (F := Ideal) c arg3 harg3 arg4 harg4 arg6 harg6 arg7 harg7 arg8 harg8 x0 x1 x3 x4 x5) ((kernelRun0_B.sl.r_790 (F := Ideal) c arg3 harg3 arg4 harg4 arg5 harg5 arg6 harg6 arg7 harg7 arg8 harg8 arg14 harg14 x0 x1 x2 x3 x4 x5 xs0))) (kernelRun0_B.sl.r_760 (F := Ideal) c arg3 harg3 arg4 harg4 arg5 harg5 arg6 harg6 arg7 harg7 arg8 harg8 x0 x1 x2 x3 x4 x5) := rfl
theorem wy10_B : (kernelRun0_B.sl.r_796 (F := Ideal) c arg3 harg3 arg4 harg4 arg5 harg5 arg6 harg6 arg7 harg7 arg8 harg8 arg14 harg14 x0 x1 x2 x3 x4 x5 xs0) = addf (mm (kernelRun0_B.sl.r_705 (F := Ideal) c arg3 harg3 arg6 harg6 arg7 harg7 arg8 harg8 x0 x3 x4 x5) ((kernelRun0_B.sl.r_790 (F := Ideal) c arg3 harg3 arg4 harg4 arg5 harg5 arg6 harg6 arg7 harg7 arg8 harg8 arg14 harg14 x0 x1 x2 x3 x4 x5 xs0))) (kernelRun0_B.sl.r_726 (F := Ideal) c arg3 harg3 arg4 harg4 arg5 harg5 arg6 harg6 arg7 harg7 arg8 harg8 x0 x1 x2 x3 x4 x5) := rfl
theorem sh10_B : (kernelRun0_B.sl.r_797 (F := Ideal) c arg3 harg3 arg4 harg4 arg5 harg5 arg6 harg6 arg7 harg7 arg8 harg8 arg14 harg14 x0 x1 x2 x3 x4 x5 xs0) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 6 := by
  rw [wh10_B, sh8_B, wtr10_B, wha10_B, wl10_B, wr10_B, tlr0_B, wk10_B, tlk0_B, wv10_B, tlv0_B, wa10_B, tla0_B, wb10_B, tlb0_B]; rfl
theorem sy10_B : (kernelRun0_B.sl.r_796 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 5 := by
  rw [wy10_B, sh8_B, wrh10_B, wyh10_B, wl10_B, wr10_B, tlr0_B, wk10_B, tlk0_B, wv10_B, tlv0_B, wa10_B, tla0_B, wb10_B, tlb0_B]; rfl

theorem wr12_B : (kernelRun0_B.sl.v157 (F := Ideal) c arg3 harg3 x0) = slc 6 (kernelRun0_B.sl.r (F := Ideal) c arg3 harg3 x0) := rfl
theorem wk12_B : (kernelRun0_B.sl.v173 (F := Ideal) c arg4 harg4 x1) = slc 6 (kernelRun0_B.sl.r_2 (F := Ideal) c arg4 harg4 x1) := rfl
theorem wv12_B : (kernelRun0_B.sl.v189 (F := Ideal) c arg5 harg5 x2) = slc 6 (kernelRun0_B.sl.r_4 (F := Ideal) c arg5 harg5 x2) := rfl
theorem wa12_B : (kernelRun0_B.sl.r_19 (F := Ideal) c arg7 harg7 x4) = slc 6 (kernelRun0_B.sl.r_8 (F := Ideal) c arg7 harg7 x4) := rfl
theorem wb12_B : (kernelRun0_B.sl.r_35 (F := Ideal) c arg7 harg7 arg8 harg8 x4 x5) = slc 6 (kernelRun0_B.sl.r_10 (F := Ideal) c arg7 harg7 arg8 harg8 x4 x5) := rfl
theorem wl12_B : (kernelRun0_B.sl.v138 (F := Ideal) c arg6 harg6 x3) = lw0 (arg6.view.read (Elt Ideal) (harg6.unread x3)) 6 := rfl
theorem wtr12_B : (kernelRun0_B.sl.r_746 (F := Ideal) c arg3 harg3 arg4 harg4 arg6 harg6 arg7 harg7 arg8 harg8 x0 x1 x3 x4 x5) = transV (kernelRun0_B.sl.v138 (F := Ideal) c arg6 harg6 x3) (kernelRun0_B.sl.v157 (F := Ideal) c arg3 harg3 x0) (kernelRun0_B.sl.v173 (F := Ideal) c arg4 harg4 x1) (kernelRun0_B.sl.r_19 (F := Ideal) c arg7 harg7 x4) (kernelRun0_B.sl.r_35 (F := Ideal) c arg7 harg7 arg8 harg8 x4 x5) := rfl
theorem wha12_B : (kernelRun0_B.sl.r_762 (F := Ideal) c arg3 harg3 arg4 harg4 arg5 harg5 arg6 harg6 arg7 harg7 arg8 harg8 x0 x1 x2 x3 x4 x5) = hAddV (kernelRun0_B.sl.v138 (F := Ideal) c arg6 harg6 x3) (kernelRun0_B.sl.v157 (F := Ideal) c arg3 harg3 x0) (kernelRun0_B.sl.v173 (F := Ideal) c arg4 harg4 x1) (kernelRun0_B.sl.v189 (F := Ideal) c arg5 harg5 x2) (kernelRun0_B.sl.r_19 (F := Ideal) c arg7 harg7 x4) (kernelRun0_B.sl.r_35 (F := Ideal) c arg7 harg7 arg8 harg8 x4 x5) := rfl
theorem wrh12_B : (kernelRun0_B.sl.r_707 (F := Ideal) c arg3 harg3 arg6 harg6 arg7 harg7 arg8 harg8 x0 x3 x4 x5) = rHatV (kernelRun0_B.sl.v138 (F := Ideal) c arg6 harg6 x3) (kernelRun0_B.sl.v157 (F := Ideal) c arg3 harg3 x0) (kernelRun0_B.sl.r_19 (F := Ideal) c arg7 harg7 x4) (kernelRun0_B.sl.r_35 (F := Ideal) c arg7 harg7 arg8 harg8 x4 x5) := rfl
theorem wyh12_B : (kernelRun0_B.sl.r_730 (F := Ideal) c arg3 harg3 arg4 harg4 arg5 harg5 arg6 harg6 arg7 harg7 arg8 harg8 x0 x1 x2 x3 x4 x5) = yHatV (kernelRun0_B.sl.v138 (F := Ideal) c arg6 harg6 x3) (kernelRun0_B.sl.v157 (F := Ideal) c arg3 harg3 x0) (kernelRun0_B.sl.v173 (F := Ideal) c arg4 harg4 x1) (kernelRun0_B.sl.v189 (F := Ideal) c arg5 harg5 x2) (kernelRun0_B.sl.r_19 (F := Ideal) c arg7 harg7 x4) (kernelRun0_B.sl.r_35 (F := Ideal) c arg7 harg7 arg8 harg8 x4 x5) := rfl
theorem wh12_B : (addf (mm3 (kernelRun0_B.sl.r_746 (F := Ideal) c arg3 harg3 arg4 harg4 arg6 harg6 arg7 harg7 arg8 harg8 x0 x1 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_762 (F := Ideal) c arg3 harg3 arg4 harg4 arg5 harg5 arg6 harg6 arg7 harg7 arg8 harg8 x0 x1 x2 x3 x4 x5)) = addf (mm3 (kernelRun0_B.sl.r_746 (F := Ideal) c arg3 harg3 arg4 harg4 arg6 harg6 arg7 harg7 arg8 harg8 x0 x1 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_762 (F := Ideal) c arg3 harg3 arg4 harg4 arg5 harg5 arg6 harg6 arg7 harg7 arg8 harg8 x0 x1 x2 x3 x4 x5) := rfl
theorem wy12_B : (kernelRun0_B.sl.r_800 (F := Ideal) c arg3 harg3 arg4 harg4 arg5 harg5 arg6 harg6 arg7 harg7 arg8 harg8 arg14 harg14 x0 x1 x2 x3 x4 x5 xs0) = addf (mm (kernelRun0_B.sl.r_707 (F := Ideal) c arg3 harg3 arg6 harg6 arg7 harg7 arg8 harg8 x0 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_730 (F := Ideal) c arg3 harg3 arg4 harg4 arg5 harg5 arg6 harg6 arg7 harg7 arg8 harg8 x0 x1 x2 x3 x4 x5) := rfl
theorem sh12_B : (addf (mm3 (kernelRun0_B.sl.r_746 (F := Ideal) c arg3 harg3 arg4 harg4 arg6 harg6 arg7 harg7 arg8 harg8 x0 x1 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_762 (F := Ideal) c arg3 harg3 arg4 harg4 arg5 harg5 arg6 harg6 arg7 harg7 arg8 harg8 x0 x1 x2 x3 x4 x5)) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 7 := by
  rw [wh12_B, sh10_B, wtr12_B, wha12_B, wl12_B, wr12_B, tlr0_B, wk12_B, tlk0_B, wv12_B, tlv0_B, wa12_B, tla0_B, wb12_B, tlb0_B]; rfl
theorem sy12_B : (kernelRun0_B.sl.r_800 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 6 := by
  rw [wy12_B, sh10_B, wrh12_B, wyh12_B, wl12_B, wr12_B, tlr0_B, wk12_B, tlk0_B, wv12_B, tlv0_B, wa12_B, tla0_B, wb12_B, tlb0_B]; rfl

theorem wr14_B : (kernelRun0_B.sl.v159 (F := Ideal) c arg3 harg3 x0) = slc 7 (kernelRun0_B.sl.r (F := Ideal) c arg3 harg3 x0) := rfl
theorem wk14_B : (kernelRun0_B.sl.v175 (F := Ideal) c arg4 harg4 x1) = slc 7 (kernelRun0_B.sl.r_2 (F := Ideal) c arg4 harg4 x1) := rfl
theorem wv14_B : (kernelRun0_B.sl.v191 (F := Ideal) c arg5 harg5 x2) = slc 7 (kernelRun0_B.sl.r_4 (F := Ideal) c arg5 harg5 x2) := rfl
theorem wa14_B : (kernelRun0_B.sl.r_21 (F := Ideal) c arg7 harg7 x4) = slc 7 (kernelRun0_B.sl.r_8 (F := Ideal) c arg7 harg7 x4) := rfl
theorem wb14_B : (kernelRun0_B.sl.r_37 (F := Ideal) c arg7 harg7 arg8 harg8 x4 x5) = slc 7 (kernelRun0_B.sl.r_10 (F := Ideal) c arg7 harg7 arg8 harg8 x4 x5) := rfl
theorem wl14_B : (kernelRun0_B.sl.v142 (F := Ideal) c arg6 harg6 x3) = lw0 (arg6.view.read (Elt Ideal) (harg6.unread x3)) 7 := rfl
theorem wtr14_B : (kernelRun0_B.sl.r_748 (F := Ideal) c arg3 harg3 arg4 harg4 arg6 harg6 arg7 harg7 arg8 harg8 x0 x1 x3 x4 x5) = transV (kernelRun0_B.sl.v142 (F := Ideal) c arg6 harg6 x3) (kernelRun0_B.sl.v159 (F := Ideal) c arg3 harg3 x0) (kernelRun0_B.sl.v175 (F := Ideal) c arg4 harg4 x1) (kernelRun0_B.sl.r_21 (F := Ideal) c arg7 harg7 x4) (kernelRun0_B.sl.r_37 (F := Ideal) c arg7 harg7 arg8 harg8 x4 x5) := rfl
theorem wha14_B : (kernelRun0_B.sl.r_766 (F := Ideal) c arg3 harg3 arg4 harg4 arg5 harg5 arg6 harg6 arg7 harg7 arg8 harg8 x0 x1 x2 x3 x4 x5) = hAddV (kernelRun0_B.sl.v142 (F := Ideal) c arg6 harg6 x3) (kernelRun0_B.sl.v159 (F := Ideal) c arg3 harg3 x0) (kernelRun0_B.sl.v175 (F := Ideal) c arg4 harg4 x1) (kernelRun0_B.sl.v191 (F := Ideal) c arg5 harg5 x2) (kernelRun0_B.sl.r_21 (F := Ideal) c arg7 harg7 x4) (kernelRun0_B.sl.r_37 (F := Ideal) c arg7 harg7 arg8 harg8 x4 x5) := rfl
theorem wrh14_B : (kernelRun0_B.sl.r_711 (F := Ideal) c arg3 harg3 arg6 harg6 arg7 harg7 arg8 harg8 x0 x3 x4 x5) = rHatV (kernelRun0_B.sl.v142 (F := Ideal) c arg6 harg6 x3) (kernelRun0_B.sl.v159 (F := Ideal) c arg3 harg3 x0) (kernelRun0_B.sl.r_21 (F := Ideal) c arg7 harg7 x4) (kernelRun0_B.sl.r_37 (F := Ideal) c arg7 harg7 arg8 harg8 x4 x5) := rfl
theorem wyh14_B : (kernelRun0_B.sl.r_732 (F := Ideal) c arg3 harg3 arg4 harg4 arg5 harg5 arg6 harg6 arg7 harg7 arg8 harg8 x0 x1 x2 x3 x4 x5) = yHatV (kernelRun0_B.sl.v142 (F := Ideal) c arg6 harg6 x3) (kernelRun0_B.sl.v159 (F := Ideal) c arg3 harg3 x0) (kernelRun0_B.sl.v175 (F := Ideal) c arg4 harg4 x1) (kernelRun0_B.sl.v191 (F := Ideal) c arg5 harg5 x2) (kernelRun0_B.sl.r_21 (F := Ideal) c arg7 harg7 x4) (kernelRun0_B.sl.r_37 (F := Ideal) c arg7 harg7 arg8 harg8 x4 x5) := rfl
theorem wh14_B : (kernelRun0_B.sl.r_805 (F := Ideal) c arg3 harg3 arg4 harg4 arg5 harg5 arg6 harg6 arg7 harg7 arg8 harg8 arg14 harg14 x0 x1 x2 x3 x4 x5 xs0) = addf (mm3 (kernelRun0_B.sl.r_748 (F := Ideal) c arg3 harg3 arg4 harg4 arg6 harg6 arg7 harg7 arg8 harg8 x0 x1 x3 x4 x5) ((addf (mm3 (kernelRun0_B.sl.r_746 (F := Ideal) c arg3 harg3 arg4 harg4 arg6 harg6 arg7 harg7 arg8 harg8 x0 x1 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_762 (F := Ideal) c arg3 harg3 arg4 harg4 arg5 harg5 arg6 harg6 arg7 harg7 arg8 harg8 x0 x1 x2 x3 x4 x5)))) (kernelRun0_B.sl.r_766 (F := Ideal) c arg3 harg3 arg4 harg4 arg5 harg5 arg6 harg6 arg7 harg7 arg8 harg8 x0 x1 x2 x3 x4 x5) := rfl
theorem wy14_B : (kernelRun0_B.sl.r_804 (F := Ideal) c arg3 harg3 arg4 harg4 arg5 harg5 arg6 harg6 arg7 harg7 arg8 harg8 arg14 harg14 x0 x1 x2 x3 x4 x5 xs0) = addf (mm (kernelRun0_B.sl.r_711 (F := Ideal) c arg3 harg3 arg6 harg6 arg7 harg7 arg8 harg8 x0 x3 x4 x5) ((addf (mm3 (kernelRun0_B.sl.r_746 (F := Ideal) c arg3 harg3 arg4 harg4 arg6 harg6 arg7 harg7 arg8 harg8 x0 x1 x3 x4 x5) ((kernelRun0_B.sl.r_797 (F := Ideal) c arg3 harg3 arg4 harg4 arg5 harg5 arg6 harg6 arg7 harg7 arg8 harg8 arg14 harg14 x0 x1 x2 x3 x4 x5 xs0))) (kernelRun0_B.sl.r_762 (F := Ideal) c arg3 harg3 arg4 harg4 arg5 harg5 arg6 harg6 arg7 harg7 arg8 harg8 x0 x1 x2 x3 x4 x5)))) (kernelRun0_B.sl.r_732 (F := Ideal) c arg3 harg3 arg4 harg4 arg5 harg5 arg6 harg6 arg7 harg7 arg8 harg8 x0 x1 x2 x3 x4 x5) := rfl
theorem sh14_B : (kernelRun0_B.sl.r_805 (F := Ideal) c arg3 harg3 arg4 harg4 arg5 harg5 arg6 harg6 arg7 harg7 arg8 harg8 arg14 harg14 x0 x1 x2 x3 x4 x5 xs0) = hAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 8 := by
  rw [wh14_B, sh12_B, wtr14_B, wha14_B, wl14_B, wr14_B, tlr0_B, wk14_B, tlk0_B, wv14_B, tlv0_B, wa14_B, tla0_B, wb14_B, tlb0_B]; rfl
theorem sy14_B : (kernelRun0_B.sl.r_804 (F := Ideal) c arg3 harg3 arg4 harg4 arg5 harg5 arg6 harg6 arg7 harg7 arg8 harg8 arg14 harg14 x0 x1 x2 x3 x4 x5 xs0) = yAt (lw0 (arg6.view.read (Elt Ideal) (harg6.unread x3))) (tl0 (arg3.view.read (Elt Ideal) (harg3.unread x0))) (tl0 (arg4.view.read (Elt Ideal) (harg4.unread x1))) (tl0 (arg5.view.read (Elt Ideal) (harg5.unread x2))) (aAll (tl0 (arg7.view.read (Elt Ideal) (harg7.unread x4)))) (bAll (tl0 (arg7.view.read (Elt Ideal) (harg7.unread x4))) (tl0 (arg8.view.read (Elt Ideal) (harg8.unread x5)))) (st0 (arg14.view.read (Elt Ideal) (harg14.unread xs0))) 7 := by
  rw [wy14_B, sh12_B, wrh14_B, wyh14_B, wl14_B, wr14_B, tlr0_B, wk14_B, tlk0_B, wv14_B, tlv0_B, wa14_B, tla0_B, wb14_B, tlb0_B]; rfl

theorem wr1_B : (kernelRun0_B.sl.v146 (F := Ideal) c arg3 harg3 x0) = slc 0 (kernelRun0_B.sl.r_1 (F := Ideal) c arg3 harg3 x0) := rfl
theorem wk1_B : (kernelRun0_B.sl.v162 (F := Ideal) c arg4 harg4 x1) = slc 0 (kernelRun0_B.sl.r_3 (F := Ideal) c arg4 harg4 x1) := rfl
theorem wv1_B : (kernelRun0_B.sl.v178 (F := Ideal) c arg5 harg5 x2) = slc 0 (kernelRun0_B.sl.r_5 (F := Ideal) c arg5 harg5 x2) := rfl
theorem wa1_B : (kernelRun0_B.sl.v194 (F := Ideal) c arg7 harg7 x4) = slc 0 (kernelRun0_B.sl.r_9 (F := Ideal) c arg7 harg7 x4) := rfl
theorem wb1_B : (kernelRun0_B.sl.r_24 (F := Ideal) c arg7 harg7 arg8 harg8 x4 x5) = slc 0 (kernelRun0_B.sl.r_11 (F := Ideal) c arg7 harg7 arg8 harg8 x4 x5) := rfl
theorem wl1_B : (kernelRun0_B.sl.r_13 (F := Ideal) c arg6 harg6 x3) = lw1 (arg6.view.read (Elt Ideal) (harg6.unread x3)) 0 := rfl
theorem wtr1_B : (kernelRun0_B.sl.r_735 (F := Ideal) c arg3 harg3 arg4 harg4 arg6 harg6 arg7 harg7 arg8 harg8 x0 x1 x3 x4 x5) = transV (kernelRun0_B.sl.r_13 (F := Ideal) c arg6 harg6 x3) (kernelRun0_B.sl.v146 (F := Ideal) c arg3 harg3 x0) (kernelRun0_B.sl.v162 (F := Ideal) c arg4 harg4 x1) (kernelRun0_B.sl.v194 (F := Ideal) c arg7 harg7 x4) (kernelRun0_B.sl.r_24 (F := Ideal) c arg7 harg7 arg8 harg8 x4 x5) := rfl
theorem wha1_B : (kernelRun0_B.sl.r_751 (F := Ideal) c arg3 harg3 arg4 harg4 arg5 harg5 arg6 harg6 arg7 harg7 arg8 harg8 x0 x1 x2 x3 x4 x5) = hAddV (kernelRun0_B.sl.r_13 (F := Ideal) c arg6 harg6 x3) (kernelRun0_B.sl.v146 (F := Ideal) c arg3 harg3 x0) (kernelRun0_B.sl.v162 (F := Ideal) c arg4 harg4 x1) (kernelRun0_B.sl.v178 (F := Ideal) c arg5 harg5 x2) (kernelRun0_B.sl.v194 (F := Ideal) c arg7 harg7 x4) (kernelRun0_B.sl.r_24 (F := Ideal) c arg7 harg7 arg8 harg8 x4 x5) := rfl
theorem wrh1_B : (kernelRun0_B.sl.r_692 (F := Ideal) c arg3 harg3 arg6 harg6 arg7 harg7 arg8 harg8 x0 x3 x4 x5) = rHatV (kernelRun0_B.sl.r_13 (F := Ideal) c arg6 harg6 x3) (kernelRun0_B.sl.v146 (F := Ideal) c arg3 harg3 x0) (kernelRun0_B.sl.v194 (F := Ideal) c arg7 harg7 x4) (kernelRun0_B.sl.r_24 (F := Ideal) c arg7 harg7 arg8 harg8 x4 x5) := rfl
theorem wyh1_B : (kernelRun0_B.sl.r_714 (F := Ideal) c arg3 harg3 arg4 harg4 arg5 harg5 arg6 harg6 arg7 harg7 arg8 harg8 x0 x1 x2 x3 x4 x5) = yHatV (kernelRun0_B.sl.r_13 (F := Ideal) c arg6 harg6 x3) (kernelRun0_B.sl.v146 (F := Ideal) c arg3 harg3 x0) (kernelRun0_B.sl.v162 (F := Ideal) c arg4 harg4 x1) (kernelRun0_B.sl.v178 (F := Ideal) c arg5 harg5 x2) (kernelRun0_B.sl.v194 (F := Ideal) c arg7 harg7 x4) (kernelRun0_B.sl.r_24 (F := Ideal) c arg7 harg7 arg8 harg8 x4 x5) := rfl
theorem wh1_B : (addf (mm3 (kernelRun0_B.sl.r_735 (F := Ideal) c arg3 harg3 arg4 harg4 arg6 harg6 arg7 harg7 arg8 harg8 x0 x1 x3 x4 x5) (st1 (arg14.view.read (Elt Ideal) (harg14.unread xs0)))) (kernelRun0_B.sl.r_751 (F := Ideal) c arg3 harg3 arg4 harg4 arg5 harg5 arg6 harg6 arg7 harg7 arg8 harg8 x0 x1 x2 x3 x4 x5)) = addf (mm3 (kernelRun0_B.sl.r_735 (F := Ideal) c arg3 harg3 arg4 harg4 arg6 harg6 arg7 harg7 arg8 harg8 x0 x1 x3 x4 x5) (st1 (arg14.view.read (Elt Ideal) (harg14.unread xs0)))) (kernelRun0_B.sl.r_751 (F := Ideal) c arg3 harg3 arg4 harg4 arg5 harg5 arg6 harg6 arg7 harg7 arg8 harg8 x0 x1 x2 x3 x4 x5) := rfl
theorem wy1_B : (kernelRun0_B.sl.r_771 (F := Ideal) c arg3 harg3 arg4 harg4 arg5 harg5 arg6 harg6 arg7 harg7 arg8 harg8 arg14 harg14 x0 x1 x2 x3 x4 x5 xs0) = addf (mm (kernelRun0_B.sl.r_692 (F := Ideal) c arg3 harg3 arg6 harg6 arg7 harg7 arg8 harg8 x0 x3 x4 x5) (st1 (arg14.view.read (Elt Ideal) (harg14.unread xs0)))) (kernelRun0_B.sl.r_714 (F := Ideal) c arg3 harg3 arg4 harg4 arg5 harg5 arg6 harg6 arg7 harg7 arg8 harg8 x0 x1 x2 x3 x4 x5) := rfl
theorem sh1_B : (addf (mm3 (kernelRun0_B.sl.r_735 (F := Ideal) c arg3 harg3 arg4 harg4 arg6 harg6 arg7 harg7 arg8 harg8 x0 x1 x3 x4 x5) (st1 (arg14.view.read (Elt Ideal) (harg14.unread xs0)))) (kernelRun0_B.sl.r_751 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 1 := by
  rw [wh1_B, wtr1_B, wha1_B, wl1_B, wr1_B, tlr1_B, wk1_B, tlk1_B, wv1_B, tlv1_B, wa1_B, tla1_B, wb1_B, tlb1_B]; rfl
theorem sy1_B : (kernelRun0_B.sl.r_771 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 0 := by
  rw [wy1_B, wrh1_B, wyh1_B, wl1_B, wr1_B, tlr1_B, wk1_B, tlk1_B, wv1_B, tlv1_B, wa1_B, tla1_B, wb1_B, tlb1_B]; rfl

theorem wr3_B : (kernelRun0_B.sl.v148 (F := Ideal) c arg3 harg3 x0) = slc 1 (kernelRun0_B.sl.r_1 (F := Ideal) c arg3 harg3 x0) := rfl
theorem wk3_B : (kernelRun0_B.sl.v164 (F := Ideal) c arg4 harg4 x1) = slc 1 (kernelRun0_B.sl.r_3 (F := Ideal) c arg4 harg4 x1) := rfl
theorem wv3_B : (kernelRun0_B.sl.v180 (F := Ideal) c arg5 harg5 x2) = slc 1 (kernelRun0_B.sl.r_5 (F := Ideal) c arg5 harg5 x2) := rfl
theorem wa3_B : (kernelRun0_B.sl.v196 (F := Ideal) c arg7 harg7 x4) = slc 1 (kernelRun0_B.sl.r_9 (F := Ideal) c arg7 harg7 x4) := rfl
theorem wb3_B : (kernelRun0_B.sl.r_26 (F := Ideal) c arg7 harg7 arg8 harg8 x4 x5) = slc 1 (kernelRun0_B.sl.r_11 (F := Ideal) c arg7 harg7 arg8 harg8 x4 x5) := rfl
theorem wl3_B : (kernelRun0_B.sl.v120 (F := Ideal) c arg6 harg6 x3) = lw1 (arg6.view.read (Elt Ideal) (harg6.unread x3)) 1 := rfl
theorem wtr3_B : (kernelRun0_B.sl.r_737 (F := Ideal) c arg3 harg3 arg4 harg4 arg6 harg6 arg7 harg7 arg8 harg8 x0 x1 x3 x4 x5) = transV (kernelRun0_B.sl.v120 (F := Ideal) c arg6 harg6 x3) (kernelRun0_B.sl.v148 (F := Ideal) c arg3 harg3 x0) (kernelRun0_B.sl.v164 (F := Ideal) c arg4 harg4 x1) (kernelRun0_B.sl.v196 (F := Ideal) c arg7 harg7 x4) (kernelRun0_B.sl.r_26 (F := Ideal) c arg7 harg7 arg8 harg8 x4 x5) := rfl
theorem wha3_B : (kernelRun0_B.sl.r_753 (F := Ideal) c arg3 harg3 arg4 harg4 arg5 harg5 arg6 harg6 arg7 harg7 arg8 harg8 x0 x1 x2 x3 x4 x5) = hAddV (kernelRun0_B.sl.v120 (F := Ideal) c arg6 harg6 x3) (kernelRun0_B.sl.v148 (F := Ideal) c arg3 harg3 x0) (kernelRun0_B.sl.v164 (F := Ideal) c arg4 harg4 x1) (kernelRun0_B.sl.v180 (F := Ideal) c arg5 harg5 x2) (kernelRun0_B.sl.v196 (F := Ideal) c arg7 harg7 x4) (kernelRun0_B.sl.r_26 (F := Ideal) c arg7 harg7 arg8 harg8 x4 x5) := rfl
theorem wrh3_B : (kernelRun0_B.sl.r_696 (F := Ideal) c arg3 harg3 arg6 harg6 arg7 harg7 arg8 harg8 x0 x3 x4 x5) = rHatV (kernelRun0_B.sl.v120 (F := Ideal) c arg6 harg6 x3) (kernelRun0_B.sl.v148 (F := Ideal) c arg3 harg3 x0) (kernelRun0_B.sl.v196 (F := Ideal) c arg7 harg7 x4) (kernelRun0_B.sl.r_26 (F := Ideal) c arg7 harg7 arg8 harg8 x4 x5) := rfl
theorem wyh3_B : (kernelRun0_B.sl.r_717 (F := Ideal) c arg3 harg3 arg4 harg4 arg5 harg5 arg6 harg6 arg7 harg7 arg8 harg8 x0 x1 x2 x3 x4 x5) = yHatV (kernelRun0_B.sl.v120 (F := Ideal) c arg6 harg6 x3) (kernelRun0_B.sl.v148 (F := Ideal) c arg3 harg3 x0) (kernelRun0_B.sl.v164 (F := Ideal) c arg4 harg4 x1) (kernelRun0_B.sl.v180 (F := Ideal) c arg5 harg5 x2) (kernelRun0_B.sl.v196 (F := Ideal) c arg7 harg7 x4) (kernelRun0_B.sl.r_26 (F := Ideal) c arg7 harg7 arg8 harg8 x4 x5) := rfl
theorem wh3_B : (kernelRun0_B.sl.r_777 (F := Ideal) c arg3 harg3 arg4 harg4 arg5 harg5 arg6 harg6 arg7 harg7 arg8 harg8 arg14 harg14 x0 x1 x2 x3 x4 x5 xs0) = addf (mm3 (kernelRun0_B.sl.r_737 (F := Ideal) c arg3 harg3 arg4 harg4 arg6 harg6 arg7 harg7 arg8 harg8 x0 x1 x3 x4 x5) ((addf (mm3 (kernelRun0_B.sl.r_735 (F := Ideal) c arg3 harg3 arg4 harg4 arg6 harg6 arg7 harg7 arg8 harg8 x0 x1 x3 x4 x5) (st1 (arg14.view.read (Elt Ideal) (harg14.unread xs0)))) (kernelRun0_B.sl.r_751 (F := Ideal) c arg3 harg3 arg4 harg4 arg5 harg5 arg6 harg6 arg7 harg7 arg8 harg8 x0 x1 x2 x3 x4 x5)))) (kernelRun0_B.sl.r_753 (F := Ideal) c arg3 harg3 arg4 harg4 arg5 harg5 arg6 harg6 arg7 harg7 arg8 harg8 x0 x1 x2 x3 x4 x5) := rfl
theorem wy3_B : (kernelRun0_B.sl.r_776 (F := Ideal) c arg3 harg3 arg4 harg4 arg5 harg5 arg6 harg6 arg7 harg7 arg8 harg8 arg14 harg14 x0 x1 x2 x3 x4 x5 xs0) = addf (mm (kernelRun0_B.sl.r_696 (F := Ideal) c arg3 harg3 arg6 harg6 arg7 harg7 arg8 harg8 x0 x3 x4 x5) ((addf (mm3 (kernelRun0_B.sl.r_735 (F := Ideal) c arg3 harg3 arg4 harg4 arg6 harg6 arg7 harg7 arg8 harg8 x0 x1 x3 x4 x5) (st1 (arg14.view.read (Elt Ideal) (harg14.unread xs0)))) (kernelRun0_B.sl.r_751 (F := Ideal) c arg3 harg3 arg4 harg4 arg5 harg5 arg6 harg6 arg7 harg7 arg8 harg8 x0 x1 x2 x3 x4 x5)))) (kernelRun0_B.sl.r_717 (F := Ideal) c arg3 harg3 arg4 harg4 arg5 harg5 arg6 harg6 arg7 harg7 arg8 harg8 x0 x1 x2 x3 x4 x5) := rfl
theorem sh3_B : (kernelRun0_B.sl.r_777 (F := Ideal) c arg3 harg3 arg4 harg4 arg5 harg5 arg6 harg6 arg7 harg7 arg8 harg8 arg14 harg14 x0 x1 x2 x3 x4 x5 xs0) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 2 := by
  rw [wh3_B, sh1_B, wtr3_B, wha3_B, wl3_B, wr3_B, tlr1_B, wk3_B, tlk1_B, wv3_B, tlv1_B, wa3_B, tla1_B, wb3_B, tlb1_B]; rfl
theorem sy3_B : (kernelRun0_B.sl.r_776 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 1 := by
  rw [wy3_B, sh1_B, wrh3_B, wyh3_B, wl3_B, wr3_B, tlr1_B, wk3_B, tlk1_B, wv3_B, tlv1_B, wa3_B, tla1_B, wb3_B, tlb1_B]; rfl

theorem wr5_B : (kernelRun0_B.sl.v150 (F := Ideal) c arg3 harg3 x0) = slc 2 (kernelRun0_B.sl.r_1 (F := Ideal) c arg3 harg3 x0) := rfl
theorem wk5_B : (kernelRun0_B.sl.v166 (F := Ideal) c arg4 harg4 x1) = slc 2 (kernelRun0_B.sl.r_3 (F := Ideal) c arg4 harg4 x1) := rfl
theorem wv5_B : (kernelRun0_B.sl.v182 (F := Ideal) c arg5 harg5 x2) = slc 2 (kernelRun0_B.sl.r_5 (F := Ideal) c arg5 harg5 x2) := rfl
theorem wa5_B : (kernelRun0_B.sl.v198 (F := Ideal) c arg7 harg7 x4) = slc 2 (kernelRun0_B.sl.r_9 (F := Ideal) c arg7 harg7 x4) := rfl
theorem wb5_B : (kernelRun0_B.sl.r_28 (F := Ideal) c arg7 harg7 arg8 harg8 x4 x5) = slc 2 (kernelRun0_B.sl.r_11 (F := Ideal) c arg7 harg7 arg8 harg8 x4 x5) := rfl
theorem wl5_B : (kernelRun0_B.sl.v124 (F := Ideal) c arg6 harg6 x3) = lw1 (arg6.view.read (Elt Ideal) (harg6.unread x3)) 2 := rfl
theorem wtr5_B : (kernelRun0_B.sl.r_739 (F := Ideal) c arg3 harg3 arg4 harg4 arg6 harg6 arg7 harg7 arg8 harg8 x0 x1 x3 x4 x5) = transV (kernelRun0_B.sl.v124 (F := Ideal) c arg6 harg6 x3) (kernelRun0_B.sl.v150 (F := Ideal) c arg3 harg3 x0) (kernelRun0_B.sl.v166 (F := Ideal) c arg4 harg4 x1) (kernelRun0_B.sl.v198 (F := Ideal) c arg7 harg7 x4) (kernelRun0_B.sl.r_28 (F := Ideal) c arg7 harg7 arg8 harg8 x4 x5) := rfl
theorem wha5_B : (kernelRun0_B.sl.r_755 (F := Ideal) c arg3 harg3 arg4 harg4 arg5 harg5 arg6 harg6 arg7 harg7 arg8 harg8 x0 x1 x2 x3 x4 x5) = hAddV (kernelRun0_B.sl.v124 (F := Ideal) c arg6 harg6 x3) (kernelRun0_B.sl.v150 (F := Ideal) c arg3 harg3 x0) (kernelRun0_B.sl.v166 (F := Ideal) c arg4 harg4 x1) (kernelRun0_B.sl.v182 (F := Ideal) c arg5 harg5 x2) (kernelRun0_B.sl.v198 (F := Ideal) c arg7 harg7 x4) (kernelRun0_B.sl.r_28 (F := Ideal) c arg7 harg7 arg8 harg8 x4 x5) := rfl
theorem wrh5_B : (kernelRun0_B.sl.r_698 (F := Ideal) c arg3 harg3 arg6 harg6 arg7 harg7 arg8 harg8 x0 x3 x4 x5) = rHatV (kernelRun0_B.sl.v124 (F := Ideal) c arg6 harg6 x3) (kernelRun0_B.sl.v150 (F := Ideal) c arg3 harg3 x0) (kernelRun0_B.sl.v198 (F := Ideal) c arg7 harg7 x4) (kernelRun0_B.sl.r_28 (F := Ideal) c arg7 harg7 arg8 harg8 x4 x5) := rfl
theorem wyh5_B : (kernelRun0_B.sl.r_719 (F := Ideal) c arg3 harg3 arg4 harg4 arg5 harg5 arg6 harg6 arg7 harg7 arg8 harg8 x0 x1 x2 x3 x4 x5) = yHatV (kernelRun0_B.sl.v124 (F := Ideal) c arg6 harg6 x3) (kernelRun0_B.sl.v150 (F := Ideal) c arg3 harg3 x0) (kernelRun0_B.sl.v166 (F := Ideal) c arg4 harg4 x1) (kernelRun0_B.sl.v182 (F := Ideal) c arg5 harg5 x2) (kernelRun0_B.sl.v198 (F := Ideal) c arg7 harg7 x4) (kernelRun0_B.sl.r_28 (F := Ideal) c arg7 harg7 arg8 harg8 x4 x5) := rfl
theorem wh5_B : (kernelRun0_B.sl.r_782 (F := Ideal) c arg3 harg3 arg4 harg4 arg5 harg5 arg6 harg6 arg7 harg7 arg8 harg8 arg14 harg14 x0 x1 x2 x3 x4 x5 xs0) = addf (mm3 (kernelRun0_B.sl.r_739 (F := Ideal) c arg3 harg3 arg4 harg4 arg6 harg6 arg7 harg7 arg8 harg8 x0 x1 x3 x4 x5) ((kernelRun0_B.sl.r_777 (F := Ideal) c arg3 harg3 arg4 harg4 arg5 harg5 arg6 harg6 arg7 harg7 arg8 harg8 arg14 harg14 x0 x1 x2 x3 x4 x5 xs0))) (kernelRun0_B.sl.r_755 (F := Ideal) c arg3 harg3 arg4 harg4 arg5 harg5 arg6 harg6 arg7 harg7 arg8 harg8 x0 x1 x2 x3 x4 x5) := rfl
theorem wy5_B : (kernelRun0_B.sl.r_781 (F := Ideal) c arg3 harg3 arg4 harg4 arg5 harg5 arg6 harg6 arg7 harg7 arg8 harg8 arg14 harg14 x0 x1 x2 x3 x4 x5 xs0) = addf (mm (kernelRun0_B.sl.r_698 (F := Ideal) c arg3 harg3 arg6 harg6 arg7 harg7 arg8 harg8 x0 x3 x4 x5) ((kernelRun0_B.sl.r_777 (F := Ideal) c arg3 harg3 arg4 harg4 arg5 harg5 arg6 harg6 arg7 harg7 arg8 harg8 arg14 harg14 x0 x1 x2 x3 x4 x5 xs0))) (kernelRun0_B.sl.r_719 (F := Ideal) c arg3 harg3 arg4 harg4 arg5 harg5 arg6 harg6 arg7 harg7 arg8 harg8 x0 x1 x2 x3 x4 x5) := rfl
theorem sh5_B : (kernelRun0_B.sl.r_782 (F := Ideal) c arg3 harg3 arg4 harg4 arg5 harg5 arg6 harg6 arg7 harg7 arg8 harg8 arg14 harg14 x0 x1 x2 x3 x4 x5 xs0) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 3 := by
  rw [wh5_B, sh3_B, wtr5_B, wha5_B, wl5_B, wr5_B, tlr1_B, wk5_B, tlk1_B, wv5_B, tlv1_B, wa5_B, tla1_B, wb5_B, tlb1_B]; rfl
theorem sy5_B : (kernelRun0_B.sl.r_781 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 2 := by
  rw [wy5_B, sh3_B, wrh5_B, wyh5_B, wl5_B, wr5_B, tlr1_B, wk5_B, tlk1_B, wv5_B, tlv1_B, wa5_B, tla1_B, wb5_B, tlb1_B]; rfl

theorem wr7_B : (kernelRun0_B.sl.v152 (F := Ideal) c arg3 harg3 x0) = slc 3 (kernelRun0_B.sl.r_1 (F := Ideal) c arg3 harg3 x0) := rfl
theorem wk7_B : (kernelRun0_B.sl.v168 (F := Ideal) c arg4 harg4 x1) = slc 3 (kernelRun0_B.sl.r_3 (F := Ideal) c arg4 harg4 x1) := rfl
theorem wv7_B : (kernelRun0_B.sl.v184 (F := Ideal) c arg5 harg5 x2) = slc 3 (kernelRun0_B.sl.r_5 (F := Ideal) c arg5 harg5 x2) := rfl
theorem wa7_B : (kernelRun0_B.sl.v200 (F := Ideal) c arg7 harg7 x4) = slc 3 (kernelRun0_B.sl.r_9 (F := Ideal) c arg7 harg7 x4) := rfl
theorem wb7_B : (kernelRun0_B.sl.r_30 (F := Ideal) c arg7 harg7 arg8 harg8 x4 x5) = slc 3 (kernelRun0_B.sl.r_11 (F := Ideal) c arg7 harg7 arg8 harg8 x4 x5) := rfl
theorem wl7_B : (kernelRun0_B.sl.v128 (F := Ideal) c arg6 harg6 x3) = lw1 (arg6.view.read (Elt Ideal) (harg6.unread x3)) 3 := rfl
theorem wtr7_B : (kernelRun0_B.sl.r_741 (F := Ideal) c arg3 harg3 arg4 harg4 arg6 harg6 arg7 harg7 arg8 harg8 x0 x1 x3 x4 x5) = transV (kernelRun0_B.sl.v128 (F := Ideal) c arg6 harg6 x3) (kernelRun0_B.sl.v152 (F := Ideal) c arg3 harg3 x0) (kernelRun0_B.sl.v168 (F := Ideal) c arg4 harg4 x1) (kernelRun0_B.sl.v200 (F := Ideal) c arg7 harg7 x4) (kernelRun0_B.sl.r_30 (F := Ideal) c arg7 harg7 arg8 harg8 x4 x5) := rfl
theorem wha7_B : (kernelRun0_B.sl.r_757 (F := Ideal) c arg3 harg3 arg4 harg4 arg5 harg5 arg6 harg6 arg7 harg7 arg8 harg8 x0 x1 x2 x3 x4 x5) = hAddV (kernelRun0_B.sl.v128 (F := Ideal) c arg6 harg6 x3) (kernelRun0_B.sl.v152 (F := Ideal) c arg3 harg3 x0) (kernelRun0_B.sl.v168 (F := Ideal) c arg4 harg4 x1) (kernelRun0_B.sl.v184 (F := Ideal) c arg5 harg5 x2) (kernelRun0_B.sl.v200 (F := Ideal) c arg7 harg7 x4) (kernelRun0_B.sl.r_30 (F := Ideal) c arg7 harg7 arg8 harg8 x4 x5) := rfl
theorem wrh7_B : (kernelRun0_B.sl.r_700 (F := Ideal) c arg3 harg3 arg6 harg6 arg7 harg7 arg8 harg8 x0 x3 x4 x5) = rHatV (kernelRun0_B.sl.v128 (F := Ideal) c arg6 harg6 x3) (kernelRun0_B.sl.v152 (F := Ideal) c arg3 harg3 x0) (kernelRun0_B.sl.v200 (F := Ideal) c arg7 harg7 x4) (kernelRun0_B.sl.r_30 (F := Ideal) c arg7 harg7 arg8 harg8 x4 x5) := rfl
theorem wyh7_B : (kernelRun0_B.sl.r_723 (F := Ideal) c arg3 harg3 arg4 harg4 arg5 harg5 arg6 harg6 arg7 harg7 arg8 harg8 x0 x1 x2 x3 x4 x5) = yHatV (kernelRun0_B.sl.v128 (F := Ideal) c arg6 harg6 x3) (kernelRun0_B.sl.v152 (F := Ideal) c arg3 harg3 x0) (kernelRun0_B.sl.v168 (F := Ideal) c arg4 harg4 x1) (kernelRun0_B.sl.v184 (F := Ideal) c arg5 harg5 x2) (kernelRun0_B.sl.v200 (F := Ideal) c arg7 harg7 x4) (kernelRun0_B.sl.r_30 (F := Ideal) c arg7 harg7 arg8 harg8 x4 x5) := rfl
theorem wh7_B : (addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)) = addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5) := rfl
theorem wy7_B : (kernelRun0_B.sl.r_788 (F := Ideal) c arg3 harg3 arg4 harg4 arg5 harg5 arg6 harg6 arg7 harg7 arg8 harg8 arg14 harg14 x0 x1 x2 x3 x4 x5 xs0) = addf (mm (kernelRun0_B.sl.r_700 (F := Ideal) c arg3 harg3 arg6 harg6 arg7 harg7 arg8 harg8 x0 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_723 (F := Ideal) c arg3 harg3 arg4 harg4 arg5 harg5 arg6 harg6 arg7 harg7 arg8 harg8 x0 x1 x2 x3 x4 x5) := rfl
theorem sh7_B : (addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 4 := by
  rw [wh7_B, sh5_B, wtr7_B, wha7_B, wl7_B, wr7_B, tlr1_B, wk7_B, tlk1_B, wv7_B, tlv1_B, wa7_B, tla1_B, wb7_B, tlb1_B]; rfl
theorem sy7_B : (kernelRun0_B.sl.r_788 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 3 := by
  rw [wy7_B, sh5_B, wrh7_B, wyh7_B, wl7_B, wr7_B, tlr1_B, wk7_B, tlk1_B, wv7_B, tlv1_B, wa7_B, tla1_B, wb7_B, tlb1_B]; rfl

theorem wr9_B : (kernelRun0_B.sl.v154 (F := Ideal) c arg3 harg3 x0) = slc 4 (kernelRun0_B.sl.r_1 (F := Ideal) c arg3 harg3 x0) := rfl
theorem wk9_B : (kernelRun0_B.sl.v170 (F := Ideal) c arg4 harg4 x1) = slc 4 (kernelRun0_B.sl.r_3 (F := Ideal) c arg4 harg4 x1) := rfl
theorem wv9_B : (kernelRun0_B.sl.v186 (F := Ideal) c arg5 harg5 x2) = slc 4 (kernelRun0_B.sl.r_5 (F := Ideal) c arg5 harg5 x2) := rfl
theorem wa9_B : (kernelRun0_B.sl.r_16 (F := Ideal) c arg7 harg7 x4) = slc 4 (kernelRun0_B.sl.r_9 (F := Ideal) c arg7 harg7 x4) := rfl
theorem wb9_B : (kernelRun0_B.sl.r_32 (F := Ideal) c arg7 harg7 arg8 harg8 x4 x5) = slc 4 (kernelRun0_B.sl.r_11 (F := Ideal) c arg7 harg7 arg8 harg8 x4 x5) := rfl
theorem wl9_B : (kernelRun0_B.sl.v132 (F := Ideal) c arg6 harg6 x3) = lw1 (arg6.view.read (Elt Ideal) (harg6.unread x3)) 4 := rfl
theorem wtr9_B : (kernelRun0_B.sl.r_743 (F := Ideal) c arg3 harg3 arg4 harg4 arg6 harg6 arg7 harg7 arg8 harg8 x0 x1 x3 x4 x5) = transV (kernelRun0_B.sl.v132 (F := Ideal) c arg6 harg6 x3) (kernelRun0_B.sl.v154 (F := Ideal) c arg3 harg3 x0) (kernelRun0_B.sl.v170 (F := Ideal) c arg4 harg4 x1) (kernelRun0_B.sl.r_16 (F := Ideal) c arg7 harg7 x4) (kernelRun0_B.sl.r_32 (F := Ideal) c arg7 harg7 arg8 harg8 x4 x5) := rfl
theorem wha9_B : (kernelRun0_B.sl.r_759 (F := Ideal) c arg3 harg3 arg4 harg4 arg5 harg5 arg6 harg6 arg7 harg7 arg8 harg8 x0 x1 x2 x3 x4 x5) = hAddV (kernelRun0_B.sl.v132 (F := Ideal) c arg6 harg6 x3) (kernelRun0_B.sl.v154 (F := Ideal) c arg3 harg3 x0) (kernelRun0_B.sl.v170 (F := Ideal) c arg4 harg4 x1) (kernelRun0_B.sl.v186 (F := Ideal) c arg5 harg5 x2) (kernelRun0_B.sl.r_16 (F := Ideal) c arg7 harg7 x4) (kernelRun0_B.sl.r_32 (F := Ideal) c arg7 harg7 arg8 harg8 x4 x5) := rfl
theorem wrh9_B : (kernelRun0_B.sl.r_704 (F := Ideal) c arg3 harg3 arg6 harg6 arg7 harg7 arg8 harg8 x0 x3 x4 x5) = rHatV (kernelRun0_B.sl.v132 (F := Ideal) c arg6 harg6 x3) (kernelRun0_B.sl.v154 (F := Ideal) c arg3 harg3 x0) (kernelRun0_B.sl.r_16 (F := Ideal) c arg7 harg7 x4) (kernelRun0_B.sl.r_32 (F := Ideal) c arg7 harg7 arg8 harg8 x4 x5) := rfl
theorem wyh9_B : (kernelRun0_B.sl.r_725 (F := Ideal) c arg3 harg3 arg4 harg4 arg5 harg5 arg6 harg6 arg7 harg7 arg8 harg8 x0 x1 x2 x3 x4 x5) = yHatV (kernelRun0_B.sl.v132 (F := Ideal) c arg6 harg6 x3) (kernelRun0_B.sl.v154 (F := Ideal) c arg3 harg3 x0) (kernelRun0_B.sl.v170 (F := Ideal) c arg4 harg4 x1) (kernelRun0_B.sl.v186 (F := Ideal) c arg5 harg5 x2) (kernelRun0_B.sl.r_16 (F := Ideal) c arg7 harg7 x4) (kernelRun0_B.sl.r_32 (F := Ideal) c arg7 harg7 arg8 harg8 x4 x5) := rfl
theorem wh9_B : (addf (mm3 (kernelRun0_B.sl.r_743 (F := Ideal) c arg3 harg3 arg4 harg4 arg6 harg6 arg7 harg7 arg8 harg8 x0 x1 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_759 (F := Ideal) c arg3 harg3 arg4 harg4 arg5 harg5 arg6 harg6 arg7 harg7 arg8 harg8 x0 x1 x2 x3 x4 x5)) = addf (mm3 (kernelRun0_B.sl.r_743 (F := Ideal) c arg3 harg3 arg4 harg4 arg6 harg6 arg7 harg7 arg8 harg8 x0 x1 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_759 (F := Ideal) c arg3 harg3 arg4 harg4 arg5 harg5 arg6 harg6 arg7 harg7 arg8 harg8 x0 x1 x2 x3 x4 x5) := rfl
theorem wy9_B : (kernelRun0_B.sl.r_791 (F := Ideal) c arg3 harg3 arg4 harg4 arg5 harg5 arg6 harg6 arg7 harg7 arg8 harg8 arg14 harg14 x0 x1 x2 x3 x4 x5 xs0) = addf (mm (kernelRun0_B.sl.r_704 (F := Ideal) c arg3 harg3 arg6 harg6 arg7 harg7 arg8 harg8 x0 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_725 (F := Ideal) c arg3 harg3 arg4 harg4 arg5 harg5 arg6 harg6 arg7 harg7 arg8 harg8 x0 x1 x2 x3 x4 x5) := rfl
theorem sh9_B : (addf (mm3 (kernelRun0_B.sl.r_743 (F := Ideal) c arg3 harg3 arg4 harg4 arg6 harg6 arg7 harg7 arg8 harg8 x0 x1 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_759 (F := Ideal) c arg3 harg3 arg4 harg4 arg5 harg5 arg6 harg6 arg7 harg7 arg8 harg8 x0 x1 x2 x3 x4 x5)) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 5 := by
  rw [wh9_B, sh7_B, wtr9_B, wha9_B, wl9_B, wr9_B, tlr1_B, wk9_B, tlk1_B, wv9_B, tlv1_B, wa9_B, tla1_B, wb9_B, tlb1_B]; rfl
theorem sy9_B : (kernelRun0_B.sl.r_791 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 4 := by
  rw [wy9_B, sh7_B, wrh9_B, wyh9_B, wl9_B, wr9_B, tlr1_B, wk9_B, tlk1_B, wv9_B, tlv1_B, wa9_B, tla1_B, wb9_B, tlb1_B]; rfl

theorem wr11_B : (kernelRun0_B.sl.v156 (F := Ideal) c arg3 harg3 x0) = slc 5 (kernelRun0_B.sl.r_1 (F := Ideal) c arg3 harg3 x0) := rfl
theorem wk11_B : (kernelRun0_B.sl.v172 (F := Ideal) c arg4 harg4 x1) = slc 5 (kernelRun0_B.sl.r_3 (F := Ideal) c arg4 harg4 x1) := rfl
theorem wv11_B : (kernelRun0_B.sl.v188 (F := Ideal) c arg5 harg5 x2) = slc 5 (kernelRun0_B.sl.r_5 (F := Ideal) c arg5 harg5 x2) := rfl
theorem wa11_B : (kernelRun0_B.sl.r_18 (F := Ideal) c arg7 harg7 x4) = slc 5 (kernelRun0_B.sl.r_9 (F := Ideal) c arg7 harg7 x4) := rfl
theorem wb11_B : (kernelRun0_B.sl.r_34 (F := Ideal) c arg7 harg7 arg8 harg8 x4 x5) = slc 5 (kernelRun0_B.sl.r_11 (F := Ideal) c arg7 harg7 arg8 harg8 x4 x5) := rfl
theorem wl11_B : (kernelRun0_B.sl.v136 (F := Ideal) c arg6 harg6 x3) = lw1 (arg6.view.read (Elt Ideal) (harg6.unread x3)) 5 := rfl
theorem wtr11_B : (kernelRun0_B.sl.r_745 (F := Ideal) c arg3 harg3 arg4 harg4 arg6 harg6 arg7 harg7 arg8 harg8 x0 x1 x3 x4 x5) = transV (kernelRun0_B.sl.v136 (F := Ideal) c arg6 harg6 x3) (kernelRun0_B.sl.v156 (F := Ideal) c arg3 harg3 x0) (kernelRun0_B.sl.v172 (F := Ideal) c arg4 harg4 x1) (kernelRun0_B.sl.r_18 (F := Ideal) c arg7 harg7 x4) (kernelRun0_B.sl.r_34 (F := Ideal) c arg7 harg7 arg8 harg8 x4 x5) := rfl
theorem wha11_B : (kernelRun0_B.sl.r_761 (F := Ideal) c arg3 harg3 arg4 harg4 arg5 harg5 arg6 harg6 arg7 harg7 arg8 harg8 x0 x1 x2 x3 x4 x5) = hAddV (kernelRun0_B.sl.v136 (F := Ideal) c arg6 harg6 x3) (kernelRun0_B.sl.v156 (F := Ideal) c arg3 harg3 x0) (kernelRun0_B.sl.v172 (F := Ideal) c arg4 harg4 x1) (kernelRun0_B.sl.v188 (F := Ideal) c arg5 harg5 x2) (kernelRun0_B.sl.r_18 (F := Ideal) c arg7 harg7 x4) (kernelRun0_B.sl.r_34 (F := Ideal) c arg7 harg7 arg8 harg8 x4 x5) := rfl
theorem wrh11_B : (kernelRun0_B.sl.r_706 (F := Ideal) c arg3 harg3 arg6 harg6 arg7 harg7 arg8 harg8 x0 x3 x4 x5) = rHatV (kernelRun0_B.sl.v136 (F := Ideal) c arg6 harg6 x3) (kernelRun0_B.sl.v156 (F := Ideal) c arg3 harg3 x0) (kernelRun0_B.sl.r_18 (F := Ideal) c arg7 harg7 x4) (kernelRun0_B.sl.r_34 (F := Ideal) c arg7 harg7 arg8 harg8 x4 x5) := rfl
theorem wyh11_B : (kernelRun0_B.sl.r_729 (F := Ideal) c arg3 harg3 arg4 harg4 arg5 harg5 arg6 harg6 arg7 harg7 arg8 harg8 x0 x1 x2 x3 x4 x5) = yHatV (kernelRun0_B.sl.v136 (F := Ideal) c arg6 harg6 x3) (kernelRun0_B.sl.v156 (F := Ideal) c arg3 harg3 x0) (kernelRun0_B.sl.v172 (F := Ideal) c arg4 harg4 x1) (kernelRun0_B.sl.v188 (F := Ideal) c arg5 harg5 x2) (kernelRun0_B.sl.r_18 (F := Ideal) c arg7 harg7 x4) (kernelRun0_B.sl.r_34 (F := Ideal) c arg7 harg7 arg8 harg8 x4 x5) := rfl
theorem wh11_B : (kernelRun0_B.sl.r_799 (F := Ideal) c arg3 harg3 arg4 harg4 arg5 harg5 arg6 harg6 arg7 harg7 arg8 harg8 arg14 harg14 x0 x1 x2 x3 x4 x5 xs0) = addf (mm3 (kernelRun0_B.sl.r_745 (F := Ideal) c arg3 harg3 arg4 harg4 arg6 harg6 arg7 harg7 arg8 harg8 x0 x1 x3 x4 x5) ((addf (mm3 (kernelRun0_B.sl.r_743 (F := Ideal) c arg3 harg3 arg4 harg4 arg6 harg6 arg7 harg7 arg8 harg8 x0 x1 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_759 (F := Ideal) c arg3 harg3 arg4 harg4 arg5 harg5 arg6 harg6 arg7 harg7 arg8 harg8 x0 x1 x2 x3 x4 x5)))) (kernelRun0_B.sl.r_761 (F := Ideal) c arg3 harg3 arg4 harg4 arg5 harg5 arg6 harg6 arg7 harg7 arg8 harg8 x0 x1 x2 x3 x4 x5) := rfl
theorem wy11_B : (kernelRun0_B.sl.r_798 (F := Ideal) c arg3 harg3 arg4 harg4 arg5 harg5 arg6 harg6 arg7 harg7 arg8 harg8 arg14 harg14 x0 x1 x2 x3 x4 x5 xs0) = addf (mm (kernelRun0_B.sl.r_706 (F := Ideal) c arg3 harg3 arg6 harg6 arg7 harg7 arg8 harg8 x0 x3 x4 x5) ((addf (mm3 (kernelRun0_B.sl.r_743 (F := Ideal) c arg3 harg3 arg4 harg4 arg6 harg6 arg7 harg7 arg8 harg8 x0 x1 x3 x4 x5) ((addf (mm3 (kernelRun0_B.sl.r_741 (F := Ideal) c arg3 harg3 arg4 harg4 arg6 harg6 arg7 harg7 arg8 harg8 x0 x1 x3 x4 x5) ((kernelRun0_B.sl.r_782 (F := Ideal) c arg3 harg3 arg4 harg4 arg5 harg5 arg6 harg6 arg7 harg7 arg8 harg8 arg14 harg14 x0 x1 x2 x3 x4 x5 xs0))) (kernelRun0_B.sl.r_757 (F := Ideal) c arg3 harg3 arg4 harg4 arg5 harg5 arg6 harg6 arg7 harg7 arg8 harg8 x0 x1 x2 x3 x4 x5)))) (kernelRun0_B.sl.r_759 (F := Ideal) c arg3 harg3 arg4 harg4 arg5 harg5 arg6 harg6 arg7 harg7 arg8 harg8 x0 x1 x2 x3 x4 x5)))) (kernelRun0_B.sl.r_729 (F := Ideal) c arg3 harg3 arg4 harg4 arg5 harg5 arg6 harg6 arg7 harg7 arg8 harg8 x0 x1 x2 x3 x4 x5) := rfl
theorem sh11_B : (kernelRun0_B.sl.r_799 (F := Ideal) c arg3 harg3 arg4 harg4 arg5 harg5 arg6 harg6 arg7 harg7 arg8 harg8 arg14 harg14 x0 x1 x2 x3 x4 x5 xs0) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 6 := by
  rw [wh11_B, sh9_B, wtr11_B, wha11_B, wl11_B, wr11_B, tlr1_B, wk11_B, tlk1_B, wv11_B, tlv1_B, wa11_B, tla1_B, wb11_B, tlb1_B]; rfl
theorem sy11_B : (kernelRun0_B.sl.r_798 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 5 := by
  rw [wy11_B, sh9_B, wrh11_B, wyh11_B, wl11_B, wr11_B, tlr1_B, wk11_B, tlk1_B, wv11_B, tlv1_B, wa11_B, tla1_B, wb11_B, tlb1_B]; rfl

theorem wr13_B : (kernelRun0_B.sl.v158 (F := Ideal) c arg3 harg3 x0) = slc 6 (kernelRun0_B.sl.r_1 (F := Ideal) c arg3 harg3 x0) := rfl
theorem wk13_B : (kernelRun0_B.sl.v174 (F := Ideal) c arg4 harg4 x1) = slc 6 (kernelRun0_B.sl.r_3 (F := Ideal) c arg4 harg4 x1) := rfl
theorem wv13_B : (kernelRun0_B.sl.v190 (F := Ideal) c arg5 harg5 x2) = slc 6 (kernelRun0_B.sl.r_5 (F := Ideal) c arg5 harg5 x2) := rfl
theorem wa13_B : (kernelRun0_B.sl.r_20 (F := Ideal) c arg7 harg7 x4) = slc 6 (kernelRun0_B.sl.r_9 (F := Ideal) c arg7 harg7 x4) := rfl
theorem wb13_B : (kernelRun0_B.sl.r_36 (F := Ideal) c arg7 harg7 arg8 harg8 x4 x5) = slc 6 (kernelRun0_B.sl.r_11 (F := Ideal) c arg7 harg7 arg8 harg8 x4 x5) := rfl
theorem wl13_B : (kernelRun0_B.sl.v140 (F := Ideal) c arg6 harg6 x3) = lw1 (arg6.view.read (Elt Ideal) (harg6.unread x3)) 6 := rfl
theorem wtr13_B : (kernelRun0_B.sl.r_747 (F := Ideal) c arg3 harg3 arg4 harg4 arg6 harg6 arg7 harg7 arg8 harg8 x0 x1 x3 x4 x5) = transV (kernelRun0_B.sl.v140 (F := Ideal) c arg6 harg6 x3) (kernelRun0_B.sl.v158 (F := Ideal) c arg3 harg3 x0) (kernelRun0_B.sl.v174 (F := Ideal) c arg4 harg4 x1) (kernelRun0_B.sl.r_20 (F := Ideal) c arg7 harg7 x4) (kernelRun0_B.sl.r_36 (F := Ideal) c arg7 harg7 arg8 harg8 x4 x5) := rfl
theorem wha13_B : (kernelRun0_B.sl.r_765 (F := Ideal) c arg3 harg3 arg4 harg4 arg5 harg5 arg6 harg6 arg7 harg7 arg8 harg8 x0 x1 x2 x3 x4 x5) = hAddV (kernelRun0_B.sl.v140 (F := Ideal) c arg6 harg6 x3) (kernelRun0_B.sl.v158 (F := Ideal) c arg3 harg3 x0) (kernelRun0_B.sl.v174 (F := Ideal) c arg4 harg4 x1) (kernelRun0_B.sl.v190 (F := Ideal) c arg5 harg5 x2) (kernelRun0_B.sl.r_20 (F := Ideal) c arg7 harg7 x4) (kernelRun0_B.sl.r_36 (F := Ideal) c arg7 harg7 arg8 harg8 x4 x5) := rfl
theorem wrh13_B : (kernelRun0_B.sl.r_708 (F := Ideal) c arg3 harg3 arg6 harg6 arg7 harg7 arg8 harg8 x0 x3 x4 x5) = rHatV (kernelRun0_B.sl.v140 (F := Ideal) c arg6 harg6 x3) (kernelRun0_B.sl.v158 (F := Ideal) c arg3 harg3 x0) (kernelRun0_B.sl.r_20 (F := Ideal) c arg7 harg7 x4) (kernelRun0_B.sl.r_36 (F := Ideal) c arg7 harg7 arg8 harg8 x4 x5) := rfl
theorem wyh13_B : (kernelRun0_B.sl.r_731 (F := Ideal) c arg3 harg3 arg4 harg4 arg5 harg5 arg6 harg6 arg7 harg7 arg8 harg8 x0 x1 x2 x3 x4 x5) = yHatV (kernelRun0_B.sl.v140 (F := Ideal) c arg6 harg6 x3) (kernelRun0_B.sl.v158 (F := Ideal) c arg3 harg3 x0) (kernelRun0_B.sl.v174 (F := Ideal) c arg4 harg4 x1) (kernelRun0_B.sl.v190 (F := Ideal) c arg5 harg5 x2) (kernelRun0_B.sl.r_20 (F := Ideal) c arg7 harg7 x4) (kernelRun0_B.sl.r_36 (F := Ideal) c arg7 harg7 arg8 harg8 x4 x5) := rfl
theorem wh13_B : (kernelRun0_B.sl.r_803 (F := Ideal) c arg3 harg3 arg4 harg4 arg5 harg5 arg6 harg6 arg7 harg7 arg8 harg8 arg14 harg14 x0 x1 x2 x3 x4 x5 xs0) = addf (mm3 (kernelRun0_B.sl.r_747 (F := Ideal) c arg3 harg3 arg4 harg4 arg6 harg6 arg7 harg7 arg8 harg8 x0 x1 x3 x4 x5) ((kernelRun0_B.sl.r_799 (F := Ideal) c arg3 harg3 arg4 harg4 arg5 harg5 arg6 harg6 arg7 harg7 arg8 harg8 arg14 harg14 x0 x1 x2 x3 x4 x5 xs0))) (kernelRun0_B.sl.r_765 (F := Ideal) c arg3 harg3 arg4 harg4 arg5 harg5 arg6 harg6 arg7 harg7 arg8 harg8 x0 x1 x2 x3 x4 x5) := rfl
theorem wy13_B : (kernelRun0_B.sl.r_802 (F := Ideal) c arg3 harg3 arg4 harg4 arg5 harg5 arg6 harg6 arg7 harg7 arg8 harg8 arg14 harg14 x0 x1 x2 x3 x4 x5 xs0) = addf (mm (kernelRun0_B.sl.r_708 (F := Ideal) c arg3 harg3 arg6 harg6 arg7 harg7 arg8 harg8 x0 x3 x4 x5) ((kernelRun0_B.sl.r_799 (F := Ideal) c arg3 harg3 arg4 harg4 arg5 harg5 arg6 harg6 arg7 harg7 arg8 harg8 arg14 harg14 x0 x1 x2 x3 x4 x5 xs0))) (kernelRun0_B.sl.r_731 (F := Ideal) c arg3 harg3 arg4 harg4 arg5 harg5 arg6 harg6 arg7 harg7 arg8 harg8 x0 x1 x2 x3 x4 x5) := rfl
theorem sh13_B : (kernelRun0_B.sl.r_803 (F := Ideal) c arg3 harg3 arg4 harg4 arg5 harg5 arg6 harg6 arg7 harg7 arg8 harg8 arg14 harg14 x0 x1 x2 x3 x4 x5 xs0) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 7 := by
  rw [wh13_B, sh11_B, wtr13_B, wha13_B, wl13_B, wr13_B, tlr1_B, wk13_B, tlk1_B, wv13_B, tlv1_B, wa13_B, tla1_B, wb13_B, tlb1_B]; rfl
theorem sy13_B : (kernelRun0_B.sl.r_802 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 6 := by
  rw [wy13_B, sh11_B, wrh13_B, wyh13_B, wl13_B, wr13_B, tlr1_B, wk13_B, tlk1_B, wv13_B, tlv1_B, wa13_B, tla1_B, wb13_B, tlb1_B]; rfl

theorem wr15_B : (kernelRun0_B.sl.v160 (F := Ideal) c arg3 harg3 x0) = slc 7 (kernelRun0_B.sl.r_1 (F := Ideal) c arg3 harg3 x0) := rfl
theorem wk15_B : (kernelRun0_B.sl.v176 (F := Ideal) c arg4 harg4 x1) = slc 7 (kernelRun0_B.sl.r_3 (F := Ideal) c arg4 harg4 x1) := rfl
theorem wv15_B : (kernelRun0_B.sl.v192 (F := Ideal) c arg5 harg5 x2) = slc 7 (kernelRun0_B.sl.r_5 (F := Ideal) c arg5 harg5 x2) := rfl
theorem wa15_B : (kernelRun0_B.sl.r_22 (F := Ideal) c arg7 harg7 x4) = slc 7 (kernelRun0_B.sl.r_9 (F := Ideal) c arg7 harg7 x4) := rfl
theorem wb15_B : (kernelRun0_B.sl.r_38 (F := Ideal) c arg7 harg7 arg8 harg8 x4 x5) = slc 7 (kernelRun0_B.sl.r_11 (F := Ideal) c arg7 harg7 arg8 harg8 x4 x5) := rfl
theorem wl15_B : (kernelRun0_B.sl.v144 (F := Ideal) c arg6 harg6 x3) = lw1 (arg6.view.read (Elt Ideal) (harg6.unread x3)) 7 := rfl
theorem wtr15_B : (kernelRun0_B.sl.r_749 (F := Ideal) c arg3 harg3 arg4 harg4 arg6 harg6 arg7 harg7 arg8 harg8 x0 x1 x3 x4 x5) = transV (kernelRun0_B.sl.v144 (F := Ideal) c arg6 harg6 x3) (kernelRun0_B.sl.v160 (F := Ideal) c arg3 harg3 x0) (kernelRun0_B.sl.v176 (F := Ideal) c arg4 harg4 x1) (kernelRun0_B.sl.r_22 (F := Ideal) c arg7 harg7 x4) (kernelRun0_B.sl.r_38 (F := Ideal) c arg7 harg7 arg8 harg8 x4 x5) := rfl
theorem wha15_B : (kernelRun0_B.sl.r_767 (F := Ideal) c arg3 harg3 arg4 harg4 arg5 harg5 arg6 harg6 arg7 harg7 arg8 harg8 x0 x1 x2 x3 x4 x5) = hAddV (kernelRun0_B.sl.v144 (F := Ideal) c arg6 harg6 x3) (kernelRun0_B.sl.v160 (F := Ideal) c arg3 harg3 x0) (kernelRun0_B.sl.v176 (F := Ideal) c arg4 harg4 x1) (kernelRun0_B.sl.v192 (F := Ideal) c arg5 harg5 x2) (kernelRun0_B.sl.r_22 (F := Ideal) c arg7 harg7 x4) (kernelRun0_B.sl.r_38 (F := Ideal) c arg7 harg7 arg8 harg8 x4 x5) := rfl
theorem wrh15_B : (kernelRun0_B.sl.r_712 (F := Ideal) c arg3 harg3 arg6 harg6 arg7 harg7 arg8 harg8 x0 x3 x4 x5) = rHatV (kernelRun0_B.sl.v144 (F := Ideal) c arg6 harg6 x3) (kernelRun0_B.sl.v160 (F := Ideal) c arg3 harg3 x0) (kernelRun0_B.sl.r_22 (F := Ideal) c arg7 harg7 x4) (kernelRun0_B.sl.r_38 (F := Ideal) c arg7 harg7 arg8 harg8 x4 x5) := rfl
theorem wyh15_B : (kernelRun0_B.sl.r_733 (F := Ideal) c arg3 harg3 arg4 harg4 arg5 harg5 arg6 harg6 arg7 harg7 arg8 harg8 x0 x1 x2 x3 x4 x5) = yHatV (kernelRun0_B.sl.v144 (F := Ideal) c arg6 harg6 x3) (kernelRun0_B.sl.v160 (F := Ideal) c arg3 harg3 x0) (kernelRun0_B.sl.v176 (F := Ideal) c arg4 harg4 x1) (kernelRun0_B.sl.v192 (F := Ideal) c arg5 harg5 x2) (kernelRun0_B.sl.r_22 (F := Ideal) c arg7 harg7 x4) (kernelRun0_B.sl.r_38 (F := Ideal) c arg7 harg7 arg8 harg8 x4 x5) := rfl
theorem wh15_B : (kernelRun0_B.sl.r_807 (F := Ideal) c arg3 harg3 arg4 harg4 arg5 harg5 arg6 harg6 arg7 harg7 arg8 harg8 arg14 harg14 x0 x1 x2 x3 x4 x5 xs0) = addf (mm3 (kernelRun0_B.sl.r_749 (F := Ideal) c arg3 harg3 arg4 harg4 arg6 harg6 arg7 harg7 arg8 harg8 x0 x1 x3 x4 x5) ((kernelRun0_B.sl.r_803 (F := Ideal) c arg3 harg3 arg4 harg4 arg5 harg5 arg6 harg6 arg7 harg7 arg8 harg8 arg14 harg14 x0 x1 x2 x3 x4 x5 xs0))) (kernelRun0_B.sl.r_767 (F := Ideal) c arg3 harg3 arg4 harg4 arg5 harg5 arg6 harg6 arg7 harg7 arg8 harg8 x0 x1 x2 x3 x4 x5) := rfl
theorem wy15_B : (kernelRun0_B.sl.r_806 (F := Ideal) c arg3 harg3 arg4 harg4 arg5 harg5 arg6 harg6 arg7 harg7 arg8 harg8 arg14 harg14 x0 x1 x2 x3 x4 x5 xs0) = addf (mm (kernelRun0_B.sl.r_712 (F := Ideal) c arg3 harg3 arg6 harg6 arg7 harg7 arg8 harg8 x0 x3 x4 x5) ((kernelRun0_B.sl.r_803 (F := Ideal) c arg3 harg3 arg4 harg4 arg5 harg5 arg6 harg6 arg7 harg7 arg8 harg8 arg14 harg14 x0 x1 x2 x3 x4 x5 xs0))) (kernelRun0_B.sl.r_733 (F := Ideal) c arg3 harg3 arg4 harg4 arg5 harg5 arg6 harg6 arg7 harg7 arg8 harg8 x0 x1 x2 x3 x4 x5) := rfl
theorem sh15_B : (kernelRun0_B.sl.r_807 (F := Ideal) c arg3 harg3 arg4 harg4 arg5 harg5 arg6 harg6 arg7 harg7 arg8 harg8 arg14 harg14 x0 x1 x2 x3 x4 x5 xs0) = hAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 8 := by
  rw [wh15_B, sh13_B, wtr15_B, wha15_B, wl15_B, wr15_B, tlr1_B, wk15_B, tlk1_B, wv15_B, tlv1_B, wa15_B, tla1_B, wb15_B, tlb1_B]; rfl
theorem sy15_B : (kernelRun0_B.sl.r_806 (F := Ideal) c arg3 harg3 arg4 harg4 arg5 harg5 arg6 harg6 arg7 harg7 arg8 harg8 arg14 harg14 x0 x1 x2 x3 x4 x5 xs0) = yAt (lw1 (arg6.view.read (Elt Ideal) (harg6.unread x3))) (tl1 (arg3.view.read (Elt Ideal) (harg3.unread x0))) (tl1 (arg4.view.read (Elt Ideal) (harg4.unread x1))) (tl1 (arg5.view.read (Elt Ideal) (harg5.unread x2))) (aAll (tl1 (arg7.view.read (Elt Ideal) (harg7.unread x4)))) (bAll (tl1 (arg7.view.read (Elt Ideal) (harg7.unread x4))) (tl1 (arg8.view.read (Elt Ideal) (harg8.unread x5)))) (st1 (arg14.view.read (Elt Ideal) (harg14.unread xs0))) 7 := by
  rw [wy15_B, sh13_B, wrh15_B, wyh15_B, wl15_B, wr15_B, tlr1_B, wk15_B, tlk1_B, wv15_B, tlv1_B, wa15_B, tla1_B, wb15_B, tlb1_B]; rfl

end Cert.Wkv
end
-- ==== Proof.WkvOutB.lean ====
module

public import proofs.«01_k».proof.Proof.WkvPairB

@[expose] public section

/-! The two stores of a point that continues a sequence. -/

set_option maxRecDepth 100000

noncomputable section

namespace Cert.Wkv

open Cert.Kernel6Ideal Cert.Kernel6Ideal.Gen Idealize.ShloMosaic Idealize.ShloMosaic.TcCoe

variable  (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .f32) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x512x256 .bf16) (harg13 : arg13.IsWhole) (arg14 : Memref sig .tc .vmem S2x128x128 .f32) (harg14 : arg14.IsWhole) (hc0 : ¬cond0_0 i)
    (x0 : Vec Ideal S1x512x256 .bf16) (x1 : Vec Ideal S1x512x256 .bf16) (x2 : Vec Ideal S1x512x256 .bf16) (x3 : Vec Ideal S1x512x256 .f32) (x4 : Vec Ideal S1x512x256 .bf16) (x5 : Vec Ideal S1x512x256 .bf16) (x6 : Vec Ideal S1x512x256 .bf16) (x7 : Vec Ideal S1x256 .f32) (x8 : Vec Ideal S1x256 .f32) (x9 : Vec Ideal S1x256 .f32) (xs0 : Vec Ideal S2x128x128 .f32)

theorem dlt0_B : (kernelRun0_B.sl.r_808 (F := Ideal) c arg3 harg3 arg4 harg4 arg5 harg5 arg6 harg6 arg7 harg7 arg8 harg8 arg14 harg14 x0 x1 x2 x3 x4 x5 xs0) = dlt (cat8 (kernelRun0_B.sl.r_769 (F := Ideal) c arg3 harg3 arg4 harg4 arg5 harg5 arg6 harg6 arg7 harg7 arg8 harg8 arg14 harg14 x0 x1 x2 x3 x4 x5 xs0) (kernelRun0_B.sl.r_774 (F := Ideal) c arg3 harg3 arg4 harg4 arg5 harg5 arg6 harg6 arg7 harg7 arg8 harg8 arg14 harg14 x0 x1 x2 x3 x4 x5 xs0) (kernelRun0_B.sl.r_780 (F := Ideal) c arg3 harg3 arg4 harg4 arg5 harg5 arg6 harg6 arg7 harg7 arg8 harg8 arg14 harg14 x0 x1 x2 x3 x4 x5 xs0) (kernelRun0_B.sl.r_783 (F := Ideal) c arg3 harg3 arg4 harg4 arg5 harg5 arg6 harg6 arg7 harg7 arg8 harg8 arg14 harg14 x0 x1 x2 x3 x4 x5 xs0) (kernelRun0_B.sl.r_789 (F := Ideal) c arg3 harg3 arg4 harg4 arg5 harg5 arg6 harg6 arg7 harg7 arg8 harg8 arg14 harg14 x0 x1 x2 x3 x4 x5 xs0) (kernelRun0_B.sl.r_796 (F := Ideal) c arg3 harg3 arg4 harg4 arg5 harg5 arg6 harg6 arg7 harg7 arg8 harg8 arg14 harg14 x0 x1 x2 x3 x4 x5 xs0) (kernelRun0_B.sl.r_800 (F := Ideal) c arg3 harg3 arg4 harg4 arg5 harg5 arg6 harg6 arg7 harg7 arg8 harg8 arg14 harg14 x0 x1 x2 x3 x4 x5 xs0) (kernelRun0_B.sl.r_804 (F := Ideal) c arg3 harg3 arg4 harg4 arg5 harg5 arg6 harg6 arg7 harg7 arg8 harg8 arg14 harg14 x0 x1 x2 x3 x4 x5 xs0)) := rfl
theorem gn0_B : (kernelRun0_B.sl.r_811 (F := Ideal) c arg3 harg3 arg4 harg4 arg5 harg5 arg6 harg6 arg7 harg7 arg8 harg8 arg10 harg10 arg11 harg11 arg12 harg12 arg14 harg14 x0 x1 x2 x3 x4 x5 x7 x8 x9 xs0) = addf (gnorm (cat8 (kernelRun0_B.sl.r_769 (F := Ideal) c arg3 harg3 arg4 harg4 arg5 harg5 arg6 harg6 arg7 harg7 arg8 harg8 arg14 harg14 x0 x1 x2 x3 x4 x5 xs0) (kernelRun0_B.sl.r_774 (F := Ideal) c arg3 harg3 arg4 harg4 arg5 harg5 arg6 harg6 arg7 harg7 arg8 harg8 arg14 harg14 x0 x1 x2 x3 x4 x5 xs0) (kernelRun0_B.sl.r_780 (F := Ideal) c arg3 harg3 arg4 harg4 arg5 harg5 arg6 harg6 arg7 harg7 arg8 harg8 arg14 harg14 x0 x1 x2 x3 x4 x5 xs0) (kernelRun0_B.sl.r_783 (F := Ideal) c arg3 harg3 arg4 harg4 arg5 harg5 arg6 harg6 arg7 harg7 arg8 harg8 arg14 harg14 x0 x1 x2 x3 x4 x5 xs0) (kernelRun0_B.sl.r_789 (F := Ideal) c arg3 harg3 arg4 harg4 arg5 harg5 arg6 harg6 arg7 harg7 arg8 harg8 arg14 harg14 x0 x1 x2 x3 x4 x5 xs0) (kernelRun0_B.sl.r_796 (F := Ideal) c arg3 harg3 arg4 harg4 arg5 harg5 arg6 harg6 arg7 harg7 arg8 harg8 arg14 harg14 x0 x1 x2 x3 x4 x5 xs0) (kernelRun0_B.sl.r_800 (F := Ideal) c arg3 harg3 arg4 harg4 arg5 harg5 arg6 harg6 arg7 harg7 arg8 harg8 arg14 harg14 x0 x1 x2 x3 x4 x5 xs0) (kernelRun0_B.sl.r_804 (F := Ideal) c arg3 harg3 arg4 harg4 arg5 harg5 arg6 harg6 arg7 harg7 arg8 harg8 arg14 harg14 x0 x1 x2 x3 x4 x5 xs0)) (rw0 (arg10.view.read (Elt Ideal) (harg10.unread x7))) (rw0 (arg11.view.read (Elt Ideal) (harg11.unread x8)))) (mulf (segSum (mulf (mulf (kernelRun0_B.sl.r (F := Ideal) c arg3 harg3 x0) (kernelRun0_B.sl.r_2 (F := Ideal) c arg4 harg4 x1)) (row1 (rw0 (arg12.view.read (Elt Ideal) (harg12.unread x9)))))) (kernelRun0_B.sl.r_4 (F := Ideal) c arg5 harg5 x2)) := rfl
theorem dlt1_B : (kernelRun0_B.sl.r_813 (F := Ideal) c arg3 harg3 arg4 harg4 arg5 harg5 arg6 harg6 arg7 harg7 arg8 harg8 arg14 harg14 x0 x1 x2 x3 x4 x5 xs0) = dlt (cat8 (kernelRun0_B.sl.r_771 (F := Ideal) c arg3 harg3 arg4 harg4 arg5 harg5 arg6 harg6 arg7 harg7 arg8 harg8 arg14 harg14 x0 x1 x2 x3 x4 x5 xs0) (kernelRun0_B.sl.r_776 (F := Ideal) c arg3 harg3 arg4 harg4 arg5 harg5 arg6 harg6 arg7 harg7 arg8 harg8 arg14 harg14 x0 x1 x2 x3 x4 x5 xs0) (kernelRun0_B.sl.r_781 (F := Ideal) c arg3 harg3 arg4 harg4 arg5 harg5 arg6 harg6 arg7 harg7 arg8 harg8 arg14 harg14 x0 x1 x2 x3 x4 x5 xs0) (kernelRun0_B.sl.r_788 (F := Ideal) c arg3 harg3 arg4 harg4 arg5 harg5 arg6 harg6 arg7 harg7 arg8 harg8 arg14 harg14 x0 x1 x2 x3 x4 x5 xs0) (kernelRun0_B.sl.r_791 (F := Ideal) c arg3 harg3 arg4 harg4 arg5 harg5 arg6 harg6 arg7 harg7 arg8 harg8 arg14 harg14 x0 x1 x2 x3 x4 x5 xs0) (kernelRun0_B.sl.r_798 (F := Ideal) c arg3 harg3 arg4 harg4 arg5 harg5 arg6 harg6 arg7 harg7 arg8 harg8 arg14 harg14 x0 x1 x2 x3 x4 x5 xs0) (kernelRun0_B.sl.r_802 (F := Ideal) c arg3 harg3 arg4 harg4 arg5 harg5 arg6 harg6 arg7 harg7 arg8 harg8 arg14 harg14 x0 x1 x2 x3 x4 x5 xs0) (kernelRun0_B.sl.r_806 (F := Ideal) c arg3 harg3 arg4 harg4 arg5 harg5 arg6 harg6 arg7 harg7 arg8 harg8 arg14 harg14 x0 x1 x2 x3 x4 x5 xs0)) := rfl
theorem gn1_B : (kernelRun0_B.sl.r_815 (F := Ideal) c arg3 harg3 arg4 harg4 arg5 harg5 arg6 harg6 arg7 harg7 arg8 harg8 arg10 harg10 arg11 harg11 arg14 harg14 x0 x1 x2 x3 x4 x5 x7 x8 xs0) = gnorm (cat8 (kernelRun0_B.sl.r_771 (F := Ideal) c arg3 harg3 arg4 harg4 arg5 harg5 arg6 harg6 arg7 harg7 arg8 harg8 arg14 harg14 x0 x1 x2 x3 x4 x5 xs0) (kernelRun0_B.sl.r_776 (F := Ideal) c arg3 harg3 arg4 harg4 arg5 harg5 arg6 harg6 arg7 harg7 arg8 harg8 arg14 harg14 x0 x1 x2 x3 x4 x5 xs0) (kernelRun0_B.sl.r_781 (F := Ideal) c arg3 harg3 arg4 harg4 arg5 harg5 arg6 harg6 arg7 harg7 arg8 harg8 arg14 harg14 x0 x1 x2 x3 x4 x5 xs0) (kernelRun0_B.sl.r_788 (F := Ideal) c arg3 harg3 arg4 harg4 arg5 harg5 arg6 harg6 arg7 harg7 arg8 harg8 arg14 harg14 x0 x1 x2 x3 x4 x5 xs0) (kernelRun0_B.sl.r_791 (F := Ideal) c arg3 harg3 arg4 harg4 arg5 harg5 arg6 harg6 arg7 harg7 arg8 harg8 arg14 harg14 x0 x1 x2 x3 x4 x5 xs0) (kernelRun0_B.sl.r_798 (F := Ideal) c arg3 harg3 arg4 harg4 arg5 harg5 arg6 harg6 arg7 harg7 arg8 harg8 arg14 harg14 x0 x1 x2 x3 x4 x5 xs0) (kernelRun0_B.sl.r_802 (F := Ideal) c arg3 harg3 arg4 harg4 arg5 harg5 arg6 harg6 arg7 harg7 arg8 harg8 arg14 harg14 x0 x1 x2 x3 x4 x5 xs0) (kernelRun0_B.sl.r_806 (F := Ideal) c arg3 harg3 arg4 harg4 arg5 harg5 arg6 harg6 arg7 harg7 arg8 harg8 arg14 harg14 x0 x1 x2 x3 x4 x5 xs0)) (rw1 (arg10.view.read (Elt Ideal) (harg10.unread x7))) (rw1 (arg11.view.read (Elt Ideal) (harg11.unread x8))) := rfl
theorem bo1_B : (kernelRun0_B.sl.r_816 (F := Ideal) c arg3 harg3 arg4 harg4 arg12 harg12 x0 x1 x9) = segSum (mulf (mulf (kernelRun0_B.sl.r_1 (F := Ideal) c arg3 harg3 x0) (kernelRun0_B.sl.r_3 (F := Ideal) c arg4 harg4 x1)) (row1 (rw1 (arg12.view.read (Elt Ideal) (harg12.unread x9))))) := rfl
theorem fin0_B : (kernelRun0_B.sl.r_805 (F := Ideal) c arg3 harg3 arg4 harg4 arg5 harg5 arg6 harg6 arg7 harg7 arg8 harg8 arg14 harg14 x0 x1 x2 x3 x4 x5 xs0) = ptH0 x0 x1 x2 x3 x4 x5 (st0 xs0) := by
  rw [sh14_B, harg14.read_unread xs0, harg3.read_unread x0, harg4.read_unread x1, harg5.read_unread x2, harg6.read_unread x3, harg7.read_unread x4, harg8.read_unread x5]; rfl
theorem fin1_B : (kernelRun0_B.sl.r_807 (F := Ideal) c arg3 harg3 arg4 harg4 arg5 harg5 arg6 harg6 arg7 harg7 arg8 harg8 arg14 harg14 x0 x1 x2 x3 x4 x5 xs0) = ptH1 x0 x1 x2 x3 x4 x5 (st1 xs0) := by
  rw [sh15_B, harg14.read_unread xs0, harg3.read_unread x0, harg4.read_unread x1, harg5.read_unread x2, harg6.read_unread x3, harg7.read_unread x4, harg8.read_unread x5]; rfl
theorem store0_B : k0_pay921 (kernelRun0_B.sl.r_811 (F := Ideal) c arg3 harg3 arg4 harg4 arg5 harg5 arg6 harg6 arg7 harg7 arg8 harg8 arg10 harg10 arg11 harg11 arg12 harg12 arg14 harg14 x0 x1 x2 x3 x4 x5 x7 x8 x9 xs0) (kernelRun0_B.sl.r_812 (F := Ideal) c arg9 harg9 x6) = ptO0 x0 x1 x2 x3 x4 x5 x6 x7 x8 x9 (st0 xs0) := by
  rw [gn0_B, sy0_B, sy2_B, sy4_B, sy6_B, sy8_B, sy10_B, sy12_B, sy14_B, tlr0_B, tlk0_B, tlv0_B, show (kernelRun0_B.sl.r_812 (F := Ideal) c arg9 harg9 x6) = shapeCast S512x128 (View.ld (Val := Elt Ideal) (arg9.view.read (Elt Ideal) (harg9.unread x6)) (Rect.unit ![0, 0, 0] S1x512x128.size inb_S1x512x256_S1x512x128_0_0_0)) shapeCasts_S1x512x128_S512x128 from rfl, harg14.read_unread xs0, harg3.read_unread x0, harg4.read_unread x1, harg5.read_unread x2, harg6.read_unread x3, harg7.read_unread x4, harg8.read_unread x5, harg9.read_unread x6, harg10.read_unread x7, harg11.read_unread x8, harg12.read_unread x9]; rfl
theorem store1_B : k0_pay1 (kernelRun0_B.sl.r_5 (F := Ideal) c arg5 harg5 x2) (kernelRun0_B.sl.r_815 (F := Ideal) c arg3 harg3 arg4 harg4 arg5 harg5 arg6 harg6 arg7 harg7 arg8 harg8 arg10 harg10 arg11 harg11 arg14 harg14 x0 x1 x2 x3 x4 x5 x7 x8 xs0) (kernelRun0_B.sl.r_816 (F := Ideal) c arg3 harg3 arg4 harg4 arg12 harg12 x0 x1 x9) (View.readAt (Elt Ideal) arg9.view (Rect.unit (s := S1x512x256) ![0, 0, 128] S1x512x128.size inb_S1x512x256_S1x512x128_0_0_128).toLoadRect (harg9.unread x6)) = ptO1 x0 x1 x2 x3 x4 x5 x6 x7 x8 x9 (st1 xs0) := by
  rw [gn1_B, bo1_B, sy1_B, sy3_B, sy5_B, sy7_B, sy9_B, sy11_B, sy13_B, sy15_B, tlr1_B, tlk1_B, tlv1_B, View.readAt_eq_ld, harg14.read_unread xs0, harg3.read_unread x0, harg4.read_unread x1, harg5.read_unread x2, harg6.read_unread x3, harg7.read_unread x4, harg8.read_unread x5, harg9.read_unread x6, harg10.read_unread x7, harg11.read_unread x8, harg12.read_unread x9]; rfl
theorem scratch_B : sout0_B_0 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = View.canon (Val := Elt Ideal) (s := S2x128x128) (e := .f32) [⟨Rect.unit ![1, 0, 0] S1x128x128.size inb_S2x128x128_S1x128x128_1_0_0, shapeCast S1x128x128 (ptH1 x0 x1 x2 x3 x4 x5 (st1 xs0)) shapeCasts_S128x128_S1x128x128⟩, ⟨Rect.unit ![0, 0, 0] S1x128x128.size inb_S2x128x128_S1x128x128_0_0_0, shapeCast S1x128x128 (ptH0 x0 x1 x2 x3 x4 x5 (st0 xs0)) shapeCasts_S128x128_S1x128x128⟩] := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  rw [fin0_B, fin1_B]
  rfl
theorem written_B : out0_B_10 (F := Ideal) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = View.canon (Val := Elt Ideal) (s := S1x512x256) (e := .bf16)
    [⟨Rect.unit ![0, 0, 128] S1x512x128.size inb_S1x512x256_S1x512x128_0_0_128, ptO1 x0 x1 x2 x3 x4 x5 x6 x7 x8 x9 (st1 xs0)⟩,
     ⟨Rect.unit ![0, 0, 0] S1x512x128.size inb_S1x512x256_S1x512x128_0_0_0, ptO0 x0 x1 x2 x3 x4 x5 x6 x7 x8 x9 (st0 xs0)⟩] := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  have h0 := store0_B c arg3 harg3 arg4 harg4 arg5 harg5 arg6 harg6 arg7 harg7 arg8 harg8 arg9 harg9 arg10 harg10 arg11 harg11 arg12 harg12 arg14 harg14 x0 x1 x2 x3 x4 x5 x6 x7 x8 x9 xs0
  have h1 := store1_B c arg3 harg3 arg4 harg4 arg5 harg5 arg6 harg6 arg7 harg7 arg8 harg8 arg9 harg9 arg10 harg10 arg11 harg11 arg12 harg12 arg14 harg14 x0 x1 x2 x3 x4 x5 x6 x7 x8 x9 xs0
  rw [h0]
  refine Eq.trans ?_ (congrArg (fun w => View.canon (Val := Elt Ideal) (s := S1x512x256) (e := .bf16) [⟨Rect.unit ![0, 0, 128] S1x512x128.size inb_S1x512x256_S1x512x128_0_0_128, w⟩,
     ⟨Rect.unit ![0, 0, 0] S1x512x128.size inb_S1x512x256_S1x512x128_0_0_0, ptO0 x0 x1 x2 x3 x4 x5 x6 x7 x8 x9 (st0 xs0)⟩]) h1)
  rfl

end Cert.Wkv
end
-- ==== Proof.WkvGrid.lean ====
module

public import proofs.«01_k».proof.Proof.Gen.Kernel6Ideal.Value
public import proofs.«01_k».proof.Proof.WkvOutA
public import proofs.«01_k».proof.Proof.WkvOutB
public import proofs.«01_k».proof.Proof.WkvStep
public import proofs.«01_k».proof.Proof.WkvRef
public import Idealize.ShloMosaic.Lib.StableHlo.ReadAt

@[expose] public section

/-! The kernel's grid: the blocks of a point, the scratch along a sequence, and the final array. -/

noncomputable section

namespace Cert.WkvGrid

open Cert.Kernel6Ideal Cert.Kernel6Ideal.Gen Idealize.ShloMosaic Idealize.ShloMosaic.TcCoe Idealize.SL.Sem
open Cert.Wkv (B16 B32 BSt zst quad Raw Blk StR outS scratch_A scratch_B written_A written_B scratch_eq written_eq)
open Cert.WkvRef (chan Big rowsOf rowsOf_eq rawOf spec)

theorem index0 : ∀ t : Fin cfg0.N, win0_0.index t 0 = t.val / 16 ∧ win0_0.index t 1 = t.val % 4 ∧ win0_0.index t 2 = t.val / 4 % 4 := by decide +kernel
theorem index1 : ∀ t : Fin cfg0.N, win0_1.index t 0 = t.val / 16 ∧ win0_1.index t 1 = t.val % 4 ∧ win0_1.index t 2 = t.val / 4 % 4 := by decide +kernel
theorem index2 : ∀ t : Fin cfg0.N, win0_2.index t 0 = t.val / 16 ∧ win0_2.index t 1 = t.val % 4 ∧ win0_2.index t 2 = t.val / 4 % 4 := by decide +kernel
theorem index3 : ∀ t : Fin cfg0.N, win0_3.index t 0 = t.val / 16 ∧ win0_3.index t 1 = t.val % 4 ∧ win0_3.index t 2 = t.val / 4 % 4 := by decide +kernel
theorem index4 : ∀ t : Fin cfg0.N, win0_4.index t 0 = t.val / 16 ∧ win0_4.index t 1 = t.val % 4 ∧ win0_4.index t 2 = t.val / 4 % 4 := by decide +kernel
theorem index5 : ∀ t : Fin cfg0.N, win0_5.index t 0 = t.val / 16 ∧ win0_5.index t 1 = t.val % 4 ∧ win0_5.index t 2 = t.val / 4 % 4 := by decide +kernel
theorem index6 : ∀ t : Fin cfg0.N, win0_6.index t 0 = t.val / 16 ∧ win0_6.index t 1 = t.val % 4 ∧ win0_6.index t 2 = t.val / 4 % 4 := by decide +kernel
theorem index10 : ∀ t : Fin cfg0.N, win0_10.index t 0 = t.val / 16 ∧ win0_10.index t 1 = t.val % 4 ∧ win0_10.index t 2 = t.val / 4 % 4 := by decide +kernel
theorem index7 : ∀ t : Fin cfg0.N, win0_7.index t 0 = 0 ∧ win0_7.index t 1 = t.val / 4 % 4 := by decide +kernel
theorem index8 : ∀ t : Fin cfg0.N, win0_8.index t 0 = 0 ∧ win0_8.index t 1 = t.val / 4 % 4 := by decide +kernel
theorem index9 : ∀ t : Fin cfg0.N, win0_9.index t 0 = 0 ∧ win0_9.index t 1 = t.val / 4 % 4 := by decide +kernel

theorem lt_points (t : Fin cfg0.N) : t.val < 512 := lt_of_lt_of_eq t.isLt N_0

/-- The sequence, token and head of a point's block. -/
def seqOf (t : Fin cfg0.N) : Fin 32 := ⟨t.val / 16, by have := lt_points t; omega⟩
def tokOf (t : Fin cfg0.N) (s : Fin 512) : Fin 2048 := ⟨512 * (t.val % 4) + s.val, by omega⟩
def headOf (t : Fin cfg0.N) (p h : Fin 2) : Fin 16 := ⟨4 * (t.val / 4 % 4) + (2 * p.val + h.val), by omega⟩

variable (m : (ℓ : Loc nD τ sig) → Buf (Elt Ideal) ℓ)

theorem blk0 (c : Dev nD) (t : Fin cfg0.N) (p h : Fin 2) (s : Fin 512) (j : Fin 64) :
    (iblk m c 0 t : B16) (ix3 0 s (quad p h j)) = m ((c : Thread nD τ).loc main_arg0) (ix3 (seqOf t) (tokOf t s) (chan (headOf t p h) j)) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 1 + 1 * 0 = t.val / 16; rw [hi.1]; omega
  | ⟨1, _⟩ => show win0_0.index t 1 * 512 + 1 * s.val = 512 * (t.val % 4) + s.val; rw [hi.2.1]; omega
  | ⟨2, _⟩ => show win0_0.index t 2 * 256 + 1 * (128 * p.val + (64 * h.val + j.val)) = (4 * (t.val / 4 % 4) + (2 * p.val + h.val)) * 64 + j.val; rw [hi.2.2]; omega

theorem blk1 (c : Dev nD) (t : Fin cfg0.N) (p h : Fin 2) (s : Fin 512) (j : Fin 64) :
    (iblk m c 1 t : B16) (ix3 0 s (quad p h j)) = m ((c : Thread nD τ).loc main_arg1) (ix3 (seqOf t) (tokOf t s) (chan (headOf t p h) j)) := by
  have hi := index1 t
  rw [← V_main_arg1 m c]
  unfold iblk
  rw [View.read_apply]
  show V m c main_arg1 _ = V m c main_arg1 _
  congr 1
  funext a
  apply Fin.ext
  match a with
  | ⟨0, _⟩ => show win0_1.index t 0 * 1 + 1 * 0 = t.val / 16; rw [hi.1]; omega
  | ⟨1, _⟩ => show win0_1.index t 1 * 512 + 1 * s.val = 512 * (t.val % 4) + s.val; rw [hi.2.1]; omega
  | ⟨2, _⟩ => show win0_1.index t 2 * 256 + 1 * (128 * p.val + (64 * h.val + j.val)) = (4 * (t.val / 4 % 4) + (2 * p.val + h.val)) * 64 + j.val; rw [hi.2.2]; omega

theorem blk2 (c : Dev nD) (t : Fin cfg0.N) (p h : Fin 2) (s : Fin 512) (j : Fin 64) :
    (iblk m c 2 t : B16) (ix3 0 s (quad p h j)) = m ((c : Thread nD τ).loc main_arg2) (ix3 (seqOf t) (tokOf t s) (chan (headOf t p h) j)) := by
  have hi := index2 t
  rw [← V_main_arg2 m c]
  unfold iblk
  rw [View.read_apply]
  show V m c main_arg2 _ = V m c main_arg2 _
  congr 1
  funext a
  apply Fin.ext
  match a with
  | ⟨0, _⟩ => show win0_2.index t 0 * 1 + 1 * 0 = t.val / 16; rw [hi.1]; omega
  | ⟨1, _⟩ => show win0_2.index t 1 * 512 + 1 * s.val = 512 * (t.val % 4) + s.val; rw [hi.2.1]; omega
  | ⟨2, _⟩ => show win0_2.index t 2 * 256 + 1 * (128 * p.val + (64 * h.val + j.val)) = (4 * (t.val / 4 % 4) + (2 * p.val + h.val)) * 64 + j.val; rw [hi.2.2]; omega

theorem blk3 (c : Dev nD) (t : Fin cfg0.N) (p h : Fin 2) (s : Fin 512) (j : Fin 64) :
    (iblk m c 3 t : B32) (ix3 0 s (quad p h j)) = m ((c : Thread nD τ).loc main_arg3) (ix3 (seqOf t) (tokOf t s) (chan (headOf t p h) j)) := by
  have hi := index3 t
  rw [← V_main_arg3 m c]
  unfold iblk
  rw [View.read_apply]
  show V m c main_arg3 _ = V m c main_arg3 _
  congr 1
  funext a
  apply Fin.ext
  match a with
  | ⟨0, _⟩ => show win0_3.index t 0 * 1 + 1 * 0 = t.val / 16; rw [hi.1]; omega
  | ⟨1, _⟩ => show win0_3.index t 1 * 512 + 1 * s.val = 512 * (t.val % 4) + s.val; rw [hi.2.1]; omega
  | ⟨2, _⟩ => show win0_3.index t 2 * 256 + 1 * (128 * p.val + (64 * h.val + j.val)) = (4 * (t.val / 4 % 4) + (2 * p.val + h.val)) * 64 + j.val; rw [hi.2.2]; omega

theorem blk4 (c : Dev nD) (t : Fin cfg0.N) (p h : Fin 2) (s : Fin 512) (j : Fin 64) :
    (iblk m c 4 t : B16) (ix3 0 s (quad p h j)) = m ((c : Thread nD τ).loc main_arg4) (ix3 (seqOf t) (tokOf t s) (chan (headOf t p h) j)) := by
  have hi := index4 t
  rw [← V_main_arg4 m c]
  unfold iblk
  rw [View.read_apply]
  show V m c main_arg4 _ = V m c main_arg4 _
  congr 1
  funext a
  apply Fin.ext
  match a with
  | ⟨0, _⟩ => show win0_4.index t 0 * 1 + 1 * 0 = t.val / 16; rw [hi.1]; omega
  | ⟨1, _⟩ => show win0_4.index t 1 * 512 + 1 * s.val = 512 * (t.val % 4) + s.val; rw [hi.2.1]; omega
  | ⟨2, _⟩ => show win0_4.index t 2 * 256 + 1 * (128 * p.val + (64 * h.val + j.val)) = (4 * (t.val / 4 % 4) + (2 * p.val + h.val)) * 64 + j.val; rw [hi.2.2]; omega

theorem blk5 (c : Dev nD) (t : Fin cfg0.N) (p h : Fin 2) (s : Fin 512) (j : Fin 64) :
    (iblk m c 5 t : B16) (ix3 0 s (quad p h j)) = m ((c : Thread nD τ).loc main_arg5) (ix3 (seqOf t) (tokOf t s) (chan (headOf t p h) j)) := by
  have hi := index5 t
  rw [← V_main_arg5 m c]
  unfold iblk
  rw [View.read_apply]
  show V m c main_arg5 _ = V m c main_arg5 _
  congr 1
  funext a
  apply Fin.ext
  match a with
  | ⟨0, _⟩ => show win0_5.index t 0 * 1 + 1 * 0 = t.val / 16; rw [hi.1]; omega
  | ⟨1, _⟩ => show win0_5.index t 1 * 512 + 1 * s.val = 512 * (t.val % 4) + s.val; rw [hi.2.1]; omega
  | ⟨2, _⟩ => show win0_5.index t 2 * 256 + 1 * (128 * p.val + (64 * h.val + j.val)) = (4 * (t.val / 4 % 4) + (2 * p.val + h.val)) * 64 + j.val; rw [hi.2.2]; omega

theorem blk6 (c : Dev nD) (t : Fin cfg0.N) (p h : Fin 2) (s : Fin 512) (j : Fin 64) :
    (iblk m c 6 t : B16) (ix3 0 s (quad p h j)) = m ((c : Thread nD τ).loc main_arg6) (ix3 (seqOf t) (tokOf t s) (chan (headOf t p h) j)) := by
  have hi := index6 t
  rw [← V_main_arg6 m c]
  unfold iblk
  rw [View.read_apply]
  show V m c main_arg6 _ = V m c main_arg6 _
  congr 1
  funext a
  apply Fin.ext
  match a with
  | ⟨0, _⟩ => show win0_6.index t 0 * 1 + 1 * 0 = t.val / 16; rw [hi.1]; omega
  | ⟨1, _⟩ => show win0_6.index t 1 * 512 + 1 * s.val = 512 * (t.val % 4) + s.val; rw [hi.2.1]; omega
  | ⟨2, _⟩ => show win0_6.index t 2 * 256 + 1 * (128 * p.val + (64 * h.val + j.val)) = (4 * (t.val / 4 % 4) + (2 * p.val + h.val)) * 64 + j.val; rw [hi.2.2]; omega

theorem host7 (c : Dev nD) (j : Fin 1024) : V m c main_v0 (ix2 0 j) = m ((c : Thread nD τ).loc main_arg7) (ix1 j) := by
  unfold V
  after_reads_at

theorem blk7 (c : Dev nD) (t : Fin cfg0.N) (p h : Fin 2) (j : Fin 64) :
    (iblk m c 7 t : Vec Ideal S1x256 .f32) (ix2 0 (quad p h j)) = m ((c : Thread nD τ).loc main_arg7) (ix1 (chan (headOf t p h) j)) := by
  refine Eq.trans ?_ (host7 m c _)
  have hi := index7 t
  unfold iblk
  rw [View.read_apply]
  show V m c main_v0 _ = V m c main_v0 _
  congr 1
  funext a
  apply Fin.ext
  match a with
  | ⟨0, _⟩ => show win0_7.index t 0 * 1 + 1 * 0 = 0; rw [hi.1]
  | ⟨1, _⟩ => show win0_7.index t 1 * 256 + 1 * (128 * p.val + (64 * h.val + j.val)) = (4 * (t.val / 4 % 4) + (2 * p.val + h.val)) * 64 + j.val; rw [hi.2]; omega

theorem host8 (c : Dev nD) (j : Fin 1024) : V m c main_v1 (ix2 0 j) = m ((c : Thread nD τ).loc main_arg8) (ix1 j) := by
  unfold V
  after_reads_at

theorem blk8 (c : Dev nD) (t : Fin cfg0.N) (p h : Fin 2) (j : Fin 64) :
    (iblk m c 8 t : Vec Ideal S1x256 .f32) (ix2 0 (quad p h j)) = m ((c : Thread nD τ).loc main_arg8) (ix1 (chan (headOf t p h) j)) := by
  refine Eq.trans ?_ (host8 m c _)
  have hi := index8 t
  unfold iblk
  rw [View.read_apply]
  show V m c main_v1 _ = V m c main_v1 _
  congr 1
  funext a
  apply Fin.ext
  match a with
  | ⟨0, _⟩ => show win0_8.index t 0 * 1 + 1 * 0 = 0; rw [hi.1]
  | ⟨1, _⟩ => show win0_8.index t 1 * 256 + 1 * (128 * p.val + (64 * h.val + j.val)) = (4 * (t.val / 4 % 4) + (2 * p.val + h.val)) * 64 + j.val; rw [hi.2]; omega

theorem host9 (c : Dev nD) (j : Fin 1024) : V m c main_v2 (ix2 0 j) = m ((c : Thread nD τ).loc main_arg9) (ix1 j) := by
  unfold V
  after_reads_at

theorem blk9 (c : Dev nD) (t : Fin cfg0.N) (p h : Fin 2) (j : Fin 64) :
    (iblk m c 9 t : Vec Ideal S1x256 .f32) (ix2 0 (quad p h j)) = m ((c : Thread nD τ).loc main_arg9) (ix1 (chan (headOf t p h) j)) := by
  refine Eq.trans ?_ (host9 m c _)
  have hi := index9 t
  unfold iblk
  rw [View.read_apply]
  show V m c main_v2 _ = V m c main_v2 _
  congr 1
  funext a
  apply Fin.ext
  match a with
  | ⟨0, _⟩ => show win0_9.index t 0 * 1 + 1 * 0 = 0; rw [hi.1]
  | ⟨1, _⟩ => show win0_9.index t 1 * 256 + 1 * (128 * p.val + (64 * h.val + j.val)) = (4 * (t.val / 4 % 4) + (2 * p.val + h.val)) * 64 + j.val; rw [hi.2]; omega

section
variable (c : Dev nD)
variable (h0 : Cert.WkvRef.Fin' (m ((c : Thread nD τ).loc main_arg0))) (h1 : Cert.WkvRef.Fin' (m ((c : Thread nD τ).loc main_arg1))) (h2 : Cert.WkvRef.Fin' (m ((c : Thread nD τ).loc main_arg2))) (h3 : Cert.WkvRef.Fin' (m ((c : Thread nD τ).loc main_arg3))) (h4 : Cert.WkvRef.Fin' (m ((c : Thread nD τ).loc main_arg4))) (h5 : Cert.WkvRef.Fin' (m ((c : Thread nD τ).loc main_arg5)))

/-- The real rows of a point's heads. -/
def rawsAt (t : Fin cfg0.N) (p h : Fin 2) : Raw := rawOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t) (headOf t p h)

include h0 h1 h2 h3 h4 h5

theorem blocks (t : Fin cfg0.N) : Blk (rawsAt m c t) (512 * (t.val % 4)) (iblk m c 0 t) (iblk m c 1 t) (iblk m c 2 t) (iblk m c 3 t) (iblk m c 4 t) (iblk m c 5 t) where
  r := fun p h s j => (blk0 m c t p h s j).trans (rowsOf_eq h0 _ (tokOf t s) _ j)
  k := fun p h s j => (blk1 m c t p h s j).trans (rowsOf_eq h1 _ (tokOf t s) _ j)
  v := fun p h s j => (blk2 m c t p h s j).trans (rowsOf_eq h2 _ (tokOf t s) _ j)
  l := fun p h s j => (blk3 m c t p h s j).trans (rowsOf_eq h3 _ (tokOf t s) _ j)
  kk := fun p h s j => (blk4 m c t p h s j).trans (rowsOf_eq h4 _ (tokOf t s) _ j)
  a := fun p h s j => (blk5 m c t p h s j).trans (rowsOf_eq h5 _ (tokOf t s) _ j)

theorem rawsAt_eq (t u : Fin cfg0.N) (h : t.val / 4 = u.val / 4) : rawsAt m c t = rawsAt m c u := by
  have a : seqOf t = seqOf u := Fin.ext (by show t.val / 16 = u.val / 16; omega)
  funext p h'
  have b : headOf t p h' = headOf u p h' := Fin.ext (by show 4 * (t.val / 4 % 4) + _ = 4 * (u.val / 4 % 4) + _; rw [h])
  unfold rawsAt
  rw [a, b]

theorem state : ∀ (n : ℕ) (hn : n < cfg0.N), StR (outsAt0 m c n hn).2 (fun p h => (rawsAt m c ⟨n, hn⟩ p h).strm.H (512 * (n % 4) + 512)) := by
  intro n
  induction n with
  | zero =>
    intro hn
    have e := outsAt0_A m c ⟨0, hn⟩ rfl
    dsimp only at e
    rw [e]
    dsimp only
    rw [scratch_A]
    exact scratch_eq (blocks m c h0 h1 h2 h3 h4 h5 ⟨0, hn⟩) StR.zero _
  | succ n ih =>
    intro hn
    by_cases h : (n + 1) % 4 = 0
    · have e := outsAt0_A m c ⟨n + 1, hn⟩ h
      dsimp only at e
      rw [e]
      dsimp only
      rw [scratch_A]
      refine scratch_eq (blocks m c h0 h1 h2 h3 h4 h5 ⟨n + 1, hn⟩) ?_ _
      dsimp only
      rw [h]
      exact StR.zero
    · have e := outsAt0_B m c ⟨n + 1, hn⟩ h
      dsimp only at e
      rw [e]
      dsimp only
      rw [scratch_B]
      refine scratch_eq (blocks m c h0 h1 h2 h3 h4 h5 ⟨n + 1, hn⟩) ?_ _
      have g := ih (Nat.lt_of_succ_lt hn)
      rw [rawsAt_eq m c h0 h1 h2 h3 h4 h5 ⟨n, Nat.lt_of_succ_lt hn⟩ ⟨n + 1, hn⟩ (by show n / 4 = (n + 1) / 4; omega), show 512 * (n % 4) + 512 = 512 * ((n + 1) % 4) by omega] at g
      exact g

theorem before (t : Fin cfg0.N) (h : ¬t.val % 4 = 0) : StR (outsAt0 m c (t.val - 1) (Nat.lt_of_le_of_lt (Nat.sub_le _ _) t.isLt)).2
    (fun p h => (rawsAt m c t p h).strm.H (512 * (t.val % 4))) := by
  have g := state m c h0 h1 h2 h3 h4 h5 (t.val - 1) (Nat.lt_of_le_of_lt (Nat.sub_le _ _) t.isLt)
  rw [rawsAt_eq m c h0 h1 h2 h3 h4 h5 ⟨t.val - 1, _⟩ t (by show (t.val - 1) / 4 = t.val / 4; omega), show 512 * ((t.val - 1) % 4) + 512 = 512 * (t.val % 4) by omega] at g
  exact g

theorem spec_congr (t : Fin cfg0.N) (p h : Fin 2) (s : Fin 512) (j : Fin 64) :
    outS (fun l => (((rawsAt m c t p h).strm.y (512 * (t.val % 4) + s.val) l : ℝ) : EReal)) (fun l => (iblk m c 0 t : B16) (ix3 0 s (quad p h l)))
        (fun l => (iblk m c 1 t : B16) (ix3 0 s (quad p h l))) (fun l => (iblk m c 2 t : B16) (ix3 0 s (quad p h l))) (fun l => (iblk m c 6 t : B16) (ix3 0 s (quad p h l)))
        (fun l => (iblk m c 7 t : Vec Ideal S1x256 .f32) (ix2 0 (quad p h l))) (fun l => (iblk m c 8 t : Vec Ideal S1x256 .f32) (ix2 0 (quad p h l))) (fun l => (iblk m c 9 t : Vec Ideal S1x256 .f32) (ix2 0 (quad p h l))) j
      = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (seqOf t) (tokOf t s) (headOf t p h) j := by
  simp only [blk0 m c t, blk1 m c t, blk2 m c t, blk6 m c t, blk7 m c t, blk8 m c t, blk9 m c t]
  rfl

theorem written (t : Fin cfg0.N) (p h : Fin 2) (s : Fin 512) (j : Fin 64) :
    ((outsAt0 m c t.val t.isLt).1 : B16) (ix3 0 s (quad p h j)) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (seqOf t) (tokOf t s) (headOf t p h) j := by
  refine Eq.trans ?_ (spec_congr m c h0 h1 h2 h3 h4 h5 t p h s j)
  by_cases hc : t.val % 4 = 0
  · rw [outsAt0_A m c t hc]
    dsimp only
    rw [written_A]
    refine written_eq (blocks m c h0 h1 h2 h3 h4 h5 t) ?_ (iblk m c 6 t) (iblk m c 7 t) (iblk m c 8 t) (iblk m c 9 t) p s h j
    rw [hc]
    exact StR.zero
  · rw [outsAt0_B m c t hc]
    dsimp only
    rw [written_B]
    exact written_eq (blocks m c h0 h1 h2 h3 h4 h5 t) (before m c h0 h1 h2 h3 h4 h5 t hc) (iblk m c 6 t) (iblk m c 7 t) (iblk m c 8 t) (iblk m c 9 t) p s h j

omit h0 h1 h2 h3 h4 h5 in
theorem mem_block (t : Fin cfg0.N) (s : Fin 512) (p h : Fin 2) (j : Fin 64) :
    (win0_10.blk t).view.emb (ix3 0 s (quad p h j)) = ix3 (seqOf t) (tokOf t s) (chan (headOf t p h) j) := by
  have hi := index10 t
  funext a
  apply Fin.ext
  match a with
  | ⟨0, _⟩ => show win0_10.index t 0 * 1 + 1 * 0 = t.val / 16; rw [hi.1]; omega
  | ⟨1, _⟩ => show win0_10.index t 1 * 512 + 1 * s.val = 512 * (t.val % 4) + s.val; rw [hi.2.1]; omega
  | ⟨2, _⟩ => show win0_10.index t 2 * 256 + 1 * (128 * p.val + (64 * h.val + j.val)) = (4 * (t.val / 4 % 4) + (2 * p.val + h.val)) * 64 + j.val; rw [hi.2.2]; omega

omit h0 h1 h2 h3 h4 h5 in
theorem split_block (y : S1x512x256.Idx) : ∃ (s : Fin 512) (p h : Fin 2) (j : Fin 64), y = ix3 0 s (quad p h j) := by
  have hy : (y 2).val < 256 := (y 2).isLt
  refine ⟨y 1, ⟨(y 2).val / 128, by omega⟩, ⟨(y 2).val / 64 % 2, by omega⟩, ⟨(y 2).val % 64, by omega⟩, funext fun a => Fin.ext ?_⟩
  match a with
  | ⟨0, _⟩ => have : (y 0).val < 1 := (y 0).isLt; show (y 0).val = 0; omega
  | ⟨1, _⟩ => rfl
  | ⟨2, _⟩ => show (y 2).val = 128 * ((y 2).val / 128) + (64 * ((y 2).val / 64 % 2) + (y 2).val % 64); omega

/-- The whole result. -/
def result : S32x2048x1024.Idx → EReal := fun i =>
  spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) ⟨(i 2).val / 64, by have : (i 2).val < 1024 := (i 2).isLt; omega⟩ ⟨(i 2).val % 64, Nat.mod_lt _ (by decide)⟩

omit h0 h1 h2 h3 h4 h5 in
theorem result_apply (b : Fin 32) (t : Fin 2048) (h : Fin 16) (j : Fin 64) :
    result m c (ix3 b t (chan h j)) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t h j := by
  have a : (⟨(chan h j).val / 64, by omega⟩ : Fin 16) = h := Fin.ext (by show (h.val * 64 + j.val) / 64 = h.val; omega)
  have a' : (⟨(chan h j).val % 64, Nat.mod_lt _ (by decide)⟩ : Fin 64) = j := Fin.ext (by show (h.val * 64 + j.val) % 64 = j.val; omega)
  show spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b t ⟨(chan h j).val / 64, _⟩ ⟨(chan h j).val % 64, _⟩ = _
  rw [a, a']

omit h0 h1 h2 h3 h4 h5 in
theorem covered (i : S32x2048x1024.Idx) : ∃ t : Fin cfg0.N, (cfg0.win 10).flush t = true ∧ i ∈ ((cfg0.win 10).blk t).view.set := by
  have hb : (i 0).val < 32 := (i 0).isLt
  have ht : (i 1).val < 2048 := (i 1).isLt
  have hj : (i 2).val < 1024 := (i 2).isLt
  have hN : cfg0.N = 512 := N_0
  refine ⟨⟨16 * (i 0).val + 4 * ((i 2).val / 256) + (i 1).val / 512, by omega⟩, flush0_10 _, ?_⟩
  have e := mem_block ⟨16 * (i 0).val + 4 * ((i 2).val / 256) + (i 1).val / 512, by omega⟩ ⟨(i 1).val % 512, by omega⟩ ⟨(i 2).val / 128 % 2, by omega⟩ ⟨(i 2).val / 64 % 2, by omega⟩
    ⟨(i 2).val % 64, by omega⟩
  have e' : i = ix3 (seqOf ⟨16 * (i 0).val + 4 * ((i 2).val / 256) + (i 1).val / 512, by omega⟩) (tokOf ⟨16 * (i 0).val + 4 * ((i 2).val / 256) + (i 1).val / 512, by omega⟩ ⟨(i 1).val % 512, by omega⟩)
      (chan (headOf ⟨16 * (i 0).val + 4 * ((i 2).val / 256) + (i 1).val / 512, by omega⟩ ⟨(i 2).val / 128 % 2, by omega⟩ ⟨(i 2).val / 64 % 2, by omega⟩) ⟨(i 2).val % 64, by omega⟩) := by
    funext a
    apply Fin.ext
    match a with
    | ⟨0, _⟩ => show (i 0).val = (16 * (i 0).val + 4 * ((i 2).val / 256) + (i 1).val / 512) / 16; omega
    | ⟨1, _⟩ => show (i 1).val = 512 * ((16 * (i 0).val + 4 * ((i 2).val / 256) + (i 1).val / 512) % 4) + (i 1).val % 512; omega
    | ⟨2, _⟩ =>
      show (i 2).val = (4 * ((16 * (i 0).val + 4 * ((i 2).val / 256) + (i 1).val / 512) / 4 % 4) + (2 * ((i 2).val / 128 % 2) + (i 2).val / 64 % 2)) * 64 + (i 2).val % 64
      omega
  exact Eq.mp (congrArg (fun z => z ∈ (win0_10.blk _).view.set) (e.trans e'.symm)) (View.emb_mem_set _ _)

theorem final : (dats m 0 c).arrAt 10 cfg0.N = result m c := by
  refine (dats m 0 c).arrAt_eq_of_cover 10 (result m c) (fun t _ => ?_) covered
  rw [Value.flushed10]
  refine funext fun y => ?_
  obtain ⟨s, p, h, j, rfl⟩ := split_block y
  rw [View.read_apply]
  refine (written m c h0 h1 h2 h3 h4 h5 t p h s j).trans ?_
  refine (result_apply m c _ _ _ _).symm.trans ?_
  exact congrArg (result m c) (mem_block t s p h j).symm

end

end Cert.WkvGrid

end
-- ==== Proof.WkvTie.lean ====
module

public import proofs.«01_k».proof.Proof.WkvGrid
public import proofs.«01_k».proof.Proof.WkvRef

@[expose] public section

/-! The reference's result is the kernel's. -/

noncomputable section

namespace Cert.WkvTie

open Idealize.ShloMosaic Idealize.ShloMosaic.TcCoe Cert.Reference6Ideal.Value
open Cert.WkvRef (chan)

theorem split (i : (⟨3, ![32, 2048, 1024]⟩ : Shape).Idx) : ∃ (p : Fin 32) (t : Fin 2048) (h : Fin 16) (j : Fin 64), i = ix3 p t (chan h j) := by
  have hi : (i 2).val < 1024 := (i 2).isLt
  refine ⟨i 0, i 1, ⟨(i 2).val / 64, by omega⟩, ⟨(i 2).val % 64, by omega⟩, funext fun a => Fin.ext ?_⟩
  match a with
  | ⟨0, _⟩ => rfl
  | ⟨1, _⟩ => rfl
  | ⟨2, _⟩ => show (i 2).val = (i 2).val / 64 * 64 + (i 2).val % 64; omega

theorem tie (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : Cert.WkvRef.Fin' (m ((c.tc : Thread Cert.Kernel6Ideal.nD Cert.Kernel6Ideal.τ).loc Cert.Kernel6Ideal.main_arg0))) (h1 : Cert.WkvRef.Fin' (m ((c.tc : Thread Cert.Kernel6Ideal.nD Cert.Kernel6Ideal.τ).loc Cert.Kernel6Ideal.main_arg1))) (h2 : Cert.WkvRef.Fin' (m ((c.tc : Thread Cert.Kernel6Ideal.nD Cert.Kernel6Ideal.τ).loc Cert.Kernel6Ideal.main_arg2))) (h3 : Cert.WkvRef.Fin' (m ((c.tc : Thread Cert.Kernel6Ideal.nD Cert.Kernel6Ideal.τ).loc Cert.Kernel6Ideal.main_arg3))) (h4 : Cert.WkvRef.Fin' (m ((c.tc : Thread Cert.Kernel6Ideal.nD Cert.Kernel6Ideal.τ).loc Cert.Kernel6Ideal.main_arg4))) (h5 : Cert.WkvRef.Fin' (m ((c.tc : Thread Cert.Kernel6Ideal.nD Cert.Kernel6Ideal.τ).loc Cert.Kernel6Ideal.main_arg5)))
    (e0 : m' ((c.tc : Thread Cert.Reference6Ideal.nD Cert.Reference6Ideal.τ).loc Cert.Reference6Ideal.main_arg0) = (m ((c.tc : Thread Cert.Kernel6Ideal.nD Cert.Kernel6Ideal.τ).loc Cert.Kernel6Ideal.main_arg0))) (e1 : m' ((c.tc : Thread Cert.Reference6Ideal.nD Cert.Reference6Ideal.τ).loc Cert.Reference6Ideal.main_arg1) = (m ((c.tc : Thread Cert.Kernel6Ideal.nD Cert.Kernel6Ideal.τ).loc Cert.Kernel6Ideal.main_arg1))) (e2 : m' ((c.tc : Thread Cert.Reference6Ideal.nD Cert.Reference6Ideal.τ).loc Cert.Reference6Ideal.main_arg2) = (m ((c.tc : Thread Cert.Kernel6Ideal.nD Cert.Kernel6Ideal.τ).loc Cert.Kernel6Ideal.main_arg2))) (e3 : m' ((c.tc : Thread Cert.Reference6Ideal.nD Cert.Reference6Ideal.τ).loc Cert.Reference6Ideal.main_arg3) = (m ((c.tc : Thread Cert.Kernel6Ideal.nD Cert.Kernel6Ideal.τ).loc Cert.Kernel6Ideal.main_arg3))) (e4 : m' ((c.tc : Thread Cert.Reference6Ideal.nD Cert.Reference6Ideal.τ).loc Cert.Reference6Ideal.main_arg4) = (m ((c.tc : Thread Cert.Kernel6Ideal.nD Cert.Kernel6Ideal.τ).loc Cert.Kernel6Ideal.main_arg4))) (e5 : m' ((c.tc : Thread Cert.Reference6Ideal.nD Cert.Reference6Ideal.τ).loc Cert.Reference6Ideal.main_arg5) = (m ((c.tc : Thread Cert.Kernel6Ideal.nD Cert.Kernel6Ideal.τ).loc Cert.Kernel6Ideal.main_arg5))) (e6 : m' ((c.tc : Thread Cert.Reference6Ideal.nD Cert.Reference6Ideal.τ).loc Cert.Reference6Ideal.main_arg6) = (m ((c.tc : Thread Cert.Kernel6Ideal.nD Cert.Kernel6Ideal.τ).loc Cert.Kernel6Ideal.main_arg6))) (e7 : m' ((c.tc : Thread Cert.Reference6Ideal.nD Cert.Reference6Ideal.τ).loc Cert.Reference6Ideal.main_arg7) = (m ((c.tc : Thread Cert.Kernel6Ideal.nD Cert.Kernel6Ideal.τ).loc Cert.Kernel6Ideal.main_arg7))) (e8 : m' ((c.tc : Thread Cert.Reference6Ideal.nD Cert.Reference6Ideal.τ).loc Cert.Reference6Ideal.main_arg8) = (m ((c.tc : Thread Cert.Kernel6Ideal.nD Cert.Kernel6Ideal.τ).loc Cert.Kernel6Ideal.main_arg8))) (e9 : m' ((c.tc : Thread Cert.Reference6Ideal.nD Cert.Reference6Ideal.τ).loc Cert.Reference6Ideal.main_arg9) = (m ((c.tc : Thread Cert.Kernel6Ideal.nD Cert.Kernel6Ideal.τ).loc Cert.Kernel6Ideal.main_arg9))) :
    (out_main_v76 (F := Ideal) (STEP^[2048] (Idealize.ShloMosaic.StableHlo.entryContents preI m' c)) : Cert.WkvRef.Big) = (Cert.Kernel6Ideal.Gen.dats m 0 c).arrAt 10 Cert.Kernel6Ideal.cfg0.N := by
  refine Eq.trans ?_ (Cert.WkvGrid.final m c h0 h1 h2 h3 h4 h5).symm
  refine funext fun i => ?_
  obtain ⟨p, t, h, j, rfl⟩ := split i
  refine Eq.trans (Cert.WkvRef.result_apply m' c (e0.symm ▸ h0) (e1.symm ▸ h1) (e2.symm ▸ h2) (e3.symm ▸ h3) (e4.symm ▸ h4) (e5.symm ▸ h5) p t h j) ?_
  rw [e0, e1, e2, e3, e4, e5, e6, e7, e8, e9]
  exact (Cert.WkvGrid.result_apply m c p t h j).symm

end Cert.WkvTie

end
-- ==== Proof.ProjMath.lean ====
module

public import proofs.«01_k».proof.Proof.RowMath

@[expose] public section

/-! The projections of one token: its normalised row mixed with the row before it, then seven maps of the mixtures. -/

noncomputable section

namespace Cert.Proj

open Cert.RowMath Idealize.ShloMosaic

/-- A row moved towards the row before it, channel by channel. -/
def mix (h p u : Fin 1024 → EReal) (k : Fin 1024) : EReal := h k + (p k - h k) * u k

/-- A row times a matrix column. -/
def dense {n : ℕ} (y : Fin 1024 → EReal) (w : Fin 1024 → Fin n → EReal) (j : Fin n) : EReal := ∑ k : Fin 1024, y k * w k j

/-- A row through two matrices with a map between them. -/
def lora {n : ℕ} (f : EReal → EReal) (y : Fin 1024 → EReal) (u : Fin 1024 → Fin n → EReal) (d : Fin n → Fin 1024 → EReal) (j : Fin 1024) : EReal :=
  ∑ q : Fin n, f (dense y u q) * d q j

/-- The log decay of a decay logit. -/
def decay (z : EReal) : EReal :=
  0 - Ideal.exp (0 - (max (0 - z) 0 + Ideal.log1p (Ideal.exp (0 - FloatOps.absf (F := Ideal) (φ := .f32) (0 - z)))) - Ideal.ofBits FTy.f32 1056964608#32)

/-- The key scaled by the gate's distance from one. -/
def keyed (k a u : EReal) : EReal := k * (Ideal.ofBits FTy.f32 1065353216#32 + (a - Ideal.ofBits FTy.f32 1065353216#32) * u)

/-- A sum whose places from `n` on are zero is the sum of its first `n` places. -/
theorem sum_pad {n N : ℕ} (h : n ≤ N) (f : Fin N → EReal) (hf : ∀ q : Fin N, n ≤ q.val → f q = 0) :
    ∑ q : Fin N, f q = ∑ q : Fin n, f ⟨q.val, lt_of_lt_of_le q.isLt h⟩ := by
  obtain ⟨e, rfl⟩ := Nat.exists_eq_add_of_le h
  rw [Fin.sum_univ_add, Finset.sum_eq_zero (s := Finset.univ (α := Fin e)) (fun q _ => hf _ (by simp)), add_zero]
  rfl

/-- Zero rows of the second matrix make the width beyond `n` immaterial. -/
theorem lora_pad {n N : ℕ} (h : n ≤ N) (f : EReal → EReal) (y : Fin 1024 → EReal) (u : Fin 1024 → Fin n → EReal) (d : Fin n → Fin 1024 → EReal)
    (u' : Fin 1024 → Fin N → EReal) (d' : Fin N → Fin 1024 → EReal) (j : Fin 1024)
    (hu : ∀ (k : Fin 1024) (q : Fin n), u' k ⟨q.val, lt_of_lt_of_le q.isLt h⟩ = u k q)
    (hd : ∀ q : Fin n, d' ⟨q.val, lt_of_lt_of_le q.isLt h⟩ j = d q j)
    (hz : ∀ q : Fin N, n ≤ q.val → d' q j = 0) : lora f y u' d' j = lora f y u d j := by
  unfold lora
  rw [sum_pad h _ fun q hq => by rw [hz q hq, mul_zero]]
  refine Finset.sum_congr rfl fun q _ => ?_
  rw [hd]
  refine congrArg (fun z => f z * d q j) ?_
  unfold dense
  exact Finset.sum_congr rfl fun k _ => by rw [hu]

end Cert.Proj

end
-- ==== Proof.ProjPay.lean ====
module

public import proofs.«01_k».proof.Proof.Gen.Kernel7Ideal.Skeleton
public import proofs.«01_k».proof.Proof.ProjMath
public import Idealize.ShloMosaic.Lib.Pointwise
public import Idealize.ShloMosaic.Lib.IdealHost

@[expose] public section

/-! What one grid point computes, read at an index. -/

noncomputable section

namespace Cert.Proj

open Cert.RowMath Cert.Kernel7Ideal Cert.Kernel7Ideal.Gen Idealize.ShloMosaic

theorem pay7_apply (v0 : Vec Ideal S1x1024 .f32) (v2 : Vec Ideal S1x256x1024 .f32) (r : Fin 256) (k : Fin 1024) :
    k0_pay7 v0 v2 (ix2 r k) = rmsRow (fun l => v2 (ix3 0 r l)) (fun l => v0 (ix2 0 l)) k := by
  unfold k0_pay7 k0_pay6 rmsRow
  pointwise

/-- The factor that clears the rows before a sequence's first tile. -/
def gate (i : grid0.Coords) : EReal := (((Scalar.extui (Scalar.cmpi .sgt (BitVec.ofNat 32 (i 1).val) 0#32) : BitVec 32).toInt : ℝ) : EReal)

theorem pay8_apply (i : grid0.Coords) (v0 : Vec Ideal S1x1024 .f32) (v16 : Vec Ideal S1x8x1024 .f32) (r : Fin 8) (k : Fin 1024) :
    k0_pay8 i v0 v16 (ix2 r k) = rmsRow (fun l => v16 (ix3 0 r l)) (fun l => v0 (ix2 0 l)) k * gate i := by
  unfold k0_pay8 k0_pay6 rmsRow gate
  pointwise

theorem pay15_apply (v15 v41 : Vec Ideal S256x1024 .f32) (u : Vec Ideal S1x1024 .f32) (w : Vec Ideal S1024x1024 .bf16) (r : Fin 256) (j : Fin 1024) :
    k0_pay15 v15 v41 u w (ix2 r j)
      = dense (mix (fun k => v15 (ix2 r k)) (fun k => v41 (ix2 r k)) (fun k => u (ix2 0 k))) (fun k q => w (ix2 k q)) j := by
  unfold k0_pay15 k0_pay10 dense mix
  pointwise

theorem pay18_apply (v15 v41 : Vec Ideal S256x1024 .f32) (u : Vec Ideal S1x1024 .f32) (w : Vec Ideal S1024x1024 .bf16) (r : Fin 256) (j : Fin 1024) :
    k0_pay18 v15 (k0_pay10 v15 v41) u w (ix2 r j)
      = dense (mix (fun k => v15 (ix2 r k)) (fun k => v41 (ix2 r k)) (fun k => u (ix2 0 k))) (fun k q => w (ix2 k q)) j := by
  unfold k0_pay18 k0_pay10 dense mix
  pointwise

theorem pay19_apply (v15 v41 : Vec Ideal S256x1024 .f32) (u : Vec Ideal S1x1024 .f32) (w : Vec Ideal S1024x1024 .bf16) (r : Fin 256) (j : Fin 1024) :
    k0_pay19 v15 (k0_pay10 v15 v41) u w (ix2 r j)
      = dense (mix (fun k => v15 (ix2 r k)) (fun k => v41 (ix2 r k)) (fun k => u (ix2 0 k))) (fun k q => w (ix2 k q)) j := by
  unfold k0_pay19 k0_pay10 dense mix
  pointwise

theorem pay16_apply (v15 v41 : Vec Ideal S256x1024 .f32) (u : Vec Ideal S1x1024 .f32) (w : Vec Ideal S1024x128 .bf16) (d : Vec Ideal S128x1024 .bf16) (r : Fin 256) (j : Fin 1024) :
    k0_pay16 v15 v41 u w d (ix2 r j)
      = lora Ideal.tanh (mix (fun k => v15 (ix2 r k)) (fun k => v41 (ix2 r k)) (fun k => u (ix2 0 k))) (fun k q => w (ix2 k q)) (fun q i => d (ix2 q i)) j := by
  unfold k0_pay16 k0_pay10 lora dense mix
  pointwise

theorem pay20_apply (v15 v41 : Vec Ideal S256x1024 .f32) (b u : Vec Ideal S1x1024 .f32) (w : Vec Ideal S1024x128 .bf16) (d : Vec Ideal S128x1024 .bf16) (r : Fin 256) (j : Fin 1024) :
    k0_pay20 v15 (k0_pay10 v15 v41) (k0_pay12 b) u w d (ix2 r j)
      = Ideal.logistic (b (ix2 0 j) + lora id (mix (fun k => v15 (ix2 r k)) (fun k => v41 (ix2 r k)) (fun k => u (ix2 0 k))) (fun k q => w (ix2 k q)) (fun q i => d (ix2 q i)) j) := by
  unfold k0_pay20 k0_pay10 k0_pay12 lora dense mix
  simp only [id]
  pointwise

theorem pay22_apply (v15 v41 : Vec Ideal S256x1024 .f32) (u : Vec Ideal S1x1024 .f32) (w : Vec Ideal S1024x256 .bf16) (d : Vec Ideal S256x1024 .bf16) (r : Fin 256) (j : Fin 1024) :
    k0_pay22 v15 (k0_pay21 (k0_pay10 v15 v41) u) w d (ix2 r j)
      = lora Ideal.logistic (mix (fun k => v15 (ix2 r k)) (fun k => v41 (ix2 r k)) (fun k => u (ix2 0 k))) (fun k q => w (ix2 k q)) (fun q i => d (ix2 q i)) j := by
  unfold k0_pay22 k0_pay21 k0_pay10 lora dense mix
  pointwise

theorem pay2_apply (b : Vec Ideal S1x1024 .f32) (z : Vec Ideal S256x1024 .f32) (r : Fin 256) (j : Fin 1024) :
    k0_pay2 (k0_pay23 (k0_pay17 (k0_pay11 b) z)) (ix3 0 r j) = decay (b (ix2 0 j) + z (ix2 r j)) := by
  unfold k0_pay2 k0_pay23 k0_pay17 k0_pay11 decay
  pointwise

theorem pay24_apply (v : Vec Ideal S256x1024 .f32) (r : Fin 256) (j : Fin 1024) : @Eq EReal (k0_pay24 (F := Ideal) v (ix3 0 r j)) (v (ix2 r j)) := by
  unfold k0_pay24
  pointwise

theorem pay1_apply (v : Vec Ideal S256x1024 .f32) (r : Fin 256) (j : Fin 1024) : @Eq EReal (k0_pay1 (F := Ideal) v (ix3 0 r j)) (v (ix2 r j)) := by
  unfold k0_pay1
  pointwise

theorem pay4_apply (v : Vec Ideal S256x1024 .f32) (r : Fin 256) (j : Fin 1024) : @Eq EReal (k0_pay4 (F := Ideal) v (ix3 0 r j)) (v (ix2 r j)) := by
  unfold k0_pay4
  pointwise

theorem pay5_apply (v : Vec Ideal S256x1024 .f32) (r : Fin 256) (j : Fin 1024) : @Eq EReal (k0_pay5 (F := Ideal) v (ix3 0 r j)) (v (ix2 r j)) := by
  unfold k0_pay5
  pointwise

theorem pay3_apply (b : Vec Ideal S1x1024 .f32) (v : Vec Ideal S256x1024 .f32) (r : Fin 256) (j : Fin 1024) :
    k0_pay3 (k0_pay13 b) v (ix3 0 r j) = HMul.hMul (α := EReal) (β := EReal) (γ := EReal) (v (ix2 r j)) (b (ix2 0 j)) := by
  unfold k0_pay3 k0_pay13
  pointwise

theorem pay25_apply (b : Vec Ideal S1x1024 .f32) (v a : Vec Ideal S256x1024 .f32) (r : Fin 256) (j : Fin 1024) :
    k0_pay25 (k0_pay14 b) v a (ix3 0 r j) = keyed (v (ix2 r j)) (a (ix2 r j)) (b (ix2 0 j)) := by
  unfold k0_pay25 k0_pay14 keyed
  pointwise

end Cert.Proj

end
-- ==== Proof.ProjOut.lean ====
module

public import proofs.«01_k».proof.Proof.Gen.Kernel7Ideal.Value
public import proofs.«01_k».proof.Proof.ProjPay

@[expose] public section

/-! What a grid point stores. -/

noncomputable section

namespace Cert.Proj

open Cert.RowMath Cert.Kernel7Ideal Cert.Kernel7Ideal.Gen Idealize.ShloMosaic Idealize.ShloMosaic.TcCoe Idealize.SL.Sem

theorem hz2 : (![0, 0] : Fin 2 → ℕ) = fun _ => 0 := by decide
theorem hz3 : (![0, 0, 0] : Fin 3 → ℕ) = fun _ => 0 := by decide

/-- The tile's normalised rows. -/
def hb (x0 : Vec Ideal S1x256x1024 .f32) (x2 : Vec Ideal S1x1024 .f32) : Vec Ideal S256x1024 .f32 := k0_pay7 x2 x0

/-- The scratch: the eight rows before the tile, then the tile. -/
def scr (i : grid0.Coords) (x0 : Vec Ideal S1x256x1024 .f32) (x1 : Vec Ideal S1x8x1024 .f32) (x2 : Vec Ideal S1x1024 .f32) : Vec Ideal S264x1024 .f32 :=
  View.canon (Val := Elt Ideal) (s := S264x1024) (e := .f32)
    [⟨Rect.unit ![8, 0] S256x1024.size inb_S264x1024_S256x1024_8_0, k0_pay9 (F := Ideal) (hb x0 x2)⟩,
     ⟨Rect.unit ![0, 0] S8x1024.size inb_S264x1024_S8x1024_0_0, k0_pay8 (F := Ideal) i x2 x1⟩]

/-- The rows one place up. -/
def sb (i : grid0.Coords) (x0 : Vec Ideal S1x256x1024 .f32) (x1 : Vec Ideal S1x8x1024 .f32) (x2 : Vec Ideal S1x1024 .f32) : Vec Ideal S256x1024 .f32 :=
  View.ld (Val := Elt Ideal) (scr i x0 x1 x2) (Rect.unit ![7, 0] S256x1024.size inb_S264x1024_S256x1024_7_0)

/-- Row 0 of eight. -/
def row0 (x : Vec Ideal S8x1024 .f32) : Vec Ideal S1x1024 .f32 := View.ld (Val := Elt Ideal) x (Rect.unit ![0, 0] S1x1024.size inb_S8x1024_S1x1024_0_0)

theorem row0_apply (x : Vec Ideal S8x1024 .f32) (k : Fin 1024) : row0 x (ix2 0 k) = x (ix2 0 k) := by
  refine congrArg x (funext fun a => Fin.ext ?_)
  match a with
  | ⟨0, _⟩ => rfl
  | ⟨1, _⟩ => show 0 + 1 * k.val = k.val; omega

/-- Row 1 of eight. -/
def row1 (x : Vec Ideal S8x1024 .f32) : Vec Ideal S1x1024 .f32 := View.ld (Val := Elt Ideal) x (Rect.unit ![1, 0] S1x1024.size inb_S8x1024_S1x1024_1_0)

theorem row1_apply (x : Vec Ideal S8x1024 .f32) (k : Fin 1024) : row1 x (ix2 0 k) = x (ix2 1 k) := by
  refine congrArg x (funext fun a => Fin.ext ?_)
  match a with
  | ⟨0, _⟩ => rfl
  | ⟨1, _⟩ => show 0 + 1 * k.val = k.val; omega

/-- Row 2 of eight. -/
def row2 (x : Vec Ideal S8x1024 .f32) : Vec Ideal S1x1024 .f32 := View.ld (Val := Elt Ideal) x (Rect.unit ![2, 0] S1x1024.size inb_S8x1024_S1x1024_2_0)

theorem row2_apply (x : Vec Ideal S8x1024 .f32) (k : Fin 1024) : row2 x (ix2 0 k) = x (ix2 2 k) := by
  refine congrArg x (funext fun a => Fin.ext ?_)
  match a with
  | ⟨0, _⟩ => rfl
  | ⟨1, _⟩ => show 0 + 1 * k.val = k.val; omega

/-- Row 3 of eight. -/
def row3 (x : Vec Ideal S8x1024 .f32) : Vec Ideal S1x1024 .f32 := View.ld (Val := Elt Ideal) x (Rect.unit ![3, 0] S1x1024.size inb_S8x1024_S1x1024_3_0)

theorem row3_apply (x : Vec Ideal S8x1024 .f32) (k : Fin 1024) : row3 x (ix2 0 k) = x (ix2 3 k) := by
  refine congrArg x (funext fun a => Fin.ext ?_)
  match a with
  | ⟨0, _⟩ => rfl
  | ⟨1, _⟩ => show 0 + 1 * k.val = k.val; omega

/-- Row 4 of eight. -/
def row4 (x : Vec Ideal S8x1024 .f32) : Vec Ideal S1x1024 .f32 := View.ld (Val := Elt Ideal) x (Rect.unit ![4, 0] S1x1024.size inb_S8x1024_S1x1024_4_0)

theorem row4_apply (x : Vec Ideal S8x1024 .f32) (k : Fin 1024) : row4 x (ix2 0 k) = x (ix2 4 k) := by
  refine congrArg x (funext fun a => Fin.ext ?_)
  match a with
  | ⟨0, _⟩ => rfl
  | ⟨1, _⟩ => show 0 + 1 * k.val = k.val; omega

/-- Row 5 of eight. -/
def row5 (x : Vec Ideal S8x1024 .f32) : Vec Ideal S1x1024 .f32 := View.ld (Val := Elt Ideal) x (Rect.unit ![5, 0] S1x1024.size inb_S8x1024_S1x1024_5_0)

theorem row5_apply (x : Vec Ideal S8x1024 .f32) (k : Fin 1024) : row5 x (ix2 0 k) = x (ix2 5 k) := by
  refine congrArg x (funext fun a => Fin.ext ?_)
  match a with
  | ⟨0, _⟩ => rfl
  | ⟨1, _⟩ => show 0 + 1 * k.val = k.val; omega

theorem sb_zero (i : grid0.Coords) (x0 : Vec Ideal S1x256x1024 .f32) (x1 : Vec Ideal S1x8x1024 .f32) (x2 : Vec Ideal S1x1024 .f32) (k : Fin 1024) :
    sb i x0 x1 x2 (ix2 0 k) = k0_pay8 i x2 x1 (ix2 7 k) := by
  have e : sb i x0 x1 x2 (ix2 0 k) = scr i x0 x1 x2 ((Rect.unit (s := S264x1024) ![0, 0] S8x1024.size inb_S264x1024_S8x1024_0_0).emb (ix2 7 k)) := by
    refine congrArg (scr i x0 x1 x2) (funext fun a => Fin.ext ?_)
    match a with
    | ⟨0, _⟩ => rfl
    | ⟨1, _⟩ => rfl
  rw [e]
  unfold scr
  rw [View.canon_cons_of_not_mem, View.canon_cons_emb]
  intro hm
  obtain ⟨y, hy⟩ := (Rect.unit (s := S264x1024) ![8, 0] S256x1024.size inb_S264x1024_S256x1024_8_0).exists_idx_of_mem hm
  have h0 := congrArg (fun z : S264x1024.Idx => (z 0).val) hy
  have h1 : 8 + 1 * (y 0).val = 0 + 1 * 7 := h0
  omega

theorem sb_succ (i : grid0.Coords) (x0 : Vec Ideal S1x256x1024 .f32) (x1 : Vec Ideal S1x8x1024 .f32) (x2 : Vec Ideal S1x1024 .f32) (r : Fin 256) (hr : 0 < r.val) (k : Fin 1024) :
    sb i x0 x1 x2 (ix2 r k) = hb x0 x2 (ix2 ⟨r.val - 1, by omega⟩ k) := by
  have e : sb i x0 x1 x2 (ix2 r k) = scr i x0 x1 x2 ((Rect.unit (s := S264x1024) ![8, 0] S256x1024.size inb_S264x1024_S256x1024_8_0).emb (ix2 ⟨r.val - 1, by omega⟩ k)) := by
    refine congrArg (scr i x0 x1 x2) (funext fun a => Fin.ext ?_)
    match a with
    | ⟨0, _⟩ => show 7 + 1 * r.val = 8 + 1 * (r.val - 1); omega
    | ⟨1, _⟩ => rfl
  rw [e]
  unfold scr
  rw [View.canon_cons_emb]
  unfold k0_pay9
  exact congrFun (shapeCast_self _ _) _

variable (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S128x1024 .bf16) (harg11 : arg11.IsWhole) (arg12 : Memref sig .tc .vmem S1024x128 .bf16) (harg12 : arg12.IsWhole) (arg13 : Memref sig .tc .vmem S128x1024 .bf16) (harg13 : arg13.IsWhole) (arg14 : Memref sig .tc .vmem S1024x256 .bf16) (harg14 : arg14.IsWhole) (arg15 : Memref sig .tc .vmem S256x1024 .bf16) (harg15 : arg15.IsWhole) (arg16 : Memref sig .tc .vmem S1x256x1024 .bf16) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S1x256x1024 .f32) (harg19 : arg19.IsWhole) (arg20 : Memref sig .tc .vmem S1x256x1024 .bf16) (harg20 : arg20.IsWhole) (arg21 : Memref sig .tc .vmem S1x256x1024 .bf16) (harg21 : arg21.IsWhole) (arg22 : Memref sig .tc .vmem S1x256x1024 .bf16) (harg22 : arg22.IsWhole) (arg23 : Memref sig .tc .vmem S264x1024 .f32) (harg23 : arg23.IsWhole)
    (x0 : Vec Ideal S1x256x1024 .f32) (x1 : Vec Ideal S1x8x1024 .f32) (x2 : Vec Ideal S1x1024 .f32) (x3 : Vec Ideal S8x1024 .f32) (x4 : Vec Ideal S8x1024 .f32) (x5 : Vec Ideal S1024x1024 .bf16) (x6 : Vec Ideal S1024x1024 .bf16) (x7 : Vec Ideal S1024x1024 .bf16) (x8 : Vec Ideal S1024x128 .bf16) (x9 : Vec Ideal S128x1024 .bf16) (x10 : Vec Ideal S1024x128 .bf16) (x11 : Vec Ideal S128x1024 .bf16) (x12 : Vec Ideal S1024x256 .bf16) (x13 : Vec Ideal S256x1024 .bf16)

theorem r_eq : kernelRun0_A.sl.r (F := Ideal) c arg2 harg2 arg4 harg4 x0 x2 = (hb x0 x2) := by
  unfold kernelRun0_A.sl.r
  simp only [View.readAt_eq_ld, harg2.read_unread, harg4.read_unread, View.ld_unit_zero (S := S1x1024) hz2, View.ld_unit_zero (S := S1x256x1024) hz3]
  all_goals rfl

theorem v41_eq : kernelRun0_A.sl.v41 (F := Ideal) c i arg2 harg2 arg3 harg3 arg4 harg4 arg23 x0 x1 x2 = (sb i x0 x1 x2) := by
  refine (View.readCov_eq_canon' arg23.view _ _).trans ?_
  unfold kernelRun0_A.sl.HS0_2
  rw [r_eq]
  simp only [View.readAt_eq_ld, harg3.read_unread, harg4.read_unread, View.ld_unit_zero (S := S1x1024) hz2, View.ld_unit_zero (S := S1x8x1024) hz3]
  rfl

theorem r_1_eq : kernelRun0_A.sl.r_1 (F := Ideal) c i arg2 harg2 arg3 harg3 arg4 harg4 arg23 x0 x1 x2 = (k0_pay10 (hb x0 x2) (sb i x0 x1 x2)) := by
  unfold kernelRun0_A.sl.r_1
  rw [r_eq, v41_eq]

theorem r_2_eq : kernelRun0_A.sl.r_2 (F := Ideal) c arg6 harg6 x4 = k0_pay11 (row0 x4) := by
  unfold kernelRun0_A.sl.r_2
  simp only [View.readAt_eq_ld, harg6.read_unread]
  all_goals rfl

theorem r_3_eq : kernelRun0_A.sl.r_3 (F := Ideal) c arg6 harg6 x4 = k0_pay12 (row1 x4) := by
  unfold kernelRun0_A.sl.r_3
  simp only [View.readAt_eq_ld, harg6.read_unread]
  all_goals rfl

theorem r_4_eq : kernelRun0_A.sl.r_4 (F := Ideal) c arg6 harg6 x4 = k0_pay13 (row2 x4) := by
  unfold kernelRun0_A.sl.r_4
  simp only [View.readAt_eq_ld, harg6.read_unread]
  all_goals rfl

theorem r_5_eq : kernelRun0_A.sl.r_5 (F := Ideal) c arg6 harg6 x4 = k0_pay14 (row3 x4) := by
  unfold kernelRun0_A.sl.r_5
  simp only [View.readAt_eq_ld, harg6.read_unread]
  all_goals rfl

theorem r_6_eq : kernelRun0_A.sl.r_6 (F := Ideal) c i arg2 harg2 arg3 harg3 arg4 harg4 arg5 harg5 arg7 harg7 arg23 x0 x1 x2 x3 x5 = k0_pay15 (hb x0 x2) (sb i x0 x1 x2) (row0 x3) x5 := by
  unfold kernelRun0_A.sl.r_6
  rw [r_eq, v41_eq]
  simp only [View.readAt_eq_ld, harg5.read_unread, harg7.read_unread, View.ld_unit_zero (S := S1024x1024) hz2]
  all_goals rfl

theorem r_7_eq : kernelRun0_A.sl.r_7 (F := Ideal) c i arg2 harg2 arg3 harg3 arg4 harg4 arg5 harg5 arg10 harg10 arg11 harg11 arg23 x0 x1 x2 x3 x8 x9 = k0_pay16 (hb x0 x2) (sb i x0 x1 x2) (row1 x3) x8 x9 := by
  unfold kernelRun0_A.sl.r_7
  rw [r_eq, v41_eq]
  simp only [View.readAt_eq_ld, harg5.read_unread, harg10.read_unread, harg11.read_unread, View.ld_unit_zero (S := S1024x128) hz2, View.ld_unit_zero (S := S128x1024) hz2]
  all_goals rfl

theorem r_8_eq : kernelRun0_A.sl.r_8 (F := Ideal) c i arg2 harg2 arg3 harg3 arg4 harg4 arg5 harg5 arg6 harg6 arg10 harg10 arg11 harg11 arg23 x0 x1 x2 x3 x4 x8 x9 = k0_pay17 (k0_pay11 (row0 x4)) (k0_pay16 (hb x0 x2) (sb i x0 x1 x2) (row1 x3) x8 x9) := by
  unfold kernelRun0_A.sl.r_8
  rw [r_7_eq, r_2_eq]

theorem r_9_eq : kernelRun0_A.sl.r_9 (F := Ideal) c i arg2 harg2 arg3 harg3 arg4 harg4 arg5 harg5 arg8 harg8 arg23 x0 x1 x2 x3 x6 = k0_pay18 (hb x0 x2) (k0_pay10 (hb x0 x2) (sb i x0 x1 x2)) (row2 x3) x6 := by
  unfold kernelRun0_A.sl.r_9
  rw [r_eq, r_1_eq]
  simp only [View.readAt_eq_ld, harg5.read_unread, harg8.read_unread, View.ld_unit_zero (S := S1024x1024) hz2]
  all_goals rfl

theorem r_10_eq : kernelRun0_A.sl.r_10 (F := Ideal) c i arg2 harg2 arg3 harg3 arg4 harg4 arg5 harg5 arg9 harg9 arg23 x0 x1 x2 x3 x7 = k0_pay19 (hb x0 x2) (k0_pay10 (hb x0 x2) (sb i x0 x1 x2)) (row3 x3) x7 := by
  unfold kernelRun0_A.sl.r_10
  rw [r_eq, r_1_eq]
  simp only [View.readAt_eq_ld, harg5.read_unread, harg9.read_unread, View.ld_unit_zero (S := S1024x1024) hz2]
  all_goals rfl

theorem r_11_eq : kernelRun0_A.sl.r_11 (F := Ideal) c i arg2 harg2 arg3 harg3 arg4 harg4 arg5 harg5 arg6 harg6 arg12 harg12 arg13 harg13 arg23 x0 x1 x2 x3 x4 x10 x11 = k0_pay20 (hb x0 x2) (k0_pay10 (hb x0 x2) (sb i x0 x1 x2)) (k0_pay12 (row1 x4)) (row4 x3) x10 x11 := by
  unfold kernelRun0_A.sl.r_11
  rw [r_eq, r_1_eq, r_3_eq]
  simp only [View.readAt_eq_ld, harg5.read_unread, harg12.read_unread, harg13.read_unread, View.ld_unit_zero (S := S1024x128) hz2, View.ld_unit_zero (S := S128x1024) hz2]
  all_goals rfl

theorem r_12_eq : kernelRun0_A.sl.r_12 (F := Ideal) c i arg2 harg2 arg3 harg3 arg4 harg4 arg5 harg5 arg23 x0 x1 x2 x3 = k0_pay21 (k0_pay10 (hb x0 x2) (sb i x0 x1 x2)) (row5 x3) := by
  unfold kernelRun0_A.sl.r_12
  rw [r_1_eq]
  simp only [View.readAt_eq_ld, harg5.read_unread]
  all_goals rfl

theorem r_13_eq : kernelRun0_A.sl.r_13 (F := Ideal) c i arg2 harg2 arg3 harg3 arg4 harg4 arg5 harg5 arg14 harg14 arg15 harg15 arg23 x0 x1 x2 x3 x12 x13 = k0_pay22 (hb x0 x2) (k0_pay21 (k0_pay10 (hb x0 x2) (sb i x0 x1 x2)) (row5 x3)) x12 x13 := by
  unfold kernelRun0_A.sl.r_13
  rw [r_eq, r_12_eq]
  simp only [View.readAt_eq_ld, harg14.read_unread, harg15.read_unread, View.ld_unit_zero (S := S1024x256) hz2, View.ld_unit_zero (S := S256x1024) hz2]
  all_goals rfl

theorem r_14_eq : kernelRun0_A.sl.r_14 (F := Ideal) c i arg2 harg2 arg3 harg3 arg4 harg4 arg5 harg5 arg6 harg6 arg10 harg10 arg11 harg11 arg23 x0 x1 x2 x3 x4 x8 x9 = k0_pay23 (k0_pay17 (k0_pay11 (row0 x4)) (k0_pay16 (hb x0 x2) (sb i x0 x1 x2) (row1 x3) x8 x9)) := by
  unfold kernelRun0_A.sl.r_14
  rw [r_8_eq]

theorem out14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay24 (k0_pay15 (hb x0 x2) (sb i x0 x1 x2) (row0 x3) x5) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_6_eq]
  exact View.canon_unit_zero hz3 _ _

theorem out15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay25 (k0_pay14 (row3 x4)) (k0_pay18 (hb x0 x2) (k0_pay10 (hb x0 x2) (sb i x0 x1 x2)) (row2 x3) x6) (k0_pay20 (hb x0 x2) (k0_pay10 (hb x0 x2) (sb i x0 x1 x2)) (k0_pay12 (row1 x4)) (row4 x3) x10 x11) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_5_eq, r_9_eq, r_11_eq]
  exact View.canon_unit_zero hz3 _ _

theorem out16 : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay1 (k0_pay19 (hb x0 x2) (k0_pay10 (hb x0 x2) (sb i x0 x1 x2)) (row3 x3) x7) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_10_eq]
  exact View.canon_unit_zero hz3 _ _

theorem out17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay2 (k0_pay23 (k0_pay17 (k0_pay11 (row0 x4)) (k0_pay16 (hb x0 x2) (sb i x0 x1 x2) (row1 x3) x8 x9))) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_14_eq]
  exact View.canon_unit_zero hz3 _ _

theorem out18 : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay3 (k0_pay13 (row2 x4)) (k0_pay18 (hb x0 x2) (k0_pay10 (hb x0 x2) (sb i x0 x1 x2)) (row2 x3) x6) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_4_eq, r_9_eq]
  exact View.canon_unit_zero hz3 _ _

theorem out19 : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay4 (k0_pay20 (hb x0 x2) (k0_pay10 (hb x0 x2) (sb i x0 x1 x2)) (k0_pay12 (row1 x4)) (row4 x3) x10 x11) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_11_eq]
  exact View.canon_unit_zero hz3 _ _

theorem out20 : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay5 (k0_pay22 (hb x0 x2) (k0_pay21 (k0_pay10 (hb x0 x2) (sb i x0 x1 x2)) (row5 x3)) x12 x13) := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13)]
  unfold kernelRun0_A
  dsimp only
  rw [r_13_eq]
  exact View.canon_unit_zero hz3 _ _

end Cert.Proj

end
-- ==== Proof.ProjRef.lean ====
module

public import proofs.«01_k».proof.Proof.Gen.Reference7Ideal.Read
public import proofs.«01_k».proof.Proof.ProjMath

@[expose] public section

/-! The reference's seven results, read at an index. -/

noncomputable section

namespace Cert.Proj

open Cert.RowMath Cert.Reference7Ideal Cert.Reference7Ideal.Read Idealize.ShloMosaic

/-- The normalised row of a token. -/
def hrow (x0 : S32x2048x1024.Idx → EReal) (x1 : S1024.Idx → EReal) (b : Fin 32) (t : Fin 2048) : Fin 1024 → EReal :=
  rmsRow (fun l => x0 (ix3 b t l)) (fun l => x1 (ix1 l))

/-- The normalised row of the token before, and zeros before the first. -/
def prow (x0 : S32x2048x1024.Idx → EReal) (x1 : S1024.Idx → EReal) (b : Fin 32) (t : Fin 2048) (k : Fin 1024) : EReal :=
  if h : 0 < t.val then hrow x0 x1 b ⟨t.val - 1, by omega⟩ k else 0

/-- A token's mixture. -/
def mixed (x0 : S32x2048x1024.Idx → EReal) (x1 : S1024.Idx → EReal) (x2 : S6x1024.Idx → EReal) (b : Fin 32) (t : Fin 2048) (e : Fin 6) : Fin 1024 → EReal :=
  mix (hrow x0 x1 b t) (prow x0 x1 b t) (fun k => x2 (ix2 e k))

variable (x0 : (⟨S32x2048x1024, .f32⟩ : BufTy).Contents (Elt Ideal)) (x1 : (⟨S1024, .f32⟩ : BufTy).Contents (Elt Ideal)) (x2 : (⟨S6x1024, .f32⟩ : BufTy).Contents (Elt Ideal)) (b : Fin 32) (t : Fin 2048)

theorem abs_neg' (z : EReal) : FloatOps.absf (F := Ideal) (φ := .f32) (-z) = FloatOps.absf (F := Ideal) (φ := .f32) z := by
  show max (-z) (- -z) = max z (-z)
  rw [neg_neg, max_comm]

theorem ref_h (k : Fin 1024) : val_main_v12 (F := Ideal) x0 x1 (ix3 b t k) = hrow x0 x1 b t k := by
  unfold val_main_v12 val_main_v11 val_main_v10 val_main_v9 val_main_v8 val_main_v7 val_main_v6 val_main_v5 val_main_v4 val_main_v3 val_main_v2 val_main_v1 val_main_v0 val_main_cst_1 val_main_cst_0 val_main_cst hrow rmsRow
  pointwise

theorem ref_p (k : Fin 1024) : val_main_v14 (F := Ideal) x0 x1 (ix3 b t k) = prow x0 x1 b t k := by
  have e : val_main_v14 (F := Ideal) x0 x1 (ix3 b t k) = if h : 0 < t.val then val_main_v12 (F := Ideal) x0 x1 (ix3 b ⟨t.val - 1, by omega⟩ k) else 0 := by
    unfold val_main_v14 val_main_v13
    pointwise
    by_cases h : 0 < t.val
    · rw [dif_pos h, dif_pos ⟨h, by omega⟩]
    · rw [dif_neg h, dif_neg (fun q => h q.1)]
      unfold val_main_call0_v0 val_main_c
      pointwise
      show (((0#32 : BitVec 32).toInt : ℝ) : EReal) = 0
      simp
  rw [e]
  unfold prow
  split
  · exact ref_h x0 x1 b _ k
  · rfl

theorem ref_mix0 (k : Fin 1024) : val_main_v21 (F := Ideal) x0 x1 x2 (ix3 b t k) = mixed x0 x1 x2 b t 0 k := by
  have e : val_main_v21 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 0 k) := by
    unfold val_main_v21 val_main_v20 val_main_v19 val_main_v18 val_main_v17 val_main_v16 val_main_v15
    pointwise
  rw [e, ref_h, ref_p]
  rfl

theorem ref_mix1 (k : Fin 1024) : val_main_v27 (F := Ideal) x0 x1 x2 (ix3 b t k) = mixed x0 x1 x2 b t 1 k := by
  have e : val_main_v27 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 1 k) := by
    unfold val_main_v27 val_main_v26 val_main_v25 val_main_v24 val_main_v23 val_main_v22 val_main_v15
    pointwise
  rw [e, ref_h, ref_p]
  rfl

theorem ref_mix2 (k : Fin 1024) : val_main_v33 (F := Ideal) x0 x1 x2 (ix3 b t k) = mixed x0 x1 x2 b t 2 k := by
  have e : val_main_v33 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 2 k) := by
    unfold val_main_v33 val_main_v32 val_main_v31 val_main_v30 val_main_v29 val_main_v28 val_main_v15
    pointwise
  rw [e, ref_h, ref_p]
  rfl

theorem ref_mix3 (k : Fin 1024) : val_main_v39 (F := Ideal) x0 x1 x2 (ix3 b t k) = mixed x0 x1 x2 b t 3 k := by
  have e : val_main_v39 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 3 k) := by
    unfold val_main_v39 val_main_v38 val_main_v37 val_main_v36 val_main_v35 val_main_v34 val_main_v15
    pointwise
  rw [e, ref_h, ref_p]
  rfl

theorem ref_mix4 (k : Fin 1024) : val_main_v45 (F := Ideal) x0 x1 x2 (ix3 b t k) = mixed x0 x1 x2 b t 4 k := by
  have e : val_main_v45 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 4 k) := by
    unfold val_main_v45 val_main_v44 val_main_v43 val_main_v42 val_main_v41 val_main_v40 val_main_v15
    pointwise
  rw [e, ref_h, ref_p]
  rfl

theorem ref_mix5 (k : Fin 1024) : val_main_v51 (F := Ideal) x0 x1 x2 (ix3 b t k) = mixed x0 x1 x2 b t 5 k := by
  have e : val_main_v51 (F := Ideal) x0 x1 x2 (ix3 b t k)
      = val_main_v12 (F := Ideal) x0 x1 (ix3 b t k) + (val_main_v14 (F := Ideal) x0 x1 (ix3 b t k) - val_main_v12 (F := Ideal) x0 x1 (ix3 b t k)) * x2 (ix2 5 k) := by
    unfold val_main_v51 val_main_v50 val_main_v49 val_main_v48 val_main_v47 val_main_v46 val_main_v15
    pointwise
  rw [e, ref_h, ref_p]
  rfl

theorem ref_r (w : (⟨S1024x1024, .f32⟩ : BufTy).Contents (Elt Ideal)) (j : Fin 1024) : val_main_v52 (F := Ideal) x0 x1 x2 w (ix3 b t j) = dense (mixed x0 x1 x2 b t 0) (fun k q => w (ix2 k q)) j := by
  have e : val_main_v52 (F := Ideal) x0 x1 x2 w (ix3 b t j) = ∑ k : Fin 1024, val_main_v21 (F := Ideal) x0 x1 x2 (ix3 b t k) * w (ix2 k j) := by
    unfold val_main_v52
    pointwise
  rw [e]
  exact Finset.sum_congr rfl fun k _ => by rw [ref_mix0]

theorem ref_k (w : (⟨S1024x1024, .f32⟩ : BufTy).Contents (Elt Ideal)) (j : Fin 1024) : val_main_v64 (F := Ideal) x0 x1 x2 w (ix3 b t j) = dense (mixed x0 x1 x2 b t 2) (fun k q => w (ix2 k q)) j := by
  have e : val_main_v64 (F := Ideal) x0 x1 x2 w (ix3 b t j) = ∑ k : Fin 1024, val_main_v33 (F := Ideal) x0 x1 x2 (ix3 b t k) * w (ix2 k j) := by
    unfold val_main_v64
    pointwise
  rw [e]
  exact Finset.sum_congr rfl fun k _ => by rw [ref_mix2]

theorem ref_v (w : (⟨S1024x1024, .f32⟩ : BufTy).Contents (Elt Ideal)) (j : Fin 1024) : val_main_v65 (F := Ideal) x0 x1 x2 w (ix3 b t j) = dense (mixed x0 x1 x2 b t 3) (fun k q => w (ix2 k q)) j := by
  have e : val_main_v65 (F := Ideal) x0 x1 x2 w (ix3 b t j) = ∑ k : Fin 1024, val_main_v39 (F := Ideal) x0 x1 x2 (ix3 b t k) * w (ix2 k j) := by
    unfold val_main_v65
    pointwise
  rw [e]
  exact Finset.sum_congr rfl fun k _ => by rw [ref_mix3]

theorem ref_low_w (u : (⟨S1024x64, .f32⟩ : BufTy).Contents (Elt Ideal)) (q : Fin 64) : val_main_v53 (F := Ideal) x0 x1 x2 u (ix3 b t q) = dense (mixed x0 x1 x2 b t 1) (fun k q => u (ix2 k q)) q := by
  have e : val_main_v53 (F := Ideal) x0 x1 x2 u (ix3 b t q) = ∑ k : Fin 1024, val_main_v27 (F := Ideal) x0 x1 x2 (ix3 b t k) * u (ix2 k q) := by
    unfold val_main_v53
    pointwise
  rw [e]
  exact Finset.sum_congr rfl fun k _ => by rw [ref_mix1]

theorem ref_lora_w (u : (⟨S1024x64, .f32⟩ : BufTy).Contents (Elt Ideal)) (d : (⟨S64x1024, .f32⟩ : BufTy).Contents (Elt Ideal)) (j : Fin 1024) :
    val_main_v55 (F := Ideal) x0 x1 x2 u d (ix3 b t j) = lora Ideal.tanh (mixed x0 x1 x2 b t 1) (fun k q => u (ix2 k q)) (fun q k => d (ix2 q k)) j := by
  have e : val_main_v55 (F := Ideal) x0 x1 x2 u d (ix3 b t j) = ∑ q : Fin 64, Ideal.tanh (val_main_v53 (F := Ideal) x0 x1 x2 u (ix3 b t q)) * d (ix2 q j) := by
    unfold val_main_v55 val_main_v54
    skip
    pointwise
  rw [e]
  exact Finset.sum_congr rfl fun q _ => by rw [ref_low_w]

theorem ref_low_a (u : (⟨S1024x64, .f32⟩ : BufTy).Contents (Elt Ideal)) (q : Fin 64) : val_main_v66 (F := Ideal) x0 x1 x2 u (ix3 b t q) = dense (mixed x0 x1 x2 b t 4) (fun k q => u (ix2 k q)) q := by
  have e : val_main_v66 (F := Ideal) x0 x1 x2 u (ix3 b t q) = ∑ k : Fin 1024, val_main_v45 (F := Ideal) x0 x1 x2 (ix3 b t k) * u (ix2 k q) := by
    unfold val_main_v66
    pointwise
  rw [e]
  exact Finset.sum_congr rfl fun k _ => by rw [ref_mix4]

theorem ref_lora_a (u : (⟨S1024x64, .f32⟩ : BufTy).Contents (Elt Ideal)) (d : (⟨S64x1024, .f32⟩ : BufTy).Contents (Elt Ideal)) (j : Fin 1024) :
    val_main_v67 (F := Ideal) x0 x1 x2 u d (ix3 b t j) = lora id (mixed x0 x1 x2 b t 4) (fun k q => u (ix2 k q)) (fun q k => d (ix2 q k)) j := by
  have e : val_main_v67 (F := Ideal) x0 x1 x2 u d (ix3 b t j) = ∑ q : Fin 64, id (val_main_v66 (F := Ideal) x0 x1 x2 u (ix3 b t q)) * d (ix2 q j) := by
    unfold val_main_v67
    simp only [id]
    pointwise
  rw [e]
  exact Finset.sum_congr rfl fun q _ => by rw [ref_low_a]

theorem ref_low_g (u : (⟨S1024x160, .f32⟩ : BufTy).Contents (Elt Ideal)) (q : Fin 160) : val_main_v77 (F := Ideal) x0 x1 x2 u (ix3 b t q) = dense (mixed x0 x1 x2 b t 5) (fun k q => u (ix2 k q)) q := by
  have e : val_main_v77 (F := Ideal) x0 x1 x2 u (ix3 b t q) = ∑ k : Fin 1024, val_main_v51 (F := Ideal) x0 x1 x2 (ix3 b t k) * u (ix2 k q) := by
    unfold val_main_v77
    pointwise
  rw [e]
  exact Finset.sum_congr rfl fun k _ => by rw [ref_mix5]

theorem ref_lora_g (u : (⟨S1024x160, .f32⟩ : BufTy).Contents (Elt Ideal)) (d : (⟨S160x1024, .f32⟩ : BufTy).Contents (Elt Ideal)) (j : Fin 1024) :
    val_main_v84 (F := Ideal) x0 x1 x2 u d (ix3 b t j) = lora Ideal.logistic (mixed x0 x1 x2 b t 5) (fun k q => u (ix2 k q)) (fun q k => d (ix2 q k)) j := by
  have e : val_main_v84 (F := Ideal) x0 x1 x2 u d (ix3 b t j) = ∑ q : Fin 160, Ideal.logistic (val_main_v77 (F := Ideal) x0 x1 x2 u (ix3 b t q)) * d (ix2 q j) := by
    unfold val_main_v84 val_main_v83 val_main_v82 val_main_v81 val_main_v80 val_main_v79 val_main_v78 val_main_cst_5 val_main_cst_6 Ideal.logistic
    skip
    pointwise
  rw [e]
  exact Finset.sum_congr rfl fun q _ => by rw [ref_low_g]

theorem ref_a (a0 : (⟨S1024, .f32⟩ : BufTy).Contents (Elt Ideal)) (u : (⟨S1024x64, .f32⟩ : BufTy).Contents (Elt Ideal)) (d : (⟨S64x1024, .f32⟩ : BufTy).Contents (Elt Ideal)) (j : Fin 1024) :
    val_main_v76 (F := Ideal) x0 x1 x2 a0 u d (ix3 b t j) = Ideal.logistic (a0 (ix1 j) + lora id (mixed x0 x1 x2 b t 4) (fun k q => u (ix2 k q)) (fun q k => d (ix2 q k)) j) := by
  have e : val_main_v76 (F := Ideal) x0 x1 x2 a0 u d (ix3 b t j) = Ideal.logistic (a0 (ix1 j) + val_main_v67 (F := Ideal) x0 x1 x2 u d (ix3 b t j)) := by
    unfold val_main_v76 val_main_v75 val_main_v74 val_main_v73 val_main_v72 val_main_v71 val_main_v70 val_main_v69 val_main_v68 val_main_cst_3 val_main_cst_4 Ideal.logistic
    pointwise
  rw [e, ref_lora_a]

theorem ref_lw (w0 : (⟨S1024, .f32⟩ : BufTy).Contents (Elt Ideal)) (u : (⟨S1024x64, .f32⟩ : BufTy).Contents (Elt Ideal)) (d : (⟨S64x1024, .f32⟩ : BufTy).Contents (Elt Ideal)) (j : Fin 1024) :
    val_main_v97 (F := Ideal) x0 x1 x2 w0 u d (ix3 b t j) = decay (w0 (ix1 j) + lora Ideal.tanh (mixed x0 x1 x2 b t 1) (fun k q => u (ix2 k q)) (fun q k => d (ix2 q k)) j) := by
  have e : val_main_v97 (F := Ideal) x0 x1 x2 w0 u d (ix3 b t j) = decay (w0 (ix1 j) + val_main_v55 (F := Ideal) x0 x1 x2 u d (ix3 b t j)) := by
    unfold val_main_v97 val_main_v96 val_main_v63 val_main_v62 val_main_v61 val_main_v60 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst val_main_v59 val_main_v58 val_main_v57 val_main_v56 val_main_cst_2 decay
    pointwise
    simp only [zero_sub]
    rw [abs_neg', if_neg (fun h => h rfl)]
  rw [e, ref_lora_w]

theorem ref_kk (w : (⟨S1024x1024, .f32⟩ : BufTy).Contents (Elt Ideal)) (y : (⟨S1024, .f32⟩ : BufTy).Contents (Elt Ideal)) (j : Fin 1024) :
    @Eq EReal (val_main_v101 (F := Ideal) x0 x1 x2 w y (ix3 b t j)) (HMul.hMul (α := EReal) (β := EReal) (γ := EReal) (dense (mixed x0 x1 x2 b t 2) (fun k q => w (ix2 k q)) j) (y (ix1 j))) := by
  have e : @Eq EReal (val_main_v101 (F := Ideal) x0 x1 x2 w y (ix3 b t j)) (HMul.hMul (α := EReal) (β := EReal) (γ := EReal) (val_main_v64 (F := Ideal) x0 x1 x2 w (ix3 b t j)) (y (ix1 j))) := by
    unfold val_main_v101 val_main_v100 val_main_v99 val_main_v98
    pointwise
  rw [e, ref_k]

theorem ref_k2 (w : (⟨S1024x1024, .f32⟩ : BufTy).Contents (Elt Ideal)) (a0 : (⟨S1024, .f32⟩ : BufTy).Contents (Elt Ideal)) (u : (⟨S1024x64, .f32⟩ : BufTy).Contents (Elt Ideal)) (d : (⟨S64x1024, .f32⟩ : BufTy).Contents (Elt Ideal)) (y : (⟨S1024, .f32⟩ : BufTy).Contents (Elt Ideal)) (j : Fin 1024) :
    @Eq EReal (val_main_v94 (F := Ideal) x0 x1 x2 w a0 u d y (ix3 b t j)) (keyed (dense (mixed x0 x1 x2 b t 2) (fun k q => w (ix2 k q)) j) (Ideal.logistic (a0 (ix1 j) + lora id (mixed x0 x1 x2 b t 4) (fun k q => u (ix2 k q)) (fun q k => d (ix2 q k)) j)) (y (ix1 j))) := by
  have e : @Eq EReal (val_main_v94 (F := Ideal) x0 x1 x2 w a0 u d y (ix3 b t j))
      (keyed (val_main_v64 (F := Ideal) x0 x1 x2 w (ix3 b t j)) (val_main_v76 (F := Ideal) x0 x1 x2 a0 u d (ix3 b t j)) (y (ix1 j))) := by
    unfold val_main_v94 val_main_v93 val_main_v92 val_main_v91 val_main_v90 val_main_v89 val_main_v88 val_main_v87 val_main_v86 val_main_cst_7 val_main_cst_8 keyed
    pointwise
  rw [e, ref_k, ref_a]
theorem ref_r2 (w : (⟨S1024x1024, .f32⟩ : BufTy).Contents (Elt Ideal)) (j : Fin 1024) : @Eq EReal (val_main_v85 (F := Ideal) x0 x1 x2 w (ix3 b t j)) (dense (mixed x0 x1 x2 b t 0) (fun k q => w (ix2 k q)) j) := by
  have e : @Eq EReal (val_main_v85 (F := Ideal) x0 x1 x2 w (ix3 b t j)) (val_main_v52 (F := Ideal) x0 x1 x2 w (ix3 b t j)) := by
    unfold val_main_v85
    pointwise
  rw [e, ref_r]

theorem ref_v2 (w : (⟨S1024x1024, .f32⟩ : BufTy).Contents (Elt Ideal)) (j : Fin 1024) : @Eq EReal (val_main_v95 (F := Ideal) x0 x1 x2 w (ix3 b t j)) (dense (mixed x0 x1 x2 b t 3) (fun k q => w (ix2 k q)) j) := by
  have e : @Eq EReal (val_main_v95 (F := Ideal) x0 x1 x2 w (ix3 b t j)) (val_main_v65 (F := Ideal) x0 x1 x2 w (ix3 b t j)) := by
    unfold val_main_v95
    pointwise
  rw [e, ref_v]

theorem ref_a2 (a0 : (⟨S1024, .f32⟩ : BufTy).Contents (Elt Ideal)) (u : (⟨S1024x64, .f32⟩ : BufTy).Contents (Elt Ideal)) (d : (⟨S64x1024, .f32⟩ : BufTy).Contents (Elt Ideal)) (j : Fin 1024) :
    @Eq EReal (val_main_v102 (F := Ideal) x0 x1 x2 a0 u d (ix3 b t j)) (Ideal.logistic (a0 (ix1 j) + lora id (mixed x0 x1 x2 b t 4) (fun k q => u (ix2 k q)) (fun q k => d (ix2 q k)) j)) := by
  have e : @Eq EReal (val_main_v102 (F := Ideal) x0 x1 x2 a0 u d (ix3 b t j)) (val_main_v76 (F := Ideal) x0 x1 x2 a0 u d (ix3 b t j)) := by
    unfold val_main_v102
    pointwise
  rw [e, ref_a]

theorem ref_g2 (u : (⟨S1024x160, .f32⟩ : BufTy).Contents (Elt Ideal)) (d : (⟨S160x1024, .f32⟩ : BufTy).Contents (Elt Ideal)) (j : Fin 1024) :
    @Eq EReal (val_main_v103 (F := Ideal) x0 x1 x2 u d (ix3 b t j)) (lora Ideal.logistic (mixed x0 x1 x2 b t 5) (fun k q => u (ix2 k q)) (fun q k => d (ix2 q k)) j) := by
  have e : @Eq EReal (val_main_v103 (F := Ideal) x0 x1 x2 u d (ix3 b t j)) (val_main_v84 (F := Ideal) x0 x1 x2 u d (ix3 b t j)) := by
    unfold val_main_v103
    pointwise
  rw [e, ref_lora_g]

end Cert.Proj

end
-- ==== Proof.ProjBlk.lean ====
module

public import proofs.«01_k».proof.Proof.ProjOut
public import proofs.«01_k».proof.Proof.ProjRef
public import Idealize.ShloMosaic.Lib.StableHlo.ReadAt

@[expose] public section

/-! The blocks a grid point reads, in terms of the arguments. -/

noncomputable section

namespace Cert.Proj

open Cert.RowMath Cert.Kernel7Ideal Cert.Kernel7Ideal.Gen Idealize.ShloMosaic Idealize.ShloMosaic.TcCoe Idealize.SL.Sem

variable (m : (ℓ : Loc nD τ sig) → Buf (Elt Ideal) ℓ)

theorem grid_size : cfg0.N = 256 := N_0

theorem index0 : ∀ t : Fin cfg0.N, win0_0.index t 0 = t.val / 8 ∧ win0_0.index t 1 = t.val % 8 ∧ win0_0.index t 2 = 0 := by decide +kernel
theorem index14 : ∀ t : Fin cfg0.N, win0_14.index t 0 = t.val / 8 ∧ win0_14.index t 1 = t.val % 8 ∧ win0_14.index t 2 = 0 := by decide +kernel
theorem index15 : ∀ t : Fin cfg0.N, win0_15.index t 0 = t.val / 8 ∧ win0_15.index t 1 = t.val % 8 ∧ win0_15.index t 2 = 0 := by decide +kernel
theorem index16 : ∀ t : Fin cfg0.N, win0_16.index t 0 = t.val / 8 ∧ win0_16.index t 1 = t.val % 8 ∧ win0_16.index t 2 = 0 := by decide +kernel
theorem index17 : ∀ t : Fin cfg0.N, win0_17.index t 0 = t.val / 8 ∧ win0_17.index t 1 = t.val % 8 ∧ win0_17.index t 2 = 0 := by decide +kernel
theorem index18 : ∀ t : Fin cfg0.N, win0_18.index t 0 = t.val / 8 ∧ win0_18.index t 1 = t.val % 8 ∧ win0_18.index t 2 = 0 := by decide +kernel
theorem index19 : ∀ t : Fin cfg0.N, win0_19.index t 0 = t.val / 8 ∧ win0_19.index t 1 = t.val % 8 ∧ win0_19.index t 2 = 0 := by decide +kernel
theorem index20 : ∀ t : Fin cfg0.N, win0_20.index t 0 = t.val / 8 ∧ win0_20.index t 1 = t.val % 8 ∧ win0_20.index t 2 = 0 := by decide +kernel
theorem index1 : ∀ t : Fin cfg0.N, win0_1.index t 0 = t.val / 8 ∧ win0_1.index t 1 = 32 * (t.val % 8) - 1 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index13 : ∀ t : Fin cfg0.N, win0_13.index t 0 = 0 ∧ win0_13.index t 1 = 0 := by decide +kernel

/-- The sequence of a grid point. -/
def seqOf (t : Fin cfg0.N) : Fin 32 := ⟨t.val / 8, by have := t.isLt; have := grid_size; omega⟩

/-- The token of a row of a grid point's tile. -/
def tokOf (t : Fin cfg0.N) (r : Fin 256) : Fin 2048 := ⟨256 * (t.val % 8) + r.val, by omega⟩

theorem host2 (c : Dev nD) (k : Fin 1) (j : Fin 1024) : V m c main_v22 (ix2 k j) = m ((c : Thread nD τ).loc main_arg1) (ix1 j) := by
  unfold V
  after_reads_at

theorem host3_0 (c : Dev nD) (j : Fin 1024) : V m c main_v0 (ix2 (0 : Fin 8) j) = m ((c : Thread nD τ).loc main_arg2) (ix2 (0 : Fin 6) j) := by
  unfold V
  after_reads_at

theorem host3_1 (c : Dev nD) (j : Fin 1024) : V m c main_v0 (ix2 (1 : Fin 8) j) = m ((c : Thread nD τ).loc main_arg2) (ix2 (1 : Fin 6) j) := by
  unfold V
  after_reads_at

theorem host3_2 (c : Dev nD) (j : Fin 1024) : V m c main_v0 (ix2 (2 : Fin 8) j) = m ((c : Thread nD τ).loc main_arg2) (ix2 (2 : Fin 6) j) := by
  unfold V
  after_reads_at

theorem host3_3 (c : Dev nD) (j : Fin 1024) : V m c main_v0 (ix2 (3 : Fin 8) j) = m ((c : Thread nD τ).loc main_arg2) (ix2 (3 : Fin 6) j) := by
  unfold V
  after_reads_at

theorem host3_4 (c : Dev nD) (j : Fin 1024) : V m c main_v0 (ix2 (4 : Fin 8) j) = m ((c : Thread nD τ).loc main_arg2) (ix2 (4 : Fin 6) j) := by
  unfold V
  after_reads_at

theorem host3_5 (c : Dev nD) (j : Fin 1024) : V m c main_v0 (ix2 (5 : Fin 8) j) = m ((c : Thread nD τ).loc main_arg2) (ix2 (5 : Fin 6) j) := by
  unfold V
  after_reads_at

theorem host4_0 (c : Dev nD) (j : Fin 1024) : V m c main_v6 (ix2 (0 : Fin 8) j) = m ((c : Thread nD τ).loc main_arg6) (ix1 j) := by
  unfold V
  after_reads_at
  after_reads_at

theorem host4_1 (c : Dev nD) (j : Fin 1024) : V m c main_v6 (ix2 (1 : Fin 8) j) = m ((c : Thread nD τ).loc main_arg9) (ix1 j) := by
  unfold V
  after_reads_at
  after_reads_at

theorem host4_2 (c : Dev nD) (j : Fin 1024) : V m c main_v6 (ix2 (2 : Fin 8) j) = m ((c : Thread nD τ).loc main_arg14) (ix1 j) := by
  unfold V
  after_reads_at
  after_reads_at

theorem host4_3 (c : Dev nD) (j : Fin 1024) : V m c main_v6 (ix2 (3 : Fin 8) j) = m ((c : Thread nD τ).loc main_arg15) (ix1 j) := by
  unfold V
  after_reads_at
  after_reads_at

theorem host5 (c : Dev nD) (k j : Fin 1024) : V m c main_v7 (ix2 k j) = m ((c : Thread nD τ).loc main_arg3) (ix2 k j) := by
  unfold V
  after_reads_at

theorem host6 (c : Dev nD) (k j : Fin 1024) : V m c main_v8 (ix2 k j) = m ((c : Thread nD τ).loc main_arg4) (ix2 k j) := by
  unfold V
  after_reads_at

theorem host7 (c : Dev nD) (k j : Fin 1024) : V m c main_v9 (ix2 k j) = m ((c : Thread nD τ).loc main_arg5) (ix2 k j) := by
  unfold V
  after_reads_at

theorem host8 (c : Dev nD) (k : Fin 1024) (q : Fin 64) : V m c main_v11 (ix2 k (⟨q.val, by omega⟩ : Fin 128)) = m ((c : Thread nD τ).loc main_arg7) (ix2 k q) := by
  unfold V
  after_reads_at

theorem host9 (c : Dev nD) (q : Fin 64) (k : Fin 1024) : V m c main_v13 (ix2 (⟨q.val, by omega⟩ : Fin 128) k) = m ((c : Thread nD τ).loc main_arg8) (ix2 q k) := by
  unfold V
  after_reads_at

theorem host9_zero (c : Dev nD) (q : Fin 128) (k : Fin 1024) (h : 64 ≤ q.val) : V m c main_v13 (ix2 q k) = (0 : EReal) := by
  unfold V
  after_reads_at
  exact dif_neg (by omega)

theorem host10 (c : Dev nD) (k : Fin 1024) (q : Fin 64) : V m c main_v15 (ix2 k (⟨q.val, by omega⟩ : Fin 128)) = m ((c : Thread nD τ).loc main_arg10) (ix2 k q) := by
  unfold V
  after_reads_at

theorem host11 (c : Dev nD) (q : Fin 64) (k : Fin 1024) : V m c main_v17 (ix2 (⟨q.val, by omega⟩ : Fin 128) k) = m ((c : Thread nD τ).loc main_arg11) (ix2 q k) := by
  unfold V
  after_reads_at

theorem host11_zero (c : Dev nD) (q : Fin 128) (k : Fin 1024) (h : 64 ≤ q.val) : V m c main_v17 (ix2 q k) = (0 : EReal) := by
  unfold V
  after_reads_at
  exact dif_neg (by omega)

theorem host12 (c : Dev nD) (k : Fin 1024) (q : Fin 160) : V m c main_v19 (ix2 k (⟨q.val, by omega⟩ : Fin 256)) = m ((c : Thread nD τ).loc main_arg12) (ix2 k q) := by
  unfold V
  after_reads_at

theorem host13 (c : Dev nD) (q : Fin 160) (k : Fin 1024) : V m c main_v21 (ix2 (⟨q.val, by omega⟩ : Fin 256) k) = m ((c : Thread nD τ).loc main_arg13) (ix2 q k) := by
  unfold V
  after_reads_at

theorem host13_zero (c : Dev nD) (q : Fin 256) (k : Fin 1024) (h : 160 ≤ q.val) : V m c main_v21 (ix2 q k) = (0 : EReal) := by
  unfold V
  after_reads_at
  exact dif_neg (by omega)

theorem blk0 (c : Dev nD) (t : Fin cfg0.N) (r : Fin 256) (j : Fin 1024) :
    (iblk m c 0 t : Vec Ideal S1x256x1024 .f32) (ix3 0 r j) = m ((c : Thread nD τ).loc main_arg0) (ix3 (seqOf t) (tokOf t r) j) := by
  have hi := index0 t
  rw [← V_main_arg0 m c]
  unfold iblk
  rw [View.read_apply]
  show V m c main_arg0 _ = V m c main_arg0 _
  congr 1
  funext a
  apply Fin.ext
  match a with
  | ⟨0, _⟩ => show win0_0.index t 0 * 1 + 1 * 0 = t.val / 8; rw [hi.1]; omega
  | ⟨1, _⟩ => show win0_0.index t 1 * 256 + 1 * r.val = 256 * (t.val % 8) + r.val; rw [hi.2.1]; omega
  | ⟨2, _⟩ => show win0_0.index t 2 * 1024 + 1 * j.val = j.val; rw [hi.2.2]; omega

theorem blk1 (c : Dev nD) (t : Fin cfg0.N) (h : 0 < t.val % 8) (j : Fin 1024) :
    (iblk m c 1 t : Vec Ideal S1x8x1024 .f32) (ix3 0 7 j) = m ((c : Thread nD τ).loc main_arg0) (ix3 (seqOf t) (⟨256 * (t.val % 8) - 1, by omega⟩ : Fin 2048) j) := by
  have hi := index1 t
  rw [← V_main_arg0 m c]
  unfold iblk
  rw [View.read_apply]
  show V m c main_arg0 _ = V m c main_arg0 _
  congr 1
  funext a
  apply Fin.ext
  match a with
  | ⟨0, _⟩ => show win0_1.index t 0 * 1 + 1 * 0 = t.val / 8; rw [hi.1]; omega
  | ⟨1, _⟩ => show win0_1.index t 1 * 8 + 1 * 7 = 256 * (t.val % 8) - 1; rw [hi.2.1]; omega
  | ⟨2, _⟩ => show win0_1.index t 2 * 1024 + 1 * j.val = j.val; rw [hi.2.2]; omega

theorem blk2 (c : Dev nD) (t : Fin cfg0.N) (k : Fin 1) (j : Fin 1024) : (iblk m c 2 t : Vec Ideal S1x1024 .f32) (ix2 k j) = V m c main_v22 (ix2 k j) := by
  have hi := index2 t
  unfold iblk
  rw [View.read_apply]
  show V m c main_v22 _ = V m c main_v22 _
  congr 1
  funext a
  apply Fin.ext
  match a with
  | ⟨0, _⟩ => show win0_2.index t 0 * 1 + 1 * k.val = k.val; rw [hi.1]; omega
  | ⟨1, _⟩ => show win0_2.index t 1 * 1024 + 1 * j.val = j.val; rw [hi.2]; omega

theorem blk3 (c : Dev nD) (t : Fin cfg0.N) (k : Fin 8) (j : Fin 1024) : (iblk m c 3 t : Vec Ideal S8x1024 .f32) (ix2 k j) = V m c main_v0 (ix2 k j) := by
  have hi := index3 t
  unfold iblk
  rw [View.read_apply]
  show V m c main_v0 _ = V m c main_v0 _
  congr 1
  funext a
  apply Fin.ext
  match a with
  | ⟨0, _⟩ => show win0_3.index t 0 * 8 + 1 * k.val = k.val; rw [hi.1]; omega
  | ⟨1, _⟩ => show win0_3.index t 1 * 1024 + 1 * j.val = j.val; rw [hi.2]; omega

theorem blk4 (c : Dev nD) (t : Fin cfg0.N) (k : Fin 8) (j : Fin 1024) : (iblk m c 4 t : Vec Ideal S8x1024 .f32) (ix2 k j) = V m c main_v6 (ix2 k j) := by
  have hi := index4 t
  unfold iblk
  rw [View.read_apply]
  show V m c main_v6 _ = V m c main_v6 _
  congr 1
  funext a
  apply Fin.ext
  match a with
  | ⟨0, _⟩ => show win0_4.index t 0 * 8 + 1 * k.val = k.val; rw [hi.1]; omega
  | ⟨1, _⟩ => show win0_4.index t 1 * 1024 + 1 * j.val = j.val; rw [hi.2]; omega

theorem blk5 (c : Dev nD) (t : Fin cfg0.N) (k : Fin 1024) (j : Fin 1024) : (iblk m c 5 t : Vec Ideal S1024x1024 .bf16) (ix2 k j) = V m c main_v7 (ix2 k j) := by
  have hi := index5 t
  unfold iblk
  rw [View.read_apply]
  show V m c main_v7 _ = V m c main_v7 _
  congr 1
  funext a
  apply Fin.ext
  match a with
  | ⟨0, _⟩ => show win0_5.index t 0 * 1024 + 1 * k.val = k.val; rw [hi.1]; omega
  | ⟨1, _⟩ => show win0_5.index t 1 * 1024 + 1 * j.val = j.val; rw [hi.2]; omega

theorem blk6 (c : Dev nD) (t : Fin cfg0.N) (k : Fin 1024) (j : Fin 1024) : (iblk m c 6 t : Vec Ideal S1024x1024 .bf16) (ix2 k j) = V m c main_v8 (ix2 k j) := by
  have hi := index6 t
  unfold iblk
  rw [View.read_apply]
  show V m c main_v8 _ = V m c main_v8 _
  congr 1
  funext a
  apply Fin.ext
  match a with
  | ⟨0, _⟩ => show win0_6.index t 0 * 1024 + 1 * k.val = k.val; rw [hi.1]; omega
  | ⟨1, _⟩ => show win0_6.index t 1 * 1024 + 1 * j.val = j.val; rw [hi.2]; omega

theorem blk7 (c : Dev nD) (t : Fin cfg0.N) (k : Fin 1024) (j : Fin 1024) : (iblk m c 7 t : Vec Ideal S1024x1024 .bf16) (ix2 k j) = V m c main_v9 (ix2 k j) := by
  have hi := index7 t
  unfold iblk
  rw [View.read_apply]
  show V m c main_v9 _ = V m c main_v9 _
  congr 1
  funext a
  apply Fin.ext
  match a with
  | ⟨0, _⟩ => show win0_7.index t 0 * 1024 + 1 * k.val = k.val; rw [hi.1]; omega
  | ⟨1, _⟩ => show win0_7.index t 1 * 1024 + 1 * j.val = j.val; rw [hi.2]; omega

theorem blk8 (c : Dev nD) (t : Fin cfg0.N) (k : Fin 1024) (j : Fin 128) : (iblk m c 8 t : Vec Ideal S1024x128 .bf16) (ix2 k j) = V m c main_v11 (ix2 k j) := by
  have hi := index8 t
  unfold iblk
  rw [View.read_apply]
  show V m c main_v11 _ = V m c main_v11 _
  congr 1
  funext a
  apply Fin.ext
  match a with
  | ⟨0, _⟩ => show win0_8.index t 0 * 1024 + 1 * k.val = k.val; rw [hi.1]; omega
  | ⟨1, _⟩ => show win0_8.index t 1 * 128 + 1 * j.val = j.val; rw [hi.2]; omega

theorem blk9 (c : Dev nD) (t : Fin cfg0.N) (k : Fin 128) (j : Fin 1024) : (iblk m c 9 t : Vec Ideal S128x1024 .bf16) (ix2 k j) = V m c main_v13 (ix2 k j) := by
  have hi := index9 t
  unfold iblk
  rw [View.read_apply]
  show V m c main_v13 _ = V m c main_v13 _
  congr 1
  funext a
  apply Fin.ext
  match a with
  | ⟨0, _⟩ => show win0_9.index t 0 * 128 + 1 * k.val = k.val; rw [hi.1]; omega
  | ⟨1, _⟩ => show win0_9.index t 1 * 1024 + 1 * j.val = j.val; rw [hi.2]; omega

theorem blk10 (c : Dev nD) (t : Fin cfg0.N) (k : Fin 1024) (j : Fin 128) : (iblk m c 10 t : Vec Ideal S1024x128 .bf16) (ix2 k j) = V m c main_v15 (ix2 k j) := by
  have hi := index10 t
  unfold iblk
  rw [View.read_apply]
  show V m c main_v15 _ = V m c main_v15 _
  congr 1
  funext a
  apply Fin.ext
  match a with
  | ⟨0, _⟩ => show win0_10.index t 0 * 1024 + 1 * k.val = k.val; rw [hi.1]; omega
  | ⟨1, _⟩ => show win0_10.index t 1 * 128 + 1 * j.val = j.val; rw [hi.2]; omega

theorem blk11 (c : Dev nD) (t : Fin cfg0.N) (k : Fin 128) (j : Fin 1024) : (iblk m c 11 t : Vec Ideal S128x1024 .bf16) (ix2 k j) = V m c main_v17 (ix2 k j) := by
  have hi := index11 t
  unfold iblk
  rw [View.read_apply]
  show V m c main_v17 _ = V m c main_v17 _
  congr 1
  funext a
  apply Fin.ext
  match a with
  | ⟨0, _⟩ => show win0_11.index t 0 * 128 + 1 * k.val = k.val; rw [hi.1]; omega
  | ⟨1, _⟩ => show win0_11.index t 1 * 1024 + 1 * j.val = j.val; rw [hi.2]; omega

theorem blk12 (c : Dev nD) (t : Fin cfg0.N) (k : Fin 1024) (j : Fin 256) : (iblk m c 12 t : Vec Ideal S1024x256 .bf16) (ix2 k j) = V m c main_v19 (ix2 k j) := by
  have hi := index12 t
  unfold iblk
  rw [View.read_apply]
  show V m c main_v19 _ = V m c main_v19 _
  congr 1
  funext a
  apply Fin.ext
  match a with
  | ⟨0, _⟩ => show win0_12.index t 0 * 1024 + 1 * k.val = k.val; rw [hi.1]; omega
  | ⟨1, _⟩ => show win0_12.index t 1 * 256 + 1 * j.val = j.val; rw [hi.2]; omega

theorem blk13 (c : Dev nD) (t : Fin cfg0.N) (k : Fin 256) (j : Fin 1024) : (iblk m c 13 t : Vec Ideal S256x1024 .bf16) (ix2 k j) = V m c main_v21 (ix2 k j) := by
  have hi := index13 t
  unfold iblk
  rw [View.read_apply]
  show V m c main_v21 _ = V m c main_v21 _
  congr 1
  funext a
  apply Fin.ext
  match a with
  | ⟨0, _⟩ => show win0_13.index t 0 * 256 + 1 * k.val = k.val; rw [hi.1]; omega
  | ⟨1, _⟩ => show win0_13.index t 1 * 1024 + 1 * j.val = j.val; rw [hi.2]; omega

theorem gate_val : ∀ n : Fin 8, (Scalar.extui (Scalar.cmpi .sgt (BitVec.ofNat 32 n.val) 0#32) : BitVec 32).toInt = if n.val = 0 then 0 else 1 := by decide

theorem coord : ∀ t : Fin cfg0.N, (grid0.coords t 1).val = t.val % 8 := by decide +kernel

theorem gate_eq (t : Fin cfg0.N) : gate (grid0.coords t) = if t.val % 8 = 0 then 0 else 1 := by
  unfold gate
  rw [coord t, gate_val ⟨t.val % 8, by omega⟩]
  dsimp only
  split <;> simp

theorem hb_row (c : Dev nD) (t : Fin cfg0.N) (r : Fin 256) (k : Fin 1024) :
    hb (iblk m c 0 t) (iblk m c 2 t) (ix2 r k) = hrow (m ((c : Thread nD τ).loc main_arg0)) (m ((c : Thread nD τ).loc main_arg1)) (seqOf t) (tokOf t r) k := by
  unfold hb
  refine (pay7_apply _ _ r k).trans ?_
  unfold hrow
  exact congrArg₂ (fun f g => rmsRow f g k) (funext fun l => blk0 m c t r l) (funext fun l => (blk2 m c t 0 l).trans (host2 m c 0 l))

theorem sb_row (c : Dev nD) (t : Fin cfg0.N) (r : Fin 256) (k : Fin 1024) :
    sb (grid0.coords t) (iblk m c 0 t) (iblk m c 1 t) (iblk m c 2 t) (ix2 r k)
      = prow (m ((c : Thread nD τ).loc main_arg0)) (m ((c : Thread nD τ).loc main_arg1)) (seqOf t) (tokOf t r) k := by
  unfold prow
  by_cases hr : 0 < r.val
  · have ht : 0 < (tokOf t r).val := by show 0 < 256 * (t.val % 8) + r.val; omega
    rw [dif_pos ht, sb_succ _ _ _ _ r hr k, hb_row]
    exact congrArg (fun z => hrow (m ((c : Thread nD τ).loc main_arg0)) (m ((c : Thread nD τ).loc main_arg1)) (seqOf t) z k)
      (Fin.ext (by show 256 * (t.val % 8) + (r.val - 1) = 256 * (t.val % 8) + r.val - 1; omega))
  · obtain rfl : r = 0 := Fin.ext (by show r.val = 0; omega)
    rw [sb_zero]
    refine (pay8_apply _ _ _ 7 k).trans ?_
    rw [gate_eq]
    by_cases ht : t.val % 8 = 0
    · rw [if_pos ht, mul_zero, dif_neg (by show ¬ 0 < 256 * (t.val % 8) + 0; omega)]
    · rw [if_neg ht, mul_one, dif_pos (by show 0 < 256 * (t.val % 8) + 0; omega)]
      unfold hrow
      exact congrArg₂ (fun f g => rmsRow f g k) (funext fun l => blk1 m c t (by omega) l) (funext fun l => (blk2 m c t 0 l).trans (host2 m c 0 l))

theorem mixed0 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row0 (iblk m c 3 t) (ix2 0 k))
      = mixed (m ((c : Thread nD τ).loc main_arg0)) (m ((c : Thread nD τ).loc main_arg1)) (m ((c : Thread nD τ).loc main_arg2)) (seqOf t) (tokOf t r) 0 := by
  unfold mixed
  rw [funext fun k => hb_row m c t r k, funext fun k => sb_row m c t r k,
    funext fun k => (row0_apply (iblk m c 3 t) k).trans ((blk3 m c t 0 k).trans (host3_0 m c k))]

theorem mixed1 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row1 (iblk m c 3 t) (ix2 0 k))
      = mixed (m ((c : Thread nD τ).loc main_arg0)) (m ((c : Thread nD τ).loc main_arg1)) (m ((c : Thread nD τ).loc main_arg2)) (seqOf t) (tokOf t r) 1 := by
  unfold mixed
  rw [funext fun k => hb_row m c t r k, funext fun k => sb_row m c t r k,
    funext fun k => (row1_apply (iblk m c 3 t) k).trans ((blk3 m c t 1 k).trans (host3_1 m c k))]

theorem mixed2 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row2 (iblk m c 3 t) (ix2 0 k))
      = mixed (m ((c : Thread nD τ).loc main_arg0)) (m ((c : Thread nD τ).loc main_arg1)) (m ((c : Thread nD τ).loc main_arg2)) (seqOf t) (tokOf t r) 2 := by
  unfold mixed
  rw [funext fun k => hb_row m c t r k, funext fun k => sb_row m c t r k,
    funext fun k => (row2_apply (iblk m c 3 t) k).trans ((blk3 m c t 2 k).trans (host3_2 m c k))]

theorem mixed3 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row3 (iblk m c 3 t) (ix2 0 k))
      = mixed (m ((c : Thread nD τ).loc main_arg0)) (m ((c : Thread nD τ).loc main_arg1)) (m ((c : Thread nD τ).loc main_arg2)) (seqOf t) (tokOf t r) 3 := by
  unfold mixed
  rw [funext fun k => hb_row m c t r k, funext fun k => sb_row m c t r k,
    funext fun k => (row3_apply (iblk m c 3 t) k).trans ((blk3 m c t 3 k).trans (host3_3 m c k))]

theorem mixed4 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row4 (iblk m c 3 t) (ix2 0 k))
      = mixed (m ((c : Thread nD τ).loc main_arg0)) (m ((c : Thread nD τ).loc main_arg1)) (m ((c : Thread nD τ).loc main_arg2)) (seqOf t) (tokOf t r) 4 := by
  unfold mixed
  rw [funext fun k => hb_row m c t r k, funext fun k => sb_row m c t r k,
    funext fun k => (row4_apply (iblk m c 3 t) k).trans ((blk3 m c t 4 k).trans (host3_4 m c k))]

theorem mixed5 (c : Dev nD) (t : Fin cfg0.N) (r : Fin 256) :
    mix (fun k => hb (iblk m c 0 t) (iblk m c 2 t) (ix2 r k)) (fun k => sb (grid0.coords t) (iblk m c 0 t) (iblk m c 1 t) (iblk m c 2 t) (ix2 r k)) (fun k => row5 (iblk m c 3 t) (ix2 0 k))
      = mixed (m ((c : Thread nD τ).loc main_arg0)) (m ((c : Thread nD τ).loc main_arg1)) (m ((c : Thread nD τ).loc main_arg2)) (seqOf t) (tokOf t r) 5 := by
  unfold mixed
  rw [funext fun k => hb_row m c t r k, funext fun k => sb_row m c t r k,
    funext fun k => (row5_apply (iblk m c 3 t) k).trans ((blk3 m c t 5 k).trans (host3_5 m c k))]

end Cert.Proj

end
-- ==== Proof.ProjGrid.lean ====
module

public import proofs.«01_k».proof.Proof.ProjBlk

@[expose] public section

/-! The seven whole results. -/

noncomputable section

namespace Cert.Proj

open Cert.RowMath Cert.Kernel7Ideal Cert.Kernel7Ideal.Gen Idealize.ShloMosaic Idealize.ShloMosaic.TcCoe Idealize.SL.Sem

variable (m : (ℓ : Loc nD τ sig) → Buf (Elt Ideal) ℓ)

theorem split_block (y : S1x256x1024.Idx) : y = ix3 0 (y 1) (y 2) := by
  funext a
  apply Fin.ext
  match a with
  | ⟨0, _⟩ => have : (y 0).val < 1 := (y 0).isLt; show (y 0).val = 0; omega
  | ⟨1, _⟩ => rfl
  | ⟨2, _⟩ => rfl

theorem weight5 (c : Dev nD) (t : Fin cfg0.N) (y : Fin 1024 → EReal) (j : Fin 1024) :
    dense y (fun k q => (iblk m c 5 t : Vec Ideal S1024x1024 .bf16) (ix2 k q)) j = dense y (fun k q => (m ((c : Thread nD τ).loc main_arg3)) (ix2 k q)) j := by
  unfold dense
  exact Finset.sum_congr rfl fun k _ => congrArg (fun z => y k * z) ((blk5 m c t k j).trans (host5 m c k j))

theorem weight6 (c : Dev nD) (t : Fin cfg0.N) (y : Fin 1024 → EReal) (j : Fin 1024) :
    dense y (fun k q => (iblk m c 6 t : Vec Ideal S1024x1024 .bf16) (ix2 k q)) j = dense y (fun k q => (m ((c : Thread nD τ).loc main_arg4)) (ix2 k q)) j := by
  unfold dense
  exact Finset.sum_congr rfl fun k _ => congrArg (fun z => y k * z) ((blk6 m c t k j).trans (host6 m c k j))

theorem weight7 (c : Dev nD) (t : Fin cfg0.N) (y : Fin 1024 → EReal) (j : Fin 1024) :
    dense y (fun k q => (iblk m c 7 t : Vec Ideal S1024x1024 .bf16) (ix2 k q)) j = dense y (fun k q => (m ((c : Thread nD τ).loc main_arg5)) (ix2 k q)) j := by
  unfold dense
  exact Finset.sum_congr rfl fun k _ => congrArg (fun z => y k * z) ((blk7 m c t k j).trans (host7 m c k j))

theorem weight8 (c : Dev nD) (t : Fin cfg0.N) (y : Fin 1024 → EReal) (j : Fin 1024) :
    lora Ideal.tanh y (fun k q => (iblk m c 8 t : Vec Ideal S1024x128 .bf16) (ix2 k q)) (fun q k => (iblk m c 9 t : Vec Ideal S128x1024 .bf16) (ix2 q k)) j
      = lora Ideal.tanh y (fun k q => (m ((c : Thread nD τ).loc main_arg7)) (ix2 k q)) (fun q k => (m ((c : Thread nD τ).loc main_arg8)) (ix2 q k)) j :=
  lora_pad (by decide) Ideal.tanh y _ _ _ _ j (fun k q => (blk8 m c t k _).trans (host8 m c k q)) (fun q => (blk9 m c t _ j).trans (host9 m c q j))
    (fun q hq => (blk9 m c t q j).trans (host9_zero m c q j hq))

theorem weight10 (c : Dev nD) (t : Fin cfg0.N) (y : Fin 1024 → EReal) (j : Fin 1024) :
    lora id y (fun k q => (iblk m c 10 t : Vec Ideal S1024x128 .bf16) (ix2 k q)) (fun q k => (iblk m c 11 t : Vec Ideal S128x1024 .bf16) (ix2 q k)) j
      = lora id y (fun k q => (m ((c : Thread nD τ).loc main_arg10)) (ix2 k q)) (fun q k => (m ((c : Thread nD τ).loc main_arg11)) (ix2 q k)) j :=
  lora_pad (by decide) id y _ _ _ _ j (fun k q => (blk10 m c t k _).trans (host10 m c k q)) (fun q => (blk11 m c t _ j).trans (host11 m c q j))
    (fun q hq => (blk11 m c t q j).trans (host11_zero m c q j hq))

theorem weight12 (c : Dev nD) (t : Fin cfg0.N) (y : Fin 1024 → EReal) (j : Fin 1024) :
    lora Ideal.logistic y (fun k q => (iblk m c 12 t : Vec Ideal S1024x256 .bf16) (ix2 k q)) (fun q k => (iblk m c 13 t : Vec Ideal S256x1024 .bf16) (ix2 q k)) j
      = lora Ideal.logistic y (fun k q => (m ((c : Thread nD τ).loc main_arg12)) (ix2 k q)) (fun q k => (m ((c : Thread nD τ).loc main_arg13)) (ix2 q k)) j :=
  lora_pad (by decide) Ideal.logistic y _ _ _ _ j (fun k q => (blk12 m c t k _).trans (host12 m c k q)) (fun q => (blk13 m c t _ j).trans (host13 m c q j))
    (fun q hq => (blk13 m c t q j).trans (host13_zero m c q j hq))

theorem vec0 (c : Dev nD) (t : Fin cfg0.N) (j : Fin 1024) : row0 (iblk m c 4 t) (ix2 0 j) = (m ((c : Thread nD τ).loc main_arg6)) (ix1 j) :=
  (row0_apply (iblk m c 4 t) j).trans ((blk4 m c t 0 j).trans (host4_0 m c j))

theorem vec1 (c : Dev nD) (t : Fin cfg0.N) (j : Fin 1024) : row1 (iblk m c 4 t) (ix2 0 j) = (m ((c : Thread nD τ).loc main_arg9)) (ix1 j) :=
  (row1_apply (iblk m c 4 t) j).trans ((blk4 m c t 1 j).trans (host4_1 m c j))

theorem vec2 (c : Dev nD) (t : Fin cfg0.N) (j : Fin 1024) : row2 (iblk m c 4 t) (ix2 0 j) = (m ((c : Thread nD τ).loc main_arg14)) (ix1 j) :=
  (row2_apply (iblk m c 4 t) j).trans ((blk4 m c t 2 j).trans (host4_2 m c j))

theorem vec3 (c : Dev nD) (t : Fin cfg0.N) (j : Fin 1024) : row3 (iblk m c 4 t) (ix2 0 j) = (m ((c : Thread nD τ).loc main_arg15)) (ix1 j) :=
  (row3_apply (iblk m c 4 t) j).trans ((blk4 m c t 3 j).trans (host4_3 m c j))

theorem index_out14 (t : Fin cfg0.N) (r : Fin 256) (j : Fin 1024) : (win0_14.blk t).view.emb (ix3 0 r j) = ix3 (seqOf t) (tokOf t r) j := by
  have hi := index14 t
  funext a
  apply Fin.ext
  match a with
  | ⟨0, _⟩ => show win0_14.index t 0 * 1 + 1 * 0 = t.val / 8; rw [hi.1]; omega
  | ⟨1, _⟩ => show win0_14.index t 1 * 256 + 1 * r.val = 256 * (t.val % 8) + r.val; rw [hi.2.1]; omega
  | ⟨2, _⟩ => show win0_14.index t 2 * 1024 + 1 * j.val = j.val; rw [hi.2.2]; omega

theorem covered14 (i : S32x2048x1024.Idx) : ∃ t : Fin cfg0.N, (cfg0.win 14).flush t = true ∧ i ∈ ((cfg0.win 14).blk t).view.set := by
  have hb : (i 0).val < 32 := (i 0).isLt
  have ht : (i 1).val < 2048 := (i 1).isLt
  have hN : cfg0.N = 256 := N_0
  refine ⟨⟨8 * (i 0).val + (i 1).val / 256, by omega⟩, flush0_14 _, ?_⟩
  have e := index_out14 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_14.blk _).view.set) (e.trans e'.symm)) (View.emb_mem_set _ _)

theorem written14 (c : Dev nD) (t : Fin cfg0.N) (r : Fin 256) (j : Fin 1024) :
    @Eq EReal (out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v85 (F := Ideal) (m ((c : Thread nD τ).loc main_arg0)) (m ((c : Thread nD τ).loc main_arg1)) (m ((c : Thread nD τ).loc main_arg2)) (m ((c : Thread nD τ).loc main_arg3))) (ix3 (seqOf t) (tokOf t r) j)) := by
  rw [out14]
  refine (pay24_apply _ r j).trans ?_
  rw [pay15_apply, mixed0, weight5]
  exact (ref_r2 (m ((c : Thread nD τ).loc main_arg0)) (m ((c : Thread nD τ).loc main_arg1)) (m ((c : Thread nD τ).loc main_arg2)) (seqOf t) (tokOf t r) (m ((c : Thread nD τ).loc main_arg3)) j).symm

theorem tie14 (c : Dev nD) : (Cert.Reference7Ideal.Read.val_main_v85 (F := Ideal) (m ((c : Thread nD τ).loc main_arg0)) (m ((c : Thread nD τ).loc main_arg1)) (m ((c : Thread nD τ).loc main_arg2)) (m ((c : Thread nD τ).loc main_arg3))) = (dats m 0 c).arrAt 14 cfg0.N := by
  refine ((dats m 0 c).arrAt_eq_of_cover 14 (Cert.Reference7Ideal.Read.val_main_v85 (F := Ideal) (m ((c : Thread nD τ).loc main_arg0)) (m ((c : Thread nD τ).loc main_arg1)) (m ((c : Thread nD τ).loc main_arg2)) (m ((c : Thread nD τ).loc main_arg3))) (fun t _ => ?_) covered14).symm
  rw [Value.flushed14_A]
  refine funext fun y => ?_
  rw [View.read_apply, split_block y]
  refine (written14 m c t (y 1) (y 2)).trans ?_
  exact congrArg (Cert.Reference7Ideal.Read.val_main_v85 (F := Ideal) (m ((c : Thread nD τ).loc main_arg0)) (m ((c : Thread nD τ).loc main_arg1)) (m ((c : Thread nD τ).loc main_arg2)) (m ((c : Thread nD τ).loc main_arg3))) (index_out14 t (y 1) (y 2)).symm

theorem index_out15 (t : Fin cfg0.N) (r : Fin 256) (j : Fin 1024) : (win0_15.blk t).view.emb (ix3 0 r j) = ix3 (seqOf t) (tokOf t r) j := by
  have hi := index15 t
  funext a
  apply Fin.ext
  match a with
  | ⟨0, _⟩ => show win0_15.index t 0 * 1 + 1 * 0 = t.val / 8; rw [hi.1]; omega
  | ⟨1, _⟩ => show win0_15.index t 1 * 256 + 1 * r.val = 256 * (t.val % 8) + r.val; rw [hi.2.1]; omega
  | ⟨2, _⟩ => show win0_15.index t 2 * 1024 + 1 * j.val = j.val; rw [hi.2.2]; omega

theorem covered15 (i : S32x2048x1024.Idx) : ∃ t : Fin cfg0.N, (cfg0.win 15).flush t = true ∧ i ∈ ((cfg0.win 15).blk t).view.set := by
  have hb : (i 0).val < 32 := (i 0).isLt
  have ht : (i 1).val < 2048 := (i 1).isLt
  have hN : cfg0.N = 256 := N_0
  refine ⟨⟨8 * (i 0).val + (i 1).val / 256, by omega⟩, flush0_15 _, ?_⟩
  have e := index_out15 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_15.blk _).view.set) (e.trans e'.symm)) (View.emb_mem_set _ _)

theorem written15 (c : Dev nD) (t : Fin cfg0.N) (r : Fin 256) (j : Fin 1024) :
    @Eq EReal (out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg15))) (ix3 (seqOf t) (tokOf t r) j)) := by
  rw [out15]
  refine (pay25_apply _ _ _ r j).trans ?_
  rw [pay18_apply, pay20_apply, mixed2, mixed4, weight6, weight10, vec1, vec3]
  exact (ref_k2 (m ((c : Thread nD τ).loc main_arg0)) (m ((c : Thread nD τ).loc main_arg1)) (m ((c : Thread nD τ).loc main_arg2)) (seqOf t) (tokOf t r) (m ((c : Thread nD τ).loc main_arg4)) (m ((c : Thread nD τ).loc main_arg9)) (m ((c : Thread nD τ).loc main_arg10)) (m ((c : Thread nD τ).loc main_arg11)) (m ((c : Thread nD τ).loc main_arg15)) j).symm

theorem tie15 (c : Dev nD) : (Cert.Reference7Ideal.Read.val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg15))) = (dats m 0 c).arrAt 15 cfg0.N := by
  refine ((dats m 0 c).arrAt_eq_of_cover 15 (Cert.Reference7Ideal.Read.val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg15))) (fun t _ => ?_) covered15).symm
  rw [Value.flushed15_A]
  refine funext fun y => ?_
  rw [View.read_apply, split_block y]
  refine (written15 m c t (y 1) (y 2)).trans ?_
  exact congrArg (Cert.Reference7Ideal.Read.val_main_v94 (F := Ideal) (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg10)) (m ((c : Thread nD τ).loc main_arg11)) (m ((c : Thread nD τ).loc main_arg15))) (index_out15 t (y 1) (y 2)).symm

theorem index_out16 (t : Fin cfg0.N) (r : Fin 256) (j : Fin 1024) : (win0_16.blk t).view.emb (ix3 0 r j) = ix3 (seqOf t) (tokOf t r) j := by
  have hi := index16 t
  funext a
  apply Fin.ext
  match a with
  | ⟨0, _⟩ => show win0_16.index t 0 * 1 + 1 * 0 = t.val / 8; rw [hi.1]; omega
  | ⟨1, _⟩ => show win0_16.index t 1 * 256 + 1 * r.val = 256 * (t.val % 8) + r.val; rw [hi.2.1]; omega
  | ⟨2, _⟩ => show win0_16.index t 2 * 1024 + 1 * j.val = j.val; rw [hi.2.2]; omega

theorem covered16 (i : S32x2048x1024.Idx) : ∃ t : Fin cfg0.N, (cfg0.win 16).flush t = true ∧ i ∈ ((cfg0.win 16).blk t).view.set := by
  have hb : (i 0).val < 32 := (i 0).isLt
  have ht : (i 1).val < 2048 := (i 1).isLt
  have hN : cfg0.N = 256 := N_0
  refine ⟨⟨8 * (i 0).val + (i 1).val / 256, by omega⟩, flush0_16 _, ?_⟩
  have e := index_out16 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_16.blk _).view.set) (e.trans e'.symm)) (View.emb_mem_set _ _)

theorem written16 (c : Dev nD) (t : Fin cfg0.N) (r : Fin 256) (j : Fin 1024) :
    @Eq EReal (out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v95 (F := Ideal) (m ((c : Thread nD τ).loc main_arg0)) (m ((c : Thread nD τ).loc main_arg1)) (m ((c : Thread nD τ).loc main_arg2)) (m ((c : Thread nD τ).loc main_arg5))) (ix3 (seqOf t) (tokOf t r) j)) := by
  rw [out16]
  refine (pay1_apply _ r j).trans ?_
  rw [pay19_apply, mixed3, weight7]
  exact (ref_v2 (m ((c : Thread nD τ).loc main_arg0)) (m ((c : Thread nD τ).loc main_arg1)) (m ((c : Thread nD τ).loc main_arg2)) (seqOf t) (tokOf t r) (m ((c : Thread nD τ).loc main_arg5)) j).symm

theorem tie16 (c : Dev nD) : (Cert.Reference7Ideal.Read.val_main_v95 (F := Ideal) (m ((c : Thread nD τ).loc main_arg0)) (m ((c : Thread nD τ).loc main_arg1)) (m ((c : Thread nD τ).loc main_arg2)) (m ((c : Thread nD τ).loc main_arg5))) = (dats m 0 c).arrAt 16 cfg0.N := by
  refine ((dats m 0 c).arrAt_eq_of_cover 16 (Cert.Reference7Ideal.Read.val_main_v95 (F := Ideal) (m ((c : Thread nD τ).loc main_arg0)) (m ((c : Thread nD τ).loc main_arg1)) (m ((c : Thread nD τ).loc main_arg2)) (m ((c : Thread nD τ).loc main_arg5))) (fun t _ => ?_) covered16).symm
  rw [Value.flushed16_A]
  refine funext fun y => ?_
  rw [View.read_apply, split_block y]
  refine (written16 m c t (y 1) (y 2)).trans ?_
  exact congrArg (Cert.Reference7Ideal.Read.val_main_v95 (F := Ideal) (m ((c : Thread nD τ).loc main_arg0)) (m ((c : Thread nD τ).loc main_arg1)) (m ((c : Thread nD τ).loc main_arg2)) (m ((c : Thread nD τ).loc main_arg5))) (index_out16 t (y 1) (y 2)).symm

theorem index_out17 (t : Fin cfg0.N) (r : Fin 256) (j : Fin 1024) : (win0_17.blk t).view.emb (ix3 0 r j) = ix3 (seqOf t) (tokOf t r) j := by
  have hi := index17 t
  funext a
  apply Fin.ext
  match a with
  | ⟨0, _⟩ => show win0_17.index t 0 * 1 + 1 * 0 = t.val / 8; rw [hi.1]; omega
  | ⟨1, _⟩ => show win0_17.index t 1 * 256 + 1 * r.val = 256 * (t.val % 8) + r.val; rw [hi.2.1]; omega
  | ⟨2, _⟩ => show win0_17.index t 2 * 1024 + 1 * j.val = j.val; rw [hi.2.2]; omega

theorem covered17 (i : S32x2048x1024.Idx) : ∃ t : Fin cfg0.N, (cfg0.win 17).flush t = true ∧ i ∈ ((cfg0.win 17).blk t).view.set := by
  have hb : (i 0).val < 32 := (i 0).isLt
  have ht : (i 1).val < 2048 := (i 1).isLt
  have hN : cfg0.N = 256 := N_0
  refine ⟨⟨8 * (i 0).val + (i 1).val / 256, by omega⟩, flush0_17 _, ?_⟩
  have e := index_out17 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_17.blk _).view.set) (e.trans e'.symm)) (View.emb_mem_set _ _)

theorem written17 (c : Dev nD) (t : Fin cfg0.N) (r : Fin 256) (j : Fin 1024) :
    @Eq EReal (out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v97 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) (ix3 (seqOf t) (tokOf t r) j)) := by
  rw [out17]
  refine (pay2_apply _ _ r j).trans ?_
  rw [vec0, pay16_apply, mixed1, weight8]
  exact (ref_lw (m ((c : Thread nD τ).loc main_arg0)) (m ((c : Thread nD τ).loc main_arg1)) (m ((c : Thread nD τ).loc main_arg2)) (seqOf t) (tokOf t r) (m ((c : Thread nD τ).loc main_arg6)) (m ((c : Thread nD τ).loc main_arg7)) (m ((c : Thread nD τ).loc main_arg8)) j).symm

theorem tie17 (c : Dev nD) : (Cert.Reference7Ideal.Read.val_main_v97 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) = (dats m 0 c).arrAt 17 cfg0.N := by
  refine ((dats m 0 c).arrAt_eq_of_cover 17 (Cert.Reference7Ideal.Read.val_main_v97 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) (fun t _ => ?_) covered17).symm
  rw [Value.flushed17_A]
  refine funext fun y => ?_
  rw [View.read_apply, split_block y]
  refine (written17 m c t (y 1) (y 2)).trans ?_
  exact congrArg (Cert.Reference7Ideal.Read.val_main_v97 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))) (index_out17 t (y 1) (y 2)).symm

theorem index_out18 (t : Fin cfg0.N) (r : Fin 256) (j : Fin 1024) : (win0_18.blk t).view.emb (ix3 0 r j) = ix3 (seqOf t) (tokOf t r) j := by
  have hi := index18 t
  funext a
  apply Fin.ext
  match a with
  | ⟨0, _⟩ => show win0_18.index t 0 * 1 + 1 * 0 = t.val / 8; rw [hi.1]; omega
  | ⟨1, _⟩ => show win0_18.index t 1 * 256 + 1 * r.val = 256 * (t.val % 8) + r.val; rw [hi.2.1]; omega
  | ⟨2, _⟩ => show win0_18.index t 2 * 1024 + 1 * j.val = j.val; rw [hi.2.2]; omega

theorem covered18 (i : S32x2048x1024.Idx) : ∃ t : Fin cfg0.N, (cfg0.win 18).flush t = true ∧ i ∈ ((cfg0.win 18).blk t).view.set := by
  have hb : (i 0).val < 32 := (i 0).isLt
  have ht : (i 1).val < 2048 := (i 1).isLt
  have hN : cfg0.N = 256 := N_0
  refine ⟨⟨8 * (i 0).val + (i 1).val / 256, by omega⟩, flush0_18 _, ?_⟩
  have e := index_out18 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_18.blk _).view.set) (e.trans e'.symm)) (View.emb_mem_set _ _)

theorem written18 (c : Dev nD) (t : Fin cfg0.N) (r : Fin 256) (j : Fin 1024) :
    @Eq EReal (out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v101 (F := Ideal) (m ((c : Thread nD τ).loc main_arg0)) (m ((c : Thread nD τ).loc main_arg1)) (m ((c : Thread nD τ).loc main_arg2)) (m ((c : Thread nD τ).loc main_arg4)) (m ((c : Thread nD τ).loc main_arg14))) (ix3 (seqOf t) (tokOf t r) j)) := by
  rw [out18]
  refine (pay3_apply _ _ r j).trans ?_
  rw [pay18_apply, mixed2, weight6, vec2]
  exact (ref_kk (m ((c : Thread nD τ).loc main_arg0)) (m ((c : Thread nD τ).loc main_arg1)) (m ((c : Thread nD τ).loc main_arg2)) (seqOf t) (tokOf t r) (m ((c : Thread nD τ).loc main_arg4)) (m ((c : Thread nD τ).loc main_arg14)) j).symm

theorem tie18 (c : Dev nD) : (Cert.Reference7Ideal.Read.val_main_v101 (F := Ideal) (m ((c : Thread nD τ).loc main_arg0)) (m ((c : Thread nD τ).loc main_arg1)) (m ((c : Thread nD τ).loc main_arg2)) (m ((c : Thread nD τ).loc main_arg4)) (m ((c : Thread nD τ).loc main_arg14))) = (dats m 0 c).arrAt 18 cfg0.N := by
  refine ((dats m 0 c).arrAt_eq_of_cover 18 (Cert.Reference7Ideal.Read.val_main_v101 (F := Ideal) (m ((c : Thread nD τ).loc main_arg0)) (m ((c : Thread nD τ).loc main_arg1)) (m ((c : Thread nD τ).loc main_arg2)) (m ((c : Thread nD τ).loc main_arg4)) (m ((c : Thread nD τ).loc main_arg14))) (fun t _ => ?_) covered18).symm
  rw [Value.flushed18_A]
  refine funext fun y => ?_
  rw [View.read_apply, split_block y]
  refine (written18 m c t (y 1) (y 2)).trans ?_
  exact congrArg (Cert.Reference7Ideal.Read.val_main_v101 (F := Ideal) (m ((c : Thread nD τ).loc main_arg0)) (m ((c : Thread nD τ).loc main_arg1)) (m ((c : Thread nD τ).loc main_arg2)) (m ((c : Thread nD τ).loc main_arg4)) (m ((c : Thread nD τ).loc main_arg14))) (index_out18 t (y 1) (y 2)).symm

theorem index_out19 (t : Fin cfg0.N) (r : Fin 256) (j : Fin 1024) : (win0_19.blk t).view.emb (ix3 0 r j) = ix3 (seqOf t) (tokOf t r) j := by
  have hi := index19 t
  funext a
  apply Fin.ext
  match a with
  | ⟨0, _⟩ => show win0_19.index t 0 * 1 + 1 * 0 = t.val / 8; rw [hi.1]; omega
  | ⟨1, _⟩ => show win0_19.index t 1 * 256 + 1 * r.val = 256 * (t.val % 8) + r.val; rw [hi.2.1]; omega
  | ⟨2, _⟩ => show win0_19.index t 2 * 1024 + 1 * j.val = j.val; rw [hi.2.2]; omega

theorem covered19 (i : S32x2048x1024.Idx) : ∃ t : Fin cfg0.N, (cfg0.win 19).flush t = true ∧ i ∈ ((cfg0.win 19).blk t).view.set := by
  have hb : (i 0).val < 32 := (i 0).isLt
  have ht : (i 1).val < 2048 := (i 1).isLt
  have hN : cfg0.N = 256 := N_0
  refine ⟨⟨8 * (i 0).val + (i 1).val / 256, by omega⟩, flush0_19 _, ?_⟩
  have e := index_out19 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_19.blk _).view.set) (e.trans e'.symm)) (View.emb_mem_set _ _)

theorem written19 (c : Dev nD) (t : Fin cfg0.N) (r : Fin 256) (j : Fin 1024) :
    @Eq EReal (out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v102 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11))) (ix3 (seqOf t) (tokOf t r) j)) := by
  rw [out19]
  refine (pay4_apply _ r j).trans ?_
  rw [pay20_apply, mixed4, weight10, vec1]
  exact (ref_a2 (m ((c : Thread nD τ).loc main_arg0)) (m ((c : Thread nD τ).loc main_arg1)) (m ((c : Thread nD τ).loc main_arg2)) (seqOf t) (tokOf t r) (m ((c : Thread nD τ).loc main_arg9)) (m ((c : Thread nD τ).loc main_arg10)) (m ((c : Thread nD τ).loc main_arg11)) j).symm

theorem tie19 (c : Dev nD) : (Cert.Reference7Ideal.Read.val_main_v102 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11))) = (dats m 0 c).arrAt 19 cfg0.N := by
  refine ((dats m 0 c).arrAt_eq_of_cover 19 (Cert.Reference7Ideal.Read.val_main_v102 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11))) (fun t _ => ?_) covered19).symm
  rw [Value.flushed19_A]
  refine funext fun y => ?_
  rw [View.read_apply, split_block y]
  refine (written19 m c t (y 1) (y 2)).trans ?_
  exact congrArg (Cert.Reference7Ideal.Read.val_main_v102 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11))) (index_out19 t (y 1) (y 2)).symm

theorem index_out20 (t : Fin cfg0.N) (r : Fin 256) (j : Fin 1024) : (win0_20.blk t).view.emb (ix3 0 r j) = ix3 (seqOf t) (tokOf t r) j := by
  have hi := index20 t
  funext a
  apply Fin.ext
  match a with
  | ⟨0, _⟩ => show win0_20.index t 0 * 1 + 1 * 0 = t.val / 8; rw [hi.1]; omega
  | ⟨1, _⟩ => show win0_20.index t 1 * 256 + 1 * r.val = 256 * (t.val % 8) + r.val; rw [hi.2.1]; omega
  | ⟨2, _⟩ => show win0_20.index t 2 * 1024 + 1 * j.val = j.val; rw [hi.2.2]; omega

theorem covered20 (i : S32x2048x1024.Idx) : ∃ t : Fin cfg0.N, (cfg0.win 20).flush t = true ∧ i ∈ ((cfg0.win 20).blk t).view.set := by
  have hb : (i 0).val < 32 := (i 0).isLt
  have ht : (i 1).val < 2048 := (i 1).isLt
  have hN : cfg0.N = 256 := N_0
  refine ⟨⟨8 * (i 0).val + (i 1).val / 256, by omega⟩, flush0_20 _, ?_⟩
  have e := index_out20 ⟨8 * (i 0).val + (i 1).val / 256, by omega⟩ ⟨(i 1).val % 256, by omega⟩ (i 2)
  have e' : i = ix3 (seqOf ⟨8 * (i 0).val + (i 1).val / 256, by omega⟩) (tokOf ⟨8 * (i 0).val + (i 1).val / 256, by omega⟩ ⟨(i 1).val % 256, by omega⟩) (i 2) := by
    funext a
    apply Fin.ext
    match a with
    | ⟨0, _⟩ => show (i 0).val = (8 * (i 0).val + (i 1).val / 256) / 8; omega
    | ⟨1, _⟩ => show (i 1).val = 256 * ((8 * (i 0).val + (i 1).val / 256) % 8) + (i 1).val % 256; omega
    | ⟨2, _⟩ => rfl
  exact Eq.mp (congrArg (fun z => z ∈ (win0_20.blk _).view.set) (e.trans e'.symm)) (View.emb_mem_set _ _)

theorem written20 (c : Dev nD) (t : Fin cfg0.N) (r : Fin 256) (j : Fin 1024) :
    @Eq EReal (out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r j)) ((Cert.Reference7Ideal.Read.val_main_v103 (F := Ideal) (m ((c : Thread nD τ).loc main_arg0)) (m ((c : Thread nD τ).loc main_arg1)) (m ((c : Thread nD τ).loc main_arg2)) (m ((c : Thread nD τ).loc main_arg12)) (m ((c : Thread nD τ).loc main_arg13))) (ix3 (seqOf t) (tokOf t r) j)) := by
  rw [out20]
  refine (pay5_apply _ r j).trans ?_
  rw [pay22_apply, mixed5, weight12]
  exact (ref_g2 (m ((c : Thread nD τ).loc main_arg0)) (m ((c : Thread nD τ).loc main_arg1)) (m ((c : Thread nD τ).loc main_arg2)) (seqOf t) (tokOf t r) (m ((c : Thread nD τ).loc main_arg12)) (m ((c : Thread nD τ).loc main_arg13)) j).symm

theorem tie20 (c : Dev nD) : (Cert.Reference7Ideal.Read.val_main_v103 (F := Ideal) (m ((c : Thread nD τ).loc main_arg0)) (m ((c : Thread nD τ).loc main_arg1)) (m ((c : Thread nD τ).loc main_arg2)) (m ((c : Thread nD τ).loc main_arg12)) (m ((c : Thread nD τ).loc main_arg13))) = (dats m 0 c).arrAt 20 cfg0.N := by
  refine ((dats m 0 c).arrAt_eq_of_cover 20 (Cert.Reference7Ideal.Read.val_main_v103 (F := Ideal) (m ((c : Thread nD τ).loc main_arg0)) (m ((c : Thread nD τ).loc main_arg1)) (m ((c : Thread nD τ).loc main_arg2)) (m ((c : Thread nD τ).loc main_arg12)) (m ((c : Thread nD τ).loc main_arg13))) (fun t _ => ?_) covered20).symm
  rw [Value.flushed20_A]
  refine funext fun y => ?_
  rw [View.read_apply, split_block y]
  refine (written20 m c t (y 1) (y 2)).trans ?_
  exact congrArg (Cert.Reference7Ideal.Read.val_main_v103 (F := Ideal) (m ((c : Thread nD τ).loc main_arg0)) (m ((c : Thread nD τ).loc main_arg1)) (m ((c : Thread nD τ).loc main_arg2)) (m ((c : Thread nD τ).loc main_arg12)) (m ((c : Thread nD τ).loc main_arg13))) (index_out20 t (y 1) (y 2)).symm

end Cert.Proj

end
-- ==== Proof.lean ====
/- The claims put together: the frames are the generated ones, each equality is the tie of its own module. -/
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.ReferenceIdeal.Run
public import proofs.«01_k».proof.Proof.Gen.ReferenceIdeal.Read
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Quiescent
public import proofs.«01_k».proof.Proof.Ffn
public import proofs.«01_k».proof.Proof.Ffn2
public import proofs.«01_k».proof.Proof.Lin3
public import proofs.«01_k».proof.Proof.Lin4
public import proofs.«01_k».proof.Proof.NormLin
public import proofs.«01_k».proof.Proof.WkvPre
public import proofs.«01_k».proof.Proof.WkvTie
public import proofs.«01_k».proof.Proof.ProjGrid

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v31_eq]
  simp only [hagree c]
  exact Cert.Ffn.tie m c

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Reference2Ideal.Read.val_main_v18_eq ..).trans (Cert.Ffn2.tie m c)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, Cert.Reference3Ideal.Read.val_main_v3_eq]
  simp only [hagree c]
  exact Cert.Lin3.tie m c

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, Cert.Reference4Ideal.Read.val_main_v2_eq]
  simp only [hagree c]
  exact Cert.Lin4.tie m c

theorem algebraic_Kernel5Ideal_Reference5Ideal : algebraic_Kernel5Ideal_Reference5Ideal := by
  intro m ρ m' ρ' _ hagree
  refine ⟨_, _, _, _, _, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1, h2, h3, h4, h5, h6, hk⟩ := h c
  refine ⟨?_, ?_, ?_, ?_, ?_, ?_, ?_, hk⟩
  · rw [h0]
    simp only [hagree c]
    exact (Cert.Reference5Ideal.Read.val_main_v13_eq ..).trans (Cert.NormLin.tie9 m c)
  · rw [h1]
    simp only [hagree c]
    exact (Cert.Reference5Ideal.Read.val_main_v14_eq ..).trans (Cert.NormLin.tie10 m c)
  · rw [h2]
    simp only [hagree c]
    exact (Cert.Reference5Ideal.Read.val_main_v15_eq ..).trans (Cert.NormLin.tie11 m c)
  · rw [h3]
    simp only [hagree c]
    exact (Cert.Reference5Ideal.Read.val_main_v17_eq ..).trans (Cert.NormLin.tie12 m c)
  · rw [h4]
    simp only [hagree c]
    exact (Cert.Reference5Ideal.Read.val_main_v18_eq ..).trans (Cert.NormLin.tie13 m c)
  · rw [h5]
    simp only [hagree c]
    exact (Cert.Reference5Ideal.Read.val_main_v20_eq ..).trans (Cert.NormLin.tie14 m c)
  · rw [h6]
    simp only [hagree c]
    exact (Cert.Reference5Ideal.Read.val_main_v21_eq ..).trans (Cert.NormLin.tie15 m c)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal_pre_finite6 : algebraic_Kernel6Ideal_Reference6Ideal_pre_finite6 := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  obtain ⟨h0, h1, h2, h3, h4, h5⟩ := Cert.WkvPre.reals _ _ _ _ _ _ _ _ _ _ (hpre c)
  obtain ⟨e0, e1, e2, e3, e4, e5, e6, e7, e8, e9⟩ := hagree c
  exact (h c).1.trans (Cert.WkvTie.tie m m' c h0 h1 h2 h3 h4 h5 e0 e1 e2 e3 e4 e5 e6 e7 e8 e9)

theorem quiescent_Reference7Ideal : quiescent_Reference7Ideal := fun m ρ _ =>
  (θ_run Cert.Reference7Ideal.defs _ _).mono (fun r h => ⟨fun c => (h c).2.2.2.2.2.2.2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, _, _, _, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, h1, h2, h3, h4, h5, h6, hk⟩ := h c
  refine ⟨?_, ?_, ?_, ?_, ?_, ?_, ?_, hk⟩
  · rw [h0]
    simp only [hagree c]
    exact (Cert.Reference7Ideal.Read.val_main_v85_eq ..).trans (Cert.Proj.tie14 m c)
  · rw [h1, Cert.Reference7Ideal.Read.val_main_v94_eq]
    simp only [hagree c]
    exact Cert.Proj.tie15 m c
  · rw [h2]
    simp only [hagree c]
    exact (Cert.Reference7Ideal.Read.val_main_v95_eq ..).trans (Cert.Proj.tie16 m c)
  · rw [h3, Cert.Reference7Ideal.Read.val_main_v97_eq]
    simp only [hagree c]
    exact Cert.Proj.tie17 m c
  · rw [h4]
    simp only [hagree c]
    exact (Cert.Reference7Ideal.Read.val_main_v101_eq ..).trans (Cert.Proj.tie18 m c)
  · rw [h5]
    simp only [hagree c]
    exact (Cert.Reference7Ideal.Read.val_main_v102_eq ..).trans (Cert.Proj.tie19 m c)
  · rw [h6]
    simp only [hagree c]
    exact (Cert.Reference7Ideal.Read.val_main_v103_eq ..).trans (Cert.Proj.tie20 m c)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.WkvPre.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ,
  quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal_pre_finite6,
  (trivial : preserves_Kernel7_Kernel7Ideal), algebraic_Kernel7Ideal_Reference7Ideal⟩

end Cert.Proof

end
